-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_DnProj (m : (ℓ : Loc Cert.DnProj.nD Cert.DnProj.τ Cert.DnProj.sig) → Buf (Elt Bits) ℓ) : Prop :=
  True

def Pre_DnProjIdeal (m : (ℓ : Loc Cert.DnProjIdeal.nD Cert.DnProjIdeal.τ Cert.DnProjIdeal.sig) → Buf (Elt Ideal) ℓ) : Prop :=
  True

def Pre_DnProjRefIdeal (m : (ℓ : Loc Cert.DnProjRefIdeal.nD Cert.DnProjRefIdeal.τ Cert.DnProjRefIdeal.sig) → Buf (Elt Ideal) ℓ) : Prop :=
  True

def Pre_AttnProj (m : (ℓ : Loc Cert.AttnProj.nD Cert.AttnProj.τ Cert.AttnProj.sig) → Buf (Elt Bits) ℓ) : Prop :=
  True

def Pre_AttnProjIdeal (m : (ℓ : Loc Cert.AttnProjIdeal.nD Cert.AttnProjIdeal.τ Cert.AttnProjIdeal.sig) → Buf (Elt Ideal) ℓ) : Prop :=
  True

def Pre_AttnProjRefIdeal (m : (ℓ : Loc Cert.AttnProjRefIdeal.nD Cert.AttnProjRefIdeal.τ Cert.AttnProjRefIdeal.sig) → Buf (Elt Ideal) ℓ) : Prop :=
  True

def Pre_DnOut (m : (ℓ : Loc Cert.DnOut.nD Cert.DnOut.τ Cert.DnOut.sig) → Buf (Elt Bits) ℓ) : Prop :=
  True

def Pre_DnOutIdeal (m : (ℓ : Loc Cert.DnOutIdeal.nD Cert.DnOutIdeal.τ Cert.DnOutIdeal.sig) → Buf (Elt Ideal) ℓ) : Prop :=
  True

def Pre_DnOutRefIdeal (m : (ℓ : Loc Cert.DnOutRefIdeal.nD Cert.DnOutRefIdeal.τ Cert.DnOutRefIdeal.sig) → Buf (Elt Ideal) ℓ) : Prop :=
  True

def Pre_AttnOut (m : (ℓ : Loc Cert.AttnOut.nD Cert.AttnOut.τ Cert.AttnOut.sig) → Buf (Elt Bits) ℓ) : Prop :=
  True

def Pre_AttnOutIdeal (m : (ℓ : Loc Cert.AttnOutIdeal.nD Cert.AttnOutIdeal.τ Cert.AttnOutIdeal.sig) → Buf (Elt Ideal) ℓ) : Prop :=
  True

def Pre_AttnOutRefIdeal (m : (ℓ : Loc Cert.AttnOutRefIdeal.nD Cert.AttnOutRefIdeal.τ Cert.AttnOutRefIdeal.sig) → Buf (Elt Ideal) ℓ) : Prop :=
  True

def Pre_Ple (m : (ℓ : Loc Cert.Ple.nD Cert.Ple.τ Cert.Ple.sig) → Buf (Elt Bits) ℓ) : Prop :=
  True

def Pre_PleIdeal (m : (ℓ : Loc Cert.PleIdeal.nD Cert.PleIdeal.τ Cert.PleIdeal.sig) → Buf (Elt Ideal) ℓ) : Prop :=
  True

def Pre_PleRefIdeal (m : (ℓ : Loc Cert.PleRefIdeal.nD Cert.PleRefIdeal.τ Cert.PleRefIdeal.sig) → Buf (Elt Ideal) ℓ) : Prop :=
  True

def Pre_PeerQuery (m : (ℓ : Loc Cert.PeerQuery.nD Cert.PeerQuery.τ Cert.PeerQuery.sig) → Buf (Elt Bits) ℓ) : Prop :=
  True

def Pre_PeerQueryIdeal (m : (ℓ : Loc Cert.PeerQueryIdeal.nD Cert.PeerQueryIdeal.τ Cert.PeerQueryIdeal.sig) → Buf (Elt Ideal) ℓ) : Prop :=
  True

def Pre_PeerQueryRefIdeal (m : (ℓ : Loc Cert.PeerQueryRefIdeal.nD Cert.PeerQueryRefIdeal.τ Cert.PeerQueryRefIdeal.sig) → Buf (Elt Ideal) ℓ) : Prop :=
  True

def Pre_Experts (m : (ℓ : Loc Cert.Experts.nD Cert.Experts.τ Cert.Experts.sig) → Buf (Elt Bits) ℓ) : Prop :=
  True

def Pre_ExpertsIdeal (m : (ℓ : Loc Cert.ExpertsIdeal.nD Cert.ExpertsIdeal.τ Cert.ExpertsIdeal.sig) → Buf (Elt Ideal) ℓ) : Prop :=
  True

def Pre_ExpertsRefIdeal (m : (ℓ : Loc Cert.ExpertsRefIdeal.nD Cert.ExpertsRefIdeal.τ Cert.ExpertsRefIdeal.sig) → Buf (Elt Ideal) ℓ) : Prop :=
  True

def Pre_ConvV (m : (ℓ : Loc Cert.ConvV.nD Cert.ConvV.τ Cert.ConvV.sig) → Buf (Elt Bits) ℓ) : Prop :=
  True

def Pre_ConvVIdeal (m : (ℓ : Loc Cert.ConvVIdeal.nD Cert.ConvVIdeal.τ Cert.ConvVIdeal.sig) → Buf (Elt Ideal) ℓ) : Prop :=
  True

def Pre_ConvVRefIdeal (m : (ℓ : Loc Cert.ConvVRefIdeal.nD Cert.ConvVRefIdeal.τ Cert.ConvVRefIdeal.sig) → Buf (Elt Ideal) ℓ) : Prop :=
  True

def Pre_ConvQ (m : (ℓ : Loc Cert.ConvQ.nD Cert.ConvQ.τ Cert.ConvQ.sig) → Buf (Elt Bits) ℓ) : Prop :=
  True

def Pre_ConvQIdeal (m : (ℓ : Loc Cert.ConvQIdeal.nD Cert.ConvQIdeal.τ Cert.ConvQIdeal.sig) → Buf (Elt Ideal) ℓ) : Prop :=
  True

def Pre_ConvQRefIdeal (m : (ℓ : Loc Cert.ConvQRefIdeal.nD Cert.ConvQRefIdeal.τ Cert.ConvQRefIdeal.sig) → Buf (Elt Ideal) ℓ) : Prop :=
  True

def Pre_ConvK (m : (ℓ : Loc Cert.ConvK.nD Cert.ConvK.τ Cert.ConvK.sig) → Buf (Elt Bits) ℓ) : Prop :=
  True

def Pre_ConvKIdeal (m : (ℓ : Loc Cert.ConvKIdeal.nD Cert.ConvKIdeal.τ Cert.ConvKIdeal.sig) → Buf (Elt Ideal) ℓ) : Prop :=
  True

def Pre_ConvKRefIdeal (m : (ℓ : Loc Cert.ConvKRefIdeal.nD Cert.ConvKRefIdeal.τ Cert.ConvKRefIdeal.sig) → Buf (Elt Ideal) ℓ) : Prop :=
  True

def Pre_GateProj (m : (ℓ : Loc Cert.GateProj.nD Cert.GateProj.τ Cert.GateProj.sig) → Buf (Elt Bits) ℓ) : Prop :=
  True

def Pre_GateProjIdeal (m : (ℓ : Loc Cert.GateProjIdeal.nD Cert.GateProjIdeal.τ Cert.GateProjIdeal.sig) → Buf (Elt Ideal) ℓ) : Prop :=
  True

def Pre_GateProjRefIdeal (m : (ℓ : Loc Cert.GateProjRefIdeal.nD Cert.GateProjRefIdeal.τ Cert.GateProjRefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_DnProj [hDnProj : Cert.DnProj.Facts] : Prop :=
  ∀ (m : (ℓ : Loc Cert.DnProj.nD Cert.DnProj.τ Cert.DnProj.sig) → Buf (Elt Bits) ℓ) (g : Dev Cert.DnProj.nD → PrngReg), Pre_DnProj m →
    θ_run (Cert.DnProj.defs (F := Bits)) (onTc (τ := Cert.DnProj.τ) (Cert.DnProj.main (F := Bits))) ⟨m, fun _ => 0, g⟩ (fun r => (∀ c : Dev Cert.DnProj.nD,
      r.2.mem ((c.tc : Thread Cert.DnProj.nD Cert.DnProj.τ).loc Cert.DnProj.main_arg0) = m ((c.tc : Thread Cert.DnProj.nD Cert.DnProj.τ).loc Cert.DnProj.main_arg0)
      ∧ r.2.mem ((c.tc : Thread Cert.DnProj.nD Cert.DnProj.τ).loc Cert.DnProj.main_arg1) = m ((c.tc : Thread Cert.DnProj.nD Cert.DnProj.τ).loc Cert.DnProj.main_arg1)
      ∧ r.2.mem ((c.tc : Thread Cert.DnProj.nD Cert.DnProj.τ).loc Cert.DnProj.main_arg2) = m ((c.tc : Thread Cert.DnProj.nD Cert.DnProj.τ).loc Cert.DnProj.main_arg2))
      ∧ r.2.sem = fun _ => 0)

def quiescent_DnProjIdeal [hDnProjIdeal : Cert.DnProjIdeal.Facts] : Prop :=
  ∀ (m : (ℓ : Loc Cert.DnProjIdeal.nD Cert.DnProjIdeal.τ Cert.DnProjIdeal.sig) → Buf (Elt Ideal) ℓ) (g : Dev Cert.DnProjIdeal.nD → PrngReg), Pre_DnProjIdeal m →
    θ_run (Cert.DnProjIdeal.defs (F := Ideal)) (onTc (τ := Cert.DnProjIdeal.τ) (Cert.DnProjIdeal.main (F := Ideal))) ⟨m, fun _ => 0, g⟩ (fun r => (∀ c : Dev Cert.DnProjIdeal.nD,
      r.2.mem ((c.tc : Thread Cert.DnProjIdeal.nD Cert.DnProjIdeal.τ).loc Cert.DnProjIdeal.main_arg0) = m ((c.tc : Thread Cert.DnProjIdeal.nD Cert.DnProjIdeal.τ).loc Cert.DnProjIdeal.main_arg0)
      ∧ r.2.mem ((c.tc : Thread Cert.DnProjIdeal.nD Cert.DnProjIdeal.τ).loc Cert.DnProjIdeal.main_arg1) = m ((c.tc : Thread Cert.DnProjIdeal.nD Cert.DnProjIdeal.τ).loc Cert.DnProjIdeal.main_arg1)
      ∧ r.2.mem ((c.tc : Thread Cert.DnProjIdeal.nD Cert.DnProjIdeal.τ).loc Cert.DnProjIdeal.main_arg2) = m ((c.tc : Thread Cert.DnProjIdeal.nD Cert.DnProjIdeal.τ).loc Cert.DnProjIdeal.main_arg2))
      ∧ r.2.sem = fun _ => 0)

def quiescent_DnProjRefIdeal [hDnProjRefIdeal : Cert.DnProjRefIdeal.Facts] : Prop :=
  ∀ (m : (ℓ : Loc Cert.DnProjRefIdeal.nD Cert.DnProjRefIdeal.τ Cert.DnProjRefIdeal.sig) → Buf (Elt Ideal) ℓ) (g : Dev Cert.DnProjRefIdeal.nD → PrngReg), Pre_DnProjRefIdeal m →
    θ_run (Cert.DnProjRefIdeal.defs (F := Ideal)) (onTc (τ := Cert.DnProjRefIdeal.τ) (Cert.DnProjRefIdeal.main (F := Ideal))) ⟨m, fun _ => 0, g⟩ (fun r => (∀ c : Dev Cert.DnProjRefIdeal.nD,
      r.2.mem ((c.tc : Thread Cert.DnProjRefIdeal.nD Cert.DnProjRefIdeal.τ).loc Cert.DnProjRefIdeal.main_arg0) = m ((c.tc : Thread Cert.DnProjRefIdeal.nD Cert.DnProjRefIdeal.τ).loc Cert.DnProjRefIdeal.main_arg0)
      ∧ r.2.mem ((c.tc : Thread Cert.DnProjRefIdeal.nD Cert.DnProjRefIdeal.τ).loc Cert.DnProjRefIdeal.main_arg1) = m ((c.tc : Thread Cert.DnProjRefIdeal.nD Cert.DnProjRefIdeal.τ).loc Cert.DnProjRefIdeal.main_arg1)
      ∧ r.2.mem ((c.tc : Thread Cert.DnProjRefIdeal.nD Cert.DnProjRefIdeal.τ).loc Cert.DnProjRefIdeal.main_arg2) = m ((c.tc : Thread Cert.DnProjRefIdeal.nD Cert.DnProjRefIdeal.τ).loc Cert.DnProjRefIdeal.main_arg2))
      ∧ r.2.sem = fun _ => 0)

def quiescent_AttnProj [hAttnProj : Cert.AttnProj.Facts] : Prop :=
  ∀ (m : (ℓ : Loc Cert.AttnProj.nD Cert.AttnProj.τ Cert.AttnProj.sig) → Buf (Elt Bits) ℓ) (g : Dev Cert.AttnProj.nD → PrngReg), Pre_AttnProj m →
    θ_run (Cert.AttnProj.defs (F := Bits)) (onTc (τ := Cert.AttnProj.τ) (Cert.AttnProj.main (F := Bits))) ⟨m, fun _ => 0, g⟩ (fun r => (∀ c : Dev Cert.AttnProj.nD,
      r.2.mem ((c.tc : Thread Cert.AttnProj.nD Cert.AttnProj.τ).loc Cert.AttnProj.main_arg0) = m ((c.tc : Thread Cert.AttnProj.nD Cert.AttnProj.τ).loc Cert.AttnProj.main_arg0)
      ∧ r.2.mem ((c.tc : Thread Cert.AttnProj.nD Cert.AttnProj.τ).loc Cert.AttnProj.main_arg1) = m ((c.tc : Thread Cert.AttnProj.nD Cert.AttnProj.τ).loc Cert.AttnProj.main_arg1)
      ∧ r.2.mem ((c.tc : Thread Cert.AttnProj.nD Cert.AttnProj.τ).loc Cert.AttnProj.main_arg2) = m ((c.tc : Thread Cert.AttnProj.nD Cert.AttnProj.τ).loc Cert.AttnProj.main_arg2))
      ∧ r.2.sem = fun _ => 0)

def quiescent_AttnProjIdeal [hAttnProjIdeal : Cert.AttnProjIdeal.Facts] : Prop :=
  ∀ (m : (ℓ : Loc Cert.AttnProjIdeal.nD Cert.AttnProjIdeal.τ Cert.AttnProjIdeal.sig) → Buf (Elt Ideal) ℓ) (g : Dev Cert.AttnProjIdeal.nD → PrngReg), Pre_AttnProjIdeal m →
    θ_run (Cert.AttnProjIdeal.defs (F := Ideal)) (onTc (τ := Cert.AttnProjIdeal.τ) (Cert.AttnProjIdeal.main (F := Ideal))) ⟨m, fun _ => 0, g⟩ (fun r => (∀ c : Dev Cert.AttnProjIdeal.nD,
      r.2.mem ((c.tc : Thread Cert.AttnProjIdeal.nD Cert.AttnProjIdeal.τ).loc Cert.AttnProjIdeal.main_arg0) = m ((c.tc : Thread Cert.AttnProjIdeal.nD Cert.AttnProjIdeal.τ).loc Cert.AttnProjIdeal.main_arg0)
      ∧ r.2.mem ((c.tc : Thread Cert.AttnProjIdeal.nD Cert.AttnProjIdeal.τ).loc Cert.AttnProjIdeal.main_arg1) = m ((c.tc : Thread Cert.AttnProjIdeal.nD Cert.AttnProjIdeal.τ).loc Cert.AttnProjIdeal.main_arg1)
      ∧ r.2.mem ((c.tc : Thread Cert.AttnProjIdeal.nD Cert.AttnProjIdeal.τ).loc Cert.AttnProjIdeal.main_arg2) = m ((c.tc : Thread Cert.AttnProjIdeal.nD Cert.AttnProjIdeal.τ).loc Cert.AttnProjIdeal.main_arg2))
      ∧ r.2.sem = fun _ => 0)

def quiescent_AttnProjRefIdeal [hAttnProjRefIdeal : Cert.AttnProjRefIdeal.Facts] : Prop :=
  ∀ (m : (ℓ : Loc Cert.AttnProjRefIdeal.nD Cert.AttnProjRefIdeal.τ Cert.AttnProjRefIdeal.sig) → Buf (Elt Ideal) ℓ) (g : Dev Cert.AttnProjRefIdeal.nD → PrngReg), Pre_AttnProjRefIdeal m →
    θ_run (Cert.AttnProjRefIdeal.defs (F := Ideal)) (onTc (τ := Cert.AttnProjRefIdeal.τ) (Cert.AttnProjRefIdeal.main (F := Ideal))) ⟨m, fun _ => 0, g⟩ (fun r => (∀ c : Dev Cert.AttnProjRefIdeal.nD,
      r.2.mem ((c.tc : Thread Cert.AttnProjRefIdeal.nD Cert.AttnProjRefIdeal.τ).loc Cert.AttnProjRefIdeal.main_arg0) = m ((c.tc : Thread Cert.AttnProjRefIdeal.nD Cert.AttnProjRefIdeal.τ).loc Cert.AttnProjRefIdeal.main_arg0)
      ∧ r.2.mem ((c.tc : Thread Cert.AttnProjRefIdeal.nD Cert.AttnProjRefIdeal.τ).loc Cert.AttnProjRefIdeal.main_arg1) = m ((c.tc : Thread Cert.AttnProjRefIdeal.nD Cert.AttnProjRefIdeal.τ).loc Cert.AttnProjRefIdeal.main_arg1)
      ∧ r.2.mem ((c.tc : Thread Cert.AttnProjRefIdeal.nD Cert.AttnProjRefIdeal.τ).loc Cert.AttnProjRefIdeal.main_arg2) = m ((c.tc : Thread Cert.AttnProjRefIdeal.nD Cert.AttnProjRefIdeal.τ).loc Cert.AttnProjRefIdeal.main_arg2))
      ∧ r.2.sem = fun _ => 0)

def quiescent_DnOut [hDnOut : Cert.DnOut.Facts] : Prop :=
  ∀ (m : (ℓ : Loc Cert.DnOut.nD Cert.DnOut.τ Cert.DnOut.sig) → Buf (Elt Bits) ℓ) (g : Dev Cert.DnOut.nD → PrngReg), Pre_DnOut m →
    θ_run (Cert.DnOut.defs (F := Bits)) (onTc (τ := Cert.DnOut.τ) (Cert.DnOut.main (F := Bits))) ⟨m, fun _ => 0, g⟩ (fun r => (∀ c : Dev Cert.DnOut.nD,
      r.2.mem ((c.tc : Thread Cert.DnOut.nD Cert.DnOut.τ).loc Cert.DnOut.main_arg0) = m ((c.tc : Thread Cert.DnOut.nD Cert.DnOut.τ).loc Cert.DnOut.main_arg0)
      ∧ r.2.mem ((c.tc : Thread Cert.DnOut.nD Cert.DnOut.τ).loc Cert.DnOut.main_arg1) = m ((c.tc : Thread Cert.DnOut.nD Cert.DnOut.τ).loc Cert.DnOut.main_arg1)
      ∧ r.2.mem ((c.tc : Thread Cert.DnOut.nD Cert.DnOut.τ).loc Cert.DnOut.main_arg2) = m ((c.tc : Thread Cert.DnOut.nD Cert.DnOut.τ).loc Cert.DnOut.main_arg2))
      ∧ r.2.sem = fun _ => 0)

def quiescent_DnOutIdeal [hDnOutIdeal : Cert.DnOutIdeal.Facts] : Prop :=
  ∀ (m : (ℓ : Loc Cert.DnOutIdeal.nD Cert.DnOutIdeal.τ Cert.DnOutIdeal.sig) → Buf (Elt Ideal) ℓ) (g : Dev Cert.DnOutIdeal.nD → PrngReg), Pre_DnOutIdeal m →
    θ_run (Cert.DnOutIdeal.defs (F := Ideal)) (onTc (τ := Cert.DnOutIdeal.τ) (Cert.DnOutIdeal.main (F := Ideal))) ⟨m, fun _ => 0, g⟩ (fun r => (∀ c : Dev Cert.DnOutIdeal.nD,
      r.2.mem ((c.tc : Thread Cert.DnOutIdeal.nD Cert.DnOutIdeal.τ).loc Cert.DnOutIdeal.main_arg0) = m ((c.tc : Thread Cert.DnOutIdeal.nD Cert.DnOutIdeal.τ).loc Cert.DnOutIdeal.main_arg0)
      ∧ r.2.mem ((c.tc : Thread Cert.DnOutIdeal.nD Cert.DnOutIdeal.τ).loc Cert.DnOutIdeal.main_arg1) = m ((c.tc : Thread Cert.DnOutIdeal.nD Cert.DnOutIdeal.τ).loc Cert.DnOutIdeal.main_arg1)
      ∧ r.2.mem ((c.tc : Thread Cert.DnOutIdeal.nD Cert.DnOutIdeal.τ).loc Cert.DnOutIdeal.main_arg2) = m ((c.tc : Thread Cert.DnOutIdeal.nD Cert.DnOutIdeal.τ).loc Cert.DnOutIdeal.main_arg2))
      ∧ r.2.sem = fun _ => 0)

def quiescent_DnOutRefIdeal [hDnOutRefIdeal : Cert.DnOutRefIdeal.Facts] : Prop :=
  ∀ (m : (ℓ : Loc Cert.DnOutRefIdeal.nD Cert.DnOutRefIdeal.τ Cert.DnOutRefIdeal.sig) → Buf (Elt Ideal) ℓ) (g : Dev Cert.DnOutRefIdeal.nD → PrngReg), Pre_DnOutRefIdeal m →
    θ_run (Cert.DnOutRefIdeal.defs (F := Ideal)) (onTc (τ := Cert.DnOutRefIdeal.τ) (Cert.DnOutRefIdeal.main (F := Ideal))) ⟨m, fun _ => 0, g⟩ (fun r => (∀ c : Dev Cert.DnOutRefIdeal.nD,
      r.2.mem ((c.tc : Thread Cert.DnOutRefIdeal.nD Cert.DnOutRefIdeal.τ).loc Cert.DnOutRefIdeal.main_arg0) = m ((c.tc : Thread Cert.DnOutRefIdeal.nD Cert.DnOutRefIdeal.τ).loc Cert.DnOutRefIdeal.main_arg0)
      ∧ r.2.mem ((c.tc : Thread Cert.DnOutRefIdeal.nD Cert.DnOutRefIdeal.τ).loc Cert.DnOutRefIdeal.main_arg1) = m ((c.tc : Thread Cert.DnOutRefIdeal.nD Cert.DnOutRefIdeal.τ).loc Cert.DnOutRefIdeal.main_arg1)
      ∧ r.2.mem ((c.tc : Thread Cert.DnOutRefIdeal.nD Cert.DnOutRefIdeal.τ).loc Cert.DnOutRefIdeal.main_arg2) = m ((c.tc : Thread Cert.DnOutRefIdeal.nD Cert.DnOutRefIdeal.τ).loc Cert.DnOutRefIdeal.main_arg2))
      ∧ r.2.sem = fun _ => 0)

def quiescent_AttnOut [hAttnOut : Cert.AttnOut.Facts] : Prop :=
  ∀ (m : (ℓ : Loc Cert.AttnOut.nD Cert.AttnOut.τ Cert.AttnOut.sig) → Buf (Elt Bits) ℓ) (g : Dev Cert.AttnOut.nD → PrngReg), Pre_AttnOut m →
    θ_run (Cert.AttnOut.defs (F := Bits)) (onTc (τ := Cert.AttnOut.τ) (Cert.AttnOut.main (F := Bits))) ⟨m, fun _ => 0, g⟩ (fun r => (∀ c : Dev Cert.AttnOut.nD,
      r.2.mem ((c.tc : Thread Cert.AttnOut.nD Cert.AttnOut.τ).loc Cert.AttnOut.main_arg0) = m ((c.tc : Thread Cert.AttnOut.nD Cert.AttnOut.τ).loc Cert.AttnOut.main_arg0)
      ∧ r.2.mem ((c.tc : Thread Cert.AttnOut.nD Cert.AttnOut.τ).loc Cert.AttnOut.main_arg1) = m ((c.tc : Thread Cert.AttnOut.nD Cert.AttnOut.τ).loc Cert.AttnOut.main_arg1)
      ∧ r.2.mem ((c.tc : Thread Cert.AttnOut.nD Cert.AttnOut.τ).loc Cert.AttnOut.main_arg2) = m ((c.tc : Thread Cert.AttnOut.nD Cert.AttnOut.τ).loc Cert.AttnOut.main_arg2))
      ∧ r.2.sem = fun _ => 0)

def quiescent_AttnOutIdeal [hAttnOutIdeal : Cert.AttnOutIdeal.Facts] : Prop :=
  ∀ (m : (ℓ : Loc Cert.AttnOutIdeal.nD Cert.AttnOutIdeal.τ Cert.AttnOutIdeal.sig) → Buf (Elt Ideal) ℓ) (g : Dev Cert.AttnOutIdeal.nD → PrngReg), Pre_AttnOutIdeal m →
    θ_run (Cert.AttnOutIdeal.defs (F := Ideal)) (onTc (τ := Cert.AttnOutIdeal.τ) (Cert.AttnOutIdeal.main (F := Ideal))) ⟨m, fun _ => 0, g⟩ (fun r => (∀ c : Dev Cert.AttnOutIdeal.nD,
      r.2.mem ((c.tc : Thread Cert.AttnOutIdeal.nD Cert.AttnOutIdeal.τ).loc Cert.AttnOutIdeal.main_arg0) = m ((c.tc : Thread Cert.AttnOutIdeal.nD Cert.AttnOutIdeal.τ).loc Cert.AttnOutIdeal.main_arg0)
      ∧ r.2.mem ((c.tc : Thread Cert.AttnOutIdeal.nD Cert.AttnOutIdeal.τ).loc Cert.AttnOutIdeal.main_arg1) = m ((c.tc : Thread Cert.AttnOutIdeal.nD Cert.AttnOutIdeal.τ).loc Cert.AttnOutIdeal.main_arg1)
      ∧ r.2.mem ((c.tc : Thread Cert.AttnOutIdeal.nD Cert.AttnOutIdeal.τ).loc Cert.AttnOutIdeal.main_arg2) = m ((c.tc : Thread Cert.AttnOutIdeal.nD Cert.AttnOutIdeal.τ).loc Cert.AttnOutIdeal.main_arg2))
      ∧ r.2.sem = fun _ => 0)

def quiescent_AttnOutRefIdeal [hAttnOutRefIdeal : Cert.AttnOutRefIdeal.Facts] : Prop :=
  ∀ (m : (ℓ : Loc Cert.AttnOutRefIdeal.nD Cert.AttnOutRefIdeal.τ Cert.AttnOutRefIdeal.sig) → Buf (Elt Ideal) ℓ) (g : Dev Cert.AttnOutRefIdeal.nD → PrngReg), Pre_AttnOutRefIdeal m →
    θ_run (Cert.AttnOutRefIdeal.defs (F := Ideal)) (onTc (τ := Cert.AttnOutRefIdeal.τ) (Cert.AttnOutRefIdeal.main (F := Ideal))) ⟨m, fun _ => 0, g⟩ (fun r => (∀ c : Dev Cert.AttnOutRefIdeal.nD,
      r.2.mem ((c.tc : Thread Cert.AttnOutRefIdeal.nD Cert.AttnOutRefIdeal.τ).loc Cert.AttnOutRefIdeal.main_arg0) = m ((c.tc : Thread Cert.AttnOutRefIdeal.nD Cert.AttnOutRefIdeal.τ).loc Cert.AttnOutRefIdeal.main_arg0)
      ∧ r.2.mem ((c.tc : Thread Cert.AttnOutRefIdeal.nD Cert.AttnOutRefIdeal.τ).loc Cert.AttnOutRefIdeal.main_arg1) = m ((c.tc : Thread Cert.AttnOutRefIdeal.nD Cert.AttnOutRefIdeal.τ).loc Cert.AttnOutRefIdeal.main_arg1)
      ∧ r.2.mem ((c.tc : Thread Cert.AttnOutRefIdeal.nD Cert.AttnOutRefIdeal.τ).loc Cert.AttnOutRefIdeal.main_arg2) = m ((c.tc : Thread Cert.AttnOutRefIdeal.nD Cert.AttnOutRefIdeal.τ).loc Cert.AttnOutRefIdeal.main_arg2))
      ∧ r.2.sem = fun _ => 0)

def quiescent_Ple [hPle : Cert.Ple.Facts] : Prop :=
  ∀ (m : (ℓ : Loc Cert.Ple.nD Cert.Ple.τ Cert.Ple.sig) → Buf (Elt Bits) ℓ) (g : Dev Cert.Ple.nD → PrngReg), Pre_Ple m →
    θ_run (Cert.Ple.defs (F := Bits)) (onTc (τ := Cert.Ple.τ) (Cert.Ple.main (F := Bits))) ⟨m, fun _ => 0, g⟩ (fun r => (∀ c : Dev Cert.Ple.nD,
      r.2.mem ((c.tc : Thread Cert.Ple.nD Cert.Ple.τ).loc Cert.Ple.main_arg0) = m ((c.tc : Thread Cert.Ple.nD Cert.Ple.τ).loc Cert.Ple.main_arg0)
      ∧ r.2.mem ((c.tc : Thread Cert.Ple.nD Cert.Ple.τ).loc Cert.Ple.main_arg1) = m ((c.tc : Thread Cert.Ple.nD Cert.Ple.τ).loc Cert.Ple.main_arg1)
      ∧ r.2.mem ((c.tc : Thread Cert.Ple.nD Cert.Ple.τ).loc Cert.Ple.main_arg2) = m ((c.tc : Thread Cert.Ple.nD Cert.Ple.τ).loc Cert.Ple.main_arg2)
      ∧ r.2.mem ((c.tc : Thread Cert.Ple.nD Cert.Ple.τ).loc Cert.Ple.main_arg3) = m ((c.tc : Thread Cert.Ple.nD Cert.Ple.τ).loc Cert.Ple.main_arg3)
      ∧ r.2.mem ((c.tc : Thread Cert.Ple.nD Cert.Ple.τ).loc Cert.Ple.main_arg4) = m ((c.tc : Thread Cert.Ple.nD Cert.Ple.τ).loc Cert.Ple.main_arg4))
      ∧ r.2.sem = fun _ => 0)

def quiescent_PleIdeal [hPleIdeal : Cert.PleIdeal.Facts] : Prop :=
  ∀ (m : (ℓ : Loc Cert.PleIdeal.nD Cert.PleIdeal.τ Cert.PleIdeal.sig) → Buf (Elt Ideal) ℓ) (g : Dev Cert.PleIdeal.nD → PrngReg), Pre_PleIdeal m →
    θ_run (Cert.PleIdeal.defs (F := Ideal)) (onTc (τ := Cert.PleIdeal.τ) (Cert.PleIdeal.main (F := Ideal))) ⟨m, fun _ => 0, g⟩ (fun r => (∀ c : Dev Cert.PleIdeal.nD,
      r.2.mem ((c.tc : Thread Cert.PleIdeal.nD Cert.PleIdeal.τ).loc Cert.PleIdeal.main_arg0) = m ((c.tc : Thread Cert.PleIdeal.nD Cert.PleIdeal.τ).loc Cert.PleIdeal.main_arg0)
      ∧ r.2.mem ((c.tc : Thread Cert.PleIdeal.nD Cert.PleIdeal.τ).loc Cert.PleIdeal.main_arg1) = m ((c.tc : Thread Cert.PleIdeal.nD Cert.PleIdeal.τ).loc Cert.PleIdeal.main_arg1)
      ∧ r.2.mem ((c.tc : Thread Cert.PleIdeal.nD Cert.PleIdeal.τ).loc Cert.PleIdeal.main_arg2) = m ((c.tc : Thread Cert.PleIdeal.nD Cert.PleIdeal.τ).loc Cert.PleIdeal.main_arg2)
      ∧ r.2.mem ((c.tc : Thread Cert.PleIdeal.nD Cert.PleIdeal.τ).loc Cert.PleIdeal.main_arg3) = m ((c.tc : Thread Cert.PleIdeal.nD Cert.PleIdeal.τ).loc Cert.PleIdeal.main_arg3)
      ∧ r.2.mem ((c.tc : Thread Cert.PleIdeal.nD Cert.PleIdeal.τ).loc Cert.PleIdeal.main_arg4) = m ((c.tc : Thread Cert.PleIdeal.nD Cert.PleIdeal.τ).loc Cert.PleIdeal.main_arg4))
      ∧ r.2.sem = fun _ => 0)

def quiescent_PleRefIdeal [hPleRefIdeal : Cert.PleRefIdeal.Facts] : Prop :=
  ∀ (m : (ℓ : Loc Cert.PleRefIdeal.nD Cert.PleRefIdeal.τ Cert.PleRefIdeal.sig) → Buf (Elt Ideal) ℓ) (g : Dev Cert.PleRefIdeal.nD → PrngReg), Pre_PleRefIdeal m →
    θ_run (Cert.PleRefIdeal.defs (F := Ideal)) (onTc (τ := Cert.PleRefIdeal.τ) (Cert.PleRefIdeal.main (F := Ideal))) ⟨m, fun _ => 0, g⟩ (fun r => (∀ c : Dev Cert.PleRefIdeal.nD,
      r.2.mem ((c.tc : Thread Cert.PleRefIdeal.nD Cert.PleRefIdeal.τ).loc Cert.PleRefIdeal.main_arg0) = m ((c.tc : Thread Cert.PleRefIdeal.nD Cert.PleRefIdeal.τ).loc Cert.PleRefIdeal.main_arg0)
      ∧ r.2.mem ((c.tc : Thread Cert.PleRefIdeal.nD Cert.PleRefIdeal.τ).loc Cert.PleRefIdeal.main_arg1) = m ((c.tc : Thread Cert.PleRefIdeal.nD Cert.PleRefIdeal.τ).loc Cert.PleRefIdeal.main_arg1)
      ∧ r.2.mem ((c.tc : Thread Cert.PleRefIdeal.nD Cert.PleRefIdeal.τ).loc Cert.PleRefIdeal.main_arg2) = m ((c.tc : Thread Cert.PleRefIdeal.nD Cert.PleRefIdeal.τ).loc Cert.PleRefIdeal.main_arg2)
      ∧ r.2.mem ((c.tc : Thread Cert.PleRefIdeal.nD Cert.PleRefIdeal.τ).loc Cert.PleRefIdeal.main_arg3) = m ((c.tc : Thread Cert.PleRefIdeal.nD Cert.PleRefIdeal.τ).loc Cert.PleRefIdeal.main_arg3)
      ∧ r.2.mem ((c.tc : Thread Cert.PleRefIdeal.nD Cert.PleRefIdeal.τ).loc Cert.PleRefIdeal.main_arg4) = m ((c.tc : Thread Cert.PleRefIdeal.nD Cert.PleRefIdeal.τ).loc Cert.PleRefIdeal.main_arg4))
      ∧ r.2.sem = fun _ => 0)

def quiescent_PeerQuery [hPeerQuery : Cert.PeerQuery.Facts] : Prop :=
  ∀ (m : (ℓ : Loc Cert.PeerQuery.nD Cert.PeerQuery.τ Cert.PeerQuery.sig) → Buf (Elt Bits) ℓ) (g : Dev Cert.PeerQuery.nD → PrngReg), Pre_PeerQuery m →
    θ_run (Cert.PeerQuery.defs (F := Bits)) (onTc (τ := Cert.PeerQuery.τ) (Cert.PeerQuery.main (F := Bits))) ⟨m, fun _ => 0, g⟩ (fun r => (∀ c : Dev Cert.PeerQuery.nD,
      r.2.mem ((c.tc : Thread Cert.PeerQuery.nD Cert.PeerQuery.τ).loc Cert.PeerQuery.main_arg0) = m ((c.tc : Thread Cert.PeerQuery.nD Cert.PeerQuery.τ).loc Cert.PeerQuery.main_arg0)
      ∧ r.2.mem ((c.tc : Thread Cert.PeerQuery.nD Cert.PeerQuery.τ).loc Cert.PeerQuery.main_arg1) = m ((c.tc : Thread Cert.PeerQuery.nD Cert.PeerQuery.τ).loc Cert.PeerQuery.main_arg1)
      ∧ r.2.mem ((c.tc : Thread Cert.PeerQuery.nD Cert.PeerQuery.τ).loc Cert.PeerQuery.main_arg2) = m ((c.tc : Thread Cert.PeerQuery.nD Cert.PeerQuery.τ).loc Cert.PeerQuery.main_arg2))
      ∧ r.2.sem = fun _ => 0)

def quiescent_PeerQueryIdeal [hPeerQueryIdeal : Cert.PeerQueryIdeal.Facts] : Prop :=
  ∀ (m : (ℓ : Loc Cert.PeerQueryIdeal.nD Cert.PeerQueryIdeal.τ Cert.PeerQueryIdeal.sig) → Buf (Elt Ideal) ℓ) (g : Dev Cert.PeerQueryIdeal.nD → PrngReg), Pre_PeerQueryIdeal m →
    θ_run (Cert.PeerQueryIdeal.defs (F := Ideal)) (onTc (τ := Cert.PeerQueryIdeal.τ) (Cert.PeerQueryIdeal.main (F := Ideal))) ⟨m, fun _ => 0, g⟩ (fun r => (∀ c : Dev Cert.PeerQueryIdeal.nD,
      r.2.mem ((c.tc : Thread Cert.PeerQueryIdeal.nD Cert.PeerQueryIdeal.τ).loc Cert.PeerQueryIdeal.main_arg0) = m ((c.tc : Thread Cert.PeerQueryIdeal.nD Cert.PeerQueryIdeal.τ).loc Cert.PeerQueryIdeal.main_arg0)
      ∧ r.2.mem ((c.tc : Thread Cert.PeerQueryIdeal.nD Cert.PeerQueryIdeal.τ).loc Cert.PeerQueryIdeal.main_arg1) = m ((c.tc : Thread Cert.PeerQueryIdeal.nD Cert.PeerQueryIdeal.τ).loc Cert.PeerQueryIdeal.main_arg1)
      ∧ r.2.mem ((c.tc : Thread Cert.PeerQueryIdeal.nD Cert.PeerQueryIdeal.τ).loc Cert.PeerQueryIdeal.main_arg2) = m ((c.tc : Thread Cert.PeerQueryIdeal.nD Cert.PeerQueryIdeal.τ).loc Cert.PeerQueryIdeal.main_arg2))
      ∧ r.2.sem = fun _ => 0)

def quiescent_PeerQueryRefIdeal [hPeerQueryRefIdeal : Cert.PeerQueryRefIdeal.Facts] : Prop :=
  ∀ (m : (ℓ : Loc Cert.PeerQueryRefIdeal.nD Cert.PeerQueryRefIdeal.τ Cert.PeerQueryRefIdeal.sig) → Buf (Elt Ideal) ℓ) (g : Dev Cert.PeerQueryRefIdeal.nD → PrngReg), Pre_PeerQueryRefIdeal m →
    θ_run (Cert.PeerQueryRefIdeal.defs (F := Ideal)) (onTc (τ := Cert.PeerQueryRefIdeal.τ) (Cert.PeerQueryRefIdeal.main (F := Ideal))) ⟨m, fun _ => 0, g⟩ (fun r => (∀ c : Dev Cert.PeerQueryRefIdeal.nD,
      r.2.mem ((c.tc : Thread Cert.PeerQueryRefIdeal.nD Cert.PeerQueryRefIdeal.τ).loc Cert.PeerQueryRefIdeal.main_arg0) = m ((c.tc : Thread Cert.PeerQueryRefIdeal.nD Cert.PeerQueryRefIdeal.τ).loc Cert.PeerQueryRefIdeal.main_arg0)
      ∧ r.2.mem ((c.tc : Thread Cert.PeerQueryRefIdeal.nD Cert.PeerQueryRefIdeal.τ).loc Cert.PeerQueryRefIdeal.main_arg1) = m ((c.tc : Thread Cert.PeerQueryRefIdeal.nD Cert.PeerQueryRefIdeal.τ).loc Cert.PeerQueryRefIdeal.main_arg1)
      ∧ r.2.mem ((c.tc : Thread Cert.PeerQueryRefIdeal.nD Cert.PeerQueryRefIdeal.τ).loc Cert.PeerQueryRefIdeal.main_arg2) = m ((c.tc : Thread Cert.PeerQueryRefIdeal.nD Cert.PeerQueryRefIdeal.τ).loc Cert.PeerQueryRefIdeal.main_arg2))
      ∧ r.2.sem = fun _ => 0)

def quiescent_Experts [hExperts : Cert.Experts.Facts] : Prop :=
  ∀ (m : (ℓ : Loc Cert.Experts.nD Cert.Experts.τ Cert.Experts.sig) → Buf (Elt Bits) ℓ) (g : Dev Cert.Experts.nD → PrngReg), Pre_Experts m →
    θ_run (Cert.Experts.defs (F := Bits)) (onTc (τ := Cert.Experts.τ) (Cert.Experts.main (F := Bits))) ⟨m, fun _ => 0, g⟩ (fun r => (∀ c : Dev Cert.Experts.nD,
      r.2.mem ((c.tc : Thread Cert.Experts.nD Cert.Experts.τ).loc Cert.Experts.main_arg0) = m ((c.tc : Thread Cert.Experts.nD Cert.Experts.τ).loc Cert.Experts.main_arg0)
      ∧ r.2.mem ((c.tc : Thread Cert.Experts.nD Cert.Experts.τ).loc Cert.Experts.main_arg1) = m ((c.tc : Thread Cert.Experts.nD Cert.Experts.τ).loc Cert.Experts.main_arg1)
      ∧ r.2.mem ((c.tc : Thread Cert.Experts.nD Cert.Experts.τ).loc Cert.Experts.main_arg2) = m ((c.tc : Thread Cert.Experts.nD Cert.Experts.τ).loc Cert.Experts.main_arg2)
      ∧ r.2.mem ((c.tc : Thread Cert.Experts.nD Cert.Experts.τ).loc Cert.Experts.main_arg3) = m ((c.tc : Thread Cert.Experts.nD Cert.Experts.τ).loc Cert.Experts.main_arg3)
      ∧ r.2.mem ((c.tc : Thread Cert.Experts.nD Cert.Experts.τ).loc Cert.Experts.main_arg4) = m ((c.tc : Thread Cert.Experts.nD Cert.Experts.τ).loc Cert.Experts.main_arg4)
      ∧ r.2.mem ((c.tc : Thread Cert.Experts.nD Cert.Experts.τ).loc Cert.Experts.main_arg5) = m ((c.tc : Thread Cert.Experts.nD Cert.Experts.τ).loc Cert.Experts.main_arg5)
      ∧ r.2.mem ((c.tc : Thread Cert.Experts.nD Cert.Experts.τ).loc Cert.Experts.main_arg6) = m ((c.tc : Thread Cert.Experts.nD Cert.Experts.τ).loc Cert.Experts.main_arg6)
      ∧ r.2.mem ((c.tc : Thread Cert.Experts.nD Cert.Experts.τ).loc Cert.Experts.main_arg7) = m ((c.tc : Thread Cert.Experts.nD Cert.Experts.τ).loc Cert.Experts.main_arg7))
      ∧ r.2.sem = fun _ => 0)

def quiescent_ExpertsIdeal [hExpertsIdeal : Cert.ExpertsIdeal.Facts] : Prop :=
  ∀ (m : (ℓ : Loc Cert.ExpertsIdeal.nD Cert.ExpertsIdeal.τ Cert.ExpertsIdeal.sig) → Buf (Elt Ideal) ℓ) (g : Dev Cert.ExpertsIdeal.nD → PrngReg), Pre_ExpertsIdeal m →
    θ_run (Cert.ExpertsIdeal.defs (F := Ideal)) (onTc (τ := Cert.ExpertsIdeal.τ) (Cert.ExpertsIdeal.main (F := Ideal))) ⟨m, fun _ => 0, g⟩ (fun r => (∀ c : Dev Cert.ExpertsIdeal.nD,
      r.2.mem ((c.tc : Thread Cert.ExpertsIdeal.nD Cert.ExpertsIdeal.τ).loc Cert.ExpertsIdeal.main_arg0) = m ((c.tc : Thread Cert.ExpertsIdeal.nD Cert.ExpertsIdeal.τ).loc Cert.ExpertsIdeal.main_arg0)
      ∧ r.2.mem ((c.tc : Thread Cert.ExpertsIdeal.nD Cert.ExpertsIdeal.τ).loc Cert.ExpertsIdeal.main_arg1) = m ((c.tc : Thread Cert.ExpertsIdeal.nD Cert.ExpertsIdeal.τ).loc Cert.ExpertsIdeal.main_arg1)
      ∧ r.2.mem ((c.tc : Thread Cert.ExpertsIdeal.nD Cert.ExpertsIdeal.τ).loc Cert.ExpertsIdeal.main_arg2) = m ((c.tc : Thread Cert.ExpertsIdeal.nD Cert.ExpertsIdeal.τ).loc Cert.ExpertsIdeal.main_arg2)
      ∧ r.2.mem ((c.tc : Thread Cert.ExpertsIdeal.nD Cert.ExpertsIdeal.τ).loc Cert.ExpertsIdeal.main_arg3) = m ((c.tc : Thread Cert.ExpertsIdeal.nD Cert.ExpertsIdeal.τ).loc Cert.ExpertsIdeal.main_arg3)
      ∧ r.2.mem ((c.tc : Thread Cert.ExpertsIdeal.nD Cert.ExpertsIdeal.τ).loc Cert.ExpertsIdeal.main_arg4) = m ((c.tc : Thread Cert.ExpertsIdeal.nD Cert.ExpertsIdeal.τ).loc Cert.ExpertsIdeal.main_arg4)
      ∧ r.2.mem ((c.tc : Thread Cert.ExpertsIdeal.nD Cert.ExpertsIdeal.τ).loc Cert.ExpertsIdeal.main_arg5) = m ((c.tc : Thread Cert.ExpertsIdeal.nD Cert.ExpertsIdeal.τ).loc Cert.ExpertsIdeal.main_arg5)
      ∧ r.2.mem ((c.tc : Thread Cert.ExpertsIdeal.nD Cert.ExpertsIdeal.τ).loc Cert.ExpertsIdeal.main_arg6) = m ((c.tc : Thread Cert.ExpertsIdeal.nD Cert.ExpertsIdeal.τ).loc Cert.ExpertsIdeal.main_arg6)
      ∧ r.2.mem ((c.tc : Thread Cert.ExpertsIdeal.nD Cert.ExpertsIdeal.τ).loc Cert.ExpertsIdeal.main_arg7) = m ((c.tc : Thread Cert.ExpertsIdeal.nD Cert.ExpertsIdeal.τ).loc Cert.ExpertsIdeal.main_arg7))
      ∧ r.2.sem = fun _ => 0)

def quiescent_ExpertsRefIdeal [hExpertsRefIdeal : Cert.ExpertsRefIdeal.Facts] : Prop :=
  ∀ (m : (ℓ : Loc Cert.ExpertsRefIdeal.nD Cert.ExpertsRefIdeal.τ Cert.ExpertsRefIdeal.sig) → Buf (Elt Ideal) ℓ) (g : Dev Cert.ExpertsRefIdeal.nD → PrngReg), Pre_ExpertsRefIdeal m →
    θ_run (Cert.ExpertsRefIdeal.defs (F := Ideal)) (onTc (τ := Cert.ExpertsRefIdeal.τ) (Cert.ExpertsRefIdeal.main (F := Ideal))) ⟨m, fun _ => 0, g⟩ (fun r => (∀ c : Dev Cert.ExpertsRefIdeal.nD,
      r.2.mem ((c.tc : Thread Cert.ExpertsRefIdeal.nD Cert.ExpertsRefIdeal.τ).loc Cert.ExpertsRefIdeal.main_arg0) = m ((c.tc : Thread Cert.ExpertsRefIdeal.nD Cert.ExpertsRefIdeal.τ).loc Cert.ExpertsRefIdeal.main_arg0)
      ∧ r.2.mem ((c.tc : Thread Cert.ExpertsRefIdeal.nD Cert.ExpertsRefIdeal.τ).loc Cert.ExpertsRefIdeal.main_arg1) = m ((c.tc : Thread Cert.ExpertsRefIdeal.nD Cert.ExpertsRefIdeal.τ).loc Cert.ExpertsRefIdeal.main_arg1)
      ∧ r.2.mem ((c.tc : Thread Cert.ExpertsRefIdeal.nD Cert.ExpertsRefIdeal.τ).loc Cert.ExpertsRefIdeal.main_arg2) = m ((c.tc : Thread Cert.ExpertsRefIdeal.nD Cert.ExpertsRefIdeal.τ).loc Cert.ExpertsRefIdeal.main_arg2)
      ∧ r.2.mem ((c.tc : Thread Cert.ExpertsRefIdeal.nD Cert.ExpertsRefIdeal.τ).loc Cert.ExpertsRefIdeal.main_arg3) = m ((c.tc : Thread Cert.ExpertsRefIdeal.nD Cert.ExpertsRefIdeal.τ).loc Cert.ExpertsRefIdeal.main_arg3)
      ∧ r.2.mem ((c.tc : Thread Cert.ExpertsRefIdeal.nD Cert.ExpertsRefIdeal.τ).loc Cert.ExpertsRefIdeal.main_arg4) = m ((c.tc : Thread Cert.ExpertsRefIdeal.nD Cert.ExpertsRefIdeal.τ).loc Cert.ExpertsRefIdeal.main_arg4)
      ∧ r.2.mem ((c.tc : Thread Cert.ExpertsRefIdeal.nD Cert.ExpertsRefIdeal.τ).loc Cert.ExpertsRefIdeal.main_arg5) = m ((c.tc : Thread Cert.ExpertsRefIdeal.nD Cert.ExpertsRefIdeal.τ).loc Cert.ExpertsRefIdeal.main_arg5)
      ∧ r.2.mem ((c.tc : Thread Cert.ExpertsRefIdeal.nD Cert.ExpertsRefIdeal.τ).loc Cert.ExpertsRefIdeal.main_arg6) = m ((c.tc : Thread Cert.ExpertsRefIdeal.nD Cert.ExpertsRefIdeal.τ).loc Cert.ExpertsRefIdeal.main_arg6)
      ∧ r.2.mem ((c.tc : Thread Cert.ExpertsRefIdeal.nD Cert.ExpertsRefIdeal.τ).loc Cert.ExpertsRefIdeal.main_arg7) = m ((c.tc : Thread Cert.ExpertsRefIdeal.nD Cert.ExpertsRefIdeal.τ).loc Cert.ExpertsRefIdeal.main_arg7))
      ∧ r.2.sem = fun _ => 0)

def quiescent_ConvV [hConvV : Cert.ConvV.Facts] : Prop :=
  ∀ (m : (ℓ : Loc Cert.ConvV.nD Cert.ConvV.τ Cert.ConvV.sig) → Buf (Elt Bits) ℓ) (g : Dev Cert.ConvV.nD → PrngReg), Pre_ConvV m →
    θ_run (Cert.ConvV.defs (F := Bits)) (onTc (τ := Cert.ConvV.τ) (Cert.ConvV.main (F := Bits))) ⟨m, fun _ => 0, g⟩ (fun r => (∀ c : Dev Cert.ConvV.nD,
      r.2.mem ((c.tc : Thread Cert.ConvV.nD Cert.ConvV.τ).loc Cert.ConvV.main_arg0) = m ((c.tc : Thread Cert.ConvV.nD Cert.ConvV.τ).loc Cert.ConvV.main_arg0)
      ∧ r.2.mem ((c.tc : Thread Cert.ConvV.nD Cert.ConvV.τ).loc Cert.ConvV.main_arg1) = m ((c.tc : Thread Cert.ConvV.nD Cert.ConvV.τ).loc Cert.ConvV.main_arg1))
      ∧ r.2.sem = fun _ => 0)

def quiescent_ConvVIdeal [hConvVIdeal : Cert.ConvVIdeal.Facts] : Prop :=
  ∀ (m : (ℓ : Loc Cert.ConvVIdeal.nD Cert.ConvVIdeal.τ Cert.ConvVIdeal.sig) → Buf (Elt Ideal) ℓ) (g : Dev Cert.ConvVIdeal.nD → PrngReg), Pre_ConvVIdeal m →
    θ_run (Cert.ConvVIdeal.defs (F := Ideal)) (onTc (τ := Cert.ConvVIdeal.τ) (Cert.ConvVIdeal.main (F := Ideal))) ⟨m, fun _ => 0, g⟩ (fun r => (∀ c : Dev Cert.ConvVIdeal.nD,
      r.2.mem ((c.tc : Thread Cert.ConvVIdeal.nD Cert.ConvVIdeal.τ).loc Cert.ConvVIdeal.main_arg0) = m ((c.tc : Thread Cert.ConvVIdeal.nD Cert.ConvVIdeal.τ).loc Cert.ConvVIdeal.main_arg0)
      ∧ r.2.mem ((c.tc : Thread Cert.ConvVIdeal.nD Cert.ConvVIdeal.τ).loc Cert.ConvVIdeal.main_arg1) = m ((c.tc : Thread Cert.ConvVIdeal.nD Cert.ConvVIdeal.τ).loc Cert.ConvVIdeal.main_arg1))
      ∧ r.2.sem = fun _ => 0)

def quiescent_ConvVRefIdeal [hConvVRefIdeal : Cert.ConvVRefIdeal.Facts] : Prop :=
  ∀ (m : (ℓ : Loc Cert.ConvVRefIdeal.nD Cert.ConvVRefIdeal.τ Cert.ConvVRefIdeal.sig) → Buf (Elt Ideal) ℓ) (g : Dev Cert.ConvVRefIdeal.nD → PrngReg), Pre_ConvVRefIdeal m →
    θ_run (Cert.ConvVRefIdeal.defs (F := Ideal)) (onTc (τ := Cert.ConvVRefIdeal.τ) (Cert.ConvVRefIdeal.main (F := Ideal))) ⟨m, fun _ => 0, g⟩ (fun r => (∀ c : Dev Cert.ConvVRefIdeal.nD,
      r.2.mem ((c.tc : Thread Cert.ConvVRefIdeal.nD Cert.ConvVRefIdeal.τ).loc Cert.ConvVRefIdeal.main_arg0) = m ((c.tc : Thread Cert.ConvVRefIdeal.nD Cert.ConvVRefIdeal.τ).loc Cert.ConvVRefIdeal.main_arg0)
      ∧ r.2.mem ((c.tc : Thread Cert.ConvVRefIdeal.nD Cert.ConvVRefIdeal.τ).loc Cert.ConvVRefIdeal.main_arg1) = m ((c.tc : Thread Cert.ConvVRefIdeal.nD Cert.ConvVRefIdeal.τ).loc Cert.ConvVRefIdeal.main_arg1))
      ∧ r.2.sem = fun _ => 0)

def quiescent_ConvQ [hConvQ : Cert.ConvQ.Facts] : Prop :=
  ∀ (m : (ℓ : Loc Cert.ConvQ.nD Cert.ConvQ.τ Cert.ConvQ.sig) → Buf (Elt Bits) ℓ) (g : Dev Cert.ConvQ.nD → PrngReg), Pre_ConvQ m →
    θ_run (Cert.ConvQ.defs (F := Bits)) (onTc (τ := Cert.ConvQ.τ) (Cert.ConvQ.main (F := Bits))) ⟨m, fun _ => 0, g⟩ (fun r => (∀ c : Dev Cert.ConvQ.nD,
      r.2.mem ((c.tc : Thread Cert.ConvQ.nD Cert.ConvQ.τ).loc Cert.ConvQ.main_arg0) = m ((c.tc : Thread Cert.ConvQ.nD Cert.ConvQ.τ).loc Cert.ConvQ.main_arg0)
      ∧ r.2.mem ((c.tc : Thread Cert.ConvQ.nD Cert.ConvQ.τ).loc Cert.ConvQ.main_arg1) = m ((c.tc : Thread Cert.ConvQ.nD Cert.ConvQ.τ).loc Cert.ConvQ.main_arg1))
      ∧ r.2.sem = fun _ => 0)

def quiescent_ConvQIdeal [hConvQIdeal : Cert.ConvQIdeal.Facts] : Prop :=
  ∀ (m : (ℓ : Loc Cert.ConvQIdeal.nD Cert.ConvQIdeal.τ Cert.ConvQIdeal.sig) → Buf (Elt Ideal) ℓ) (g : Dev Cert.ConvQIdeal.nD → PrngReg), Pre_ConvQIdeal m →
    θ_run (Cert.ConvQIdeal.defs (F := Ideal)) (onTc (τ := Cert.ConvQIdeal.τ) (Cert.ConvQIdeal.main (F := Ideal))) ⟨m, fun _ => 0, g⟩ (fun r => (∀ c : Dev Cert.ConvQIdeal.nD,
      r.2.mem ((c.tc : Thread Cert.ConvQIdeal.nD Cert.ConvQIdeal.τ).loc Cert.ConvQIdeal.main_arg0) = m ((c.tc : Thread Cert.ConvQIdeal.nD Cert.ConvQIdeal.τ).loc Cert.ConvQIdeal.main_arg0)
      ∧ r.2.mem ((c.tc : Thread Cert.ConvQIdeal.nD Cert.ConvQIdeal.τ).loc Cert.ConvQIdeal.main_arg1) = m ((c.tc : Thread Cert.ConvQIdeal.nD Cert.ConvQIdeal.τ).loc Cert.ConvQIdeal.main_arg1))
      ∧ r.2.sem = fun _ => 0)

def quiescent_ConvQRefIdeal [hConvQRefIdeal : Cert.ConvQRefIdeal.Facts] : Prop :=
  ∀ (m : (ℓ : Loc Cert.ConvQRefIdeal.nD Cert.ConvQRefIdeal.τ Cert.ConvQRefIdeal.sig) → Buf (Elt Ideal) ℓ) (g : Dev Cert.ConvQRefIdeal.nD → PrngReg), Pre_ConvQRefIdeal m →
    θ_run (Cert.ConvQRefIdeal.defs (F := Ideal)) (onTc (τ := Cert.ConvQRefIdeal.τ) (Cert.ConvQRefIdeal.main (F := Ideal))) ⟨m, fun _ => 0, g⟩ (fun r => (∀ c : Dev Cert.ConvQRefIdeal.nD,
      r.2.mem ((c.tc : Thread Cert.ConvQRefIdeal.nD Cert.ConvQRefIdeal.τ).loc Cert.ConvQRefIdeal.main_arg0) = m ((c.tc : Thread Cert.ConvQRefIdeal.nD Cert.ConvQRefIdeal.τ).loc Cert.ConvQRefIdeal.main_arg0)
      ∧ r.2.mem ((c.tc : Thread Cert.ConvQRefIdeal.nD Cert.ConvQRefIdeal.τ).loc Cert.ConvQRefIdeal.main_arg1) = m ((c.tc : Thread Cert.ConvQRefIdeal.nD Cert.ConvQRefIdeal.τ).loc Cert.ConvQRefIdeal.main_arg1))
      ∧ r.2.sem = fun _ => 0)

def quiescent_ConvK [hConvK : Cert.ConvK.Facts] : Prop :=
  ∀ (m : (ℓ : Loc Cert.ConvK.nD Cert.ConvK.τ Cert.ConvK.sig) → Buf (Elt Bits) ℓ) (g : Dev Cert.ConvK.nD → PrngReg), Pre_ConvK m →
    θ_run (Cert.ConvK.defs (F := Bits)) (onTc (τ := Cert.ConvK.τ) (Cert.ConvK.main (F := Bits))) ⟨m, fun _ => 0, g⟩ (fun r => (∀ c : Dev Cert.ConvK.nD,
      r.2.mem ((c.tc : Thread Cert.ConvK.nD Cert.ConvK.τ).loc Cert.ConvK.main_arg0) = m ((c.tc : Thread Cert.ConvK.nD Cert.ConvK.τ).loc Cert.ConvK.main_arg0)
      ∧ r.2.mem ((c.tc : Thread Cert.ConvK.nD Cert.ConvK.τ).loc Cert.ConvK.main_arg1) = m ((c.tc : Thread Cert.ConvK.nD Cert.ConvK.τ).loc Cert.ConvK.main_arg1))
      ∧ r.2.sem = fun _ => 0)

def quiescent_ConvKIdeal [hConvKIdeal : Cert.ConvKIdeal.Facts] : Prop :=
  ∀ (m : (ℓ : Loc Cert.ConvKIdeal.nD Cert.ConvKIdeal.τ Cert.ConvKIdeal.sig) → Buf (Elt Ideal) ℓ) (g : Dev Cert.ConvKIdeal.nD → PrngReg), Pre_ConvKIdeal m →
    θ_run (Cert.ConvKIdeal.defs (F := Ideal)) (onTc (τ := Cert.ConvKIdeal.τ) (Cert.ConvKIdeal.main (F := Ideal))) ⟨m, fun _ => 0, g⟩ (fun r => (∀ c : Dev Cert.ConvKIdeal.nD,
      r.2.mem ((c.tc : Thread Cert.ConvKIdeal.nD Cert.ConvKIdeal.τ).loc Cert.ConvKIdeal.main_arg0) = m ((c.tc : Thread Cert.ConvKIdeal.nD Cert.ConvKIdeal.τ).loc Cert.ConvKIdeal.main_arg0)
      ∧ r.2.mem ((c.tc : Thread Cert.ConvKIdeal.nD Cert.ConvKIdeal.τ).loc Cert.ConvKIdeal.main_arg1) = m ((c.tc : Thread Cert.ConvKIdeal.nD Cert.ConvKIdeal.τ).loc Cert.ConvKIdeal.main_arg1))
      ∧ r.2.sem = fun _ => 0)

def quiescent_ConvKRefIdeal [hConvKRefIdeal : Cert.ConvKRefIdeal.Facts] : Prop :=
  ∀ (m : (ℓ : Loc Cert.ConvKRefIdeal.nD Cert.ConvKRefIdeal.τ Cert.ConvKRefIdeal.sig) → Buf (Elt Ideal) ℓ) (g : Dev Cert.ConvKRefIdeal.nD → PrngReg), Pre_ConvKRefIdeal m →
    θ_run (Cert.ConvKRefIdeal.defs (F := Ideal)) (onTc (τ := Cert.ConvKRefIdeal.τ) (Cert.ConvKRefIdeal.main (F := Ideal))) ⟨m, fun _ => 0, g⟩ (fun r => (∀ c : Dev Cert.ConvKRefIdeal.nD,
      r.2.mem ((c.tc : Thread Cert.ConvKRefIdeal.nD Cert.ConvKRefIdeal.τ).loc Cert.ConvKRefIdeal.main_arg0) = m ((c.tc : Thread Cert.ConvKRefIdeal.nD Cert.ConvKRefIdeal.τ).loc Cert.ConvKRefIdeal.main_arg0)
      ∧ r.2.mem ((c.tc : Thread Cert.ConvKRefIdeal.nD Cert.ConvKRefIdeal.τ).loc Cert.ConvKRefIdeal.main_arg1) = m ((c.tc : Thread Cert.ConvKRefIdeal.nD Cert.ConvKRefIdeal.τ).loc Cert.ConvKRefIdeal.main_arg1))
      ∧ r.2.sem = fun _ => 0)

def quiescent_GateProj [hGateProj : Cert.GateProj.Facts] : Prop :=
  ∀ (m : (ℓ : Loc Cert.GateProj.nD Cert.GateProj.τ Cert.GateProj.sig) → Buf (Elt Bits) ℓ) (g : Dev Cert.GateProj.nD → PrngReg), Pre_GateProj m →
    θ_run (Cert.GateProj.defs (F := Bits)) (onTc (τ := Cert.GateProj.τ) (Cert.GateProj.main (F := Bits))) ⟨m, fun _ => 0, g⟩ (fun r => (∀ c : Dev Cert.GateProj.nD,
      r.2.mem ((c.tc : Thread Cert.GateProj.nD Cert.GateProj.τ).loc Cert.GateProj.main_arg0) = m ((c.tc : Thread Cert.GateProj.nD Cert.GateProj.τ).loc Cert.GateProj.main_arg0)
      ∧ r.2.mem ((c.tc : Thread Cert.GateProj.nD Cert.GateProj.τ).loc Cert.GateProj.main_arg1) = m ((c.tc : Thread Cert.GateProj.nD Cert.GateProj.τ).loc Cert.GateProj.main_arg1)
      ∧ r.2.mem ((c.tc : Thread Cert.GateProj.nD Cert.GateProj.τ).loc Cert.GateProj.main_arg2) = m ((c.tc : Thread Cert.GateProj.nD Cert.GateProj.τ).loc Cert.GateProj.main_arg2))
      ∧ r.2.sem = fun _ => 0)

def quiescent_GateProjIdeal [hGateProjIdeal : Cert.GateProjIdeal.Facts] : Prop :=
  ∀ (m : (ℓ : Loc Cert.GateProjIdeal.nD Cert.GateProjIdeal.τ Cert.GateProjIdeal.sig) → Buf (Elt Ideal) ℓ) (g : Dev Cert.GateProjIdeal.nD → PrngReg), Pre_GateProjIdeal m →
    θ_run (Cert.GateProjIdeal.defs (F := Ideal)) (onTc (τ := Cert.GateProjIdeal.τ) (Cert.GateProjIdeal.main (F := Ideal))) ⟨m, fun _ => 0, g⟩ (fun r => (∀ c : Dev Cert.GateProjIdeal.nD,
      r.2.mem ((c.tc : Thread Cert.GateProjIdeal.nD Cert.GateProjIdeal.τ).loc Cert.GateProjIdeal.main_arg0) = m ((c.tc : Thread Cert.GateProjIdeal.nD Cert.GateProjIdeal.τ).loc Cert.GateProjIdeal.main_arg0)
      ∧ r.2.mem ((c.tc : Thread Cert.GateProjIdeal.nD Cert.GateProjIdeal.τ).loc Cert.GateProjIdeal.main_arg1) = m ((c.tc : Thread Cert.GateProjIdeal.nD Cert.GateProjIdeal.τ).loc Cert.GateProjIdeal.main_arg1)
      ∧ r.2.mem ((c.tc : Thread Cert.GateProjIdeal.nD Cert.GateProjIdeal.τ).loc Cert.GateProjIdeal.main_arg2) = m ((c.tc : Thread Cert.GateProjIdeal.nD Cert.GateProjIdeal.τ).loc Cert.GateProjIdeal.main_arg2))
      ∧ r.2.sem = fun _ => 0)

def quiescent_GateProjRefIdeal [hGateProjRefIdeal : Cert.GateProjRefIdeal.Facts] : Prop :=
  ∀ (m : (ℓ : Loc Cert.GateProjRefIdeal.nD Cert.GateProjRefIdeal.τ Cert.GateProjRefIdeal.sig) → Buf (Elt Ideal) ℓ) (g : Dev Cert.GateProjRefIdeal.nD → PrngReg), Pre_GateProjRefIdeal m →
    θ_run (Cert.GateProjRefIdeal.defs (F := Ideal)) (onTc (τ := Cert.GateProjRefIdeal.τ) (Cert.GateProjRefIdeal.main (F := Ideal))) ⟨m, fun _ => 0, g⟩ (fun r => (∀ c : Dev Cert.GateProjRefIdeal.nD,
      r.2.mem ((c.tc : Thread Cert.GateProjRefIdeal.nD Cert.GateProjRefIdeal.τ).loc Cert.GateProjRefIdeal.main_arg0) = m ((c.tc : Thread Cert.GateProjRefIdeal.nD Cert.GateProjRefIdeal.τ).loc Cert.GateProjRefIdeal.main_arg0)
      ∧ r.2.mem ((c.tc : Thread Cert.GateProjRefIdeal.nD Cert.GateProjRefIdeal.τ).loc Cert.GateProjRefIdeal.main_arg1) = m ((c.tc : Thread Cert.GateProjRefIdeal.nD Cert.GateProjRefIdeal.τ).loc Cert.GateProjRefIdeal.main_arg1)
      ∧ r.2.mem ((c.tc : Thread Cert.GateProjRefIdeal.nD Cert.GateProjRefIdeal.τ).loc Cert.GateProjRefIdeal.main_arg2) = m ((c.tc : Thread Cert.GateProjRefIdeal.nD Cert.GateProjRefIdeal.τ).loc Cert.GateProjRefIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v38) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_DnProj_DnProjIdeal : Prop :=
  True

def algebraic_DnProjIdeal_DnProjRefIdeal [hDnProjIdeal : Cert.DnProjIdeal.Facts] [hDnProjRefIdeal : Cert.DnProjRefIdeal.Facts] : Prop :=
  ∀ (m : (ℓ : Loc Cert.DnProjIdeal.nD Cert.DnProjIdeal.τ Cert.DnProjIdeal.sig) → Buf (Elt Ideal) ℓ) (g : Dev Cert.DnProjIdeal.nD → PrngReg)
    (m' : (ℓ : Loc Cert.DnProjRefIdeal.nD Cert.DnProjRefIdeal.τ Cert.DnProjRefIdeal.sig) → Buf (Elt Ideal) ℓ) (g' : Dev Cert.DnProjRefIdeal.nD → PrngReg), Pre_DnProjIdeal m →
    (∀ c : Dev Cert.DnProjIdeal.nD,
      m' ((c.tc : Thread Cert.DnProjRefIdeal.nD Cert.DnProjRefIdeal.τ).loc Cert.DnProjRefIdeal.main_arg0) = m ((c.tc : Thread Cert.DnProjIdeal.nD Cert.DnProjIdeal.τ).loc Cert.DnProjIdeal.main_arg0)
      ∧ m' ((c.tc : Thread Cert.DnProjRefIdeal.nD Cert.DnProjRefIdeal.τ).loc Cert.DnProjRefIdeal.main_arg1) = m ((c.tc : Thread Cert.DnProjIdeal.nD Cert.DnProjIdeal.τ).loc Cert.DnProjIdeal.main_arg1)
      ∧ m' ((c.tc : Thread Cert.DnProjRefIdeal.nD Cert.DnProjRefIdeal.τ).loc Cert.DnProjRefIdeal.main_arg2) = m ((c.tc : Thread Cert.DnProjIdeal.nD Cert.DnProjIdeal.τ).loc Cert.DnProjIdeal.main_arg2)) →
    ∃ (v0 : (c : Dev Cert.DnProjIdeal.nD) → Buf (Elt Ideal) ((c.tc : Thread Cert.DnProjIdeal.nD Cert.DnProjIdeal.τ).loc Cert.DnProjIdeal.main_v3)),
      θ_run (Cert.DnProjIdeal.defs (F := Ideal)) (onTc (τ := Cert.DnProjIdeal.τ) (Cert.DnProjIdeal.main (F := Ideal))) ⟨m, fun _ => 0, g⟩ (fun r => ∀ c : Dev Cert.DnProjIdeal.nD,
          r.2.mem ((c.tc : Thread Cert.DnProjIdeal.nD Cert.DnProjIdeal.τ).loc Cert.DnProjIdeal.main_v3) = v0 c
          ∧ r.2.mem ((c.tc : Thread Cert.DnProjIdeal.nD Cert.DnProjIdeal.τ).loc Cert.DnProjIdeal.main_arg0) = m ((c.tc : Thread Cert.DnProjIdeal.nD Cert.DnProjIdeal.τ).loc Cert.DnProjIdeal.main_arg0)
          ∧ r.2.mem ((c.tc : Thread Cert.DnProjIdeal.nD Cert.DnProjIdeal.τ).loc Cert.DnProjIdeal.main_arg1) = m ((c.tc : Thread Cert.DnProjIdeal.nD Cert.DnProjIdeal.τ).loc Cert.DnProjIdeal.main_arg1)
          ∧ r.2.mem ((c.tc : Thread Cert.DnProjIdeal.nD Cert.DnProjIdeal.τ).loc Cert.DnProjIdeal.main_arg2) = m ((c.tc : Thread Cert.DnProjIdeal.nD Cert.DnProjIdeal.τ).loc Cert.DnProjIdeal.main_arg2))
      ∧ θ_run (Cert.DnProjRefIdeal.defs (F := Ideal)) (onTc (τ := Cert.DnProjRefIdeal.τ) (Cert.DnProjRefIdeal.main (F := Ideal))) ⟨m', fun _ => 0, g'⟩ (fun r => ∀ c : Dev Cert.DnProjRefIdeal.nD,
          r.2.mem ((c.tc : Thread Cert.DnProjRefIdeal.nD Cert.DnProjRefIdeal.τ).loc Cert.DnProjRefIdeal.main_v14) = v0 c
          ∧ r.2.mem ((c.tc : Thread Cert.DnProjRefIdeal.nD Cert.DnProjRefIdeal.τ).loc Cert.DnProjRefIdeal.main_arg0) = m' ((c.tc : Thread Cert.DnProjRefIdeal.nD Cert.DnProjRefIdeal.τ).loc Cert.DnProjRefIdeal.main_arg0)
          ∧ r.2.mem ((c.tc : Thread Cert.DnProjRefIdeal.nD Cert.DnProjRefIdeal.τ).loc Cert.DnProjRefIdeal.main_arg1) = m' ((c.tc : Thread Cert.DnProjRefIdeal.nD Cert.DnProjRefIdeal.τ).loc Cert.DnProjRefIdeal.main_arg1)
          ∧ r.2.mem ((c.tc : Thread Cert.DnProjRefIdeal.nD Cert.DnProjRefIdeal.τ).loc Cert.DnProjRefIdeal.main_arg2) = m' ((c.tc : Thread Cert.DnProjRefIdeal.nD Cert.DnProjRefIdeal.τ).loc Cert.DnProjRefIdeal.main_arg2))

def preserves_AttnProj_AttnProjIdeal : Prop :=
  True

def algebraic_AttnProjIdeal_AttnProjRefIdeal [hAttnProjIdeal : Cert.AttnProjIdeal.Facts] [hAttnProjRefIdeal : Cert.AttnProjRefIdeal.Facts] : Prop :=
  ∀ (m : (ℓ : Loc Cert.AttnProjIdeal.nD Cert.AttnProjIdeal.τ Cert.AttnProjIdeal.sig) → Buf (Elt Ideal) ℓ) (g : Dev Cert.AttnProjIdeal.nD → PrngReg)
    (m' : (ℓ : Loc Cert.AttnProjRefIdeal.nD Cert.AttnProjRefIdeal.τ Cert.AttnProjRefIdeal.sig) → Buf (Elt Ideal) ℓ) (g' : Dev Cert.AttnProjRefIdeal.nD → PrngReg), Pre_AttnProjIdeal m →
    (∀ c : Dev Cert.AttnProjIdeal.nD,
      m' ((c.tc : Thread Cert.AttnProjRefIdeal.nD Cert.AttnProjRefIdeal.τ).loc Cert.AttnProjRefIdeal.main_arg0) = m ((c.tc : Thread Cert.AttnProjIdeal.nD Cert.AttnProjIdeal.τ).loc Cert.AttnProjIdeal.main_arg0)
      ∧ m' ((c.tc : Thread Cert.AttnProjRefIdeal.nD Cert.AttnProjRefIdeal.τ).loc Cert.AttnProjRefIdeal.main_arg1) = m ((c.tc : Thread Cert.AttnProjIdeal.nD Cert.AttnProjIdeal.τ).loc Cert.AttnProjIdeal.main_arg1)
      ∧ m' ((c.tc : Thread Cert.AttnProjRefIdeal.nD Cert.AttnProjRefIdeal.τ).loc Cert.AttnProjRefIdeal.main_arg2) = m ((c.tc : Thread Cert.AttnProjIdeal.nD Cert.AttnProjIdeal.τ).loc Cert.AttnProjIdeal.main_arg2)) →
    ∃ (v0 : (c : Dev Cert.AttnProjIdeal.nD) → Buf (Elt Ideal) ((c.tc : Thread Cert.AttnProjIdeal.nD Cert.AttnProjIdeal.τ).loc Cert.AttnProjIdeal.main_v3)),
      θ_run (Cert.AttnProjIdeal.defs (F := Ideal)) (onTc (τ := Cert.AttnProjIdeal.τ) (Cert.AttnProjIdeal.main (F := Ideal))) ⟨m, fun _ => 0, g⟩ (fun r => ∀ c : Dev Cert.AttnProjIdeal.nD,
          r.2.mem ((c.tc : Thread Cert.AttnProjIdeal.nD Cert.AttnProjIdeal.τ).loc Cert.AttnProjIdeal.main_v3) = v0 c
          ∧ r.2.mem ((c.tc : Thread Cert.AttnProjIdeal.nD Cert.AttnProjIdeal.τ).loc Cert.AttnProjIdeal.main_arg0) = m ((c.tc : Thread Cert.AttnProjIdeal.nD Cert.AttnProjIdeal.τ).loc Cert.AttnProjIdeal.main_arg0)
          ∧ r.2.mem ((c.tc : Thread Cert.AttnProjIdeal.nD Cert.AttnProjIdeal.τ).loc Cert.AttnProjIdeal.main_arg1) = m ((c.tc : Thread Cert.AttnProjIdeal.nD Cert.AttnProjIdeal.τ).loc Cert.AttnProjIdeal.main_arg1)
          ∧ r.2.mem ((c.tc : Thread Cert.AttnProjIdeal.nD Cert.AttnProjIdeal.τ).loc Cert.AttnProjIdeal.main_arg2) = m ((c.tc : Thread Cert.AttnProjIdeal.nD Cert.AttnProjIdeal.τ).loc Cert.AttnProjIdeal.main_arg2))
      ∧ θ_run (Cert.AttnProjRefIdeal.defs (F := Ideal)) (onTc (τ := Cert.AttnProjRefIdeal.τ) (Cert.AttnProjRefIdeal.main (F := Ideal))) ⟨m', fun _ => 0, g'⟩ (fun r => ∀ c : Dev Cert.AttnProjRefIdeal.nD,
          r.2.mem ((c.tc : Thread Cert.AttnProjRefIdeal.nD Cert.AttnProjRefIdeal.τ).loc Cert.AttnProjRefIdeal.main_v14) = v0 c
          ∧ r.2.mem ((c.tc : Thread Cert.AttnProjRefIdeal.nD Cert.AttnProjRefIdeal.τ).loc Cert.AttnProjRefIdeal.main_arg0) = m' ((c.tc : Thread Cert.AttnProjRefIdeal.nD Cert.AttnProjRefIdeal.τ).loc Cert.AttnProjRefIdeal.main_arg0)
          ∧ r.2.mem ((c.tc : Thread Cert.AttnProjRefIdeal.nD Cert.AttnProjRefIdeal.τ).loc Cert.AttnProjRefIdeal.main_arg1) = m' ((c.tc : Thread Cert.AttnProjRefIdeal.nD Cert.AttnProjRefIdeal.τ).loc Cert.AttnProjRefIdeal.main_arg1)
          ∧ r.2.mem ((c.tc : Thread Cert.AttnProjRefIdeal.nD Cert.AttnProjRefIdeal.τ).loc Cert.AttnProjRefIdeal.main_arg2) = m' ((c.tc : Thread Cert.AttnProjRefIdeal.nD Cert.AttnProjRefIdeal.τ).loc Cert.AttnProjRefIdeal.main_arg2))

def preserves_DnOut_DnOutIdeal : Prop :=
  True

def algebraic_DnOutIdeal_DnOutRefIdeal [hDnOutIdeal : Cert.DnOutIdeal.Facts] [hDnOutRefIdeal : Cert.DnOutRefIdeal.Facts] : Prop :=
  ∀ (m : (ℓ : Loc Cert.DnOutIdeal.nD Cert.DnOutIdeal.τ Cert.DnOutIdeal.sig) → Buf (Elt Ideal) ℓ) (g : Dev Cert.DnOutIdeal.nD → PrngReg)
    (m' : (ℓ : Loc Cert.DnOutRefIdeal.nD Cert.DnOutRefIdeal.τ Cert.DnOutRefIdeal.sig) → Buf (Elt Ideal) ℓ) (g' : Dev Cert.DnOutRefIdeal.nD → PrngReg), Pre_DnOutIdeal m →
    (∀ c : Dev Cert.DnOutIdeal.nD,
      m' ((c.tc : Thread Cert.DnOutRefIdeal.nD Cert.DnOutRefIdeal.τ).loc Cert.DnOutRefIdeal.main_arg0) = m ((c.tc : Thread Cert.DnOutIdeal.nD Cert.DnOutIdeal.τ).loc Cert.DnOutIdeal.main_arg0)
      ∧ m' ((c.tc : Thread Cert.DnOutRefIdeal.nD Cert.DnOutRefIdeal.τ).loc Cert.DnOutRefIdeal.main_arg1) = m ((c.tc : Thread Cert.DnOutIdeal.nD Cert.DnOutIdeal.τ).loc Cert.DnOutIdeal.main_arg1)
      ∧ m' ((c.tc : Thread Cert.DnOutRefIdeal.nD Cert.DnOutRefIdeal.τ).loc Cert.DnOutRefIdeal.main_arg2) = m ((c.tc : Thread Cert.DnOutIdeal.nD Cert.DnOutIdeal.τ).loc Cert.DnOutIdeal.main_arg2)) →
    ∃ (v0 : (c : Dev Cert.DnOutIdeal.nD) → Buf (Elt Ideal) ((c.tc : Thread Cert.DnOutIdeal.nD Cert.DnOutIdeal.τ).loc Cert.DnOutIdeal.main_v1)),
      θ_run (Cert.DnOutIdeal.defs (F := Ideal)) (onTc (τ := Cert.DnOutIdeal.τ) (Cert.DnOutIdeal.main (F := Ideal))) ⟨m, fun _ => 0, g⟩ (fun r => ∀ c : Dev Cert.DnOutIdeal.nD,
          r.2.mem ((c.tc : Thread Cert.DnOutIdeal.nD Cert.DnOutIdeal.τ).loc Cert.DnOutIdeal.main_v1) = v0 c
          ∧ r.2.mem ((c.tc : Thread Cert.DnOutIdeal.nD Cert.DnOutIdeal.τ).loc Cert.DnOutIdeal.main_arg0) = m ((c.tc : Thread Cert.DnOutIdeal.nD Cert.DnOutIdeal.τ).loc Cert.DnOutIdeal.main_arg0)
          ∧ r.2.mem ((c.tc : Thread Cert.DnOutIdeal.nD Cert.DnOutIdeal.τ).loc Cert.DnOutIdeal.main_arg1) = m ((c.tc : Thread Cert.DnOutIdeal.nD Cert.DnOutIdeal.τ).loc Cert.DnOutIdeal.main_arg1)
          ∧ r.2.mem ((c.tc : Thread Cert.DnOutIdeal.nD Cert.DnOutIdeal.τ).loc Cert.DnOutIdeal.main_arg2) = m ((c.tc : Thread Cert.DnOutIdeal.nD Cert.DnOutIdeal.τ).loc Cert.DnOutIdeal.main_arg2))
      ∧ θ_run (Cert.DnOutRefIdeal.defs (F := Ideal)) (onTc (τ := Cert.DnOutRefIdeal.τ) (Cert.DnOutRefIdeal.main (F := Ideal))) ⟨m', fun _ => 0, g'⟩ (fun r => ∀ c : Dev Cert.DnOutRefIdeal.nD,
          r.2.mem ((c.tc : Thread Cert.DnOutRefIdeal.nD Cert.DnOutRefIdeal.τ).loc Cert.DnOutRefIdeal.main_v2) = v0 c
          ∧ r.2.mem ((c.tc : Thread Cert.DnOutRefIdeal.nD Cert.DnOutRefIdeal.τ).loc Cert.DnOutRefIdeal.main_arg0) = m' ((c.tc : Thread Cert.DnOutRefIdeal.nD Cert.DnOutRefIdeal.τ).loc Cert.DnOutRefIdeal.main_arg0)
          ∧ r.2.mem ((c.tc : Thread Cert.DnOutRefIdeal.nD Cert.DnOutRefIdeal.τ).loc Cert.DnOutRefIdeal.main_arg1) = m' ((c.tc : Thread Cert.DnOutRefIdeal.nD Cert.DnOutRefIdeal.τ).loc Cert.DnOutRefIdeal.main_arg1)
          ∧ r.2.mem ((c.tc : Thread Cert.DnOutRefIdeal.nD Cert.DnOutRefIdeal.τ).loc Cert.DnOutRefIdeal.main_arg2) = m' ((c.tc : Thread Cert.DnOutRefIdeal.nD Cert.DnOutRefIdeal.τ).loc Cert.DnOutRefIdeal.main_arg2))

def preserves_AttnOut_AttnOutIdeal : Prop :=
  True

def algebraic_AttnOutIdeal_AttnOutRefIdeal [hAttnOutIdeal : Cert.AttnOutIdeal.Facts] [hAttnOutRefIdeal : Cert.AttnOutRefIdeal.Facts] : Prop :=
  ∀ (m : (ℓ : Loc Cert.AttnOutIdeal.nD Cert.AttnOutIdeal.τ Cert.AttnOutIdeal.sig) → Buf (Elt Ideal) ℓ) (g : Dev Cert.AttnOutIdeal.nD → PrngReg)
    (m' : (ℓ : Loc Cert.AttnOutRefIdeal.nD Cert.AttnOutRefIdeal.τ Cert.AttnOutRefIdeal.sig) → Buf (Elt Ideal) ℓ) (g' : Dev Cert.AttnOutRefIdeal.nD → PrngReg), Pre_AttnOutIdeal m →
    (∀ c : Dev Cert.AttnOutIdeal.nD,
      m' ((c.tc : Thread Cert.AttnOutRefIdeal.nD Cert.AttnOutRefIdeal.τ).loc Cert.AttnOutRefIdeal.main_arg0) = m ((c.tc : Thread Cert.AttnOutIdeal.nD Cert.AttnOutIdeal.τ).loc Cert.AttnOutIdeal.main_arg0)
      ∧ m' ((c.tc : Thread Cert.AttnOutRefIdeal.nD Cert.AttnOutRefIdeal.τ).loc Cert.AttnOutRefIdeal.main_arg1) = m ((c.tc : Thread Cert.AttnOutIdeal.nD Cert.AttnOutIdeal.τ).loc Cert.AttnOutIdeal.main_arg1)
      ∧ m' ((c.tc : Thread Cert.AttnOutRefIdeal.nD Cert.AttnOutRefIdeal.τ).loc Cert.AttnOutRefIdeal.main_arg2) = m ((c.tc : Thread Cert.AttnOutIdeal.nD Cert.AttnOutIdeal.τ).loc Cert.AttnOutIdeal.main_arg2)) →
    ∃ (v0 : (c : Dev Cert.AttnOutIdeal.nD) → Buf (Elt Ideal) ((c.tc : Thread Cert.AttnOutIdeal.nD Cert.AttnOutIdeal.τ).loc Cert.AttnOutIdeal.main_v1)),
      θ_run (Cert.AttnOutIdeal.defs (F := Ideal)) (onTc (τ := Cert.AttnOutIdeal.τ) (Cert.AttnOutIdeal.main (F := Ideal))) ⟨m, fun _ => 0, g⟩ (fun r => ∀ c : Dev Cert.AttnOutIdeal.nD,
          r.2.mem ((c.tc : Thread Cert.AttnOutIdeal.nD Cert.AttnOutIdeal.τ).loc Cert.AttnOutIdeal.main_v1) = v0 c
          ∧ r.2.mem ((c.tc : Thread Cert.AttnOutIdeal.nD Cert.AttnOutIdeal.τ).loc Cert.AttnOutIdeal.main_arg0) = m ((c.tc : Thread Cert.AttnOutIdeal.nD Cert.AttnOutIdeal.τ).loc Cert.AttnOutIdeal.main_arg0)
          ∧ r.2.mem ((c.tc : Thread Cert.AttnOutIdeal.nD Cert.AttnOutIdeal.τ).loc Cert.AttnOutIdeal.main_arg1) = m ((c.tc : Thread Cert.AttnOutIdeal.nD Cert.AttnOutIdeal.τ).loc Cert.AttnOutIdeal.main_arg1)
          ∧ r.2.mem ((c.tc : Thread Cert.AttnOutIdeal.nD Cert.AttnOutIdeal.τ).loc Cert.AttnOutIdeal.main_arg2) = m ((c.tc : Thread Cert.AttnOutIdeal.nD Cert.AttnOutIdeal.τ).loc Cert.AttnOutIdeal.main_arg2))
      ∧ θ_run (Cert.AttnOutRefIdeal.defs (F := Ideal)) (onTc (τ := Cert.AttnOutRefIdeal.τ) (Cert.AttnOutRefIdeal.main (F := Ideal))) ⟨m', fun _ => 0, g'⟩ (fun r => ∀ c : Dev Cert.AttnOutRefIdeal.nD,
          r.2.mem ((c.tc : Thread Cert.AttnOutRefIdeal.nD Cert.AttnOutRefIdeal.τ).loc Cert.AttnOutRefIdeal.main_v2) = v0 c
          ∧ r.2.mem ((c.tc : Thread Cert.AttnOutRefIdeal.nD Cert.AttnOutRefIdeal.τ).loc Cert.AttnOutRefIdeal.main_arg0) = m' ((c.tc : Thread Cert.AttnOutRefIdeal.nD Cert.AttnOutRefIdeal.τ).loc Cert.AttnOutRefIdeal.main_arg0)
          ∧ r.2.mem ((c.tc : Thread Cert.AttnOutRefIdeal.nD Cert.AttnOutRefIdeal.τ).loc Cert.AttnOutRefIdeal.main_arg1) = m' ((c.tc : Thread Cert.AttnOutRefIdeal.nD Cert.AttnOutRefIdeal.τ).loc Cert.AttnOutRefIdeal.main_arg1)
          ∧ r.2.mem ((c.tc : Thread Cert.AttnOutRefIdeal.nD Cert.AttnOutRefIdeal.τ).loc Cert.AttnOutRefIdeal.main_arg2) = m' ((c.tc : Thread Cert.AttnOutRefIdeal.nD Cert.AttnOutRefIdeal.τ).loc Cert.AttnOutRefIdeal.main_arg2))

def preserves_Ple_PleIdeal : Prop :=
  True

def algebraic_PleIdeal_PleRefIdeal [hPleIdeal : Cert.PleIdeal.Facts] [hPleRefIdeal : Cert.PleRefIdeal.Facts] : Prop :=
  ∀ (m : (ℓ : Loc Cert.PleIdeal.nD Cert.PleIdeal.τ Cert.PleIdeal.sig) → Buf (Elt Ideal) ℓ) (g : Dev Cert.PleIdeal.nD → PrngReg)
    (m' : (ℓ : Loc Cert.PleRefIdeal.nD Cert.PleRefIdeal.τ Cert.PleRefIdeal.sig) → Buf (Elt Ideal) ℓ) (g' : Dev Cert.PleRefIdeal.nD → PrngReg), Pre_PleIdeal m →
    (∀ c : Dev Cert.PleIdeal.nD,
      m' ((c.tc : Thread Cert.PleRefIdeal.nD Cert.PleRefIdeal.τ).loc Cert.PleRefIdeal.main_arg0) = m ((c.tc : Thread Cert.PleIdeal.nD Cert.PleIdeal.τ).loc Cert.PleIdeal.main_arg0)
      ∧ m' ((c.tc : Thread Cert.PleRefIdeal.nD Cert.PleRefIdeal.τ).loc Cert.PleRefIdeal.main_arg1) = m ((c.tc : Thread Cert.PleIdeal.nD Cert.PleIdeal.τ).loc Cert.PleIdeal.main_arg1)
      ∧ m' ((c.tc : Thread Cert.PleRefIdeal.nD Cert.PleRefIdeal.τ).loc Cert.PleRefIdeal.main_arg2) = m ((c.tc : Thread Cert.PleIdeal.nD Cert.PleIdeal.τ).loc Cert.PleIdeal.main_arg2)
      ∧ m' ((c.tc : Thread Cert.PleRefIdeal.nD Cert.PleRefIdeal.τ).loc Cert.PleRefIdeal.main_arg3) = m ((c.tc : Thread Cert.PleIdeal.nD Cert.PleIdeal.τ).loc Cert.PleIdeal.main_arg3)
      ∧ m' ((c.tc : Thread Cert.PleRefIdeal.nD Cert.PleRefIdeal.τ).loc Cert.PleRefIdeal.main_arg4) = m ((c.tc : Thread Cert.PleIdeal.nD Cert.PleIdeal.τ).loc Cert.PleIdeal.main_arg4)) →
    ∃ (v0 : (c : Dev Cert.PleIdeal.nD) → Buf (Elt Ideal) ((c.tc : Thread Cert.PleIdeal.nD Cert.PleIdeal.τ).loc Cert.PleIdeal.main_v5)),
      θ_run (Cert.PleIdeal.defs (F := Ideal)) (onTc (τ := Cert.PleIdeal.τ) (Cert.PleIdeal.main (F := Ideal))) ⟨m, fun _ => 0, g⟩ (fun r => ∀ c : Dev Cert.PleIdeal.nD,
          r.2.mem ((c.tc : Thread Cert.PleIdeal.nD Cert.PleIdeal.τ).loc Cert.PleIdeal.main_v5) = v0 c
          ∧ r.2.mem ((c.tc : Thread Cert.PleIdeal.nD Cert.PleIdeal.τ).loc Cert.PleIdeal.main_arg0) = m ((c.tc : Thread Cert.PleIdeal.nD Cert.PleIdeal.τ).loc Cert.PleIdeal.main_arg0)
          ∧ r.2.mem ((c.tc : Thread Cert.PleIdeal.nD Cert.PleIdeal.τ).loc Cert.PleIdeal.main_arg1) = m ((c.tc : Thread Cert.PleIdeal.nD Cert.PleIdeal.τ).loc Cert.PleIdeal.main_arg1)
          ∧ r.2.mem ((c.tc : Thread Cert.PleIdeal.nD Cert.PleIdeal.τ).loc Cert.PleIdeal.main_arg2) = m ((c.tc : Thread Cert.PleIdeal.nD Cert.PleIdeal.τ).loc Cert.PleIdeal.main_arg2)
          ∧ r.2.mem ((c.tc : Thread Cert.PleIdeal.nD Cert.PleIdeal.τ).loc Cert.PleIdeal.main_arg3) = m ((c.tc : Thread Cert.PleIdeal.nD Cert.PleIdeal.τ).loc Cert.PleIdeal.main_arg3)
          ∧ r.2.mem ((c.tc : Thread Cert.PleIdeal.nD Cert.PleIdeal.τ).loc Cert.PleIdeal.main_arg4) = m ((c.tc : Thread Cert.PleIdeal.nD Cert.PleIdeal.τ).loc Cert.PleIdeal.main_arg4))
      ∧ θ_run (Cert.PleRefIdeal.defs (F := Ideal)) (onTc (τ := Cert.PleRefIdeal.τ) (Cert.PleRefIdeal.main (F := Ideal))) ⟨m', fun _ => 0, g'⟩ (fun r => ∀ c : Dev Cert.PleRefIdeal.nD,
          r.2.mem ((c.tc : Thread Cert.PleRefIdeal.nD Cert.PleRefIdeal.τ).loc Cert.PleRefIdeal.main_v23) = v0 c
          ∧ r.2.mem ((c.tc : Thread Cert.PleRefIdeal.nD Cert.PleRefIdeal.τ).loc Cert.PleRefIdeal.main_arg0) = m' ((c.tc : Thread Cert.PleRefIdeal.nD Cert.PleRefIdeal.τ).loc Cert.PleRefIdeal.main_arg0)
          ∧ r.2.mem ((c.tc : Thread Cert.PleRefIdeal.nD Cert.PleRefIdeal.τ).loc Cert.PleRefIdeal.main_arg1) = m' ((c.tc : Thread Cert.PleRefIdeal.nD Cert.PleRefIdeal.τ).loc Cert.PleRefIdeal.main_arg1)
          ∧ r.2.mem ((c.tc : Thread Cert.PleRefIdeal.nD Cert.PleRefIdeal.τ).loc Cert.PleRefIdeal.main_arg2) = m' ((c.tc : Thread Cert.PleRefIdeal.nD Cert.PleRefIdeal.τ).loc Cert.PleRefIdeal.main_arg2)
          ∧ r.2.mem ((c.tc : Thread Cert.PleRefIdeal.nD Cert.PleRefIdeal.τ).loc Cert.PleRefIdeal.main_arg3) = m' ((c.tc : Thread Cert.PleRefIdeal.nD Cert.PleRefIdeal.τ).loc Cert.PleRefIdeal.main_arg3)
          ∧ r.2.mem ((c.tc : Thread Cert.PleRefIdeal.nD Cert.PleRefIdeal.τ).loc Cert.PleRefIdeal.main_arg4) = m' ((c.tc : Thread Cert.PleRefIdeal.nD Cert.PleRefIdeal.τ).loc Cert.PleRefIdeal.main_arg4))

def preserves_PeerQuery_PeerQueryIdeal : Prop :=
  True

def algebraic_PeerQueryIdeal_PeerQueryRefIdeal [hPeerQueryIdeal : Cert.PeerQueryIdeal.Facts] [hPeerQueryRefIdeal : Cert.PeerQueryRefIdeal.Facts] : Prop :=
  ∀ (m : (ℓ : Loc Cert.PeerQueryIdeal.nD Cert.PeerQueryIdeal.τ Cert.PeerQueryIdeal.sig) → Buf (Elt Ideal) ℓ) (g : Dev Cert.PeerQueryIdeal.nD → PrngReg)
    (m' : (ℓ : Loc Cert.PeerQueryRefIdeal.nD Cert.PeerQueryRefIdeal.τ Cert.PeerQueryRefIdeal.sig) → Buf (Elt Ideal) ℓ) (g' : Dev Cert.PeerQueryRefIdeal.nD → PrngReg), Pre_PeerQueryIdeal m →
    (∀ c : Dev Cert.PeerQueryIdeal.nD,
      m' ((c.tc : Thread Cert.PeerQueryRefIdeal.nD Cert.PeerQueryRefIdeal.τ).loc Cert.PeerQueryRefIdeal.main_arg0) = m ((c.tc : Thread Cert.PeerQueryIdeal.nD Cert.PeerQueryIdeal.τ).loc Cert.PeerQueryIdeal.main_arg0)
      ∧ m' ((c.tc : Thread Cert.PeerQueryRefIdeal.nD Cert.PeerQueryRefIdeal.τ).loc Cert.PeerQueryRefIdeal.main_arg1) = m ((c.tc : Thread Cert.PeerQueryIdeal.nD Cert.PeerQueryIdeal.τ).loc Cert.PeerQueryIdeal.main_arg1)
      ∧ m' ((c.tc : Thread Cert.PeerQueryRefIdeal.nD Cert.PeerQueryRefIdeal.τ).loc Cert.PeerQueryRefIdeal.main_arg2) = m ((c.tc : Thread Cert.PeerQueryIdeal.nD Cert.PeerQueryIdeal.τ).loc Cert.PeerQueryIdeal.main_arg2)) →
    ∃ (v0 : (c : Dev Cert.PeerQueryIdeal.nD) → Buf (Elt Ideal) ((c.tc : Thread Cert.PeerQueryIdeal.nD Cert.PeerQueryIdeal.τ).loc Cert.PeerQueryIdeal.main_v3_0)) (v1 : (c : Dev Cert.PeerQueryIdeal.nD) → Buf (Elt Ideal) ((c.tc : Thread Cert.PeerQueryIdeal.nD Cert.PeerQueryIdeal.τ).loc Cert.PeerQueryIdeal.main_v3_1)),
      θ_run (Cert.PeerQueryIdeal.defs (F := Ideal)) (onTc (τ := Cert.PeerQueryIdeal.τ) (Cert.PeerQueryIdeal.main (F := Ideal))) ⟨m, fun _ => 0, g⟩ (fun r => ∀ c : Dev Cert.PeerQueryIdeal.nD,
          r.2.mem ((c.tc : Thread Cert.PeerQueryIdeal.nD Cert.PeerQueryIdeal.τ).loc Cert.PeerQueryIdeal.main_v3_0) = v0 c
          ∧ r.2.mem ((c.tc : Thread Cert.PeerQueryIdeal.nD Cert.PeerQueryIdeal.τ).loc Cert.PeerQueryIdeal.main_v3_1) = v1 c
          ∧ r.2.mem ((c.tc : Thread Cert.PeerQueryIdeal.nD Cert.PeerQueryIdeal.τ).loc Cert.PeerQueryIdeal.main_arg0) = m ((c.tc : Thread Cert.PeerQueryIdeal.nD Cert.PeerQueryIdeal.τ).loc Cert.PeerQueryIdeal.main_arg0)
          ∧ r.2.mem ((c.tc : Thread Cert.PeerQueryIdeal.nD Cert.PeerQueryIdeal.τ).loc Cert.PeerQueryIdeal.main_arg1) = m ((c.tc : Thread Cert.PeerQueryIdeal.nD Cert.PeerQueryIdeal.τ).loc Cert.PeerQueryIdeal.main_arg1)
          ∧ r.2.mem ((c.tc : Thread Cert.PeerQueryIdeal.nD Cert.PeerQueryIdeal.τ).loc Cert.PeerQueryIdeal.main_arg2) = m ((c.tc : Thread Cert.PeerQueryIdeal.nD Cert.PeerQueryIdeal.τ).loc Cert.PeerQueryIdeal.main_arg2))
      ∧ θ_run (Cert.PeerQueryRefIdeal.defs (F := Ideal)) (onTc (τ := Cert.PeerQueryRefIdeal.τ) (Cert.PeerQueryRefIdeal.main (F := Ideal))) ⟨m', fun _ => 0, g'⟩ (fun r => ∀ c : Dev Cert.PeerQueryRefIdeal.nD,
          r.2.mem ((c.tc : Thread Cert.PeerQueryRefIdeal.nD Cert.PeerQueryRefIdeal.τ).loc Cert.PeerQueryRefIdeal.main_v14) = v0 c
          ∧ r.2.mem ((c.tc : Thread Cert.PeerQueryRefIdeal.nD Cert.PeerQueryRefIdeal.τ).loc Cert.PeerQueryRefIdeal.main_v16) = v1 c
          ∧ r.2.mem ((c.tc : Thread Cert.PeerQueryRefIdeal.nD Cert.PeerQueryRefIdeal.τ).loc Cert.PeerQueryRefIdeal.main_arg0) = m' ((c.tc : Thread Cert.PeerQueryRefIdeal.nD Cert.PeerQueryRefIdeal.τ).loc Cert.PeerQueryRefIdeal.main_arg0)
          ∧ r.2.mem ((c.tc : Thread Cert.PeerQueryRefIdeal.nD Cert.PeerQueryRefIdeal.τ).loc Cert.PeerQueryRefIdeal.main_arg1) = m' ((c.tc : Thread Cert.PeerQueryRefIdeal.nD Cert.PeerQueryRefIdeal.τ).loc Cert.PeerQueryRefIdeal.main_arg1)
          ∧ r.2.mem ((c.tc : Thread Cert.PeerQueryRefIdeal.nD Cert.PeerQueryRefIdeal.τ).loc Cert.PeerQueryRefIdeal.main_arg2) = m' ((c.tc : Thread Cert.PeerQueryRefIdeal.nD Cert.PeerQueryRefIdeal.τ).loc Cert.PeerQueryRefIdeal.main_arg2))

def preserves_Experts_ExpertsIdeal : Prop :=
  True

def algebraic_ExpertsIdeal_ExpertsRefIdeal [hExpertsIdeal : Cert.ExpertsIdeal.Facts] [hExpertsRefIdeal : Cert.ExpertsRefIdeal.Facts] : Prop :=
  ∀ (m : (ℓ : Loc Cert.ExpertsIdeal.nD Cert.ExpertsIdeal.τ Cert.ExpertsIdeal.sig) → Buf (Elt Ideal) ℓ) (g : Dev Cert.ExpertsIdeal.nD → PrngReg)
    (m' : (ℓ : Loc Cert.ExpertsRefIdeal.nD Cert.ExpertsRefIdeal.τ Cert.ExpertsRefIdeal.sig) → Buf (Elt Ideal) ℓ) (g' : Dev Cert.ExpertsRefIdeal.nD → PrngReg), Pre_ExpertsIdeal m →
    (∀ c : Dev Cert.ExpertsIdeal.nD,
      m' ((c.tc : Thread Cert.ExpertsRefIdeal.nD Cert.ExpertsRefIdeal.τ).loc Cert.ExpertsRefIdeal.main_arg0) = m ((c.tc : Thread Cert.ExpertsIdeal.nD Cert.ExpertsIdeal.τ).loc Cert.ExpertsIdeal.main_arg0)
      ∧ m' ((c.tc : Thread Cert.ExpertsRefIdeal.nD Cert.ExpertsRefIdeal.τ).loc Cert.ExpertsRefIdeal.main_arg1) = m ((c.tc : Thread Cert.ExpertsIdeal.nD Cert.ExpertsIdeal.τ).loc Cert.ExpertsIdeal.main_arg1)
      ∧ m' ((c.tc : Thread Cert.ExpertsRefIdeal.nD Cert.ExpertsRefIdeal.τ).loc Cert.ExpertsRefIdeal.main_arg2) = m ((c.tc : Thread Cert.ExpertsIdeal.nD Cert.ExpertsIdeal.τ).loc Cert.ExpertsIdeal.main_arg2)
      ∧ m' ((c.tc : Thread Cert.ExpertsRefIdeal.nD Cert.ExpertsRefIdeal.τ).loc Cert.ExpertsRefIdeal.main_arg3) = m ((c.tc : Thread Cert.ExpertsIdeal.nD Cert.ExpertsIdeal.τ).loc Cert.ExpertsIdeal.main_arg3)
      ∧ m' ((c.tc : Thread Cert.ExpertsRefIdeal.nD Cert.ExpertsRefIdeal.τ).loc Cert.ExpertsRefIdeal.main_arg4) = m ((c.tc : Thread Cert.ExpertsIdeal.nD Cert.ExpertsIdeal.τ).loc Cert.ExpertsIdeal.main_arg4)
      ∧ m' ((c.tc : Thread Cert.ExpertsRefIdeal.nD Cert.ExpertsRefIdeal.τ).loc Cert.ExpertsRefIdeal.main_arg5) = m ((c.tc : Thread Cert.ExpertsIdeal.nD Cert.ExpertsIdeal.τ).loc Cert.ExpertsIdeal.main_arg5)
      ∧ m' ((c.tc : Thread Cert.ExpertsRefIdeal.nD Cert.ExpertsRefIdeal.τ).loc Cert.ExpertsRefIdeal.main_arg6) = m ((c.tc : Thread Cert.ExpertsIdeal.nD Cert.ExpertsIdeal.τ).loc Cert.ExpertsIdeal.main_arg6)
      ∧ m' ((c.tc : Thread Cert.ExpertsRefIdeal.nD Cert.ExpertsRefIdeal.τ).loc Cert.ExpertsRefIdeal.main_arg7) = m ((c.tc : Thread Cert.ExpertsIdeal.nD Cert.ExpertsIdeal.τ).loc Cert.ExpertsIdeal.main_arg7)) →
    ∃ (v0 : (c : Dev Cert.ExpertsIdeal.nD) → Buf (Elt Ideal) ((c.tc : Thread Cert.ExpertsIdeal.nD Cert.ExpertsIdeal.τ).loc Cert.ExpertsIdeal.main_v3)),
      θ_run (Cert.ExpertsIdeal.defs (F := Ideal)) (onTc (τ := Cert.ExpertsIdeal.τ) (Cert.ExpertsIdeal.main (F := Ideal))) ⟨m, fun _ => 0, g⟩ (fun r => ∀ c : Dev Cert.ExpertsIdeal.nD,
          r.2.mem ((c.tc : Thread Cert.ExpertsIdeal.nD Cert.ExpertsIdeal.τ).loc Cert.ExpertsIdeal.main_v3) = v0 c
          ∧ r.2.mem ((c.tc : Thread Cert.ExpertsIdeal.nD Cert.ExpertsIdeal.τ).loc Cert.ExpertsIdeal.main_arg0) = m ((c.tc : Thread Cert.ExpertsIdeal.nD Cert.ExpertsIdeal.τ).loc Cert.ExpertsIdeal.main_arg0)
          ∧ r.2.mem ((c.tc : Thread Cert.ExpertsIdeal.nD Cert.ExpertsIdeal.τ).loc Cert.ExpertsIdeal.main_arg1) = m ((c.tc : Thread Cert.ExpertsIdeal.nD Cert.ExpertsIdeal.τ).loc Cert.ExpertsIdeal.main_arg1)
          ∧ r.2.mem ((c.tc : Thread Cert.ExpertsIdeal.nD Cert.ExpertsIdeal.τ).loc Cert.ExpertsIdeal.main_arg2) = m ((c.tc : Thread Cert.ExpertsIdeal.nD Cert.ExpertsIdeal.τ).loc Cert.ExpertsIdeal.main_arg2)
          ∧ r.2.mem ((c.tc : Thread Cert.ExpertsIdeal.nD Cert.ExpertsIdeal.τ).loc Cert.ExpertsIdeal.main_arg3) = m ((c.tc : Thread Cert.ExpertsIdeal.nD Cert.ExpertsIdeal.τ).loc Cert.ExpertsIdeal.main_arg3)
          ∧ r.2.mem ((c.tc : Thread Cert.ExpertsIdeal.nD Cert.ExpertsIdeal.τ).loc Cert.ExpertsIdeal.main_arg4) = m ((c.tc : Thread Cert.ExpertsIdeal.nD Cert.ExpertsIdeal.τ).loc Cert.ExpertsIdeal.main_arg4)
          ∧ r.2.mem ((c.tc : Thread Cert.ExpertsIdeal.nD Cert.ExpertsIdeal.τ).loc Cert.ExpertsIdeal.main_arg5) = m ((c.tc : Thread Cert.ExpertsIdeal.nD Cert.ExpertsIdeal.τ).loc Cert.ExpertsIdeal.main_arg5)
          ∧ r.2.mem ((c.tc : Thread Cert.ExpertsIdeal.nD Cert.ExpertsIdeal.τ).loc Cert.ExpertsIdeal.main_arg6) = m ((c.tc : Thread Cert.ExpertsIdeal.nD Cert.ExpertsIdeal.τ).loc Cert.ExpertsIdeal.main_arg6)
          ∧ r.2.mem ((c.tc : Thread Cert.ExpertsIdeal.nD Cert.ExpertsIdeal.τ).loc Cert.ExpertsIdeal.main_arg7) = m ((c.tc : Thread Cert.ExpertsIdeal.nD Cert.ExpertsIdeal.τ).loc Cert.ExpertsIdeal.main_arg7))
      ∧ θ_run (Cert.ExpertsRefIdeal.defs (F := Ideal)) (onTc (τ := Cert.ExpertsRefIdeal.τ) (Cert.ExpertsRefIdeal.main (F := Ideal))) ⟨m', fun _ => 0, g'⟩ (fun r => ∀ c : Dev Cert.ExpertsRefIdeal.nD,
          r.2.mem ((c.tc : Thread Cert.ExpertsRefIdeal.nD Cert.ExpertsRefIdeal.τ).loc Cert.ExpertsRefIdeal.main_v30) = v0 c
          ∧ r.2.mem ((c.tc : Thread Cert.ExpertsRefIdeal.nD Cert.ExpertsRefIdeal.τ).loc Cert.ExpertsRefIdeal.main_arg0) = m' ((c.tc : Thread Cert.ExpertsRefIdeal.nD Cert.ExpertsRefIdeal.τ).loc Cert.ExpertsRefIdeal.main_arg0)
          ∧ r.2.mem ((c.tc : Thread Cert.ExpertsRefIdeal.nD Cert.ExpertsRefIdeal.τ).loc Cert.ExpertsRefIdeal.main_arg1) = m' ((c.tc : Thread Cert.ExpertsRefIdeal.nD Cert.ExpertsRefIdeal.τ).loc Cert.ExpertsRefIdeal.main_arg1)
          ∧ r.2.mem ((c.tc : Thread Cert.ExpertsRefIdeal.nD Cert.ExpertsRefIdeal.τ).loc Cert.ExpertsRefIdeal.main_arg2) = m' ((c.tc : Thread Cert.ExpertsRefIdeal.nD Cert.ExpertsRefIdeal.τ).loc Cert.ExpertsRefIdeal.main_arg2)
          ∧ r.2.mem ((c.tc : Thread Cert.ExpertsRefIdeal.nD Cert.ExpertsRefIdeal.τ).loc Cert.ExpertsRefIdeal.main_arg3) = m' ((c.tc : Thread Cert.ExpertsRefIdeal.nD Cert.ExpertsRefIdeal.τ).loc Cert.ExpertsRefIdeal.main_arg3)
          ∧ r.2.mem ((c.tc : Thread Cert.ExpertsRefIdeal.nD Cert.ExpertsRefIdeal.τ).loc Cert.ExpertsRefIdeal.main_arg4) = m' ((c.tc : Thread Cert.ExpertsRefIdeal.nD Cert.ExpertsRefIdeal.τ).loc Cert.ExpertsRefIdeal.main_arg4)
          ∧ r.2.mem ((c.tc : Thread Cert.ExpertsRefIdeal.nD Cert.ExpertsRefIdeal.τ).loc Cert.ExpertsRefIdeal.main_arg5) = m' ((c.tc : Thread Cert.ExpertsRefIdeal.nD Cert.ExpertsRefIdeal.τ).loc Cert.ExpertsRefIdeal.main_arg5)
          ∧ r.2.mem ((c.tc : Thread Cert.ExpertsRefIdeal.nD Cert.ExpertsRefIdeal.τ).loc Cert.ExpertsRefIdeal.main_arg6) = m' ((c.tc : Thread Cert.ExpertsRefIdeal.nD Cert.ExpertsRefIdeal.τ).loc Cert.ExpertsRefIdeal.main_arg6)
          ∧ r.2.mem ((c.tc : Thread Cert.ExpertsRefIdeal.nD Cert.ExpertsRefIdeal.τ).loc Cert.ExpertsRefIdeal.main_arg7) = m' ((c.tc : Thread Cert.ExpertsRefIdeal.nD Cert.ExpertsRefIdeal.τ).loc Cert.ExpertsRefIdeal.main_arg7))

def preserves_ConvV_ConvVIdeal : Prop :=
  True

def algebraic_ConvVIdeal_ConvVRefIdeal [hConvVIdeal : Cert.ConvVIdeal.Facts] [hConvVRefIdeal : Cert.ConvVRefIdeal.Facts] : Prop :=
  ∀ (m : (ℓ : Loc Cert.ConvVIdeal.nD Cert.ConvVIdeal.τ Cert.ConvVIdeal.sig) → Buf (Elt Ideal) ℓ) (g : Dev Cert.ConvVIdeal.nD → PrngReg)
    (m' : (ℓ : Loc Cert.ConvVRefIdeal.nD Cert.ConvVRefIdeal.τ Cert.ConvVRefIdeal.sig) → Buf (Elt Ideal) ℓ) (g' : Dev Cert.ConvVRefIdeal.nD → PrngReg), Pre_ConvVIdeal m →
    (∀ c : Dev Cert.ConvVIdeal.nD,
      m' ((c.tc : Thread Cert.ConvVRefIdeal.nD Cert.ConvVRefIdeal.τ).loc Cert.ConvVRefIdeal.main_arg0) = m ((c.tc : Thread Cert.ConvVIdeal.nD Cert.ConvVIdeal.τ).loc Cert.ConvVIdeal.main_arg0)
      ∧ m' ((c.tc : Thread Cert.ConvVRefIdeal.nD Cert.ConvVRefIdeal.τ).loc Cert.ConvVRefIdeal.main_arg1) = m ((c.tc : Thread Cert.ConvVIdeal.nD Cert.ConvVIdeal.τ).loc Cert.ConvVIdeal.main_arg1)) →
    ∃ (v0 : (c : Dev Cert.ConvVIdeal.nD) → Buf (Elt Ideal) ((c.tc : Thread Cert.ConvVIdeal.nD Cert.ConvVIdeal.τ).loc Cert.ConvVIdeal.main_v0)),
      θ_run (Cert.ConvVIdeal.defs (F := Ideal)) (onTc (τ := Cert.ConvVIdeal.τ) (Cert.ConvVIdeal.main (F := Ideal))) ⟨m, fun _ => 0, g⟩ (fun r => ∀ c : Dev Cert.ConvVIdeal.nD,
          r.2.mem ((c.tc : Thread Cert.ConvVIdeal.nD Cert.ConvVIdeal.τ).loc Cert.ConvVIdeal.main_v0) = v0 c
          ∧ r.2.mem ((c.tc : Thread Cert.ConvVIdeal.nD Cert.ConvVIdeal.τ).loc Cert.ConvVIdeal.main_arg0) = m ((c.tc : Thread Cert.ConvVIdeal.nD Cert.ConvVIdeal.τ).loc Cert.ConvVIdeal.main_arg0)
          ∧ r.2.mem ((c.tc : Thread Cert.ConvVIdeal.nD Cert.ConvVIdeal.τ).loc Cert.ConvVIdeal.main_arg1) = m ((c.tc : Thread Cert.ConvVIdeal.nD Cert.ConvVIdeal.τ).loc Cert.ConvVIdeal.main_arg1))
      ∧ θ_run (Cert.ConvVRefIdeal.defs (F := Ideal)) (onTc (τ := Cert.ConvVRefIdeal.τ) (Cert.ConvVRefIdeal.main (F := Ideal))) ⟨m', fun _ => 0, g'⟩ (fun r => ∀ c : Dev Cert.ConvVRefIdeal.nD,
          r.2.mem ((c.tc : Thread Cert.ConvVRefIdeal.nD Cert.ConvVRefIdeal.τ).loc Cert.ConvVRefIdeal.main_v35) = v0 c
          ∧ r.2.mem ((c.tc : Thread Cert.ConvVRefIdeal.nD Cert.ConvVRefIdeal.τ).loc Cert.ConvVRefIdeal.main_arg0) = m' ((c.tc : Thread Cert.ConvVRefIdeal.nD Cert.ConvVRefIdeal.τ).loc Cert.ConvVRefIdeal.main_arg0)
          ∧ r.2.mem ((c.tc : Thread Cert.ConvVRefIdeal.nD Cert.ConvVRefIdeal.τ).loc Cert.ConvVRefIdeal.main_arg1) = m' ((c.tc : Thread Cert.ConvVRefIdeal.nD Cert.ConvVRefIdeal.τ).loc Cert.ConvVRefIdeal.main_arg1))

def preserves_ConvQ_ConvQIdeal : Prop :=
  True

def algebraic_ConvQIdeal_ConvQRefIdeal [hConvQIdeal : Cert.ConvQIdeal.Facts] [hConvQRefIdeal : Cert.ConvQRefIdeal.Facts] : Prop :=
  ∀ (m : (ℓ : Loc Cert.ConvQIdeal.nD Cert.ConvQIdeal.τ Cert.ConvQIdeal.sig) → Buf (Elt Ideal) ℓ) (g : Dev Cert.ConvQIdeal.nD → PrngReg)
    (m' : (ℓ : Loc Cert.ConvQRefIdeal.nD Cert.ConvQRefIdeal.τ Cert.ConvQRefIdeal.sig) → Buf (Elt Ideal) ℓ) (g' : Dev Cert.ConvQRefIdeal.nD → PrngReg), Pre_ConvQIdeal m →
    (∀ c : Dev Cert.ConvQIdeal.nD,
      m' ((c.tc : Thread Cert.ConvQRefIdeal.nD Cert.ConvQRefIdeal.τ).loc Cert.ConvQRefIdeal.main_arg0) = m ((c.tc : Thread Cert.ConvQIdeal.nD Cert.ConvQIdeal.τ).loc Cert.ConvQIdeal.main_arg0)
      ∧ m' ((c.tc : Thread Cert.ConvQRefIdeal.nD Cert.ConvQRefIdeal.τ).loc Cert.ConvQRefIdeal.main_arg1) = m ((c.tc : Thread Cert.ConvQIdeal.nD Cert.ConvQIdeal.τ).loc Cert.ConvQIdeal.main_arg1)) →
    ∃ (v0 : (c : Dev Cert.ConvQIdeal.nD) → Buf (Elt Ideal) ((c.tc : Thread Cert.ConvQIdeal.nD Cert.ConvQIdeal.τ).loc Cert.ConvQIdeal.main_v0)),
      θ_run (Cert.ConvQIdeal.defs (F := Ideal)) (onTc (τ := Cert.ConvQIdeal.τ) (Cert.ConvQIdeal.main (F := Ideal))) ⟨m, fun _ => 0, g⟩ (fun r => ∀ c : Dev Cert.ConvQIdeal.nD,
          r.2.mem ((c.tc : Thread Cert.ConvQIdeal.nD Cert.ConvQIdeal.τ).loc Cert.ConvQIdeal.main_v0) = v0 c
          ∧ r.2.mem ((c.tc : Thread Cert.ConvQIdeal.nD Cert.ConvQIdeal.τ).loc Cert.ConvQIdeal.main_arg0) = m ((c.tc : Thread Cert.ConvQIdeal.nD Cert.ConvQIdeal.τ).loc Cert.ConvQIdeal.main_arg0)
          ∧ r.2.mem ((c.tc : Thread Cert.ConvQIdeal.nD Cert.ConvQIdeal.τ).loc Cert.ConvQIdeal.main_arg1) = m ((c.tc : Thread Cert.ConvQIdeal.nD Cert.ConvQIdeal.τ).loc Cert.ConvQIdeal.main_arg1))
      ∧ θ_run (Cert.ConvQRefIdeal.defs (F := Ideal)) (onTc (τ := Cert.ConvQRefIdeal.τ) (Cert.ConvQRefIdeal.main (F := Ideal))) ⟨m', fun _ => 0, g'⟩ (fun r => ∀ c : Dev Cert.ConvQRefIdeal.nD,
          r.2.mem ((c.tc : Thread Cert.ConvQRefIdeal.nD Cert.ConvQRefIdeal.τ).loc Cert.ConvQRefIdeal.main_v45) = v0 c
          ∧ r.2.mem ((c.tc : Thread Cert.ConvQRefIdeal.nD Cert.ConvQRefIdeal.τ).loc Cert.ConvQRefIdeal.main_arg0) = m' ((c.tc : Thread Cert.ConvQRefIdeal.nD Cert.ConvQRefIdeal.τ).loc Cert.ConvQRefIdeal.main_arg0)
          ∧ r.2.mem ((c.tc : Thread Cert.ConvQRefIdeal.nD Cert.ConvQRefIdeal.τ).loc Cert.ConvQRefIdeal.main_arg1) = m' ((c.tc : Thread Cert.ConvQRefIdeal.nD Cert.ConvQRefIdeal.τ).loc Cert.ConvQRefIdeal.main_arg1))

def preserves_ConvK_ConvKIdeal : Prop :=
  True

def algebraic_ConvKIdeal_ConvKRefIdeal [hConvKIdeal : Cert.ConvKIdeal.Facts] [hConvKRefIdeal : Cert.ConvKRefIdeal.Facts] : Prop :=
  ∀ (m : (ℓ : Loc Cert.ConvKIdeal.nD Cert.ConvKIdeal.τ Cert.ConvKIdeal.sig) → Buf (Elt Ideal) ℓ) (g : Dev Cert.ConvKIdeal.nD → PrngReg)
    (m' : (ℓ : Loc Cert.ConvKRefIdeal.nD Cert.ConvKRefIdeal.τ Cert.ConvKRefIdeal.sig) → Buf (Elt Ideal) ℓ) (g' : Dev Cert.ConvKRefIdeal.nD → PrngReg), Pre_ConvKIdeal m →
    (∀ c : Dev Cert.ConvKIdeal.nD,
      m' ((c.tc : Thread Cert.ConvKRefIdeal.nD Cert.ConvKRefIdeal.τ).loc Cert.ConvKRefIdeal.main_arg0) = m ((c.tc : Thread Cert.ConvKIdeal.nD Cert.ConvKIdeal.τ).loc Cert.ConvKIdeal.main_arg0)
      ∧ m' ((c.tc : Thread Cert.ConvKRefIdeal.nD Cert.ConvKRefIdeal.τ).loc Cert.ConvKRefIdeal.main_arg1) = m ((c.tc : Thread Cert.ConvKIdeal.nD Cert.ConvKIdeal.τ).loc Cert.ConvKIdeal.main_arg1)) →
    ∃ (v0 : (c : Dev Cert.ConvKIdeal.nD) → Buf (Elt Ideal) ((c.tc : Thread Cert.ConvKIdeal.nD Cert.ConvKIdeal.τ).loc Cert.ConvKIdeal.main_v0_0)) (v1 : (c : Dev Cert.ConvKIdeal.nD) → Buf (Elt Ideal) ((c.tc : Thread Cert.ConvKIdeal.nD Cert.ConvKIdeal.τ).loc Cert.ConvKIdeal.main_v0_1)),
      θ_run (Cert.ConvKIdeal.defs (F := Ideal)) (onTc (τ := Cert.ConvKIdeal.τ) (Cert.ConvKIdeal.main (F := Ideal))) ⟨m, fun _ => 0, g⟩ (fun r => ∀ c : Dev Cert.ConvKIdeal.nD,
          r.2.mem ((c.tc : Thread Cert.ConvKIdeal.nD Cert.ConvKIdeal.τ).loc Cert.ConvKIdeal.main_v0_0) = v0 c
          ∧ r.2.mem ((c.tc : Thread Cert.ConvKIdeal.nD Cert.ConvKIdeal.τ).loc Cert.ConvKIdeal.main_v0_1) = v1 c
          ∧ r.2.mem ((c.tc : Thread Cert.ConvKIdeal.nD Cert.ConvKIdeal.τ).loc Cert.ConvKIdeal.main_arg0) = m ((c.tc : Thread Cert.ConvKIdeal.nD Cert.ConvKIdeal.τ).loc Cert.ConvKIdeal.main_arg0)
          ∧ r.2.mem ((c.tc : Thread Cert.ConvKIdeal.nD Cert.ConvKIdeal.τ).loc Cert.ConvKIdeal.main_arg1) = m ((c.tc : Thread Cert.ConvKIdeal.nD Cert.ConvKIdeal.τ).loc Cert.ConvKIdeal.main_arg1))
      ∧ θ_run (Cert.ConvKRefIdeal.defs (F := Ideal)) (onTc (τ := Cert.ConvKRefIdeal.τ) (Cert.ConvKRefIdeal.main (F := Ideal))) ⟨m', fun _ => 0, g'⟩ (fun r => ∀ c : Dev Cert.ConvKRefIdeal.nD,
          r.2.mem ((c.tc : Thread Cert.ConvKRefIdeal.nD Cert.ConvKRefIdeal.τ).loc Cert.ConvKRefIdeal.main_v43) = v0 c
          ∧ r.2.mem ((c.tc : Thread Cert.ConvKRefIdeal.nD Cert.ConvKRefIdeal.τ).loc Cert.ConvKRefIdeal.main_v44) = v1 c
          ∧ r.2.mem ((c.tc : Thread Cert.ConvKRefIdeal.nD Cert.ConvKRefIdeal.τ).loc Cert.ConvKRefIdeal.main_arg0) = m' ((c.tc : Thread Cert.ConvKRefIdeal.nD Cert.ConvKRefIdeal.τ).loc Cert.ConvKRefIdeal.main_arg0)
          ∧ r.2.mem ((c.tc : Thread Cert.ConvKRefIdeal.nD Cert.ConvKRefIdeal.τ).loc Cert.ConvKRefIdeal.main_arg1) = m' ((c.tc : Thread Cert.ConvKRefIdeal.nD Cert.ConvKRefIdeal.τ).loc Cert.ConvKRefIdeal.main_arg1))

def preserves_GateProj_GateProjIdeal : Prop :=
  True

def algebraic_GateProjIdeal_GateProjRefIdeal [hGateProjIdeal : Cert.GateProjIdeal.Facts] [hGateProjRefIdeal : Cert.GateProjRefIdeal.Facts] : Prop :=
  ∀ (m : (ℓ : Loc Cert.GateProjIdeal.nD Cert.GateProjIdeal.τ Cert.GateProjIdeal.sig) → Buf (Elt Ideal) ℓ) (g : Dev Cert.GateProjIdeal.nD → PrngReg)
    (m' : (ℓ : Loc Cert.GateProjRefIdeal.nD Cert.GateProjRefIdeal.τ Cert.GateProjRefIdeal.sig) → Buf (Elt Ideal) ℓ) (g' : Dev Cert.GateProjRefIdeal.nD → PrngReg), Pre_GateProjIdeal m →
    (∀ c : Dev Cert.GateProjIdeal.nD,
      m' ((c.tc : Thread Cert.GateProjRefIdeal.nD Cert.GateProjRefIdeal.τ).loc Cert.GateProjRefIdeal.main_arg0) = m ((c.tc : Thread Cert.GateProjIdeal.nD Cert.GateProjIdeal.τ).loc Cert.GateProjIdeal.main_arg0)
      ∧ m' ((c.tc : Thread Cert.GateProjRefIdeal.nD Cert.GateProjRefIdeal.τ).loc Cert.GateProjRefIdeal.main_arg1) = m ((c.tc : Thread Cert.GateProjIdeal.nD Cert.GateProjIdeal.τ).loc Cert.GateProjIdeal.main_arg1)
      ∧ m' ((c.tc : Thread Cert.GateProjRefIdeal.nD Cert.GateProjRefIdeal.τ).loc Cert.GateProjRefIdeal.main_arg2) = m ((c.tc : Thread Cert.GateProjIdeal.nD Cert.GateProjIdeal.τ).loc Cert.GateProjIdeal.main_arg2)) →
    ∃ (v0 : (c : Dev Cert.GateProjIdeal.nD) → Buf (Elt Ideal) ((c.tc : Thread Cert.GateProjIdeal.nD Cert.GateProjIdeal.τ).loc Cert.GateProjIdeal.main_v5_0)) (v1 : (c : Dev Cert.GateProjIdeal.nD) → Buf (Elt Ideal) ((c.tc : Thread Cert.GateProjIdeal.nD Cert.GateProjIdeal.τ).loc Cert.GateProjIdeal.main_v5_1)),
      θ_run (Cert.GateProjIdeal.defs (F := Ideal)) (onTc (τ := Cert.GateProjIdeal.τ) (Cert.GateProjIdeal.main (F := Ideal))) ⟨m, fun _ => 0, g⟩ (fun r => ∀ c : Dev Cert.GateProjIdeal.nD,
          r.2.mem ((c.tc : Thread Cert.GateProjIdeal.nD Cert.GateProjIdeal.τ).loc Cert.GateProjIdeal.main_v5_0) = v0 c
          ∧ r.2.mem ((c.tc : Thread Cert.GateProjIdeal.nD Cert.GateProjIdeal.τ).loc Cert.GateProjIdeal.main_v5_1) = v1 c
          ∧ r.2.mem ((c.tc : Thread Cert.GateProjIdeal.nD Cert.GateProjIdeal.τ).loc Cert.GateProjIdeal.main_arg0) = m ((c.tc : Thread Cert.GateProjIdeal.nD Cert.GateProjIdeal.τ).loc Cert.GateProjIdeal.main_arg0)
          ∧ r.2.mem ((c.tc : Thread Cert.GateProjIdeal.nD Cert.GateProjIdeal.τ).loc Cert.GateProjIdeal.main_arg1) = m ((c.tc : Thread Cert.GateProjIdeal.nD Cert.GateProjIdeal.τ).loc Cert.GateProjIdeal.main_arg1)
          ∧ r.2.mem ((c.tc : Thread Cert.GateProjIdeal.nD Cert.GateProjIdeal.τ).loc Cert.GateProjIdeal.main_arg2) = m ((c.tc : Thread Cert.GateProjIdeal.nD Cert.GateProjIdeal.τ).loc Cert.GateProjIdeal.main_arg2))
      ∧ θ_run (Cert.GateProjRefIdeal.defs (F := Ideal)) (onTc (τ := Cert.GateProjRefIdeal.τ) (Cert.GateProjRefIdeal.main (F := Ideal))) ⟨m', fun _ => 0, g'⟩ (fun r => ∀ c : Dev Cert.GateProjRefIdeal.nD,
          r.2.mem ((c.tc : Thread Cert.GateProjRefIdeal.nD Cert.GateProjRefIdeal.τ).loc Cert.GateProjRefIdeal.main_v16) = v0 c
          ∧ r.2.mem ((c.tc : Thread Cert.GateProjRefIdeal.nD Cert.GateProjRefIdeal.τ).loc Cert.GateProjRefIdeal.main_v18) = v1 c
          ∧ r.2.mem ((c.tc : Thread Cert.GateProjRefIdeal.nD Cert.GateProjRefIdeal.τ).loc Cert.GateProjRefIdeal.main_arg0) = m' ((c.tc : Thread Cert.GateProjRefIdeal.nD Cert.GateProjRefIdeal.τ).loc Cert.GateProjRefIdeal.main_arg0)
          ∧ r.2.mem ((c.tc : Thread Cert.GateProjRefIdeal.nD Cert.GateProjRefIdeal.τ).loc Cert.GateProjRefIdeal.main_arg1) = m' ((c.tc : Thread Cert.GateProjRefIdeal.nD Cert.GateProjRefIdeal.τ).loc Cert.GateProjRefIdeal.main_arg1)
          ∧ r.2.mem ((c.tc : Thread Cert.GateProjRefIdeal.nD Cert.GateProjRefIdeal.τ).loc Cert.GateProjRefIdeal.main_arg2) = m' ((c.tc : Thread Cert.GateProjRefIdeal.nD Cert.GateProjRefIdeal.τ).loc Cert.GateProjRefIdeal.main_arg2))

def Claim : Prop :=
  ∃ (hKernel : Cert.Kernel.Facts) (hKernelIdeal : Cert.KernelIdeal.Facts) (hReferenceIdeal : Cert.ReferenceIdeal.Facts) (hDnProj : Cert.DnProj.Facts) (hDnProjIdeal : Cert.DnProjIdeal.Facts) (hDnProjRefIdeal : Cert.DnProjRefIdeal.Facts) (hAttnProj : Cert.AttnProj.Facts) (hAttnProjIdeal : Cert.AttnProjIdeal.Facts) (hAttnProjRefIdeal : Cert.AttnProjRefIdeal.Facts) (hDnOut : Cert.DnOut.Facts) (hDnOutIdeal : Cert.DnOutIdeal.Facts) (hDnOutRefIdeal : Cert.DnOutRefIdeal.Facts) (hAttnOut : Cert.AttnOut.Facts) (hAttnOutIdeal : Cert.AttnOutIdeal.Facts) (hAttnOutRefIdeal : Cert.AttnOutRefIdeal.Facts) (hPle : Cert.Ple.Facts) (hPleIdeal : Cert.PleIdeal.Facts) (hPleRefIdeal : Cert.PleRefIdeal.Facts) (hPeerQuery : Cert.PeerQuery.Facts) (hPeerQueryIdeal : Cert.PeerQueryIdeal.Facts) (hPeerQueryRefIdeal : Cert.PeerQueryRefIdeal.Facts) (hExperts : Cert.Experts.Facts) (hExpertsIdeal : Cert.ExpertsIdeal.Facts) (hExpertsRefIdeal : Cert.ExpertsRefIdeal.Facts) (hConvV : Cert.ConvV.Facts) (hConvVIdeal : Cert.ConvVIdeal.Facts) (hConvVRefIdeal : Cert.ConvVRefIdeal.Facts) (hConvQ : Cert.ConvQ.Facts) (hConvQIdeal : Cert.ConvQIdeal.Facts) (hConvQRefIdeal : Cert.ConvQRefIdeal.Facts) (hConvK : Cert.ConvK.Facts) (hConvKIdeal : Cert.ConvKIdeal.Facts) (hConvKRefIdeal : Cert.ConvKRefIdeal.Facts) (hGateProj : Cert.GateProj.Facts) (hGateProjIdeal : Cert.GateProjIdeal.Facts) (hGateProjRefIdeal : Cert.GateProjRefIdeal.Facts),
    quiescent_Kernel (hKernel := hKernel)
    ∧ quiescent_KernelIdeal (hKernelIdeal := hKernelIdeal)
    ∧ quiescent_ReferenceIdeal (hReferenceIdeal := hReferenceIdeal)
    ∧ quiescent_DnProj (hDnProj := hDnProj)
    ∧ quiescent_DnProjIdeal (hDnProjIdeal := hDnProjIdeal)
    ∧ quiescent_DnProjRefIdeal (hDnProjRefIdeal := hDnProjRefIdeal)
    ∧ quiescent_AttnProj (hAttnProj := hAttnProj)
    ∧ quiescent_AttnProjIdeal (hAttnProjIdeal := hAttnProjIdeal)
    ∧ quiescent_AttnProjRefIdeal (hAttnProjRefIdeal := hAttnProjRefIdeal)
    ∧ quiescent_DnOut (hDnOut := hDnOut)
    ∧ quiescent_DnOutIdeal (hDnOutIdeal := hDnOutIdeal)
    ∧ quiescent_DnOutRefIdeal (hDnOutRefIdeal := hDnOutRefIdeal)
    ∧ quiescent_AttnOut (hAttnOut := hAttnOut)
    ∧ quiescent_AttnOutIdeal (hAttnOutIdeal := hAttnOutIdeal)
    ∧ quiescent_AttnOutRefIdeal (hAttnOutRefIdeal := hAttnOutRefIdeal)
    ∧ quiescent_Ple (hPle := hPle)
    ∧ quiescent_PleIdeal (hPleIdeal := hPleIdeal)
    ∧ quiescent_PleRefIdeal (hPleRefIdeal := hPleRefIdeal)
    ∧ quiescent_PeerQuery (hPeerQuery := hPeerQuery)
    ∧ quiescent_PeerQueryIdeal (hPeerQueryIdeal := hPeerQueryIdeal)
    ∧ quiescent_PeerQueryRefIdeal (hPeerQueryRefIdeal := hPeerQueryRefIdeal)
    ∧ quiescent_Experts (hExperts := hExperts)
    ∧ quiescent_ExpertsIdeal (hExpertsIdeal := hExpertsIdeal)
    ∧ quiescent_ExpertsRefIdeal (hExpertsRefIdeal := hExpertsRefIdeal)
    ∧ quiescent_ConvV (hConvV := hConvV)
    ∧ quiescent_ConvVIdeal (hConvVIdeal := hConvVIdeal)
    ∧ quiescent_ConvVRefIdeal (hConvVRefIdeal := hConvVRefIdeal)
    ∧ quiescent_ConvQ (hConvQ := hConvQ)
    ∧ quiescent_ConvQIdeal (hConvQIdeal := hConvQIdeal)
    ∧ quiescent_ConvQRefIdeal (hConvQRefIdeal := hConvQRefIdeal)
    ∧ quiescent_ConvK (hConvK := hConvK)
    ∧ quiescent_ConvKIdeal (hConvKIdeal := hConvKIdeal)
    ∧ quiescent_ConvKRefIdeal (hConvKRefIdeal := hConvKRefIdeal)
    ∧ quiescent_GateProj (hGateProj := hGateProj)
    ∧ quiescent_GateProjIdeal (hGateProjIdeal := hGateProjIdeal)
    ∧ quiescent_GateProjRefIdeal (hGateProjRefIdeal := hGateProjRefIdeal)
    ∧ preserves_Kernel_KernelIdeal
    ∧ algebraic_KernelIdeal_ReferenceIdeal (hKernelIdeal := hKernelIdeal) (hReferenceIdeal := hReferenceIdeal)
    ∧ preserves_DnProj_DnProjIdeal
    ∧ algebraic_DnProjIdeal_DnProjRefIdeal (hDnProjIdeal := hDnProjIdeal) (hDnProjRefIdeal := hDnProjRefIdeal)
    ∧ preserves_AttnProj_AttnProjIdeal
    ∧ algebraic_AttnProjIdeal_AttnProjRefIdeal (hAttnProjIdeal := hAttnProjIdeal) (hAttnProjRefIdeal := hAttnProjRefIdeal)
    ∧ preserves_DnOut_DnOutIdeal
    ∧ algebraic_DnOutIdeal_DnOutRefIdeal (hDnOutIdeal := hDnOutIdeal) (hDnOutRefIdeal := hDnOutRefIdeal)
    ∧ preserves_AttnOut_AttnOutIdeal
    ∧ algebraic_AttnOutIdeal_AttnOutRefIdeal (hAttnOutIdeal := hAttnOutIdeal) (hAttnOutRefIdeal := hAttnOutRefIdeal)
    ∧ preserves_Ple_PleIdeal
    ∧ algebraic_PleIdeal_PleRefIdeal (hPleIdeal := hPleIdeal) (hPleRefIdeal := hPleRefIdeal)
    ∧ preserves_PeerQuery_PeerQueryIdeal
    ∧ algebraic_PeerQueryIdeal_PeerQueryRefIdeal (hPeerQueryIdeal := hPeerQueryIdeal) (hPeerQueryRefIdeal := hPeerQueryRefIdeal)
    ∧ preserves_Experts_ExpertsIdeal
    ∧ algebraic_ExpertsIdeal_ExpertsRefIdeal (hExpertsIdeal := hExpertsIdeal) (hExpertsRefIdeal := hExpertsRefIdeal)
    ∧ preserves_ConvV_ConvVIdeal
    ∧ algebraic_ConvVIdeal_ConvVRefIdeal (hConvVIdeal := hConvVIdeal) (hConvVRefIdeal := hConvVRefIdeal)
    ∧ preserves_ConvQ_ConvQIdeal
    ∧ algebraic_ConvQIdeal_ConvQRefIdeal (hConvQIdeal := hConvQIdeal) (hConvQRefIdeal := hConvQRefIdeal)
    ∧ preserves_ConvK_ConvKIdeal
    ∧ algebraic_ConvKIdeal_ConvKRefIdeal (hConvKIdeal := hConvKIdeal) (hConvKRefIdeal := hConvKRefIdeal)
    ∧ preserves_GateProj_GateProjIdeal
    ∧ algebraic_GateProjIdeal_GateProjRefIdeal (hGateProjIdeal := hGateProjIdeal) (hGateProjRefIdeal := hGateProjRefIdeal)
-- ==== Kernel.lean ====
abbrev S2x32x8192x128 : Shape := ⟨4, ![2, 32, 8192, 128]⟩
abbrev S2x32x128x128x128 : Shape := ⟨5, ![2, 32, 128, 128, 128]⟩
abbrev S2x32x128x192x64 : Shape := ⟨5, ![2, 32, 128, 192, 64]⟩
abbrev S2x32x128x1x128 : Shape := ⟨5, ![2, 32, 128, 1, 128]⟩
abbrev S16384x12288 : Shape := ⟨2, ![16384, 12288]⟩
abbrev S128 : Shape := ⟨1, ![128]⟩
abbrev S1x128 : Shape := ⟨2, ![1, 128]⟩
abbrev S16384x4096 : Shape := ⟨2, ![16384, 4096]⟩
abbrev S1x16x256x128 : Shape := ⟨4, ![1, 16, 256, 128]⟩
abbrev S1x16x4x128x128 : Shape := ⟨5, ![1, 16, 4, 128, 128]⟩
abbrev S1x16x4x192x64 : Shape := ⟨5, ![1, 16, 4, 192, 64]⟩
abbrev S1x16x4x1x128 : Shape := ⟨5, ![1, 16, 4, 1, 128]⟩
abbrev S256x2048 : Shape := ⟨2, ![256, 2048]⟩
abbrev S16x128x128 : Shape := ⟨3, ![16, 128, 128]⟩
abbrev S1x1x1x128x128 : Shape := ⟨5, ![1, 1, 1, 128, 128]⟩
abbrev S128x128 : Shape := ⟨2, ![128, 128]⟩
abbrev S1x128x128 : Shape := ⟨3, ![1, 128, 128]⟩
abbrev S1x1x64x128 : Shape := ⟨4, ![1, 1, 64, 128]⟩
abbrev S64x128 : Shape := ⟨2, ![64, 128]⟩
abbrev S1x1x1x192x64 : Shape := ⟨5, ![1, 1, 1, 192, 64]⟩
abbrev S192x64 : Shape := ⟨2, ![192, 64]⟩
abbrev S192x128 : Shape := ⟨2, ![192, 128]⟩
abbrev S1x1x1x1x128 : Shape := ⟨5, ![1, 1, 1, 1, 128]⟩
abbrev S64 : Shape := ⟨1, ![64]⟩
abbrev S64x1 : Shape := ⟨2, ![64, 1]⟩

abbrev nBuf : Space → Nat
  | .hbm => 8
  | .vmem => 14
  | .smem => 0
  | _ => 0

abbrev bufTy : (tb : Table) → Fin (tcTables nBuf tb) → BufTy
  | .hbm, ⟨0, _⟩ => ⟨S2x32x8192x128, .f32⟩
  | .hbm, ⟨1, _⟩ => ⟨S2x32x128x128x128, .bf16⟩
  | .hbm, ⟨2, _⟩ => ⟨S2x32x128x192x64, .bf16⟩
  | .hbm, ⟨3, _⟩ => ⟨S2x32x128x1x128, .f32⟩
  | .hbm, ⟨4, _⟩ => ⟨S16384x12288, .f32⟩
  | .hbm, ⟨5, _⟩ => ⟨S128, .f32⟩
  | .hbm, ⟨6, _⟩ => ⟨S1x128, .f32⟩
  | .hbm, ⟨7, _⟩ => ⟨S16384x4096, .bf16⟩
  | .local _ .vmem, ⟨0, _⟩ => ⟨S1x16x256x128, .f32⟩
  | .local _ .vmem, ⟨1, _⟩ => ⟨S1x16x256x128, .f32⟩
  | .local _ .vmem, ⟨2, _⟩ => ⟨S1x16x4x128x128, .bf16⟩
  | .local _ .vmem, ⟨3, _⟩ => ⟨S1x16x4x128x128, .bf16⟩
  | .local _ .vmem, ⟨4, _⟩ => ⟨S1x16x4x192x64, .bf16⟩
  | .local _ .vmem, ⟨5, _⟩ => ⟨S1x16x4x192x64, .bf16⟩
  | .local _ .vmem, ⟨6, _⟩ => ⟨S1x16x4x1x128, .f32⟩
  | .local _ .vmem, ⟨7, _⟩ => ⟨S1x16x4x1x128, .f32⟩
  | .local _ .vmem, ⟨8, _⟩ => ⟨S256x2048, .f32⟩
  | .local _ .vmem, ⟨9, _⟩ => ⟨S256x2048, .f32⟩
  | .local _ .vmem, ⟨10, _⟩ => ⟨S1x128, .f32⟩
  | .local _ .vmem, ⟨11, _⟩ => ⟨S256x2048, .bf16⟩
  | .local _ .vmem, ⟨12, _⟩ => ⟨S256x2048, .bf16⟩
  | .local _ .vmem, ⟨13, _⟩ => ⟨S16x128x128, .f32⟩
  | _, _ => ⟨S2x32x8192x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_scratch0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨3, ![2, 2, 32], ![false, false, false]⟩

def cc0_transform_0 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_1 (i : grid0.Coords) : Fin 5 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, arg2.toNat, c0_i32.toNat, c0_i32_0.toNat]

def cc0_transform_2 (i : grid0.Coords) : Fin 5 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, arg2.toNat, c0_i32.toNat, c0_i32_0.toNat]

def cc0_transform_3 (i : grid0.Coords) : Fin 5 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, arg2.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c32_i32 : BitVec 32 := 32#32
  let v0 : BitVec 32 := Scalar.muli arg0 c32_i32
  let v1 : BitVec 32 := Scalar.addi v0 arg2
  let c4_i32 : BitVec 32 := 4#32
  let v2 : BitVec 32 := Scalar.addi c4_i32 arg1
  let c0_i32 : BitVec 32 := 0#32
  ![v1.toNat, v2.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c32_i32 : BitVec 32 := 32#32
  let v0 : BitVec 32 := Scalar.muli arg0 c32_i32
  let v1 : BitVec 32 := Scalar.addi v0 arg2
  let c0_i32 : BitVec 32 := 0#32
  ![v1.toNat, arg1.toNat]

abbrev stage0_0 : Fin 2 → Memref sig .tc .vmem S1x16x256x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x16x4x128x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x16x4x192x64 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S1x16x4x1x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false, false]

abbrev stage0_6 : Fin 2 → Memref sig .tc .vmem S256x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]
-- ==== ReferenceIdeal.lean ====
abbrev S2x32x8192x128 : Shape := ⟨4, ![2, 32, 8192, 128]⟩
abbrev S2x32x128x128x128 : Shape := ⟨5, ![2, 32, 128, 128, 128]⟩
abbrev S2x32x128x192x64 : Shape := ⟨5, ![2, 32, 128, 192, 64]⟩
abbrev S2x32x128x1x128 : Shape := ⟨5, ![2, 32, 128, 1, 128]⟩
abbrev S16384x12288 : Shape := ⟨2, ![16384, 12288]⟩
abbrev S128 : Shape := ⟨1, ![128]⟩
abbrev S2x32x128x64x128 : Shape := ⟨5, ![2, 32, 128, 64, 128]⟩
abbrev S2x32x128x64x64 : Shape := ⟨5, ![2, 32, 128, 64, 64]⟩
abbrev S2x32x128x128x64 : Shape := ⟨5, ![2, 32, 128, 128, 64]⟩
abbrev S128x2x32x64x128 : Shape := ⟨5, ![128, 2, 32, 64, 128]⟩
abbrev S128x2x32x64x64 : Shape := ⟨5, ![128, 2, 32, 64, 64]⟩
abbrev S128x2x32x128x64 : Shape := ⟨5, ![128, 2, 32, 128, 64]⟩
abbrev S128x2x32x1x128 : Shape := ⟨5, ![128, 2, 32, 1, 128]⟩
abbrev S_ : Shape := ⟨0, ![]⟩
abbrev S2x32x128x128 : Shape := ⟨4, ![2, 32, 128, 128]⟩
abbrev S1x2x32x64x128 : Shape := ⟨5, ![1, 2, 32, 64, 128]⟩
abbrev S2x32x64x128 : Shape := ⟨4, ![2, 32, 64, 128]⟩
abbrev S1x2x32x64x64 : Shape := ⟨5, ![1, 2, 32, 64, 64]⟩
abbrev S2x32x64x64 : Shape := ⟨4, ![2, 32, 64, 64]⟩
abbrev S1x2x32x128x64 : Shape := ⟨5, ![1, 2, 32, 128, 64]⟩
abbrev S2x32x128x64 : Shape := ⟨4, ![2, 32, 128, 64]⟩
abbrev S1x2x32x1x128 : Shape := ⟨5, ![1, 2, 32, 1, 128]⟩
abbrev S2x32x1x128 : Shape := ⟨4, ![2, 32, 1, 128]⟩
abbrev S2x128x64x32x128 : Shape := ⟨5, ![2, 128, 64, 32, 128]⟩
abbrev S2x8192x32x128 : Shape := ⟨4, ![2, 8192, 32, 128]⟩
abbrev S16384x4096 : Shape := ⟨2, ![16384, 4096]⟩
abbrev S2x8192x32 : Shape := ⟨3, ![2, 8192, 32]⟩
abbrev S2x8192x32x1 : Shape := ⟨4, ![2, 8192, 32, 1]⟩
abbrev S1x1x1x128 : Shape := ⟨4, ![1, 1, 1, 128]⟩

abbrev nBuf : Space → Nat
  | .hbm => 122
  | .vmem => 0
  | .smem => 0
  | _ => 0

abbrev bufTy : (tb : Table) → Fin (tcTables nBuf tb) → BufTy
  | .hbm, ⟨0, _⟩ => ⟨S2x32x8192x128, .f32⟩
  | .hbm, ⟨1, _⟩ => ⟨S2x32x128x128x128, .bf16⟩
  | .hbm, ⟨2, _⟩ => ⟨S2x32x128x192x64, .bf16⟩
  | .hbm, ⟨3, _⟩ => ⟨S2x32x128x1x128, .f32⟩
  | .hbm, ⟨4, _⟩ => ⟨S16384x12288, .f32⟩
  | .hbm, ⟨5, _⟩ => ⟨S128, .f32⟩
  | .hbm, ⟨6, _⟩ => ⟨S2x32x128x64x128, .bf16⟩
  | .hbm, ⟨7, _⟩ => ⟨S2x32x128x64x128, .f32⟩
  | .hbm, ⟨8, _⟩ => ⟨S2x32x128x64x128, .bf16⟩
  | .hbm, ⟨9, _⟩ => ⟨S2x32x128x64x128, .f32⟩
  | .hbm, ⟨10, _⟩ => ⟨S2x32x128x64x64, .bf16⟩
  | .hbm, ⟨11, _⟩ => ⟨S2x32x128x64x64, .f32⟩
  | .hbm, ⟨12, _⟩ => ⟨S2x32x128x128x64, .bf16⟩
  | .hbm, ⟨13, _⟩ => ⟨S2x32x128x128x64, .f32⟩
  | .hbm, ⟨14, _⟩ => ⟨S2x32x128x64x128, .f32⟩
  | .hbm, ⟨15, _⟩ => ⟨S128x2x32x64x128, .f32⟩
  | .hbm, ⟨16, _⟩ => ⟨S128x2x32x64x128, .f32⟩
  | .hbm, ⟨17, _⟩ => ⟨S128x2x32x64x128, .f32⟩
  | .hbm, ⟨18, _⟩ => ⟨S128x2x32x64x64, .f32⟩
  | .hbm, ⟨19, _⟩ => ⟨S128x2x32x128x64, .f32⟩
  | .hbm, ⟨20, _⟩ => ⟨S128x2x32x1x128, .f32⟩
  | .hbm, ⟨21, _⟩ => ⟨S_, .f32⟩
  | .hbm, ⟨22, _⟩ => ⟨S2x32x128x128, .f32⟩
  | .hbm, ⟨23, _⟩ => ⟨S_, .f32⟩
  | .hbm, ⟨24, _⟩ => ⟨S128x2x32x64x128, .f32⟩
  | .hbm, ⟨25, _⟩ => ⟨S_, .i32⟩
  | .hbm, ⟨26, _⟩ => ⟨S128x2x32x64x128, .f32⟩
  | .hbm, ⟨27, _⟩ => ⟨S128x2x32x64x128, .f32⟩
  | .hbm, ⟨28, _⟩ => ⟨S128x2x32x64x128, .f32⟩
  | .hbm, ⟨29, _⟩ => ⟨S128x2x32x64x64, .f32⟩
  | .hbm, ⟨30, _⟩ => ⟨S128x2x32x128x64, .f32⟩
  | .hbm, ⟨31, _⟩ => ⟨S128x2x32x1x128, .f32⟩
  | .hbm, ⟨32, _⟩ => ⟨S_, .i32⟩
  | .hbm, ⟨33, _⟩ => ⟨S2x32x128x128, .f32⟩
  | .hbm, ⟨34, _⟩ => ⟨S128x2x32x64x128, .f32⟩
  | .hbm, ⟨35, _⟩ => ⟨S_, .i32⟩
  | .hbm, ⟨36, _⟩ => ⟨S_, .i1⟩
  | .hbm, ⟨37, _⟩ => ⟨S_, .i32⟩
  | .hbm, ⟨38, _⟩ => ⟨S_, .i32⟩
  | .hbm, ⟨39, _⟩ => ⟨S_, .i32⟩
  | .hbm, ⟨40, _⟩ => ⟨S_, .i32⟩
  | .hbm, ⟨41, _⟩ => ⟨S1x2x32x64x128, .f32⟩
  | .hbm, ⟨42, _⟩ => ⟨S2x32x64x128, .f32⟩
  | .hbm, ⟨43, _⟩ => ⟨S_, .i32⟩
  | .hbm, ⟨44, _⟩ => ⟨S_, .i32⟩
  | .hbm, ⟨45, _⟩ => ⟨S_, .i32⟩
  | .hbm, ⟨46, _⟩ => ⟨S_, .i32⟩
  | .hbm, ⟨47, _⟩ => ⟨S1x2x32x64x128, .f32⟩
  | .hbm, ⟨48, _⟩ => ⟨S2x32x64x128, .f32⟩
  | .hbm, ⟨49, _⟩ => ⟨S_, .i32⟩
  | .hbm, ⟨50, _⟩ => ⟨S_, .i32⟩
  | .hbm, ⟨51, _⟩ => ⟨S_, .i32⟩
  | .hbm, ⟨52, _⟩ => ⟨S_, .i32⟩
  | .hbm, ⟨53, _⟩ => ⟨S1x2x32x64x128, .f32⟩
  | .hbm, ⟨54, _⟩ => ⟨S2x32x64x128, .f32⟩
  | .hbm, ⟨55, _⟩ => ⟨S_, .i32⟩
  | .hbm, ⟨56, _⟩ => ⟨S_, .i32⟩
  | .hbm, ⟨57, _⟩ => ⟨S_, .i32⟩
  | .hbm, ⟨58, _⟩ => ⟨S_, .i32⟩
  | .hbm, ⟨59, _⟩ => ⟨S1x2x32x64x64, .f32⟩
  | .hbm, ⟨60, _⟩ => ⟨S2x32x64x64, .f32⟩
  | .hbm, ⟨61, _⟩ => ⟨S_, .i32⟩
  | .hbm, ⟨62, _⟩ => ⟨S_, .i32⟩
  | .hbm, ⟨63, _⟩ => ⟨S_, .i32⟩
  | .hbm, ⟨64, _⟩ => ⟨S_, .i32⟩
  | .hbm, ⟨65, _⟩ => ⟨S1x2x32x128x64, .f32⟩
  | .hbm, ⟨66, _⟩ => ⟨S2x32x128x64, .f32⟩
  | .hbm, ⟨67, _⟩ => ⟨S_, .i32⟩
  | .hbm, ⟨68, _⟩ => ⟨S_, .i32⟩
  | .hbm, ⟨69, _⟩ => ⟨S_, .i32⟩
  | .hbm, ⟨70, _⟩ => ⟨S_, .i32⟩
  | .hbm, ⟨71, _⟩ => ⟨S1x2x32x1x128, .f32⟩
  | .hbm, ⟨72, _⟩ => ⟨S2x32x1x128, .f32⟩
  | .hbm, ⟨73, _⟩ => ⟨S2x32x64x128, .f32⟩
  | .hbm, ⟨74, _⟩ => ⟨S2x32x64x128, .f32⟩
  | .hbm, ⟨75, _⟩ => ⟨S2x32x64x128, .f32⟩
  | .hbm, ⟨76, _⟩ => ⟨S2x32x64x128, .f32⟩
  | .hbm, ⟨77, _⟩ => ⟨S2x32x64x128, .f32⟩
  | .hbm, ⟨78, _⟩ => ⟨S2x32x128x128, .f32⟩
  | .hbm, ⟨79, _⟩ => ⟨S2x32x128x128, .f32⟩
  | .hbm, ⟨80, _⟩ => ⟨S2x32x128x128, .f32⟩
  | .hbm, ⟨81, _⟩ => ⟨S2x32x128x128, .f32⟩
  | .hbm, ⟨82, _⟩ => ⟨S1x2x32x64x128, .f32⟩
  | .hbm, ⟨83, _⟩ => ⟨S_, .i32⟩
  | .hbm, ⟨84, _⟩ => ⟨S_, .i32⟩
  | .hbm, ⟨85, _⟩ => ⟨S_, .i32⟩
  | .hbm, ⟨86, _⟩ => ⟨S_, .i32⟩
  | .hbm, ⟨87, _⟩ => ⟨S128x2x32x64x128, .f32⟩
  | .hbm, ⟨88, _⟩ => ⟨S_, .i32⟩
  | .hbm, ⟨89, _⟩ => ⟨S_, .i32⟩
  | .hbm, ⟨90, _⟩ => ⟨S2x128x64x32x128, .f32⟩
  | .hbm, ⟨91, _⟩ => ⟨S2x8192x32x128, .f32⟩
  | .hbm, ⟨92, _⟩ => ⟨S16384x4096, .f32⟩
  | .hbm, ⟨93, _⟩ => ⟨S2x8192x32x128, .f32⟩
  | .hbm, ⟨94, _⟩ => ⟨S2x8192x32x128, .f32⟩
  | .hbm, ⟨95, _⟩ => ⟨S_, .f32⟩
  | .hbm, ⟨96, _⟩ => ⟨S2x8192x32, .f32⟩
  | .hbm, ⟨97, _⟩ => ⟨S2x8192x32x1, .f32⟩
  | .hbm, ⟨98, _⟩ => ⟨S_, .f32⟩
  | .hbm, ⟨99, _⟩ => ⟨S2x8192x32x1, .f32⟩
  | .hbm, ⟨100, _⟩ => ⟨S2x8192x32x1, .f32⟩
  | .hbm, ⟨101, _⟩ => ⟨S_, .f32⟩
  | .hbm, ⟨102, _⟩ => ⟨S2x8192x32x1, .f32⟩
  | .hbm, ⟨103, _⟩ => ⟨S2x8192x32x1, .f32⟩
  | .hbm, ⟨104, _⟩ => ⟨S2x8192x32x1, .f32⟩
  | .hbm, ⟨105, _⟩ => ⟨S2x8192x32x128, .f32⟩
  | .hbm, ⟨106, _⟩ => ⟨S2x8192x32x128, .f32⟩
  | .hbm, ⟨107, _⟩ => ⟨S1x1x1x128, .f32⟩
  | .hbm, ⟨108, _⟩ => ⟨S2x8192x32x128, .f32⟩
  | .hbm, ⟨109, _⟩ => ⟨S2x8192x32x128, .f32⟩
  | .hbm, ⟨110, _⟩ => ⟨S2x8192x32x128, .f32⟩
  | .hbm, ⟨111, _⟩ => ⟨S2x8192x32x128, .f32⟩
  | .hbm, ⟨112, _⟩ => ⟨S_, .f32⟩
  | .hbm, ⟨113, _⟩ => ⟨S2x8192x32x128, .f32⟩
  | .hbm, ⟨114, _⟩ => ⟨S2x8192x32x128, .f32⟩
  | .hbm, ⟨115, _⟩ => ⟨S_, .f32⟩
  | .hbm, ⟨116, _⟩ => ⟨S2x8192x32x128, .f32⟩
  | .hbm, ⟨117, _⟩ => ⟨S2x8192x32x128, .f32⟩
  | .hbm, ⟨118, _⟩ => ⟨S2x8192x32x128, .f32⟩
  | .hbm, ⟨119, _⟩ => ⟨S2x8192x32x128, .f32⟩
  | .hbm, ⟨120, _⟩ => ⟨S16384x4096, .f32⟩
  | .hbm, ⟨121, _⟩ => ⟨S16384x4096, .bf16⟩
  | _, _ => ⟨S2x32x8192x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_cst : Ref sig .tc := ⟨.hbm, 21, rfl⟩
abbrev main_v15 : Ref sig .tc := ⟨.hbm, 22, rfl⟩
abbrev main_cst_0 : Ref sig .tc := ⟨.hbm, 23, rfl⟩
abbrev main_v16 : Ref sig .tc := ⟨.hbm, 24, rfl⟩
abbrev main_c : Ref sig .tc := ⟨.hbm, 25, rfl⟩
abbrev main_v17_0 : Ref sig .tc := ⟨.hbm, 26, rfl⟩
abbrev main_v17_1 : Ref sig .tc := ⟨.hbm, 27, rfl⟩
abbrev main_v17_2 : Ref sig .tc := ⟨.hbm, 28, rfl⟩
abbrev main_v17_3 : Ref sig .tc := ⟨.hbm, 29, rfl⟩
abbrev main_v17_4 : Ref sig .tc := ⟨.hbm, 30, rfl⟩
abbrev main_v17_5 : Ref sig .tc := ⟨.hbm, 31, rfl⟩
abbrev main_v17_6 : Ref sig .tc := ⟨.hbm, 32, rfl⟩
abbrev main_v17_7 : Ref sig .tc := ⟨.hbm, 33, rfl⟩
abbrev main_v17_8 : Ref sig .tc := ⟨.hbm, 34, rfl⟩
abbrev main_while0c_c_12 : Ref sig .tc := ⟨.hbm, 35, rfl⟩
abbrev main_while0c_v39 : Ref sig .tc := ⟨.hbm, 36, rfl⟩
abbrev main_while0b_call0_c : Ref sig .tc := ⟨.hbm, 37, rfl⟩
abbrev main_while0b_call0_c_0 : Ref sig .tc := ⟨.hbm, 38, rfl⟩
abbrev main_while0b_call0_c_1 : Ref sig .tc := ⟨.hbm, 39, rfl⟩
abbrev main_while0b_call0_c_2 : Ref sig .tc := ⟨.hbm, 40, rfl⟩
abbrev main_while0b_call0_v0 : Ref sig .tc := ⟨.hbm, 41, rfl⟩
abbrev main_while0b_v39 : Ref sig .tc := ⟨.hbm, 42, rfl⟩
abbrev main_while0b_call1_c : Ref sig .tc := ⟨.hbm, 43, rfl⟩
abbrev main_while0b_call1_c_0 : Ref sig .tc := ⟨.hbm, 44, rfl⟩
abbrev main_while0b_call1_c_1 : Ref sig .tc := ⟨.hbm, 45, rfl⟩
abbrev main_while0b_call1_c_2 : Ref sig .tc := ⟨.hbm, 46, rfl⟩
abbrev main_while0b_call1_v0 : Ref sig .tc := ⟨.hbm, 47, rfl⟩
abbrev main_while0b_v40 : Ref sig .tc := ⟨.hbm, 48, rfl⟩
abbrev main_while0b_call2_c : Ref sig .tc := ⟨.hbm, 49, rfl⟩
abbrev main_while0b_call2_c_0 : Ref sig .tc := ⟨.hbm, 50, rfl⟩
abbrev main_while0b_call2_c_1 : Ref sig .tc := ⟨.hbm, 51, rfl⟩
abbrev main_while0b_call2_c_2 : Ref sig .tc := ⟨.hbm, 52, rfl⟩
abbrev main_while0b_call2_v0 : Ref sig .tc := ⟨.hbm, 53, rfl⟩
abbrev main_while0b_v41 : Ref sig .tc := ⟨.hbm, 54, rfl⟩
abbrev main_while0b_call3_c : Ref sig .tc := ⟨.hbm, 55, rfl⟩
abbrev main_while0b_call3_c_0 : Ref sig .tc := ⟨.hbm, 56, rfl⟩
abbrev main_while0b_call3_c_1 : Ref sig .tc := ⟨.hbm, 57, rfl⟩
abbrev main_while0b_call3_c_2 : Ref sig .tc := ⟨.hbm, 58, rfl⟩
abbrev main_while0b_call3_v0 : Ref sig .tc := ⟨.hbm, 59, rfl⟩
abbrev main_while0b_v42 : Ref sig .tc := ⟨.hbm, 60, rfl⟩
abbrev main_while0b_call4_c : Ref sig .tc := ⟨.hbm, 61, rfl⟩
abbrev main_while0b_call4_c_0 : Ref sig .tc := ⟨.hbm, 62, rfl⟩
abbrev main_while0b_call4_c_1 : Ref sig .tc := ⟨.hbm, 63, rfl⟩
abbrev main_while0b_call4_c_2 : Ref sig .tc := ⟨.hbm, 64, rfl⟩
abbrev main_while0b_call4_v0 : Ref sig .tc := ⟨.hbm, 65, rfl⟩
abbrev main_while0b_v43 : Ref sig .tc := ⟨.hbm, 66, rfl⟩
abbrev main_while0b_call5_c : Ref sig .tc := ⟨.hbm, 67, rfl⟩
abbrev main_while0b_call5_c_0 : Ref sig .tc := ⟨.hbm, 68, rfl⟩
abbrev main_while0b_call5_c_1 : Ref sig .tc := ⟨.hbm, 69, rfl⟩
abbrev main_while0b_call5_c_2 : Ref sig .tc := ⟨.hbm, 70, rfl⟩
abbrev main_while0b_call5_v0 : Ref sig .tc := ⟨.hbm, 71, rfl⟩
abbrev main_while0b_v44 : Ref sig .tc := ⟨.hbm, 72, rfl⟩
abbrev main_while0b_v45 : Ref sig .tc := ⟨.hbm, 73, rfl⟩
abbrev main_while0b_v46 : Ref sig .tc := ⟨.hbm, 74, rfl⟩
abbrev main_while0b_v47 : Ref sig .tc := ⟨.hbm, 75, rfl⟩
abbrev main_while0b_v48 : Ref sig .tc := ⟨.hbm, 76, rfl⟩
abbrev main_while0b_v49 : Ref sig .tc := ⟨.hbm, 77, rfl⟩
abbrev main_while0b_v50 : Ref sig .tc := ⟨.hbm, 78, rfl⟩
abbrev main_while0b_v51 : Ref sig .tc := ⟨.hbm, 79, rfl⟩
abbrev main_while0b_v52 : Ref sig .tc := ⟨.hbm, 80, rfl⟩
abbrev main_while0b_v53 : Ref sig .tc := ⟨.hbm, 81, rfl⟩
abbrev main_while0b_call6_v0 : Ref sig .tc := ⟨.hbm, 82, rfl⟩
abbrev main_while0b_call6_c : Ref sig .tc := ⟨.hbm, 83, rfl⟩
abbrev main_while0b_call6_c_0 : Ref sig .tc := ⟨.hbm, 84, rfl⟩
abbrev main_while0b_call6_c_1 : Ref sig .tc := ⟨.hbm, 85, rfl⟩
abbrev main_while0b_call6_c_2 : Ref sig .tc := ⟨.hbm, 86, rfl⟩
abbrev main_while0b_v54 : Ref sig .tc := ⟨.hbm, 87, rfl⟩
abbrev main_while0b_c_12 : Ref sig .tc := ⟨.hbm, 88, rfl⟩
abbrev main_while0b_v55 : Ref sig .tc := ⟨.hbm, 89, rfl⟩
abbrev main_v18 : Ref sig .tc := ⟨.hbm, 90, rfl⟩
abbrev main_v19 : Ref sig .tc := ⟨.hbm, 91, rfl⟩
abbrev main_v20 : Ref sig .tc := ⟨.hbm, 92, rfl⟩
abbrev main_v21 : Ref sig .tc := ⟨.hbm, 93, rfl⟩
abbrev main_v22 : Ref sig .tc := ⟨.hbm, 94, rfl⟩
abbrev main_cst_1 : Ref sig .tc := ⟨.hbm, 95, rfl⟩
abbrev main_v23 : Ref sig .tc := ⟨.hbm, 96, rfl⟩
abbrev main_v24 : Ref sig .tc := ⟨.hbm, 97, rfl⟩
abbrev main_cst_2 : Ref sig .tc := ⟨.hbm, 98, rfl⟩
abbrev main_v25 : Ref sig .tc := ⟨.hbm, 99, rfl⟩
abbrev main_v26 : Ref sig .tc := ⟨.hbm, 100, rfl⟩
abbrev main_cst_3 : Ref sig .tc := ⟨.hbm, 101, rfl⟩
abbrev main_v27 : Ref sig .tc := ⟨.hbm, 102, rfl⟩
abbrev main_v28 : Ref sig .tc := ⟨.hbm, 103, rfl⟩
abbrev main_v29 : Ref sig .tc := ⟨.hbm, 104, rfl⟩
abbrev main_v30 : Ref sig .tc := ⟨.hbm, 105, rfl⟩
abbrev main_v31 : Ref sig .tc := ⟨.hbm, 106, rfl⟩
abbrev main_v32 : Ref sig .tc := ⟨.hbm, 107, rfl⟩
abbrev main_v33 : Ref sig .tc := ⟨.hbm, 108, rfl⟩
abbrev main_v34 : Ref sig .tc := ⟨.hbm, 109, rfl⟩
abbrev main_call7_v0 : Ref sig .tc := ⟨.hbm, 110, rfl⟩
abbrev main_call7_v1 : Ref sig .tc := ⟨.hbm, 111, rfl⟩
abbrev main_call7_cst : Ref sig .tc := ⟨.hbm, 112, rfl⟩
abbrev main_call7_v2 : Ref sig .tc := ⟨.hbm, 113, rfl⟩
abbrev main_call7_v3 : Ref sig .tc := ⟨.hbm, 114, rfl⟩
abbrev main_call7_cst_0 : Ref sig .tc := ⟨.hbm, 115, rfl⟩
abbrev main_call7_v4 : Ref sig .tc := ⟨.hbm, 116, rfl⟩
abbrev main_call7_v5 : Ref sig .tc := ⟨.hbm, 117, rfl⟩
abbrev main_v35 : Ref sig .tc := ⟨.hbm, 118, rfl⟩
abbrev main_v36 : Ref sig .tc := ⟨.hbm, 119, rfl⟩
abbrev main_v37 : Ref sig .tc := ⟨.hbm, 120, rfl⟩
abbrev main_v38 : Ref sig .tc := ⟨.hbm, 121, rfl⟩

abbrev nD : Nat := 1
abbrev τ : Topo := Topo.v7x

variable {F : FTy → Type} [FloatOps F]

abbrev main_while0_count : Scf.Loop 32 := ⟨0#32, 128#32, 1#32⟩
-- ==== DnProj.lean ====
abbrev S16384x2048 : Shape := ⟨2, ![16384, 2048]⟩
abbrev S2048 : Shape := ⟨1, ![2048]⟩
abbrev S2048x12352 : Shape := ⟨2, ![2048, 12352]⟩
abbrev S2048x12288 : Shape := ⟨2, ![2048, 12288]⟩
abbrev S1x2048 : Shape := ⟨2, ![1, 2048]⟩
abbrev S16384x12288 : Shape := ⟨2, ![16384, 12288]⟩
abbrev S1024x2048 : Shape := ⟨2, ![1024, 2048]⟩
abbrev S2048x1024 : Shape := ⟨2, ![2048, 1024]⟩
abbrev S1024x1024 : Shape := ⟨2, ![1024, 1024]⟩
abbrev S1024 : Shape := ⟨1, ![1024]⟩
abbrev S1024x1 : Shape := ⟨2, ![1024, 1]⟩

abbrev nBuf : Space → Nat
  | .hbm => 7
  | .vmem => 8
  | .smem => 0
  | _ => 0

abbrev bufTy : (tb : Table) → Fin (tcTables nBuf tb) → BufTy
  | .hbm, ⟨0, _⟩ => ⟨S16384x2048, .f32⟩
  | .hbm, ⟨1, _⟩ => ⟨S2048, .f32⟩
  | .hbm, ⟨2, _⟩ => ⟨S2048x12352, .f32⟩
  | .hbm, ⟨3, _⟩ => ⟨S2048x12288, .f32⟩
  | .hbm, ⟨4, _⟩ => ⟨S2048x12288, .bf16⟩
  | .hbm, ⟨5, _⟩ => ⟨S1x2048, .f32⟩
  | .hbm, ⟨6, _⟩ => ⟨S16384x12288, .f32⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S2048x1024, .bf16⟩
  | .local _ .vmem, ⟨4, _⟩ => ⟨S2048x1024, .bf16⟩
  | .local _ .vmem, ⟨5, _⟩ => ⟨S1024x1024, .f32⟩
  | .local _ .vmem, ⟨6, _⟩ => ⟨S1024x1024, .f32⟩
  | .local _ .vmem, ⟨7, _⟩ => ⟨S1024x2048, .bf16⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![16, 12], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== DnProjRefIdeal.lean ====
abbrev S16384x2048 : Shape := ⟨2, ![16384, 2048]⟩
abbrev S2048 : Shape := ⟨1, ![2048]⟩
abbrev S2048x12352 : Shape := ⟨2, ![2048, 12352]⟩
abbrev S_ : Shape := ⟨0, ![]⟩
abbrev S16384 : Shape := ⟨1, ![16384]⟩
abbrev S16384x1 : Shape := ⟨2, ![16384, 1]⟩
abbrev S1x2048 : Shape := ⟨2, ![1, 2048]⟩
abbrev S16384x12352 : Shape := ⟨2, ![16384, 12352]⟩
abbrev S16384x12288 : Shape := ⟨2, ![16384, 12288]⟩

abbrev nBuf : Space → Nat
  | .hbm => 21
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S2048, .f32⟩
  | .hbm, ⟨2, _⟩ => ⟨S2048x12352, .f32⟩
  | .hbm, ⟨3, _⟩ => ⟨S16384x2048, .f32⟩
  | .hbm, ⟨4, _⟩ => ⟨S_, .f32⟩
  | .hbm, ⟨5, _⟩ => ⟨S16384, .f32⟩
  | .hbm, ⟨6, _⟩ => ⟨S16384x1, .f32⟩
  | .hbm, ⟨7, _⟩ => ⟨S_, .f32⟩
  | .hbm, ⟨8, _⟩ => ⟨S16384x1, .f32⟩
  | .hbm, ⟨9, _⟩ => ⟨S16384x1, .f32⟩
  | .hbm, ⟨10, _⟩ => ⟨S_, .f32⟩
  | .hbm, ⟨11, _⟩ => ⟨S16384x1, .f32⟩
  | .hbm, ⟨12, _⟩ => ⟨S16384x1, .f32⟩
  | .hbm, ⟨13, _⟩ => ⟨S16384x1, .f32⟩
  | .hbm, ⟨14, _⟩ => ⟨S16384x2048, .f32⟩
  | .hbm, ⟨15, _⟩ => ⟨S16384x2048, .f32⟩
  | .hbm, ⟨16, _⟩ => ⟨S1x2048, .f32⟩
  | .hbm, ⟨17, _⟩ => ⟨S16384x2048, .f32⟩
  | .hbm, ⟨18, _⟩ => ⟨S16384x2048, .f32⟩
  | .hbm, ⟨19, _⟩ => ⟨S16384x12352, .f32⟩
  | .hbm, ⟨20, _⟩ => ⟨S16384x12288, .f32⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩

abbrev nD : Nat := 1
abbrev τ : Topo := Topo.v7x

variable {F : FTy → Type} [FloatOps F]
-- ==== AttnProj.lean ====
abbrev S16384x2048 : Shape := ⟨2, ![16384, 2048]⟩
abbrev S2048 : Shape := ⟨1, ![2048]⟩
abbrev S2048x4176 : Shape := ⟨2, ![2048, 4176]⟩
abbrev S_ : Shape := ⟨0, ![]⟩
abbrev S2048x4224 : Shape := ⟨2, ![2048, 4224]⟩
abbrev S1x2048 : Shape := ⟨2, ![1, 2048]⟩
abbrev S16384x4224 : Shape := ⟨2, ![16384, 4224]⟩
abbrev S1024x2048 : Shape := ⟨2, ![1024, 2048]⟩
abbrev S2048x1408 : Shape := ⟨2, ![2048, 1408]⟩
abbrev S1024x1408 : Shape := ⟨2, ![1024, 1408]⟩
abbrev S1024 : Shape := ⟨1, ![1024]⟩
abbrev S1024x1 : Shape := ⟨2, ![1024, 1]⟩

abbrev nBuf : Space → Nat
  | .hbm => 9
  | .vmem => 8
  | .smem => 0
  | _ => 0

abbrev bufTy : (tb : Table) → Fin (tcTables nBuf tb) → BufTy
  | .hbm, ⟨0, _⟩ => ⟨S16384x2048, .f32⟩
  | .hbm, ⟨1, _⟩ => ⟨S2048, .f32⟩
  | .hbm, ⟨2, _⟩ => ⟨S2048x4176, .f32⟩
  | .hbm, ⟨3, _⟩ => ⟨S_, .i32⟩
  | .hbm, ⟨4, _⟩ => ⟨S_, .f32⟩
  | .hbm, ⟨5, _⟩ => ⟨S2048x4224, .f32⟩
  | .hbm, ⟨6, _⟩ => ⟨S2048x4224, .bf16⟩
  | .hbm, ⟨7, _⟩ => ⟨S1x2048, .f32⟩
  | .hbm, ⟨8, _⟩ => ⟨S16384x4224, .f32⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S2048x1408, .bf16⟩
  | .local _ .vmem, ⟨4, _⟩ => ⟨S2048x1408, .bf16⟩
  | .local _ .vmem, ⟨5, _⟩ => ⟨S1024x1408, .f32⟩
  | .local _ .vmem, ⟨6, _⟩ => ⟨S1024x1408, .f32⟩
  | .local _ .vmem, ⟨7, _⟩ => ⟨S1024x2048, .bf16⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_call0_v0 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![16, 3], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x1408 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== AttnProjRefIdeal.lean ====
abbrev S16384x2048 : Shape := ⟨2, ![16384, 2048]⟩
abbrev S2048 : Shape := ⟨1, ![2048]⟩
abbrev S2048x4176 : Shape := ⟨2, ![2048, 4176]⟩
abbrev S_ : Shape := ⟨0, ![]⟩
abbrev S16384 : Shape := ⟨1, ![16384]⟩
abbrev S16384x1 : Shape := ⟨2, ![16384, 1]⟩
abbrev S1x2048 : Shape := ⟨2, ![1, 2048]⟩
abbrev S16384x4176 : Shape := ⟨2, ![16384, 4176]⟩
abbrev S16384x4224 : Shape := ⟨2, ![16384, 4224]⟩

abbrev nBuf : Space → Nat
  | .hbm => 23
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S2048, .f32⟩
  | .hbm, ⟨2, _⟩ => ⟨S2048x4176, .f32⟩
  | .hbm, ⟨3, _⟩ => ⟨S16384x2048, .f32⟩
  | .hbm, ⟨4, _⟩ => ⟨S_, .f32⟩
  | .hbm, ⟨5, _⟩ => ⟨S16384, .f32⟩
  | .hbm, ⟨6, _⟩ => ⟨S16384x1, .f32⟩
  | .hbm, ⟨7, _⟩ => ⟨S_, .f32⟩
  | .hbm, ⟨8, _⟩ => ⟨S16384x1, .f32⟩
  | .hbm, ⟨9, _⟩ => ⟨S16384x1, .f32⟩
  | .hbm, ⟨10, _⟩ => ⟨S_, .f32⟩
  | .hbm, ⟨11, _⟩ => ⟨S16384x1, .f32⟩
  | .hbm, ⟨12, _⟩ => ⟨S16384x1, .f32⟩
  | .hbm, ⟨13, _⟩ => ⟨S16384x1, .f32⟩
  | .hbm, ⟨14, _⟩ => ⟨S16384x2048, .f32⟩
  | .hbm, ⟨15, _⟩ => ⟨S16384x2048, .f32⟩
  | .hbm, ⟨16, _⟩ => ⟨S1x2048, .f32⟩
  | .hbm, ⟨17, _⟩ => ⟨S16384x2048, .f32⟩
  | .hbm, ⟨18, _⟩ => ⟨S16384x2048, .f32⟩
  | .hbm, ⟨19, _⟩ => ⟨S16384x4176, .f32⟩
  | .hbm, ⟨20, _⟩ => ⟨S_, .i32⟩
  | .hbm, ⟨21, _⟩ => ⟨S_, .f32⟩
  | .hbm, ⟨22, _⟩ => ⟨S16384x4224, .f32⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_c : Ref sig .tc := ⟨.hbm, 20, rfl⟩
abbrev main_call0_v0 : Ref sig .tc := ⟨.hbm, 21, rfl⟩
abbrev main_v14 : Ref sig .tc := ⟨.hbm, 22, rfl⟩

abbrev nD : Nat := 1
abbrev τ : Topo := Topo.v7x

variable {F : FTy → Type} [FloatOps F]
-- ==== DnOut.lean ====
abbrev S16384x4096 : Shape := ⟨2, ![16384, 4096]⟩
abbrev S4096x2048 : Shape := ⟨2, ![4096, 2048]⟩
abbrev S16384x2048 : Shape := ⟨2, ![16384, 2048]⟩
abbrev S1024x4096 : Shape := ⟨2, ![1024, 4096]⟩
abbrev S4096x512 : Shape := ⟨2, ![4096, 512]⟩
abbrev S1024x512 : Shape := ⟨2, ![1024, 512]⟩

abbrev nBuf : Space → Nat
  | .hbm => 5
  | .vmem => 8
  | .smem => 0
  | _ => 0

abbrev bufTy : (tb : Table) → Fin (tcTables nBuf tb) → BufTy
  | .hbm, ⟨0, _⟩ => ⟨S16384x4096, .bf16⟩
  | .hbm, ⟨1, _⟩ => ⟨S4096x2048, .f32⟩
  | .hbm, ⟨2, _⟩ => ⟨S16384x2048, .f32⟩
  | .hbm, ⟨3, _⟩ => ⟨S4096x2048, .bf16⟩
  | .hbm, ⟨4, _⟩ => ⟨S16384x2048, .f32⟩
  | .local _ .vmem, ⟨0, _⟩ => ⟨S1024x4096, .bf16⟩
  | .local _ .vmem, ⟨1, _⟩ => ⟨S1024x4096, .bf16⟩
  | .local _ .vmem, ⟨2, _⟩ => ⟨S4096x512, .bf16⟩
  | .local _ .vmem, ⟨3, _⟩ => ⟨S4096x512, .bf16⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | .local _ .vmem, ⟨7, _⟩ => ⟨S1024x512, .f32⟩
  | _, _ => ⟨S16384x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![16, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== DnOutRefIdeal.lean ====
abbrev S16384x4096 : Shape := ⟨2, ![16384, 4096]⟩
abbrev S4096x2048 : Shape := ⟨2, ![4096, 2048]⟩
abbrev S16384x2048 : Shape := ⟨2, ![16384, 2048]⟩

abbrev nBuf : Space → Nat
  | .hbm => 6
  | .vmem => 0
  | .smem => 0
  | _ => 0

abbrev bufTy : (tb : Table) → Fin (tcTables nBuf tb) → BufTy
  | .hbm, ⟨0, _⟩ => ⟨S16384x4096, .bf16⟩
  | .hbm, ⟨1, _⟩ => ⟨S4096x2048, .f32⟩
  | .hbm, ⟨2, _⟩ => ⟨S16384x2048, .f32⟩
  | .hbm, ⟨3, _⟩ => ⟨S16384x4096, .f32⟩
  | .hbm, ⟨4, _⟩ => ⟨S16384x2048, .f32⟩
  | .hbm, ⟨5, _⟩ => ⟨S16384x2048, .f32⟩
  | _, _ => ⟨S16384x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== AttnOut.lean ====
abbrev S16384x2048 : Shape := ⟨2, ![16384, 2048]⟩
abbrev S2048x2048 : Shape := ⟨2, ![2048, 2048]⟩
abbrev S1024x2048 : Shape := ⟨2, ![1024, 2048]⟩
abbrev S2048x512 : Shape := ⟨2, ![2048, 512]⟩
abbrev S1024x512 : Shape := ⟨2, ![1024, 512]⟩

abbrev nBuf : Space → Nat
  | .hbm => 5
  | .vmem => 8
  | .smem => 0
  | _ => 0

abbrev bufTy : (tb : Table) → Fin (tcTables nBuf tb) → BufTy
  | .hbm, ⟨0, _⟩ => ⟨S16384x2048, .bf16⟩
  | .hbm, ⟨1, _⟩ => ⟨S2048x2048, .f32⟩
  | .hbm, ⟨2, _⟩ => ⟨S16384x2048, .f32⟩
  | .hbm, ⟨3, _⟩ => ⟨S2048x2048, .bf16⟩
  | .hbm, ⟨4, _⟩ => ⟨S16384x2048, .f32⟩
  | .local _ .vmem, ⟨0, _⟩ => ⟨S1024x2048, .bf16⟩
  | .local _ .vmem, ⟨1, _⟩ => ⟨S1024x2048, .bf16⟩
  | .local _ .vmem, ⟨2, _⟩ => ⟨S2048x512, .bf16⟩
  | .local _ .vmem, ⟨3, _⟩ => ⟨S2048x512, .bf16⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | .local _ .vmem, ⟨7, _⟩ => ⟨S1024x512, .f32⟩
  | _, _ => ⟨S16384x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![16, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== AttnOutRefIdeal.lean ====
abbrev S16384x2048 : Shape := ⟨2, ![16384, 2048]⟩
abbrev S2048x2048 : Shape := ⟨2, ![2048, 2048]⟩

abbrev nBuf : Space → Nat
  | .hbm => 6
  | .vmem => 0
  | .smem => 0
  | _ => 0

abbrev bufTy : (tb : Table) → Fin (tcTables nBuf tb) → BufTy
  | .hbm, ⟨0, _⟩ => ⟨S16384x2048, .bf16⟩
  | .hbm, ⟨1, _⟩ => ⟨S2048x2048, .f32⟩
  | .hbm, ⟨2, _⟩ => ⟨S16384x2048, .f32⟩
  | .hbm, ⟨3, _⟩ => ⟨S16384x2048, .f32⟩
  | .hbm, ⟨4, _⟩ => ⟨S16384x2048, .f32⟩
  | .hbm, ⟨5, _⟩ => ⟨S16384x2048, .f32⟩
  | _, _ => ⟨S16384x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Ple.lean ====
abbrev S16384x2048 : Shape := ⟨2, ![16384, 2048]⟩
abbrev S2048 : Shape := ⟨1, ![2048]⟩
abbrev S2048x2048 : Shape := ⟨2, ![2048, 2048]⟩
abbrev S2x8192x256 : Shape := ⟨3, ![2, 8192, 256]⟩
abbrev S256x2048 : Shape := ⟨2, ![256, 2048]⟩
abbrev S16384x256 : Shape := ⟨2, ![16384, 256]⟩
abbrev S1x2048 : Shape := ⟨2, ![1, 2048]⟩
abbrev S1024x2048 : Shape := ⟨2, ![1024, 2048]⟩
abbrev S2048x512 : Shape := ⟨2, ![2048, 512]⟩
abbrev S1024x256 : Shape := ⟨2, ![1024, 256]⟩
abbrev S256x512 : Shape := ⟨2, ![256, 512]⟩
abbrev S1024x512 : Shape := ⟨2, ![1024, 512]⟩
abbrev S1024 : Shape := ⟨1, ![1024]⟩
abbrev S1024x1 : Shape := ⟨2, ![1024, 1]⟩

abbrev nBuf : Space → Nat
  | .hbm => 11
  | .vmem => 14
  | .smem => 0
  | _ => 0

abbrev bufTy : (tb : Table) → Fin (tcTables nBuf tb) → BufTy
  | .hbm, ⟨0, _⟩ => ⟨S16384x2048, .f32⟩
  | .hbm, ⟨1, _⟩ => ⟨S2048, .f32⟩
  | .hbm, ⟨2, _⟩ => ⟨S2048x2048, .f32⟩
  | .hbm, ⟨3, _⟩ => ⟨S2x8192x256, .f32⟩
  | .hbm, ⟨4, _⟩ => ⟨S256x2048, .f32⟩
  | .hbm, ⟨5, _⟩ => ⟨S16384x256, .f32⟩
  | .hbm, ⟨6, _⟩ => ⟨S1x2048, .f32⟩
  | .hbm, ⟨7, _⟩ => ⟨S2048x2048, .bf16⟩
  | .hbm, ⟨8, _⟩ => ⟨S16384x256, .bf16⟩
  | .hbm, ⟨9, _⟩ => ⟨S256x2048, .bf16⟩
  | .hbm, ⟨10, _⟩ => ⟨S16384x2048, .f32⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S2048x512, .bf16⟩
  | .local _ .vmem, ⟨4, _⟩ => ⟨S2048x512, .bf16⟩
  | .local _ .vmem, ⟨5, _⟩ => ⟨S1024x256, .bf16⟩
  | .local _ .vmem, ⟨6, _⟩ => ⟨S1024x256, .bf16⟩
  | .local _ .vmem, ⟨7, _⟩ => ⟨S256x512, .bf16⟩
  | .local _ .vmem, ⟨8, _⟩ => ⟨S256x512, .bf16⟩
  | .local _ .vmem, ⟨9, _⟩ => ⟨S1024x512, .f32⟩
  | .local _ .vmem, ⟨10, _⟩ => ⟨S1024x512, .f32⟩
  | .local _ .vmem, ⟨11, _⟩ => ⟨S1024x512, .f32⟩
  | .local _ .vmem, ⟨12, _⟩ => ⟨S1024x512, .f32⟩
  | .local _ .vmem, ⟨13, _⟩ => ⟨S1024x2048, .bf16⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_scratch0 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨2, ![16, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S256x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1024x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1024x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== PleRefIdeal.lean ====
abbrev S16384x2048 : Shape := ⟨2, ![16384, 2048]⟩
abbrev S2048 : Shape := ⟨1, ![2048]⟩
abbrev S2048x2048 : Shape := ⟨2, ![2048, 2048]⟩
abbrev S2x8192x256 : Shape := ⟨3, ![2, 8192, 256]⟩
abbrev S256x2048 : Shape := ⟨2, ![256, 2048]⟩
abbrev S_ : Shape := ⟨0, ![]⟩
abbrev S16384 : Shape := ⟨1, ![16384]⟩
abbrev S16384x1 : Shape := ⟨2, ![16384, 1]⟩
abbrev S1x2048 : Shape := ⟨2, ![1, 2048]⟩
abbrev S16384x256 : Shape := ⟨2, ![16384, 256]⟩

abbrev nBuf : Space → Nat
  | .hbm => 34
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S2048, .f32⟩
  | .hbm, ⟨2, _⟩ => ⟨S2048x2048, .f32⟩
  | .hbm, ⟨3, _⟩ => ⟨S2x8192x256, .f32⟩
  | .hbm, ⟨4, _⟩ => ⟨S256x2048, .f32⟩
  | .hbm, ⟨5, _⟩ => ⟨S16384x2048, .f32⟩
  | .hbm, ⟨6, _⟩ => ⟨S_, .f32⟩
  | .hbm, ⟨7, _⟩ => ⟨S16384, .f32⟩
  | .hbm, ⟨8, _⟩ => ⟨S16384x1, .f32⟩
  | .hbm, ⟨9, _⟩ => ⟨S_, .f32⟩
  | .hbm, ⟨10, _⟩ => ⟨S16384x1, .f32⟩
  | .hbm, ⟨11, _⟩ => ⟨S16384x1, .f32⟩
  | .hbm, ⟨12, _⟩ => ⟨S_, .f32⟩
  | .hbm, ⟨13, _⟩ => ⟨S16384x1, .f32⟩
  | .hbm, ⟨14, _⟩ => ⟨S16384x1, .f32⟩
  | .hbm, ⟨15, _⟩ => ⟨S16384x1, .f32⟩
  | .hbm, ⟨16, _⟩ => ⟨S16384x2048, .f32⟩
  | .hbm, ⟨17, _⟩ => ⟨S16384x2048, .f32⟩
  | .hbm, ⟨18, _⟩ => ⟨S1x2048, .f32⟩
  | .hbm, ⟨19, _⟩ => ⟨S16384x2048, .f32⟩
  | .hbm, ⟨20, _⟩ => ⟨S16384x2048, .f32⟩
  | .hbm, ⟨21, _⟩ => ⟨S16384x2048, .f32⟩
  | .hbm, ⟨22, _⟩ => ⟨S16384x2048, .f32⟩
  | .hbm, ⟨23, _⟩ => ⟨S16384x2048, .f32⟩
  | .hbm, ⟨24, _⟩ => ⟨S_, .f32⟩
  | .hbm, ⟨25, _⟩ => ⟨S16384x2048, .f32⟩
  | .hbm, ⟨26, _⟩ => ⟨S16384x2048, .f32⟩
  | .hbm, ⟨27, _⟩ => ⟨S_, .f32⟩
  | .hbm, ⟨28, _⟩ => ⟨S16384x2048, .f32⟩
  | .hbm, ⟨29, _⟩ => ⟨S16384x2048, .f32⟩
  | .hbm, ⟨30, _⟩ => ⟨S16384x256, .f32⟩
  | .hbm, ⟨31, _⟩ => ⟨S16384x2048, .f32⟩
  | .hbm, ⟨32, _⟩ => ⟨S16384x2048, .f32⟩
  | .hbm, ⟨33, _⟩ => ⟨S16384x2048, .f32⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_2 : Ref sig .tc := ⟨.hbm, 24, rfl⟩
abbrev main_v16 : Ref sig .tc := ⟨.hbm, 25, rfl⟩
abbrev main_v17 : Ref sig .tc := ⟨.hbm, 26, rfl⟩
abbrev main_cst_3 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩

abbrev nD : Nat := 1
abbrev τ : Topo := Topo.v7x

variable {F : FTy → Type} [FloatOps F]
-- ==== PeerQuery.lean ====
abbrev S16384x2048 : Shape := ⟨2, ![16384, 2048]⟩
abbrev S2048 : Shape := ⟨1, ![2048]⟩
abbrev S2048x2048 : Shape := ⟨2, ![2048, 2048]⟩
abbrev S1x2048 : Shape := ⟨2, ![1, 2048]⟩
abbrev S2048x16384 : Shape := ⟨2, ![2048, 16384]⟩
abbrev S1024x2048 : Shape := ⟨2, ![1024, 2048]⟩
abbrev S512x2048 : Shape := ⟨2, ![512, 2048]⟩
abbrev S512x1024 : Shape := ⟨2, ![512, 1024]⟩
abbrev S2048x1024 : Shape := ⟨2, ![2048, 1024]⟩
abbrev S1024 : Shape := ⟨1, ![1024]⟩
abbrev S1024x1 : Shape := ⟨2, ![1024, 1]⟩

abbrev nBuf : Space → Nat
  | .hbm => 8
  | .vmem => 9
  | .smem => 0
  | _ => 0

abbrev bufTy : (tb : Table) → Fin (tcTables nBuf tb) → BufTy
  | .hbm, ⟨0, _⟩ => ⟨S16384x2048, .f32⟩
  | .hbm, ⟨1, _⟩ => ⟨S2048, .f32⟩
  | .hbm, ⟨2, _⟩ => ⟨S2048x2048, .f32⟩
  | .hbm, ⟨3, _⟩ => ⟨S2048x2048, .f32⟩
  | .hbm, ⟨4, _⟩ => ⟨S2048x2048, .bf16⟩
  | .hbm, ⟨5, _⟩ => ⟨S1x2048, .f32⟩
  | .hbm, ⟨6, _⟩ => ⟨S2048x16384, .f32⟩
  | .hbm, ⟨7, _⟩ => ⟨S2048x16384, .bf16⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S512x2048, .bf16⟩
  | .local _ .vmem, ⟨4, _⟩ => ⟨S512x2048, .bf16⟩
  | .local _ .vmem, ⟨5, _⟩ => ⟨S512x1024, .f32⟩
  | .local _ .vmem, ⟨6, _⟩ => ⟨S512x1024, .f32⟩
  | .local _ .vmem, ⟨7, _⟩ => ⟨S2048x1024, .bf16⟩
  | .local _ .vmem, ⟨8, _⟩ => ⟨S2048x1024, .bf16⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3_0 : Ref sig .tc := ⟨.hbm, 6, rfl⟩
abbrev main_v3_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![16, 4], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S2048x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== PeerQueryRefIdeal.lean ====
abbrev S16384x2048 : Shape := ⟨2, ![16384, 2048]⟩
abbrev S2048 : Shape := ⟨1, ![2048]⟩
abbrev S2048x2048 : Shape := ⟨2, ![2048, 2048]⟩
abbrev S_ : Shape := ⟨0, ![]⟩
abbrev S16384 : Shape := ⟨1, ![16384]⟩
abbrev S16384x1 : Shape := ⟨2, ![16384, 1]⟩
abbrev S1x2048 : Shape := ⟨2, ![1, 2048]⟩
abbrev S2048x16384 : Shape := ⟨2, ![2048, 16384]⟩

abbrev nBuf : Space → Nat
  | .hbm => 23
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S2048, .f32⟩
  | .hbm, ⟨2, _⟩ => ⟨S2048x2048, .f32⟩
  | .hbm, ⟨3, _⟩ => ⟨S16384x2048, .f32⟩
  | .hbm, ⟨4, _⟩ => ⟨S_, .f32⟩
  | .hbm, ⟨5, _⟩ => ⟨S16384, .f32⟩
  | .hbm, ⟨6, _⟩ => ⟨S16384x1, .f32⟩
  | .hbm, ⟨7, _⟩ => ⟨S_, .f32⟩
  | .hbm, ⟨8, _⟩ => ⟨S16384x1, .f32⟩
  | .hbm, ⟨9, _⟩ => ⟨S16384x1, .f32⟩
  | .hbm, ⟨10, _⟩ => ⟨S_, .f32⟩
  | .hbm, ⟨11, _⟩ => ⟨S16384x1, .f32⟩
  | .hbm, ⟨12, _⟩ => ⟨S16384x1, .f32⟩
  | .hbm, ⟨13, _⟩ => ⟨S16384x1, .f32⟩
  | .hbm, ⟨14, _⟩ => ⟨S16384x2048, .f32⟩
  | .hbm, ⟨15, _⟩ => ⟨S16384x2048, .f32⟩
  | .hbm, ⟨16, _⟩ => ⟨S1x2048, .f32⟩
  | .hbm, ⟨17, _⟩ => ⟨S16384x2048, .f32⟩
  | .hbm, ⟨18, _⟩ => ⟨S16384x2048, .f32⟩
  | .hbm, ⟨19, _⟩ => ⟨S16384x2048, .f32⟩
  | .hbm, ⟨20, _⟩ => ⟨S2048x16384, .f32⟩
  | .hbm, ⟨21, _⟩ => ⟨S2048x16384, .f32⟩
  | .hbm, ⟨22, _⟩ => ⟨S2048x16384, .bf16⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩

abbrev nD : Nat := 1
abbrev τ : Topo := Topo.v7x

variable {F : FTy → Type} [FloatOps F]
-- ==== Experts.lean ====
abbrev S2048x16384 : Shape := ⟨2, ![2048, 16384]⟩
abbrev S16384x2048 : Shape := ⟨2, ![16384, 2048]⟩
abbrev S8x128x16384 : Shape := ⟨3, ![8, 128, 16384]⟩
abbrev S2048x512 : Shape := ⟨2, ![2048, 512]⟩
abbrev S1024x2048 : Shape := ⟨2, ![1024, 2048]⟩
abbrev S2048x1024 : Shape := ⟨2, ![2048, 1024]⟩
abbrev S8x8x512 : Shape := ⟨3, ![8, 8, 512]⟩
abbrev S8x128x512 : Shape := ⟨3, ![8, 128, 512]⟩
abbrev S512x2048 : Shape := ⟨2, ![512, 2048]⟩
abbrev S1024x512 : Shape := ⟨2, ![1024, 512]⟩
abbrev S1x1x512 : Shape := ⟨3, ![1, 1, 512]⟩
abbrev S1x512 : Shape := ⟨2, ![1, 512]⟩
abbrev S1x128x512 : Shape := ⟨3, ![1, 128, 512]⟩
abbrev S128x512 : Shape := ⟨2, ![128, 512]⟩

abbrev nBuf : Space → Nat
  | .hbm => 12
  | .vmem => 20
  | .smem => 0
  | _ => 0

abbrev bufTy : (tb : Table) → Fin (tcTables nBuf tb) → BufTy
  | .hbm, ⟨0, _⟩ => ⟨S2048x16384, .bf16⟩
  | .hbm, ⟨1, _⟩ => ⟨S16384x2048, .f32⟩
  | .hbm, ⟨2, _⟩ => ⟨S16384x2048, .f32⟩
  | .hbm, ⟨3, _⟩ => ⟨S8x128x16384, .f32⟩
  | .hbm, ⟨4, _⟩ => ⟨S8x128x16384, .f32⟩
  | .hbm, ⟨5, _⟩ => ⟨S8x128x16384, .bf16⟩
  | .hbm, ⟨6, _⟩ => ⟨S8x128x16384, .bf16⟩
  | .hbm, ⟨7, _⟩ => ⟨S16384x2048, .f32⟩
  | .hbm, ⟨8, _⟩ => ⟨S16384x2048, .bf16⟩
  | .hbm, ⟨9, _⟩ => ⟨S2048x16384, .f32⟩
  | .hbm, ⟨10, _⟩ => ⟨S2048x16384, .bf16⟩
  | .hbm, ⟨11, _⟩ => ⟨S16384x2048, .f32⟩
  | .local _ .vmem, ⟨0, _⟩ => ⟨S2048x512, .bf16⟩
  | .local _ .vmem, ⟨1, _⟩ => ⟨S2048x512, .bf16⟩
  | .local _ .vmem, ⟨2, _⟩ => ⟨S1024x2048, .bf16⟩
  | .local _ .vmem, ⟨3, _⟩ => ⟨S1024x2048, .bf16⟩
  | .local _ .vmem, ⟨4, _⟩ => ⟨S2048x1024, .bf16⟩
  | .local _ .vmem, ⟨5, _⟩ => ⟨S2048x1024, .bf16⟩
  | .local _ .vmem, ⟨6, _⟩ => ⟨S8x8x512, .f32⟩
  | .local _ .vmem, ⟨7, _⟩ => ⟨S8x8x512, .f32⟩
  | .local _ .vmem, ⟨8, _⟩ => ⟨S8x8x512, .f32⟩
  | .local _ .vmem, ⟨9, _⟩ => ⟨S8x8x512, .f32⟩
  | .local _ .vmem, ⟨10, _⟩ => ⟨S8x128x512, .bf16⟩
  | .local _ .vmem, ⟨11, _⟩ => ⟨S8x128x512, .bf16⟩
  | .local _ .vmem, ⟨12, _⟩ => ⟨S8x128x512, .bf16⟩
  | .local _ .vmem, ⟨13, _⟩ => ⟨S8x128x512, .bf16⟩
  | .local _ .vmem, ⟨14, _⟩ => ⟨S512x2048, .f32⟩
  | .local _ .vmem, ⟨15, _⟩ => ⟨S512x2048, .f32⟩
  | .local _ .vmem, ⟨16, _⟩ => ⟨S512x2048, .f32⟩
  | .local _ .vmem, ⟨17, _⟩ => ⟨S512x2048, .f32⟩
  | .local _ .vmem, ⟨18, _⟩ => ⟨S2048x512, .f32⟩
  | .local _ .vmem, ⟨19, _⟩ => ⟨S1024x512, .bf16⟩
  | _, _ => ⟨S2048x16384, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_scratch0 : Ref sig .tc := ⟨.vmem, 18, rfl⟩
abbrev cc0_scratch1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![32, 16], ![false, false]⟩

def k0_cond2 (i : grid0.Coords) : BitVec 1 :=
  let arg1 : BitVec 32 := BitVec.ofNat 32 (i 1).val
  let c15_i32 : BitVec 32 := 15#32
  let v1272 : BitVec 1 := Scalar.cmpi .eq arg1 c15_i32
  let v1273 : BitVec 32 := Scalar.extui v1272
  let c0_i32_871 : BitVec 32 := 0#32
  let v1274 : BitVec 1 := Scalar.cmpi .ne v1273 c0_i32_871
  v1274

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat, arg0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat, arg0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S8x8x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S8x8x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S8x128x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S8x128x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S512x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S512x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]
-- ==== ExpertsRefIdeal.lean ====
abbrev S2048x16384 : Shape := ⟨2, ![2048, 16384]⟩
abbrev S16384x2048 : Shape := ⟨2, ![16384, 2048]⟩
abbrev S8x128x16384 : Shape := ⟨3, ![8, 128, 16384]⟩
abbrev S8x1x128x16384 : Shape := ⟨4, ![8, 1, 128, 16384]⟩
abbrev S8x128x1x16384 : Shape := ⟨4, ![8, 128, 1, 16384]⟩
abbrev S8x128x128x16384 : Shape := ⟨4, ![8, 128, 128, 16384]⟩
abbrev S_ : Shape := ⟨0, ![]⟩
abbrev S128x128x16384 : Shape := ⟨3, ![128, 128, 16384]⟩
abbrev S16384x16384 : Shape := ⟨2, ![16384, 16384]⟩

abbrev nBuf : Space → Nat
  | .hbm => 46
  | .vmem => 0
  | .smem => 0
  | _ => 0

abbrev bufTy : (tb : Table) → Fin (tcTables nBuf tb) → BufTy
  | .hbm, ⟨0, _⟩ => ⟨S2048x16384, .bf16⟩
  | .hbm, ⟨1, _⟩ => ⟨S16384x2048, .f32⟩
  | .hbm, ⟨2, _⟩ => ⟨S16384x2048, .f32⟩
  | .hbm, ⟨3, _⟩ => ⟨S8x128x16384, .f32⟩
  | .hbm, ⟨4, _⟩ => ⟨S8x128x16384, .f32⟩
  | .hbm, ⟨5, _⟩ => ⟨S8x128x16384, .bf16⟩
  | .hbm, ⟨6, _⟩ => ⟨S8x128x16384, .bf16⟩
  | .hbm, ⟨7, _⟩ => ⟨S16384x2048, .f32⟩
  | .hbm, ⟨8, _⟩ => ⟨S8x128x16384, .f32⟩
  | .hbm, ⟨9, _⟩ => ⟨S8x1x128x16384, .f32⟩
  | .hbm, ⟨10, _⟩ => ⟨S8x128x1x16384, .f32⟩
  | .hbm, ⟨11, _⟩ => ⟨S8x128x128x16384, .f32⟩
  | .hbm, ⟨12, _⟩ => ⟨S8x128x128x16384, .f32⟩
  | .hbm, ⟨13, _⟩ => ⟨S8x128x128x16384, .i1⟩
  | .hbm, ⟨14, _⟩ => ⟨S8x128x1x16384, .f32⟩
  | .hbm, ⟨15, _⟩ => ⟨S8x128x16384, .f32⟩
  | .hbm, ⟨16, _⟩ => ⟨S8x1x128x16384, .f32⟩
  | .hbm, ⟨17, _⟩ => ⟨S8x128x128x16384, .f32⟩
  | .hbm, ⟨18, _⟩ => ⟨S8x128x128x16384, .f32⟩
  | .hbm, ⟨19, _⟩ => ⟨S8x128x128x16384, .f32⟩
  | .hbm, ⟨20, _⟩ => ⟨S_, .f32⟩
  | .hbm, ⟨21, _⟩ => ⟨S_, .f32⟩
  | .hbm, ⟨22, _⟩ => ⟨S8x128x128x16384, .f32⟩
  | .hbm, ⟨23, _⟩ => ⟨S8x128x128x16384, .f32⟩
  | .hbm, ⟨24, _⟩ => ⟨S_, .f32⟩
  | .hbm, ⟨25, _⟩ => ⟨S128x128x16384, .f32⟩
  | .hbm, ⟨26, _⟩ => ⟨S2048x16384, .f32⟩
  | .hbm, ⟨27, _⟩ => ⟨S16384x2048, .f32⟩
  | .hbm, ⟨28, _⟩ => ⟨S2048x16384, .f32⟩
  | .hbm, ⟨29, _⟩ => ⟨S16384x16384, .f32⟩
  | .hbm, ⟨30, _⟩ => ⟨S_, .f32⟩
  | .hbm, ⟨31, _⟩ => ⟨S16384x16384, .f32⟩
  | .hbm, ⟨32, _⟩ => ⟨S16384x16384, .f32⟩
  | .hbm, ⟨33, _⟩ => ⟨S_, .f32⟩
  | .hbm, ⟨34, _⟩ => ⟨S16384x16384, .f32⟩
  | .hbm, ⟨35, _⟩ => ⟨S16384x16384, .f32⟩
  | .hbm, ⟨36, _⟩ => ⟨S16384x16384, .f32⟩
  | .hbm, ⟨37, _⟩ => ⟨S_, .f32⟩
  | .hbm, ⟨38, _⟩ => ⟨S16384x16384, .f32⟩
  | .hbm, ⟨39, _⟩ => ⟨S16384x16384, .f32⟩
  | .hbm, ⟨40, _⟩ => ⟨S16384x16384, .f32⟩
  | .hbm, ⟨41, _⟩ => ⟨S16384x16384, .f32⟩
  | .hbm, ⟨42, _⟩ => ⟨S16384x16384, .f32⟩
  | .hbm, ⟨43, _⟩ => ⟨S16384x16384, .f32⟩
  | .hbm, ⟨44, _⟩ => ⟨S16384x2048, .f32⟩
  | .hbm, ⟨45, _⟩ => ⟨S16384x2048, .f32⟩
  | _, _ => ⟨S2048x16384, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst : Ref sig .tc := ⟨.hbm, 20, rfl⟩
abbrev main_call0_v0 : Ref sig .tc := ⟨.hbm, 21, rfl⟩
abbrev main_call0_v1 : Ref sig .tc := ⟨.hbm, 22, rfl⟩
abbrev main_v12 : Ref sig .tc := ⟨.hbm, 23, rfl⟩
abbrev main_cst_0 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_cst_1 : Ref sig .tc := ⟨.hbm, 30, rfl⟩
abbrev main_v18 : Ref sig .tc := ⟨.hbm, 31, rfl⟩
abbrev main_v19 : Ref sig .tc := ⟨.hbm, 32, rfl⟩
abbrev main_cst_2 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_cst_3 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩

abbrev nD : Nat := 1
abbrev τ : Topo := Topo.v7x

variable {F : FTy → Type} [FloatOps F]
-- ==== ConvV.lean ====
abbrev S16384x12288 : Shape := ⟨2, ![16384, 12288]⟩
abbrev S4x8192 : Shape := ⟨2, ![4, 8192]⟩
abbrev S2x32x8192x128 : Shape := ⟨4, ![2, 32, 8192, 128]⟩
abbrev S512x1024 : Shape := ⟨2, ![512, 1024]⟩
abbrev S8x1024 : Shape := ⟨2, ![8, 1024]⟩
abbrev S4x1024 : Shape := ⟨2, ![4, 1024]⟩
abbrev S1x8x512x128 : Shape := ⟨4, ![1, 8, 512, 128]⟩
abbrev S520x1024 : Shape := ⟨2, ![520, 1024]⟩
abbrev S1x128 : Shape := ⟨2, ![1, 128]⟩
abbrev S512x128 : Shape := ⟨2, ![512, 128]⟩
abbrev S1x1x512x128 : Shape := ⟨4, ![1, 1, 512, 128]⟩

abbrev nBuf : Space → Nat
  | .hbm => 3
  | .vmem => 9
  | .smem => 0
  | _ => 0

abbrev bufTy : (tb : Table) → Fin (tcTables nBuf tb) → BufTy
  | .hbm, ⟨0, _⟩ => ⟨S16384x12288, .f32⟩
  | .hbm, ⟨1, _⟩ => ⟨S4x8192, .f32⟩
  | .hbm, ⟨2, _⟩ => ⟨S2x32x8192x128, .f32⟩
  | .local _ .vmem, ⟨0, _⟩ => ⟨S512x1024, .f32⟩
  | .local _ .vmem, ⟨1, _⟩ => ⟨S512x1024, .f32⟩
  | .local _ .vmem, ⟨2, _⟩ => ⟨S8x1024, .f32⟩
  | .local _ .vmem, ⟨3, _⟩ => ⟨S8x1024, .f32⟩
  | .local _ .vmem, ⟨4, _⟩ => ⟨S4x1024, .f32⟩
  | .local _ .vmem, ⟨5, _⟩ => ⟨S4x1024, .f32⟩
  | .local _ .vmem, ⟨6, _⟩ => ⟨S1x8x512x128, .f32⟩
  | .local _ .vmem, ⟨7, _⟩ => ⟨S1x8x512x128, .f32⟩
  | .local _ .vmem, ⟨8, _⟩ => ⟨S520x1024, .f32⟩
  | _, _ => ⟨S16384x12288, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![2, 16, 4], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let v1 : BitVec 32 := Scalar.addi v0 arg1
  let c4_i32 : BitVec 32 := 4#32
  let v2 : BitVec 32 := Scalar.addi c4_i32 arg2
  let c0_i32 : BitVec 32 := 0#32
  ![v1.toNat, v2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let v1 : BitVec 32 := Scalar.addi v0 arg1
  let c64_i32 : BitVec 32 := 64#32
  let v2 : BitVec 32 := Scalar.muli v1 c64_i32
  let c1_i32 : BitVec 32 := 1#32
  let v3 : BitVec 32 := Scalar.subi v2 c1_i32
  let c0_i32 : BitVec 32 := 0#32
  let v4 : BitVec 32 := Scalar.maxsi v3 c0_i32
  let c4_i32 : BitVec 32 := 4#32
  let v5 : BitVec 32 := Scalar.addi c4_i32 arg2
  let c0_i32_0 : BitVec 32 := 0#32
  ![v4.toNat, v5.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.addi c4_i32 arg2
  let c0_i32 : BitVec 32 := 0#32
  let c0_i32_0 : BitVec 32 := 0#32
  ![c0_i32.toNat, v0.toNat]

def cc0_transform_3 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, arg1.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S8x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S4x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, false, true]

abbrev stage0_3 : Fin 2 → Memref sig .tc .vmem S1x8x512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]
-- ==== ConvVRefIdeal.lean ====
abbrev S16384x12288 : Shape := ⟨2, ![16384, 12288]⟩
abbrev S4x8192 : Shape := ⟨2, ![4, 8192]⟩
abbrev S16384x8192 : Shape := ⟨2, ![16384, 8192]⟩
abbrev S2x8192x8192 : Shape := ⟨3, ![2, 8192, 8192]⟩
abbrev S_ : Shape := ⟨0, ![]⟩
abbrev S2x8195x8192 : Shape := ⟨3, ![2, 8195, 8192]⟩
abbrev S1x8192 : Shape := ⟨2, ![1, 8192]⟩
abbrev S8192 : Shape := ⟨1, ![8192]⟩
abbrev S1x1x8192 : Shape := ⟨3, ![1, 1, 8192]⟩
abbrev S2x8192x4096 : Shape := ⟨3, ![2, 8192, 4096]⟩
abbrev S2x8192x32x128 : Shape := ⟨4, ![2, 8192, 32, 128]⟩
abbrev S2x32x8192x128 : Shape := ⟨4, ![2, 32, 8192, 128]⟩

abbrev nBuf : Space → Nat
  | .hbm => 49
  | .vmem => 0
  | .smem => 0
  | _ => 0

abbrev bufTy : (tb : Table) → Fin (tcTables nBuf tb) → BufTy
  | .hbm, ⟨0, _⟩ => ⟨S16384x12288, .f32⟩
  | .hbm, ⟨1, _⟩ => ⟨S4x8192, .f32⟩
  | .hbm, ⟨2, _⟩ => ⟨S16384x8192, .f32⟩
  | .hbm, ⟨3, _⟩ => ⟨S2x8192x8192, .f32⟩
  | .hbm, ⟨4, _⟩ => ⟨S_, .i32⟩
  | .hbm, ⟨5, _⟩ => ⟨S_, .f32⟩
  | .hbm, ⟨6, _⟩ => ⟨S2x8195x8192, .f32⟩
  | .hbm, ⟨7, _⟩ => ⟨S1x8192, .f32⟩
  | .hbm, ⟨8, _⟩ => ⟨S8192, .f32⟩
  | .hbm, ⟨9, _⟩ => ⟨S2x8192x8192, .f32⟩
  | .hbm, ⟨10, _⟩ => ⟨S1x1x8192, .f32⟩
  | .hbm, ⟨11, _⟩ => ⟨S2x8192x8192, .f32⟩
  | .hbm, ⟨12, _⟩ => ⟨S2x8192x8192, .f32⟩
  | .hbm, ⟨13, _⟩ => ⟨S_, .f32⟩
  | .hbm, ⟨14, _⟩ => ⟨S2x8192x8192, .f32⟩
  | .hbm, ⟨15, _⟩ => ⟨S2x8192x8192, .f32⟩
  | .hbm, ⟨16, _⟩ => ⟨S1x8192, .f32⟩
  | .hbm, ⟨17, _⟩ => ⟨S8192, .f32⟩
  | .hbm, ⟨18, _⟩ => ⟨S2x8192x8192, .f32⟩
  | .hbm, ⟨19, _⟩ => ⟨S1x1x8192, .f32⟩
  | .hbm, ⟨20, _⟩ => ⟨S2x8192x8192, .f32⟩
  | .hbm, ⟨21, _⟩ => ⟨S2x8192x8192, .f32⟩
  | .hbm, ⟨22, _⟩ => ⟨S2x8192x8192, .f32⟩
  | .hbm, ⟨23, _⟩ => ⟨S1x8192, .f32⟩
  | .hbm, ⟨24, _⟩ => ⟨S8192, .f32⟩
  | .hbm, ⟨25, _⟩ => ⟨S2x8192x8192, .f32⟩
  | .hbm, ⟨26, _⟩ => ⟨S1x1x8192, .f32⟩
  | .hbm, ⟨27, _⟩ => ⟨S2x8192x8192, .f32⟩
  | .hbm, ⟨28, _⟩ => ⟨S2x8192x8192, .f32⟩
  | .hbm, ⟨29, _⟩ => ⟨S2x8192x8192, .f32⟩
  | .hbm, ⟨30, _⟩ => ⟨S1x8192, .f32⟩
  | .hbm, ⟨31, _⟩ => ⟨S8192, .f32⟩
  | .hbm, ⟨32, _⟩ => ⟨S2x8192x8192, .f32⟩
  | .hbm, ⟨33, _⟩ => ⟨S1x1x8192, .f32⟩
  | .hbm, ⟨34, _⟩ => ⟨S2x8192x8192, .f32⟩
  | .hbm, ⟨35, _⟩ => ⟨S2x8192x8192, .f32⟩
  | .hbm, ⟨36, _⟩ => ⟨S2x8192x8192, .f32⟩
  | .hbm, ⟨37, _⟩ => ⟨S2x8192x8192, .f32⟩
  | .hbm, ⟨38, _⟩ => ⟨S2x8192x8192, .f32⟩
  | .hbm, ⟨39, _⟩ => ⟨S_, .f32⟩
  | .hbm, ⟨40, _⟩ => ⟨S2x8192x8192, .f32⟩
  | .hbm, ⟨41, _⟩ => ⟨S2x8192x8192, .f32⟩
  | .hbm, ⟨42, _⟩ => ⟨S_, .f32⟩
  | .hbm, ⟨43, _⟩ => ⟨S2x8192x8192, .f32⟩
  | .hbm, ⟨44, _⟩ => ⟨S2x8192x8192, .f32⟩
  | .hbm, ⟨45, _⟩ => ⟨S2x8192x8192, .f32⟩
  | .hbm, ⟨46, _⟩ => ⟨S2x8192x4096, .f32⟩
  | .hbm, ⟨47, _⟩ => ⟨S2x8192x32x128, .f32⟩
  | .hbm, ⟨48, _⟩ => ⟨S2x32x8192x128, .f32⟩
  | _, _ => ⟨S16384x12288, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_c : Ref sig .tc := ⟨.hbm, 4, rfl⟩
abbrev main_call0_v0 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_call1_v0 : Ref sig .tc := ⟨.hbm, 37, rfl⟩
abbrev main_call1_v1 : Ref sig .tc := ⟨.hbm, 38, rfl⟩
abbrev main_call1_cst : Ref sig .tc := ⟨.hbm, 39, rfl⟩
abbrev main_call1_v2 : Ref sig .tc := ⟨.hbm, 40, rfl⟩
abbrev main_call1_v3 : Ref sig .tc := ⟨.hbm, 41, rfl⟩
abbrev main_call1_cst_0 : Ref sig .tc := ⟨.hbm, 42, rfl⟩
abbrev main_call1_v4 : Ref sig .tc := ⟨.hbm, 43, rfl⟩
abbrev main_call1_v5 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩

abbrev nD : Nat := 1
abbrev τ : Topo := Topo.v7x

variable {F : FTy → Type} [FloatOps F]
-- ==== ConvQ.lean ====
abbrev S16384x12288 : Shape := ⟨2, ![16384, 12288]⟩
abbrev S4x8192 : Shape := ⟨2, ![4, 8192]⟩
abbrev S2x16x8192x128 : Shape := ⟨4, ![2, 16, 8192, 128]⟩
abbrev S512x1024 : Shape := ⟨2, ![512, 1024]⟩
abbrev S8x1024 : Shape := ⟨2, ![8, 1024]⟩
abbrev S4x1024 : Shape := ⟨2, ![4, 1024]⟩
abbrev S1x8x512x128 : Shape := ⟨4, ![1, 8, 512, 128]⟩
abbrev S520x1024 : Shape := ⟨2, ![520, 1024]⟩
abbrev S1x128 : Shape := ⟨2, ![1, 128]⟩
abbrev S512x128 : Shape := ⟨2, ![512, 128]⟩
abbrev S512 : Shape := ⟨1, ![512]⟩
abbrev S512x1 : Shape := ⟨2, ![512, 1]⟩
abbrev S1x1x512x128 : Shape := ⟨4, ![1, 1, 512, 128]⟩

abbrev nBuf : Space → Nat
  | .hbm => 3
  | .vmem => 9
  | .smem => 0
  | _ => 0

abbrev bufTy : (tb : Table) → Fin (tcTables nBuf tb) → BufTy
  | .hbm, ⟨0, _⟩ => ⟨S16384x12288, .f32⟩
  | .hbm, ⟨1, _⟩ => ⟨S4x8192, .f32⟩
  | .hbm, ⟨2, _⟩ => ⟨S2x16x8192x128, .f32⟩
  | .local _ .vmem, ⟨0, _⟩ => ⟨S512x1024, .f32⟩
  | .local _ .vmem, ⟨1, _⟩ => ⟨S512x1024, .f32⟩
  | .local _ .vmem, ⟨2, _⟩ => ⟨S8x1024, .f32⟩
  | .local _ .vmem, ⟨3, _⟩ => ⟨S8x1024, .f32⟩
  | .local _ .vmem, ⟨4, _⟩ => ⟨S4x1024, .f32⟩
  | .local _ .vmem, ⟨5, _⟩ => ⟨S4x1024, .f32⟩
  | .local _ .vmem, ⟨6, _⟩ => ⟨S1x8x512x128, .f32⟩
  | .local _ .vmem, ⟨7, _⟩ => ⟨S1x8x512x128, .f32⟩
  | .local _ .vmem, ⟨8, _⟩ => ⟨S520x1024, .f32⟩
  | _, _ => ⟨S16384x12288, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![2, 16, 2], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let v1 : BitVec 32 := Scalar.addi v0 arg1
  let c0_i32 : BitVec 32 := 0#32
  let v2 : BitVec 32 := Scalar.addi c0_i32 arg2
  let c0_i32_0 : BitVec 32 := 0#32
  ![v1.toNat, v2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let v1 : BitVec 32 := Scalar.addi v0 arg1
  let c64_i32 : BitVec 32 := 64#32
  let v2 : BitVec 32 := Scalar.muli v1 c64_i32
  let c1_i32 : BitVec 32 := 1#32
  let v3 : BitVec 32 := Scalar.subi v2 c1_i32
  let c0_i32 : BitVec 32 := 0#32
  let v4 : BitVec 32 := Scalar.maxsi v3 c0_i32
  let c0_i32_0 : BitVec 32 := 0#32
  let v5 : BitVec 32 := Scalar.addi c0_i32_0 arg2
  let c0_i32_1 : BitVec 32 := 0#32
  ![v4.toNat, v5.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg2
  let c0_i32_0 : BitVec 32 := 0#32
  let c0_i32_1 : BitVec 32 := 0#32
  ![c0_i32_0.toNat, v0.toNat]

def cc0_transform_3 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, arg1.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S8x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S4x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, false, true]

abbrev stage0_3 : Fin 2 → Memref sig .tc .vmem S1x8x512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]
-- ==== ConvQRefIdeal.lean ====
abbrev S16384x12288 : Shape := ⟨2, ![16384, 12288]⟩
abbrev S4x8192 : Shape := ⟨2, ![4, 8192]⟩
abbrev S16384x8192 : Shape := ⟨2, ![16384, 8192]⟩
abbrev S2x8192x8192 : Shape := ⟨3, ![2, 8192, 8192]⟩
abbrev S_ : Shape := ⟨0, ![]⟩
abbrev S2x8195x8192 : Shape := ⟨3, ![2, 8195, 8192]⟩
abbrev S1x8192 : Shape := ⟨2, ![1, 8192]⟩
abbrev S8192 : Shape := ⟨1, ![8192]⟩
abbrev S1x1x8192 : Shape := ⟨3, ![1, 1, 8192]⟩
abbrev S2x8192x2048 : Shape := ⟨3, ![2, 8192, 2048]⟩
abbrev S2x8192x16x128 : Shape := ⟨4, ![2, 8192, 16, 128]⟩
abbrev S2x8192x16 : Shape := ⟨3, ![2, 8192, 16]⟩
abbrev S2x8192x16x1 : Shape := ⟨4, ![2, 8192, 16, 1]⟩
abbrev S2x16x8192x128 : Shape := ⟨4, ![2, 16, 8192, 128]⟩

abbrev nBuf : Space → Nat
  | .hbm => 62
  | .vmem => 0
  | .smem => 0
  | _ => 0

abbrev bufTy : (tb : Table) → Fin (tcTables nBuf tb) → BufTy
  | .hbm, ⟨0, _⟩ => ⟨S16384x12288, .f32⟩
  | .hbm, ⟨1, _⟩ => ⟨S4x8192, .f32⟩
  | .hbm, ⟨2, _⟩ => ⟨S16384x8192, .f32⟩
  | .hbm, ⟨3, _⟩ => ⟨S2x8192x8192, .f32⟩
  | .hbm, ⟨4, _⟩ => ⟨S_, .i32⟩
  | .hbm, ⟨5, _⟩ => ⟨S_, .f32⟩
  | .hbm, ⟨6, _⟩ => ⟨S2x8195x8192, .f32⟩
  | .hbm, ⟨7, _⟩ => ⟨S1x8192, .f32⟩
  | .hbm, ⟨8, _⟩ => ⟨S8192, .f32⟩
  | .hbm, ⟨9, _⟩ => ⟨S2x8192x8192, .f32⟩
  | .hbm, ⟨10, _⟩ => ⟨S1x1x8192, .f32⟩
  | .hbm, ⟨11, _⟩ => ⟨S2x8192x8192, .f32⟩
  | .hbm, ⟨12, _⟩ => ⟨S2x8192x8192, .f32⟩
  | .hbm, ⟨13, _⟩ => ⟨S_, .f32⟩
  | .hbm, ⟨14, _⟩ => ⟨S2x8192x8192, .f32⟩
  | .hbm, ⟨15, _⟩ => ⟨S2x8192x8192, .f32⟩
  | .hbm, ⟨16, _⟩ => ⟨S1x8192, .f32⟩
  | .hbm, ⟨17, _⟩ => ⟨S8192, .f32⟩
  | .hbm, ⟨18, _⟩ => ⟨S2x8192x8192, .f32⟩
  | .hbm, ⟨19, _⟩ => ⟨S1x1x8192, .f32⟩
  | .hbm, ⟨20, _⟩ => ⟨S2x8192x8192, .f32⟩
  | .hbm, ⟨21, _⟩ => ⟨S2x8192x8192, .f32⟩
  | .hbm, ⟨22, _⟩ => ⟨S2x8192x8192, .f32⟩
  | .hbm, ⟨23, _⟩ => ⟨S1x8192, .f32⟩
  | .hbm, ⟨24, _⟩ => ⟨S8192, .f32⟩
  | .hbm, ⟨25, _⟩ => ⟨S2x8192x8192, .f32⟩
  | .hbm, ⟨26, _⟩ => ⟨S1x1x8192, .f32⟩
  | .hbm, ⟨27, _⟩ => ⟨S2x8192x8192, .f32⟩
  | .hbm, ⟨28, _⟩ => ⟨S2x8192x8192, .f32⟩
  | .hbm, ⟨29, _⟩ => ⟨S2x8192x8192, .f32⟩
  | .hbm, ⟨30, _⟩ => ⟨S1x8192, .f32⟩
  | .hbm, ⟨31, _⟩ => ⟨S8192, .f32⟩
  | .hbm, ⟨32, _⟩ => ⟨S2x8192x8192, .f32⟩
  | .hbm, ⟨33, _⟩ => ⟨S1x1x8192, .f32⟩
  | .hbm, ⟨34, _⟩ => ⟨S2x8192x8192, .f32⟩
  | .hbm, ⟨35, _⟩ => ⟨S2x8192x8192, .f32⟩
  | .hbm, ⟨36, _⟩ => ⟨S2x8192x8192, .f32⟩
  | .hbm, ⟨37, _⟩ => ⟨S2x8192x8192, .f32⟩
  | .hbm, ⟨38, _⟩ => ⟨S2x8192x8192, .f32⟩
  | .hbm, ⟨39, _⟩ => ⟨S_, .f32⟩
  | .hbm, ⟨40, _⟩ => ⟨S2x8192x8192, .f32⟩
  | .hbm, ⟨41, _⟩ => ⟨S2x8192x8192, .f32⟩
  | .hbm, ⟨42, _⟩ => ⟨S_, .f32⟩
  | .hbm, ⟨43, _⟩ => ⟨S2x8192x8192, .f32⟩
  | .hbm, ⟨44, _⟩ => ⟨S2x8192x8192, .f32⟩
  | .hbm, ⟨45, _⟩ => ⟨S2x8192x8192, .f32⟩
  | .hbm, ⟨46, _⟩ => ⟨S2x8192x2048, .f32⟩
  | .hbm, ⟨47, _⟩ => ⟨S2x8192x16x128, .f32⟩
  | .hbm, ⟨48, _⟩ => ⟨S2x8192x16x128, .f32⟩
  | .hbm, ⟨49, _⟩ => ⟨S_, .f32⟩
  | .hbm, ⟨50, _⟩ => ⟨S2x8192x16, .f32⟩
  | .hbm, ⟨51, _⟩ => ⟨S2x8192x16x1, .f32⟩
  | .hbm, ⟨52, _⟩ => ⟨S_, .f32⟩
  | .hbm, ⟨53, _⟩ => ⟨S2x8192x16x1, .f32⟩
  | .hbm, ⟨54, _⟩ => ⟨S2x8192x16x1, .f32⟩
  | .hbm, ⟨55, _⟩ => ⟨S2x8192x16x1, .f32⟩
  | .hbm, ⟨56, _⟩ => ⟨S2x8192x16x128, .f32⟩
  | .hbm, ⟨57, _⟩ => ⟨S2x8192x16x128, .f32⟩
  | .hbm, ⟨58, _⟩ => ⟨S_, .f32⟩
  | .hbm, ⟨59, _⟩ => ⟨S2x8192x16x128, .f32⟩
  | .hbm, ⟨60, _⟩ => ⟨S2x8192x16x128, .f32⟩
  | .hbm, ⟨61, _⟩ => ⟨S2x16x8192x128, .f32⟩
  | _, _ => ⟨S16384x12288, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_c : Ref sig .tc := ⟨.hbm, 4, rfl⟩
abbrev main_call0_v0 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_call1_v0 : Ref sig .tc := ⟨.hbm, 37, rfl⟩
abbrev main_call1_v1 : Ref sig .tc := ⟨.hbm, 38, rfl⟩
abbrev main_call1_cst : Ref sig .tc := ⟨.hbm, 39, rfl⟩
abbrev main_call1_v2 : Ref sig .tc := ⟨.hbm, 40, rfl⟩
abbrev main_call1_v3 : Ref sig .tc := ⟨.hbm, 41, rfl⟩
abbrev main_call1_cst_0 : Ref sig .tc := ⟨.hbm, 42, rfl⟩
abbrev main_call1_v4 : Ref sig .tc := ⟨.hbm, 43, rfl⟩
abbrev main_call1_v5 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_cst_0 : Ref sig .tc := ⟨.hbm, 49, rfl⟩
abbrev main_v36 : Ref sig .tc := ⟨.hbm, 50, rfl⟩
abbrev main_v37 : Ref sig .tc := ⟨.hbm, 51, rfl⟩
abbrev main_cst_1 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_cst_2 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩

abbrev nD : Nat := 1
abbrev τ : Topo := Topo.v7x

variable {F : FTy → Type} [FloatOps F]
-- ==== ConvK.lean ====
abbrev S16384x12288 : Shape := ⟨2, ![16384, 12288]⟩
abbrev S4x8192 : Shape := ⟨2, ![4, 8192]⟩
abbrev S2x16x8192x128 : Shape := ⟨4, ![2, 16, 8192, 128]⟩
abbrev S2x16x128x8192 : Shape := ⟨4, ![2, 16, 128, 8192]⟩
abbrev S512x1024 : Shape := ⟨2, ![512, 1024]⟩
abbrev S8x1024 : Shape := ⟨2, ![8, 1024]⟩
abbrev S4x1024 : Shape := ⟨2, ![4, 1024]⟩
abbrev S1x8x512x128 : Shape := ⟨4, ![1, 8, 512, 128]⟩
abbrev S1x8x128x512 : Shape := ⟨4, ![1, 8, 128, 512]⟩
abbrev S520x1024 : Shape := ⟨2, ![520, 1024]⟩
abbrev S1x128 : Shape := ⟨2, ![1, 128]⟩
abbrev S512x128 : Shape := ⟨2, ![512, 128]⟩
abbrev S512 : Shape := ⟨1, ![512]⟩
abbrev S512x1 : Shape := ⟨2, ![512, 1]⟩
abbrev S1x1x512x128 : Shape := ⟨4, ![1, 1, 512, 128]⟩
abbrev S128x512 : Shape := ⟨2, ![128, 512]⟩
abbrev S1x1x128x512 : Shape := ⟨4, ![1, 1, 128, 512]⟩

abbrev nBuf : Space → Nat
  | .hbm => 4
  | .vmem => 11
  | .smem => 0
  | _ => 0

abbrev bufTy : (tb : Table) → Fin (tcTables nBuf tb) → BufTy
  | .hbm, ⟨0, _⟩ => ⟨S16384x12288, .f32⟩
  | .hbm, ⟨1, _⟩ => ⟨S4x8192, .f32⟩
  | .hbm, ⟨2, _⟩ => ⟨S2x16x8192x128, .f32⟩
  | .hbm, ⟨3, _⟩ => ⟨S2x16x128x8192, .f32⟩
  | .local _ .vmem, ⟨0, _⟩ => ⟨S512x1024, .f32⟩
  | .local _ .vmem, ⟨1, _⟩ => ⟨S512x1024, .f32⟩
  | .local _ .vmem, ⟨2, _⟩ => ⟨S8x1024, .f32⟩
  | .local _ .vmem, ⟨3, _⟩ => ⟨S8x1024, .f32⟩
  | .local _ .vmem, ⟨4, _⟩ => ⟨S4x1024, .f32⟩
  | .local _ .vmem, ⟨5, _⟩ => ⟨S4x1024, .f32⟩
  | .local _ .vmem, ⟨6, _⟩ => ⟨S1x8x512x128, .f32⟩
  | .local _ .vmem, ⟨7, _⟩ => ⟨S1x8x512x128, .f32⟩
  | .local _ .vmem, ⟨8, _⟩ => ⟨S1x8x128x512, .f32⟩
  | .local _ .vmem, ⟨9, _⟩ => ⟨S1x8x128x512, .f32⟩
  | .local _ .vmem, ⟨10, _⟩ => ⟨S520x1024, .f32⟩
  | _, _ => ⟨S16384x12288, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![2, 16, 2], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let v1 : BitVec 32 := Scalar.addi v0 arg1
  let c2_i32 : BitVec 32 := 2#32
  let v2 : BitVec 32 := Scalar.addi c2_i32 arg2
  let c0_i32 : BitVec 32 := 0#32
  ![v1.toNat, v2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let v1 : BitVec 32 := Scalar.addi v0 arg1
  let c64_i32 : BitVec 32 := 64#32
  let v2 : BitVec 32 := Scalar.muli v1 c64_i32
  let c1_i32 : BitVec 32 := 1#32
  let v3 : BitVec 32 := Scalar.subi v2 c1_i32
  let c0_i32 : BitVec 32 := 0#32
  let v4 : BitVec 32 := Scalar.maxsi v3 c0_i32
  let c2_i32 : BitVec 32 := 2#32
  let v5 : BitVec 32 := Scalar.addi c2_i32 arg2
  let c0_i32_0 : BitVec 32 := 0#32
  ![v4.toNat, v5.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.addi c2_i32 arg2
  let c0_i32 : BitVec 32 := 0#32
  let c0_i32_0 : BitVec 32 := 0#32
  ![c0_i32.toNat, v0.toNat]

def cc0_transform_3 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, arg1.toNat, c0_i32.toNat]

def cc0_transform_4 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat, arg1.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S8x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S4x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, false, true]

abbrev stage0_3 : Fin 2 → Memref sig .tc .vmem S1x8x512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S1x8x128x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]
-- ==== ConvKRefIdeal.lean ====
abbrev S16384x12288 : Shape := ⟨2, ![16384, 12288]⟩
abbrev S4x8192 : Shape := ⟨2, ![4, 8192]⟩
abbrev S16384x8192 : Shape := ⟨2, ![16384, 8192]⟩
abbrev S2x8192x8192 : Shape := ⟨3, ![2, 8192, 8192]⟩
abbrev S_ : Shape := ⟨0, ![]⟩
abbrev S2x8195x8192 : Shape := ⟨3, ![2, 8195, 8192]⟩
abbrev S1x8192 : Shape := ⟨2, ![1, 8192]⟩
abbrev S8192 : Shape := ⟨1, ![8192]⟩
abbrev S1x1x8192 : Shape := ⟨3, ![1, 1, 8192]⟩
abbrev S2x8192x2048 : Shape := ⟨3, ![2, 8192, 2048]⟩
abbrev S2x8192x16x128 : Shape := ⟨4, ![2, 8192, 16, 128]⟩
abbrev S2x8192x16 : Shape := ⟨3, ![2, 8192, 16]⟩
abbrev S2x8192x16x1 : Shape := ⟨4, ![2, 8192, 16, 1]⟩
abbrev S2x16x8192x128 : Shape := ⟨4, ![2, 16, 8192, 128]⟩
abbrev S2x16x128x8192 : Shape := ⟨4, ![2, 16, 128, 8192]⟩

abbrev nBuf : Space → Nat
  | .hbm => 60
  | .vmem => 0
  | .smem => 0
  | _ => 0

abbrev bufTy : (tb : Table) → Fin (tcTables nBuf tb) → BufTy
  | .hbm, ⟨0, _⟩ => ⟨S16384x12288, .f32⟩
  | .hbm, ⟨1, _⟩ => ⟨S4x8192, .f32⟩
  | .hbm, ⟨2, _⟩ => ⟨S16384x8192, .f32⟩
  | .hbm, ⟨3, _⟩ => ⟨S2x8192x8192, .f32⟩
  | .hbm, ⟨4, _⟩ => ⟨S_, .i32⟩
  | .hbm, ⟨5, _⟩ => ⟨S_, .f32⟩
  | .hbm, ⟨6, _⟩ => ⟨S2x8195x8192, .f32⟩
  | .hbm, ⟨7, _⟩ => ⟨S1x8192, .f32⟩
  | .hbm, ⟨8, _⟩ => ⟨S8192, .f32⟩
  | .hbm, ⟨9, _⟩ => ⟨S2x8192x8192, .f32⟩
  | .hbm, ⟨10, _⟩ => ⟨S1x1x8192, .f32⟩
  | .hbm, ⟨11, _⟩ => ⟨S2x8192x8192, .f32⟩
  | .hbm, ⟨12, _⟩ => ⟨S2x8192x8192, .f32⟩
  | .hbm, ⟨13, _⟩ => ⟨S_, .f32⟩
  | .hbm, ⟨14, _⟩ => ⟨S2x8192x8192, .f32⟩
  | .hbm, ⟨15, _⟩ => ⟨S2x8192x8192, .f32⟩
  | .hbm, ⟨16, _⟩ => ⟨S1x8192, .f32⟩
  | .hbm, ⟨17, _⟩ => ⟨S8192, .f32⟩
  | .hbm, ⟨18, _⟩ => ⟨S2x8192x8192, .f32⟩
  | .hbm, ⟨19, _⟩ => ⟨S1x1x8192, .f32⟩
  | .hbm, ⟨20, _⟩ => ⟨S2x8192x8192, .f32⟩
  | .hbm, ⟨21, _⟩ => ⟨S2x8192x8192, .f32⟩
  | .hbm, ⟨22, _⟩ => ⟨S2x8192x8192, .f32⟩
  | .hbm, ⟨23, _⟩ => ⟨S1x8192, .f32⟩
  | .hbm, ⟨24, _⟩ => ⟨S8192, .f32⟩
  | .hbm, ⟨25, _⟩ => ⟨S2x8192x8192, .f32⟩
  | .hbm, ⟨26, _⟩ => ⟨S1x1x8192, .f32⟩
  | .hbm, ⟨27, _⟩ => ⟨S2x8192x8192, .f32⟩
  | .hbm, ⟨28, _⟩ => ⟨S2x8192x8192, .f32⟩
  | .hbm, ⟨29, _⟩ => ⟨S2x8192x8192, .f32⟩
  | .hbm, ⟨30, _⟩ => ⟨S1x8192, .f32⟩
  | .hbm, ⟨31, _⟩ => ⟨S8192, .f32⟩
  | .hbm, ⟨32, _⟩ => ⟨S2x8192x8192, .f32⟩
  | .hbm, ⟨33, _⟩ => ⟨S1x1x8192, .f32⟩
  | .hbm, ⟨34, _⟩ => ⟨S2x8192x8192, .f32⟩
  | .hbm, ⟨35, _⟩ => ⟨S2x8192x8192, .f32⟩
  | .hbm, ⟨36, _⟩ => ⟨S2x8192x8192, .f32⟩
  | .hbm, ⟨37, _⟩ => ⟨S2x8192x8192, .f32⟩
  | .hbm, ⟨38, _⟩ => ⟨S2x8192x8192, .f32⟩
  | .hbm, ⟨39, _⟩ => ⟨S_, .f32⟩
  | .hbm, ⟨40, _⟩ => ⟨S2x8192x8192, .f32⟩
  | .hbm, ⟨41, _⟩ => ⟨S2x8192x8192, .f32⟩
  | .hbm, ⟨42, _⟩ => ⟨S_, .f32⟩
  | .hbm, ⟨43, _⟩ => ⟨S2x8192x8192, .f32⟩
  | .hbm, ⟨44, _⟩ => ⟨S2x8192x8192, .f32⟩
  | .hbm, ⟨45, _⟩ => ⟨S2x8192x8192, .f32⟩
  | .hbm, ⟨46, _⟩ => ⟨S2x8192x2048, .f32⟩
  | .hbm, ⟨47, _⟩ => ⟨S2x8192x16x128, .f32⟩
  | .hbm, ⟨48, _⟩ => ⟨S2x8192x16x128, .f32⟩
  | .hbm, ⟨49, _⟩ => ⟨S_, .f32⟩
  | .hbm, ⟨50, _⟩ => ⟨S2x8192x16, .f32⟩
  | .hbm, ⟨51, _⟩ => ⟨S2x8192x16x1, .f32⟩
  | .hbm, ⟨52, _⟩ => ⟨S_, .f32⟩
  | .hbm, ⟨53, _⟩ => ⟨S2x8192x16x1, .f32⟩
  | .hbm, ⟨54, _⟩ => ⟨S2x8192x16x1, .f32⟩
  | .hbm, ⟨55, _⟩ => ⟨S2x8192x16x1, .f32⟩
  | .hbm, ⟨56, _⟩ => ⟨S2x8192x16x128, .f32⟩
  | .hbm, ⟨57, _⟩ => ⟨S2x8192x16x128, .f32⟩
  | .hbm, ⟨58, _⟩ => ⟨S2x16x8192x128, .f32⟩
  | .hbm, ⟨59, _⟩ => ⟨S2x16x128x8192, .f32⟩
  | _, _ => ⟨S16384x12288, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_c : Ref sig .tc := ⟨.hbm, 4, rfl⟩
abbrev main_call0_v0 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_call1_v0 : Ref sig .tc := ⟨.hbm, 37, rfl⟩
abbrev main_call1_v1 : Ref sig .tc := ⟨.hbm, 38, rfl⟩
abbrev main_call1_cst : Ref sig .tc := ⟨.hbm, 39, rfl⟩
abbrev main_call1_v2 : Ref sig .tc := ⟨.hbm, 40, rfl⟩
abbrev main_call1_v3 : Ref sig .tc := ⟨.hbm, 41, rfl⟩
abbrev main_call1_cst_0 : Ref sig .tc := ⟨.hbm, 42, rfl⟩
abbrev main_call1_v4 : Ref sig .tc := ⟨.hbm, 43, rfl⟩
abbrev main_call1_v5 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_cst_0 : Ref sig .tc := ⟨.hbm, 49, rfl⟩
abbrev main_v36 : Ref sig .tc := ⟨.hbm, 50, rfl⟩
abbrev main_v37 : Ref sig .tc := ⟨.hbm, 51, rfl⟩
abbrev main_cst_1 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩

abbrev nD : Nat := 1
abbrev τ : Topo := Topo.v7x

variable {F : FTy → Type} [FloatOps F]
-- ==== GateProj.lean ====
abbrev S16384x2048 : Shape := ⟨2, ![16384, 2048]⟩
abbrev S2048 : Shape := ⟨1, ![2048]⟩
abbrev S2048x12352 : Shape := ⟨2, ![2048, 12352]⟩
abbrev S2048x64 : Shape := ⟨2, ![2048, 64]⟩
abbrev S_ : Shape := ⟨0, ![]⟩
abbrev S2048x128 : Shape := ⟨2, ![2048, 128]⟩
abbrev S128x2048 : Shape := ⟨2, ![128, 2048]⟩
abbrev S1x2048 : Shape := ⟨2, ![1, 2048]⟩
abbrev S128x16384 : Shape := ⟨2, ![128, 16384]⟩
abbrev S2048x16384 : Shape := ⟨2, ![2048, 16384]⟩
abbrev S512x2048 : Shape := ⟨2, ![512, 2048]⟩
abbrev S128x512 : Shape := ⟨2, ![128, 512]⟩
abbrev S2048x512 : Shape := ⟨2, ![2048, 512]⟩
abbrev S512 : Shape := ⟨1, ![512]⟩
abbrev S512x1 : Shape := ⟨2, ![512, 1]⟩

abbrev nBuf : Space → Nat
  | .hbm => 12
  | .vmem => 8
  | .smem => 0
  | _ => 0

abbrev bufTy : (tb : Table) → Fin (tcTables nBuf tb) → BufTy
  | .hbm, ⟨0, _⟩ => ⟨S16384x2048, .f32⟩
  | .hbm, ⟨1, _⟩ => ⟨S2048, .f32⟩
  | .hbm, ⟨2, _⟩ => ⟨S2048x12352, .f32⟩
  | .hbm, ⟨3, _⟩ => ⟨S2048x64, .f32⟩
  | .hbm, ⟨4, _⟩ => ⟨S_, .i32⟩
  | .hbm, ⟨5, _⟩ => ⟨S_, .f32⟩
  | .hbm, ⟨6, _⟩ => ⟨S2048x128, .f32⟩
  | .hbm, ⟨7, _⟩ => ⟨S128x2048, .f32⟩
  | .hbm, ⟨8, _⟩ => ⟨S128x2048, .bf16⟩
  | .hbm, ⟨9, _⟩ => ⟨S1x2048, .f32⟩
  | .hbm, ⟨10, _⟩ => ⟨S128x16384, .f32⟩
  | .hbm, ⟨11, _⟩ => ⟨S2048x16384, .bf16⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S128x2048, .bf16⟩
  | .local _ .vmem, ⟨4, _⟩ => ⟨S128x512, .f32⟩
  | .local _ .vmem, ⟨5, _⟩ => ⟨S128x512, .f32⟩
  | .local _ .vmem, ⟨6, _⟩ => ⟨S2048x512, .bf16⟩
  | .local _ .vmem, ⟨7, _⟩ => ⟨S2048x512, .bf16⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_call0_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5_0 : Ref sig .tc := ⟨.hbm, 10, rfl⟩
abbrev main_v5_1 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨2, ![32, 1], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S128x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, true]

abbrev stage0_3 : Fin 2 → Memref sig .tc .vmem S128x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S2048x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== GateProjRefIdeal.lean ====
abbrev S16384x2048 : Shape := ⟨2, ![16384, 2048]⟩
abbrev S2048 : Shape := ⟨1, ![2048]⟩
abbrev S2048x12352 : Shape := ⟨2, ![2048, 12352]⟩
abbrev S_ : Shape := ⟨0, ![]⟩
abbrev S16384 : Shape := ⟨1, ![16384]⟩
abbrev S16384x1 : Shape := ⟨2, ![16384, 1]⟩
abbrev S1x2048 : Shape := ⟨2, ![1, 2048]⟩
abbrev S16384x12352 : Shape := ⟨2, ![16384, 12352]⟩
abbrev S16384x64 : Shape := ⟨2, ![16384, 64]⟩
abbrev S16384x128 : Shape := ⟨2, ![16384, 128]⟩
abbrev S128x16384 : Shape := ⟨2, ![128, 16384]⟩
abbrev S2048x16384 : Shape := ⟨2, ![2048, 16384]⟩

abbrev nBuf : Space → Nat
  | .hbm => 27
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S2048, .f32⟩
  | .hbm, ⟨2, _⟩ => ⟨S2048x12352, .f32⟩
  | .hbm, ⟨3, _⟩ => ⟨S16384x2048, .f32⟩
  | .hbm, ⟨4, _⟩ => ⟨S_, .f32⟩
  | .hbm, ⟨5, _⟩ => ⟨S16384, .f32⟩
  | .hbm, ⟨6, _⟩ => ⟨S16384x1, .f32⟩
  | .hbm, ⟨7, _⟩ => ⟨S_, .f32⟩
  | .hbm, ⟨8, _⟩ => ⟨S16384x1, .f32⟩
  | .hbm, ⟨9, _⟩ => ⟨S16384x1, .f32⟩
  | .hbm, ⟨10, _⟩ => ⟨S_, .f32⟩
  | .hbm, ⟨11, _⟩ => ⟨S16384x1, .f32⟩
  | .hbm, ⟨12, _⟩ => ⟨S16384x1, .f32⟩
  | .hbm, ⟨13, _⟩ => ⟨S16384x1, .f32⟩
  | .hbm, ⟨14, _⟩ => ⟨S16384x2048, .f32⟩
  | .hbm, ⟨15, _⟩ => ⟨S16384x2048, .f32⟩
  | .hbm, ⟨16, _⟩ => ⟨S1x2048, .f32⟩
  | .hbm, ⟨17, _⟩ => ⟨S16384x2048, .f32⟩
  | .hbm, ⟨18, _⟩ => ⟨S16384x2048, .f32⟩
  | .hbm, ⟨19, _⟩ => ⟨S16384x12352, .f32⟩
  | .hbm, ⟨20, _⟩ => ⟨S16384x64, .f32⟩
  | .hbm, ⟨21, _⟩ => ⟨S_, .i32⟩
  | .hbm, ⟨22, _⟩ => ⟨S_, .f32⟩
  | .hbm, ⟨23, _⟩ => ⟨S16384x128, .f32⟩
  | .hbm, ⟨24, _⟩ => ⟨S128x16384, .f32⟩
  | .hbm, ⟨25, _⟩ => ⟨S2048x16384, .f32⟩
  | .hbm, ⟨26, _⟩ => ⟨S2048x16384, .bf16⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_c : Ref sig .tc := ⟨.hbm, 21, rfl⟩
abbrev main_call0_v0 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩

abbrev nD : Nat := 1
abbrev τ : Topo := Topo.v7x

variable {F : FTy → Type} [FloatOps F]
-- ==== Proof.ScanBody.lean ====
/-
  One grid point of the recurrence kernel, as mathematics over its blocks. The body walks four chunks; in each chunk, for each of the sixteen heads of its
  group, it forms five values (below, `ws`, `vn`, `rs`, `st`, `ot`), stores the head's new state into the carried scratch and a 64 × 128 tile into the output
  block. The stores are listed here once, by recursion over the heads (`stateList`, `outList`), and read back once, by induction (`pointStates_reads`,
  `pointOuts_eq`): the scratch ends as `step` applied four times, the output block as `outBlk`.
-/
module

public import proofs.«01_k».proof.Proof.Gen.KernelIdeal.Frame
public import Idealize.ShloMosaic.Lib.Pipeline.ValueKit
public import Idealize.ShloMosaic.Lib.Pipeline.ReadBack

@[expose] public section

set_option maxRecDepth 16384

noncomputable section

namespace Cert.KernelIdeal.Scan

open Cert.KernelIdeal Cert.KernelIdeal.Gen Idealize.ShloMosaic Idealize.ShloMosaic.TcCoe Idealize.SL.Sem
open Idealize.ShloMosaic.View (Piece ld)

variable {F : FTy → Type} [FloatOps F]

/-! ## The rectangles of a point: head `k` of the group, chunk `i` of the four -/

theorem rS_inb (k : Fin 16) : ∀ a, (![k.val, 0, 0] : Fin 3 → ℕ) a + S1x128x128.size a ≤ S16x128x128.size a := by
  intro a; fin_cases a <;> simp [S1x128x128, S16x128x128] <;> omega
/-- Head `k`'s state in the scratch. -/
abbrev rS (k : Fin 16) : Rect S16x128x128 := Rect.unit ![k.val, 0, 0] S1x128x128.size (rS_inb k)
/-- Chunk `i`, head `k` of `u`. -/
abbrev rU (i : Fin 4) (k : Fin 16) : Rect S1x16x256x128 := Rect.unit ![0, k.val, 64 * i.val, 0] S1x1x64x128.size (by
  intro a; fin_cases a <;> simp [S1x1x64x128, S1x16x256x128] <;> omega)
/-- Chunk `i`, head `k` of the first stacked operand. -/
abbrev rL1 (i : Fin 4) (k : Fin 16) : Rect S1x16x4x128x128 := Rect.unit ![0, k.val, i.val, 0, 0] S1x1x1x128x128.size (by
  intro a; fin_cases a <;> simp [S1x1x1x128x128, S1x16x4x128x128] <;> omega)
/-- Chunk `i`, head `k` of the second stacked operand. -/
abbrev rL2 (i : Fin 4) (k : Fin 16) : Rect S1x16x4x192x64 := Rect.unit ![0, k.val, i.val, 0, 0] S1x1x1x192x64.size (by
  intro a; fin_cases a <;> simp [S1x1x1x192x64, S1x16x4x192x64] <;> omega)
/-- Chunk `i`, head `k` of the decays. -/
abbrev rE (i : Fin 4) (k : Fin 16) : Rect S1x16x4x1x128 := Rect.unit ![0, k.val, i.val, 0, 0] S1x1x1x1x128.size (by
  intro a; fin_cases a <;> simp [S1x1x1x1x128, S1x16x4x1x128] <;> omega)
/-- Chunk `i`, head `k` of the gate's block and of the output block: rows `64 i …`, lanes `128 k …`. -/
abbrev rO (i : Fin 4) (k : Fin 16) : Rect S256x2048 := Rect.unit ![64 * i.val, 128 * k.val] S64x128.size (by
  intro a; fin_cases a <;> simp [S64x128, S256x2048] <;> omega)

/-! ## What a chunk computes for one head -/

/-- The loads of a point, by chunk and head. -/
structure Loads (F : FTy → Type) [FloatOps F] where
  /-- `u` -/
  u : Fin 4 → Fin 16 → Vec F S1x1x64x128 .f32
  /-- `[w; q exp g]` -/
  l1 : Fin 4 → Fin 16 → Vec F S1x1x1x128x128 .bf16
  /-- `[qk; k exp (g_last - g)]` -/
  l2 : Fin 4 → Fin 16 → Vec F S1x1x1x192x64 .bf16
  /-- the decay -/
  e : Fin 4 → Fin 16 → Vec F S1x1x1x1x128 .f32
  /-- the gate -/
  z : Fin 4 → Fin 16 → Vec F S64x128 .f32
  /-- the norm's gain -/
  g : Vec F S1x128 .f32

variable (L : Loads F)

/-- The first stacked operand times the state. -/
abbrev ws (i : Fin 4) (k : Fin 16) (s : Vec F S1x128x128 .f32) : FVec F S128x128 .f32 := k0_pay4 (L.l1 i k) s
/-- The chunk's new values: `u` less the product's first half. -/
abbrev vn (i : Fin 4) (k : Fin 16) (s : Vec F S1x128x128 .f32) : FVec F S64x128 .bf16 := k0_pay20 (ws L i k s) (L.u i k)
/-- The second stacked operand times the new values. -/
abbrev rs (i : Fin 4) (k : Fin 16) (s : Vec F S1x128x128 .f32) : FVec F S192x128 .f32 := k0_pay37 (vn L i k s) (L.l2 i k)
/-- The head's state after the chunk (`s'` is the state as it is read again for the update). -/
abbrev st (i : Fin 4) (k : Fin 16) (s s' : Vec F S1x128x128 .f32) : Vec F S1x128x128 .f32 := k0_pay54 (rs L i k s) s' (L.e i k)
/-- The chunk's tile of the output. -/
abbrev ot (i : Fin 4) (k : Fin 16) (s : Vec F S1x128x128 .f32) : Vec F S64x128 .bf16 := k0_pay75 (k0_pay3 L.g) (ws L i k s) (rs L i k s) (L.z i k)

/-- All heads' states after chunk `i`, from the states `S` before it. -/
def step (i : Fin 4) (S : Vec F S16x128x128 .f32) : Vec F S16x128x128 .f32 := fun x =>
  st L i (x 0) (ld S (rS (x 0))) (ld S (rS (x 0))) (ix3 0 (x 1) (x 2))

/-- The states after the first `n` chunks of the point. -/
def states (S : Vec F S16x128x128 .f32) : ℕ → Vec F S16x128x128 .f32
  | 0 => S
  | n + 1 => if h : n < 4 then step L ⟨n, h⟩ (states S n) else states S n

/-- The output block of a point that starts from the states `S`. -/
def outBlk (S : Vec F S16x128x128 .f32) : Vec F S256x2048 .bf16 := fun y =>
  have h0 : (y 0).val < 256 := (y 0).isLt
  have h1 : (y 1).val < 2048 := (y 1).isLt
  let i : Fin 4 := ⟨(y 0).val / 64, by omega⟩
  let k : Fin 16 := ⟨(y 1).val / 128, by omega⟩
  ot L i k (ld (states L S i.val) (rS k)) (ix2 ⟨(y 0).val % 64, by omega⟩ ⟨(y 1).val % 128, by omega⟩)

/-! ## The stores, listed -/

/-- A load of the scratch: over the stores made so far in this point, one head's state. -/
abbrev Rd (F : FTy → Type) [FloatOps F] := List (Piece (Elt F) S16x128x128 .f32) → Fin 16 → Vec F S1x128x128 .f32

/-- The state stores of chunk `i`'s first `n` heads, over the stores `B` before the chunk (newest first). -/
def stateList (rd : Rd F) (i : Fin 4) (B : List (Piece (Elt F) S16x128x128 .f32)) : (n : ℕ) → n ≤ 16 → List (Piece (Elt F) S16x128x128 .f32)
  | 0, _ => B
  | n + 1, h => ⟨rS ⟨n, h⟩, st L i ⟨n, h⟩ (rd B ⟨n, h⟩) (rd (stateList rd i B n (Nat.le_of_succ_le h)) ⟨n, h⟩)⟩ ::
      stateList rd i B n (Nat.le_of_succ_le h)

/-- The output stores of chunk `i`'s first `n` heads, over the earlier chunks' `O`. -/
def outList (rd : Rd F) (i : Fin 4) (B : List (Piece (Elt F) S16x128x128 .f32)) (O : List (Piece (Elt F) S256x2048 .bf16)) :
    (n : ℕ) → n ≤ 16 → List (Piece (Elt F) S256x2048 .bf16)
  | 0, _ => O
  | n + 1, h => ⟨rO i ⟨n, h⟩, ot L i ⟨n, h⟩ (rd B ⟨n, h⟩)⟩ :: outList rd i B O n (Nat.le_of_succ_le h)

/-! ## The stores, read back -/

/-- A load that finds the states `S` over the stores `B`, and that no later store of another head's state changes. -/
structure Reads (rd : Rd F) (B : List (Piece (Elt F) S16x128x128 .f32)) (S : Vec F S16x128x128 .f32) : Prop where
  /-- what it finds before the chunk -/
  base : ∀ k, rd B k = ld S (rS k)
  /-- a store of another head's state does not change what it finds -/
  skip : ∀ (j k : Fin 16) (w : Vec F S1x128x128 .f32) (B' : List (Piece (Elt F) S16x128x128 .f32)), j ≠ k → rd (⟨rS j, w⟩ :: B') k = rd B' k

/-- Before its own store a head's state is still the one before the chunk. -/
theorem stateList_rd {rd : Rd F} {B : List (Piece (Elt F) S16x128x128 .f32)} {S : Vec F S16x128x128 .f32} (H : Reads rd B S) (i : Fin 4) :
    ∀ (n : ℕ) (h : n ≤ 16) (k : Fin 16), n ≤ k.val → rd (stateList L rd i B n h) k = ld S (rS k)
  | 0, _, k, _ => H.base k
  | n + 1, h, k, hk => by
    rw [stateList, H.skip _ _ _ _ (by intro e; subst e; simp at hk)]
    exact stateList_rd H i n _ k (by omega)

/-- An index of the scratch lies in its own head's rectangle … -/
theorem rS_emb (k : Fin 16) (x : S16x128x128.Idx) (h : (x 0).val = k.val) : (rS k).emb (ix3 0 (x 1) (x 2)) = x := by
  funext a
  refine Fin.ext ?_
  match a with
  | ⟨0, _⟩ => exact (Rect.idx_unit_val _ _ _ _ _).trans (by simp [h])
  | ⟨1, _⟩ => exact (Rect.idx_unit_val _ _ _ _ _).trans (by simp)
  | ⟨2, _⟩ => exact (Rect.idx_unit_val _ _ _ _ _).trans (by simp)

/-- … where the newest store holds its value … -/
theorem canon_rS (k : Fin 16) (w) (l : List (Piece (Elt F) S16x128x128 .f32)) (x : S16x128x128.Idx) (h : (x 0).val = k.val) :
    View.canon (⟨rS k, w⟩ :: l) x = w (ix3 0 (x 1) (x 2)) :=
  (congrArg (View.canon (⟨rS k, w⟩ :: l)) (rS_emb k x h)).symm.trans (View.canon_cons_emb (rS k) w l (ix3 0 (x 1) (x 2)))

/-- … and in no other. -/
theorem rS_not_mem (k : Fin 16) (x : S16x128x128.Idx) (h : (x 0).val ≠ k.val) : x ∉ (rS k).set := by
  rw [Rect.mem_set_unit]
  intro H
  have := H 0
  simp [S1x128x128] at this
  omega

/-- … so another head's newest store does not matter there. -/
theorem canon_rS_of_ne (k : Fin 16) (w) (l : List (Piece (Elt F) S16x128x128 .f32)) (x : S16x128x128.Idx) (h : (x 0).val ≠ k.val) :
    View.canon (⟨rS k, w⟩ :: l) x = View.canon l x :=
  View.canon_cons_of_not_mem ⟨rS k, w⟩ l (rS_not_mem k x h)

/-- Chunk `i`'s stores of the first `n` heads leave those heads' states after the chunk. -/
theorem stateList_canon {rd : Rd F} {B : List (Piece (Elt F) S16x128x128 .f32)} {S : Vec F S16x128x128 .f32} (H : Reads rd B S) (i : Fin 4) :
    ∀ (n : ℕ) (h : n ≤ 16) (x : S16x128x128.Idx), (x 0).val < n → View.canon (stateList L rd i B n h) x = step L i S x
  | 0, _, x, hx => absurd hx (Nat.not_lt_zero _)
  | n + 1, h, x, hx => by
    by_cases hn : (x 0).val = n
    · rw [stateList, stateList_rd L H i n _ ⟨n, h⟩ le_rfl, H.base, canon_rS ⟨n, h⟩ _ _ x hn]
      obtain rfl : (x 0).val = n := hn
      rfl
    · rw [stateList, canon_rS_of_ne ⟨n, h⟩ _ _ x hn]
      exact stateList_canon H i n _ x (by omega)

/-- All sixteen heads' stores of a chunk leave the states after it. -/
theorem stateList_eq {rd : Rd F} {B : List (Piece (Elt F) S16x128x128 .f32)} {S : Vec F S16x128x128 .f32} (H : Reads rd B S) (i : Fin 4) :
    View.canon (stateList L rd i B 16 le_rfl) = step L i S :=
  funext fun x => stateList_canon L H i 16 le_rfl x (x 0).isLt

/-- A load of the scratch over the stores of this point. -/
abbrev cov (v : View sig .tc .vmem S16x128x128 .f32) : Rd F := fun B k => v.readCov B (rS k).toLoadRect

/-- Such loads find what the stores leave. -/
theorem reads_cov (v : View sig .tc .vmem S16x128x128 .f32) {B : List (Piece (Elt F) S16x128x128 .f32)} {S : Vec F S16x128x128 .f32}
    (h : View.canon B = S) : Reads (cov v) B S where
  base k := by
    subst h
    exact View.readCov_eq_canon' v B (rS k).toLoadRect
  skip j k w B' hjk := by
    refine View.readCov_cons_of_disjoint v ⟨rS j, w⟩ B' _ ?_
    refine Rect.unit_disjoint (inb := rS_inb j) (inb' := rS_inb k) 0 ?_
    have : j.val ≠ k.val := fun e => hjk (Fin.ext e)
    simp [S1x128x128]
    omega

/-- The stores of a whole point: chunk 0 through `rd`, the later chunks through loads over the stores made. -/
abbrev pointStates (v : View sig .tc .vmem S16x128x128 .f32) (rd : Rd F) (B : List (Piece (Elt F) S16x128x128 .f32)) (n : ℕ) :
    List (Piece (Elt F) S16x128x128 .f32) :=
  match n with
  | 0 => B
  | 1 => stateList L rd 0 B 16 le_rfl
  | 2 => stateList L (cov v) 1 (stateList L rd 0 B 16 le_rfl) 16 le_rfl
  | 3 => stateList L (cov v) 2 (stateList L (cov v) 1 (stateList L rd 0 B 16 le_rfl) 16 le_rfl) 16 le_rfl
  | _ => stateList L (cov v) 3 (stateList L (cov v) 2 (stateList L (cov v) 1 (stateList L rd 0 B 16 le_rfl) 16 le_rfl) 16 le_rfl) 16 le_rfl

/-- The output stores of a whole point. -/
abbrev pointOuts (v : View sig .tc .vmem S16x128x128 .f32) (rd : Rd F) (B : List (Piece (Elt F) S16x128x128 .f32)) :
    List (Piece (Elt F) S256x2048 .bf16) :=
  outList L (cov v) 3 (pointStates L v rd B 3) (outList L (cov v) 2 (pointStates L v rd B 2) (outList L (cov v) 1 (pointStates L v rd B 1)
    (outList L rd 0 B [] 16 le_rfl) 16 le_rfl) 16 le_rfl) 16 le_rfl

/-- What the state stores of the first chunks leave. -/
theorem pointStates_reads (v : View sig .tc .vmem S16x128x128 .f32) {rd : Rd F} {B : List (Piece (Elt F) S16x128x128 .f32)}
    {S : Vec F S16x128x128 .f32} (H : Reads rd B S) :
    Reads (cov v) (pointStates L v rd B 1) (states L S 1) ∧ Reads (cov v) (pointStates L v rd B 2) (states L S 2)
      ∧ Reads (cov v) (pointStates L v rd B 3) (states L S 3) ∧ View.canon (pointStates L v rd B 4) = states L S 4 := by
  have h1 : Reads (cov v) (pointStates L v rd B 1) (states L S 1) := reads_cov v (stateList_eq L H 0)
  have h2 : Reads (cov v) (pointStates L v rd B 2) (states L S 2) := reads_cov v (stateList_eq L h1 1)
  have h3 : Reads (cov v) (pointStates L v rd B 3) (states L S 3) := reads_cov v (stateList_eq L h2 2)
  exact ⟨h1, h2, h3, stateList_eq L h3 3⟩

/-- An index of the output block lies in the rectangle of its chunk and head … -/
theorem rO_emb (i : Fin 4) (k : Fin 16) (y : S256x2048.Idx) (hi : (y 0).val / 64 = i.val) (hk : (y 1).val / 128 = k.val) :
    (rO i k).emb (ix2 ⟨(y 0).val % 64, Nat.mod_lt _ (by decide)⟩ ⟨(y 1).val % 128, Nat.mod_lt _ (by decide)⟩) = y := by
  funext a
  refine Fin.ext ?_
  match a with
  | ⟨0, _⟩ => exact (Rect.idx_unit_val _ _ _ _ _).trans (by simp; omega)
  | ⟨1, _⟩ => exact (Rect.idx_unit_val _ _ _ _ _).trans (by simp; omega)

/-- … where the newest store holds its value … -/
theorem canon_rO (i : Fin 4) (k : Fin 16) (w) (l : List (Piece (Elt F) S256x2048 .bf16)) (y : S256x2048.Idx) (hi : (y 0).val / 64 = i.val) (hk : (y 1).val / 128 = k.val) :
    View.canon (⟨rO i k, w⟩ :: l) y = w (ix2 ⟨(y 0).val % 64, Nat.mod_lt _ (by decide)⟩ ⟨(y 1).val % 128, Nat.mod_lt _ (by decide)⟩) :=
  (congrArg (View.canon (⟨rO i k, w⟩ :: l)) (rO_emb i k y hi hk)).symm.trans (View.canon_cons_emb (rO i k) w l _)

/-- … and in no other. -/
theorem rO_not_mem (i : Fin 4) (k : Fin 16) (y : S256x2048.Idx) (h : (y 0).val / 64 ≠ i.val ∨ (y 1).val / 128 ≠ k.val) : y ∉ (rO i k).set := by
  rw [Rect.mem_set_unit]
  intro H
  have h0 := H 0
  have h1 := H 1
  simp [S64x128] at h0 h1
  omega

/-- … so another tile's newest store does not matter there. -/
theorem canon_rO_of_ne (i : Fin 4) (k : Fin 16) (w) (l : List (Piece (Elt F) S256x2048 .bf16)) (y : S256x2048.Idx)
    (h : (y 0).val / 64 ≠ i.val ∨ (y 1).val / 128 ≠ k.val) : View.canon (⟨rO i k, w⟩ :: l) y = View.canon l y :=
  View.canon_cons_of_not_mem ⟨rO i k, w⟩ l (rO_not_mem i k y h)

/-- Chunk `i`'s output stores leave the rows of the other chunks alone … -/
theorem outList_skip (rd : Rd F) (i : Fin 4) (B : List (Piece (Elt F) S16x128x128 .f32)) (O : List (Piece (Elt F) S256x2048 .bf16)) (y : S256x2048.Idx)
    (hy : (y 0).val / 64 ≠ i.val) : ∀ (n : ℕ) (h : n ≤ 16), View.canon (outList L rd i B O n h) y = View.canon O y
  | 0, _ => rfl
  | n + 1, h => by
    rw [outList, canon_rO_of_ne i ⟨n, h⟩ _ _ y (.inl hy)]
    exact outList_skip rd i B O y hy n _

/-- … and in its own rows the heads' tiles. -/
theorem outList_canon {rd : Rd F} {B : List (Piece (Elt F) S16x128x128 .f32)} {S : Vec F S16x128x128 .f32} (H : Reads rd B S) (i : Fin 4)
    (O : List (Piece (Elt F) S256x2048 .bf16)) (k : Fin 16) (y : S256x2048.Idx) (hi : (y 0).val / 64 = i.val) (hk : (y 1).val / 128 = k.val) :
    ∀ (n : ℕ) (h : n ≤ 16), k.val < n → View.canon (outList L rd i B O n h) y
      = ot L i k (ld S (rS k)) (ix2 ⟨(y 0).val % 64, Nat.mod_lt _ (by decide)⟩ ⟨(y 1).val % 128, Nat.mod_lt _ (by decide)⟩)
  | 0, _, hn => absurd hn (Nat.not_lt_zero _)
  | n + 1, h, hn => by
    by_cases e : k.val = n
    · have e' : (⟨n, h⟩ : Fin 16) = k := Fin.ext e.symm
      rw [outList, e', H.base, canon_rO i k _ _ y hi hk]
    · have e' : (y 1).val / 128 ≠ n := fun e' => e (hk.symm.trans e')
      rw [outList, canon_rO_of_ne i ⟨n, h⟩ _ _ y (.inr e')]
      exact outList_canon H i O k y hi hk n _ (by omega)

/-- The output stores of a whole point leave the output block. -/
theorem pointOuts_eq (v : View sig .tc .vmem S16x128x128 .f32) {rd : Rd F} {B : List (Piece (Elt F) S16x128x128 .f32)}
    {S : Vec F S16x128x128 .f32} (H : Reads rd B S) : View.canon (pointOuts L v rd B) = outBlk L S := by
  obtain ⟨h1, h2, h3, _⟩ := pointStates_reads L v H
  funext y
  have hy0 : (y 0).val < 256 := (y 0).isLt
  have hy1 : (y 1).val < 2048 := (y 1).isLt
  have key : ∀ i : Fin 4, (y 0).val / 64 = i.val → View.canon (pointOuts L v rd B) y = ot L i ⟨(y 1).val / 128, by omega⟩
      (ld (states L S i.val) (rS ⟨(y 1).val / 128, by omega⟩))
      (ix2 ⟨(y 0).val % 64, Nat.mod_lt _ (by decide)⟩ ⟨(y 1).val % 128, Nat.mod_lt _ (by decide)⟩) := by
    intro i hi
    rw [pointOuts]
    match i, hi with
    | 0, hi =>
      rw [outList_skip L _ 3 _ _ y (by simp at hi ⊢; omega), outList_skip L _ 2 _ _ y (by simp at hi ⊢; omega),
        outList_skip L _ 1 _ _ y (by simp at hi ⊢; omega)]
      exact outList_canon L H 0 _ ⟨(y 1).val / 128, by omega⟩ y hi rfl 16 le_rfl (by simp; omega)
    | 1, hi =>
      rw [outList_skip L _ 3 _ _ y (by simp at hi ⊢; omega), outList_skip L _ 2 _ _ y (by simp at hi ⊢; omega)]
      exact outList_canon L h1 1 _ ⟨(y 1).val / 128, by omega⟩ y hi rfl 16 le_rfl (by simp; omega)
    | 2, hi =>
      rw [outList_skip L _ 3 _ _ y (by simp at hi ⊢; omega)]
      exact outList_canon L h2 2 _ ⟨(y 1).val / 128, by omega⟩ y hi rfl 16 le_rfl (by simp; omega)
    | 3, hi => exact outList_canon L h3 3 _ ⟨(y 1).val / 128, by omega⟩ y hi rfl 16 le_rfl (by simp; omega)
  exact key ⟨(y 0).val / 64, by omega⟩ rfl

end Cert.KernelIdeal.Scan

end
-- ==== Proof.ScanRun.lean ====
/-
  The two cases of the recurrence kernel's point (the first point of a sequence zeroes the carried states, the others go on from them), read as
  `Scan.step` and `Scan.outBlk` over the point's input blocks.
-/
module

public import proofs.«01_k».proof.Proof.ScanBody
public import Idealize.ShloMosaic.Lib.WholeRead

@[expose] public section

set_option maxRecDepth 65536

noncomputable section

namespace Cert.KernelIdeal.Scan

open Cert.KernelIdeal Cert.KernelIdeal.Gen Idealize.ShloMosaic Idealize.ShloMosaic.TcCoe Idealize.SL.Sem
open Idealize.ShloMosaic.View (Piece ld)

variable {F : FTy → Type} [FloatOps F]

section
variable (c : Dev nD) (i : grid0.Coords) (arg3 : Memref sig .tc .vmem S1x16x256x128 .f32) (harg3 : arg3.IsWhole)
  (arg4 : Memref sig .tc .vmem S1x16x4x128x128 .bf16) (harg4 : arg4.IsWhole) (arg5 : Memref sig .tc .vmem S1x16x4x192x64 .bf16) (harg5 : arg5.IsWhole)
  (arg6 : Memref sig .tc .vmem S1x16x4x1x128 .f32) (harg6 : arg6.IsWhole) (arg7 : Memref sig .tc .vmem S256x2048 .f32) (harg7 : arg7.IsWhole)
  (arg8 : Memref sig .tc .vmem S1x128 .f32) (harg8 : arg8.IsWhole) (arg9 : Memref sig .tc .vmem S256x2048 .bf16) (harg9 : arg9.IsWhole)
  (arg10 : Memref sig .tc .vmem S16x128x128 .f32) (harg10 : arg10.IsWhole)
  (x0 : Vec F S1x16x256x128 .f32) (x1 : Vec F S1x16x4x128x128 .bf16) (x2 : Vec F S1x16x4x192x64 .bf16) (x3 : Vec F S1x16x4x1x128 .f32)
  (x4 : Vec F S256x2048 .f32) (x5 : Vec F S1x128 .f32) (xs0 : Vec F S16x128x128 .f32)

/-- The gain's rectangle: the whole row. -/
abbrev rG : Rect S1x128 := Rect.unit ![0, 0] S1x128.size (by decide)

/-- The loads a point makes, as the machine's reads of the staged blocks. -/
abbrev mloads : Loads F where
  u i k := View.readAt (Elt F) arg3.view (rU i k).toLoadRect (harg3.unread x0)
  l1 i k := View.readAt (Elt F) arg4.view (rL1 i k).toLoadRect (harg4.unread x1)
  l2 i k := View.readAt (Elt F) arg5.view (rL2 i k).toLoadRect (harg5.unread x2)
  e i k := View.readAt (Elt F) arg6.view (rE i k).toLoadRect (harg6.unread x3)
  z i k := View.readAt (Elt F) arg7.view (rO i k).toLoadRect (harg7.unread x4)
  g := View.readAt (Elt F) arg8.view rG.toLoadRect (harg8.unread x5)

/-- The same loads as parts of the blocks. -/
abbrev loads : Loads F where
  u i k := ld x0 (rU i k)
  l1 i k := ld x1 (rL1 i k)
  l2 i k := ld x2 (rL2 i k)
  e i k := ld x3 (rE i k)
  z i k := ld x4 (rO i k)
  g := ld x5 rG

/-- A read of a staged block is the part of the block. -/
theorem mloads_eq : mloads arg3 harg3 arg4 harg4 arg5 harg5 arg6 harg6 arg7 harg7 arg8 harg8 x0 x1 x2 x3 x4 x5 = loads x0 x1 x2 x3 x4 x5 := by
  unfold mloads loads
  congr 1
  all_goals first
    | (funext i k x; exact Memref.IsWhole.readAt_unread _ _ _ x)
    | (funext x; exact Memref.IsWhole.readAt_unread _ _ _ x)

/-- The states as the first chunk of a later point finds them. -/
abbrev rdHeld : Rd F := fun _ k => View.readAt (Elt F) arg10.view (rS k).toLoadRect (harg10.unread xs0)

/-- Later points: the state stores the run finds are the listed ones. -/
theorem runB_states (hc0 : ¬cond0_0 i) :
    (kernelRun0_B c i arg3 harg3 arg4 harg4 arg5 harg5 arg6 harg6 arg7 harg7 arg8 harg8 arg9 harg9 arg10 harg10 hc0 x0 x1 x2 x3 x4 x5 xs0).2.1
      = pointStates (mloads arg3 harg3 arg4 harg4 arg5 harg5 arg6 harg6 arg7 harg7 arg8 harg8 x0 x1 x2 x3 x4 x5) arg10.view (rdHeld arg10 harg10 xs0) [] 4 := by
  sl_kernel_rfl

/-- … and so are the output stores. -/
theorem runB_outs (hc0 : ¬cond0_0 i) :
    (kernelRun0_B c i arg3 harg3 arg4 harg4 arg5 harg5 arg6 harg6 arg7 harg7 arg8 harg8 arg9 harg9 arg10 harg10 hc0 x0 x1 x2 x3 x4 x5 xs0).1
      = pointOuts (mloads arg3 harg3 arg4 harg4 arg5 harg5 arg6 harg6 arg7 harg7 arg8 harg8 x0 x1 x2 x3 x4 x5) arg10.view (rdHeld arg10 harg10 xs0) [] := by
  sl_kernel_rfl

/-- The whole scratch, as a rectangle. -/
abbrev rZ : Rect S16x128x128 := Rect.unit ![0, 0, 0] S16x128x128.size (by decide)

/-- The store with which a sequence's first point zeroes the states. -/
abbrev zeroStore : List (Piece (Elt F) S16x128x128 .f32) := [⟨rZ, k0_pay2⟩]

/-- A sequence's first point: the state stores … -/
theorem runA_states (hc0 : cond0_0 i) :
    (kernelRun0_A c i arg3 harg3 arg4 harg4 arg5 harg5 arg6 harg6 arg7 harg7 arg8 harg8 arg9 harg9 arg10 harg10 hc0 x0 x1 x2 x3 x4 x5).2.1
      = pointStates (mloads arg3 harg3 arg4 harg4 arg5 harg5 arg6 harg6 arg7 harg7 arg8 harg8 x0 x1 x2 x3 x4 x5) arg10.view (cov arg10.view) zeroStore 4 := by
  sl_kernel_rfl

/-- … and the output stores. -/
theorem runA_outs (hc0 : cond0_0 i) :
    (kernelRun0_A c i arg3 harg3 arg4 harg4 arg5 harg5 arg6 harg6 arg7 harg7 arg8 harg8 arg9 harg9 arg10 harg10 hc0 x0 x1 x2 x3 x4 x5).1
      = pointOuts (mloads arg3 harg3 arg4 harg4 arg5 harg5 arg6 harg6 arg7 harg7 arg8 harg8 x0 x1 x2 x3 x4 x5) arg10.view (cov arg10.view) zeroStore := by
  sl_kernel_rfl

/-- The states a sequence starts from: zero. -/
abbrev zeros : Vec F S16x128x128 .f32 := k0_pay2

/-- The held states are found by the first chunk's loads. -/
theorem reads_held : Reads (rdHeld arg10 harg10 xs0) [] xs0 where
  base k := funext fun x => Memref.IsWhole.readAt_unread harg10 xs0 (rS k).toLoadRect x
  skip _ _ _ _ _ := rfl

/-- The zeroing store's rectangle is the whole scratch. -/
theorem zero_emb (x : S16x128x128.Idx) : rZ.emb x = x := by
  funext a
  refine Fin.ext ?_
  match a with
  | ⟨0, _⟩ => exact (Rect.idx_unit_val _ _ _ _ _).trans (by simp)
  | ⟨1, _⟩ => exact (Rect.idx_unit_val _ _ _ _ _).trans (by simp)
  | ⟨2, _⟩ => exact (Rect.idx_unit_val _ _ _ _ _).trans (by simp)

/-- A store over it is all there is. -/
theorem canon_rZ (w : Vec F S16x128x128 .f32) (x : S16x128x128.Idx) : View.canon [(⟨rZ, w⟩ : Piece (Elt F) S16x128x128 .f32)] x = w x :=
  (congrArg (View.canon [(⟨rZ, w⟩ : Piece (Elt F) S16x128x128 .f32)]) (zero_emb x)).symm.trans (View.canon_cons_emb rZ w [] x)

/-- So after it the states are zero. -/
theorem canon_zero : View.canon (zeroStore (F := F)) = zeros := funext fun x => canon_rZ k0_pay2 x

/-- The zeroed states are found by the first point's loads. -/
theorem reads_zero (v : View sig .tc .vmem S16x128x128 .f32) : Reads (cov v) (zeroStore (F := F)) zeros :=
  reads_cov v canon_zero

/-- A later point leaves the four steps of the states it found … -/
theorem soutB_eq (hc0 : ¬cond0_0 i) : sout0_B_0 c i arg3 harg3 arg4 harg4 arg5 harg5 arg6 harg6 arg7 harg7 arg8 harg8 arg9 harg9 arg10 harg10 hc0 x0 x1 x2 x3 x4 x5 xs0 = states (loads x0 x1 x2 x3 x4 x5) xs0 4 := by
  rw [sout0_B_0, View.read_writes_junk_eq_canon, runB_states, mloads_eq]
  exact (pointStates_reads _ _ (reads_held arg10 harg10 xs0)).2.2.2

/-- … and their output block … -/
theorem outB_eq (hc0 : ¬cond0_0 i) : out0_B_6 c i arg3 harg3 arg4 harg4 arg5 harg5 arg6 harg6 arg7 harg7 arg8 harg8 arg9 harg9 arg10 harg10 hc0 x0 x1 x2 x3 x4 x5 xs0 = outBlk (loads x0 x1 x2 x3 x4 x5) xs0 := by
  rw [out0_B_6, View.read_writes_junk_eq_canon, runB_outs, mloads_eq]
  exact pointOuts_eq _ _ (reads_held arg10 harg10 xs0)

/-- … a sequence's first point those from the zero states … -/
theorem soutA_eq (hc0 : cond0_0 i) : sout0_A_0 c i arg3 harg3 arg4 harg4 arg5 harg5 arg6 harg6 arg7 harg7 arg8 harg8 arg9 harg9 arg10 harg10 hc0 x0 x1 x2 x3 x4 x5 = states (loads x0 x1 x2 x3 x4 x5) zeros 4 := by
  rw [sout0_A_0, View.read_writes_junk_eq_canon, runA_states, mloads_eq]
  exact (pointStates_reads _ _ (reads_zero arg10.view)).2.2.2

/-- … and their output block. -/
theorem outA_eq (hc0 : cond0_0 i) : out0_A_6 c i arg3 harg3 arg4 harg4 arg5 harg5 arg6 harg6 arg7 harg7 arg8 harg8 arg9 harg9 arg10 harg10 hc0 x0 x1 x2 x3 x4 x5 = outBlk (loads x0 x1 x2 x3 x4 x5) zeros := by
  rw [out0_A_6, View.read_writes_junk_eq_canon, runA_outs, mloads_eq]
  exact pointOuts_eq _ _ (reads_zero arg10.view)

end

end Cert.KernelIdeal.Scan

end
-- ==== Proof.ScanSpec.lean ====
/-
  The gated delta rule, chunk by chunk, of ONE head over the extended reals: what both the kernel and the reference compute. A head is given by what each
  chunk contributes (two stacked operands, the rows `u`, the decay); the state starts at zero and is handed from chunk to chunk.
-/
module

public import Idealize.ShloMosaic.Lib.Pointwise

@[expose] public section

noncomputable section

namespace Cert.ScanSpec

open Idealize.ShloMosaic

/-- What one chunk of a head contributes. -/
structure Chunk where
  /-- rows 0–63 `w`, rows 64–127 `q exp g` -/
  a : Fin 128 → Fin 128 → EReal
  /-- rows 0–63 `q k`, rows 64–191 `k exp (g_last - g)`, transposed -/
  b : Fin 192 → Fin 64 → EReal
  /-- `u` -/
  u : Fin 64 → Fin 128 → EReal
  /-- the decay of each lane -/
  e : Fin 128 → EReal

/-- A chunk is its four parts. -/
theorem Chunk.eq_of {A B : Chunk} (ha : A.a = B.a) (hb : A.b = B.b) (hu : A.u = B.u) (he : A.e = B.e) : A = B := by
  cases A; cases B; cases ha; cases hb; cases hu; cases he; rfl

/-- The chunk's new values: `u - w S`. -/
def Chunk.new (C : Chunk) (S : Fin 128 → Fin 128 → EReal) (r : Fin 64) (d : Fin 128) : EReal :=
  C.u r d - ∑ k : Fin 128, C.a ⟨r.val, by omega⟩ k * S k d

/-- The chunk's outputs: `q S + (q k) new`. -/
def Chunk.out (C : Chunk) (S : Fin 128 → Fin 128 → EReal) (r : Fin 64) (d : Fin 128) : EReal :=
  (∑ k : Fin 128, C.a ⟨64 + r.val, by omega⟩ k * S k d) + ∑ k : Fin 64, C.b ⟨r.val, by omega⟩ k * C.new S k d

/-- The state after the chunk: `S e + kᵀ new`. -/
def Chunk.next (C : Chunk) (S : Fin 128 → Fin 128 → EReal) (x d : Fin 128) : EReal :=
  S x d * C.e d + ∑ k : Fin 64, C.b ⟨64 + x.val, by omega⟩ k * C.new S k d

/-- The state of a head before its chunk `n`. -/
def state (H : ℕ → Chunk) : ℕ → Fin 128 → Fin 128 → EReal
  | 0 => fun _ _ => 0
  | n + 1 => (H n).next (state H n)

/-- Head `h` of sequence `b`: chunk `j` of the argument arrays (chunk numbers count modulo the 128 there are). -/
def chunkAt (u : FVec Ideal ⟨4, ![2, 32, 8192, 128]⟩ .f32) (l1 : FVec Ideal ⟨5, ![2, 32, 128, 128, 128]⟩ .bf16)
    (l2 : FVec Ideal ⟨5, ![2, 32, 128, 192, 64]⟩ .bf16) (e : FVec Ideal ⟨5, ![2, 32, 128, 1, 128]⟩ .f32) (b : Fin 2) (h : Fin 32) (j : ℕ) : Chunk where
  a r k := l1 (ix5 b h ⟨j % 128, Nat.mod_lt _ (by decide)⟩ r k)
  b r k := l2 (ix5 b h ⟨j % 128, Nat.mod_lt _ (by decide)⟩ r k)
  u r d := u (ix4 b h ⟨(j % 128) * 64 + r.val, by omega⟩ d)
  e d := e (ix5 b h ⟨j % 128, Nat.mod_lt _ (by decide)⟩ 0 d)

/-- An output row, normalised, times the gain, times the gate's `z σ(z)`. -/
def gate (o g : Fin 128 → EReal) (z : EReal) (d : Fin 128) : EReal :=
  o d * Ideal.rsqrt (Ideal.div (∑ k : Fin 128, o k * o k) (Ideal.ofBits .f32 0x43000000#32) + Ideal.ofBits .f32 0x358637BD#32) * g d * (z * Ideal.logistic z)

/-- One row and column of the result that the recurrence's call writes: the gated outputs of the head that owns the column, in the chunk that owns the row. -/
def result (a0 : FVec Ideal ⟨4, ![2, 32, 8192, 128]⟩ .f32) (a1 : FVec Ideal ⟨5, ![2, 32, 128, 128, 128]⟩ .bf16)
    (a2 : FVec Ideal ⟨5, ![2, 32, 128, 192, 64]⟩ .bf16) (a3 : FVec Ideal ⟨5, ![2, 32, 128, 1, 128]⟩ .f32)
    (a4 : FVec Ideal ⟨2, ![16384, 12288]⟩ .f32) (a5 : FVec Ideal ⟨1, ![128]⟩ .f32) (R : Fin 16384) (C : Fin 4096) : EReal :=
  gate ((chunkAt a0 a1 a2 a3 ⟨R.val / 8192, by omega⟩ ⟨C.val / 128, by omega⟩ (R.val % 8192 / 64)).out
      (state (chunkAt a0 a1 a2 a3 ⟨R.val / 8192, by omega⟩ ⟨C.val / 128, by omega⟩) (R.val % 8192 / 64)) ⟨R.val % 8192 % 64, by omega⟩)
    (fun d => a5 (ix1 d)) (a4 (ix2 R ⟨8192 + C.val, by omega⟩)) ⟨C.val % 128, by omega⟩

end Cert.ScanSpec

end
-- ==== Proof.ScanPure.lean ====
/-
  What one head's chunk of the kernel computes, entry by entry, is the chunk of `ScanSpec`.
-/
module

public import proofs.«01_k».proof.Proof.ScanBody
public import proofs.«01_k».proof.Proof.ScanSpec

@[expose] public section

set_option maxRecDepth 16384

noncomputable section

namespace Cert.KernelIdeal.Scan

open Cert.KernelIdeal Cert.KernelIdeal.Gen Idealize.ShloMosaic Idealize.ShloMosaic.TcCoe Idealize.SL.Sem
open Cert.ScanSpec

/-- A chunk's loads, as the chunk they hold. -/
def chunkOf (l1 : Vec Ideal S1x1x1x128x128 .bf16) (l2 : Vec Ideal S1x1x1x192x64 .bf16) (u : Vec Ideal S1x1x64x128 .f32) (e : Vec Ideal S1x1x1x1x128 .f32) : Chunk where
  a r k := l1 (ix5 0 0 0 r k)
  b r k := l2 (ix5 0 0 0 r k)
  u r d := u (ix4 0 0 r d)
  e d := e (ix5 0 0 0 0 d)

/-- A head's state as it is loaded. -/
def stOf (s : Vec Ideal S1x128x128 .f32) : Fin 128 → Fin 128 → EReal := fun x d => s (ix3 0 x d)

/-- The first stacked operand times the state. -/
theorem ws_eq (l1 : Vec Ideal S1x1x1x128x128 .bf16) (s : Vec Ideal S1x128x128 .f32) (r d : Fin 128) :
    k0_pay4 l1 s (ix2 r d) = ∑ k : Fin 128, l1 (ix5 0 0 0 r k) * s (ix3 0 k d) := by
  pointwise [k0_pay4]

/-- The new values of a chunk. -/
theorem vn_eq (l1 : Vec Ideal S1x1x1x128x128 .bf16) (l2 : Vec Ideal S1x1x1x192x64 .bf16) (u : Vec Ideal S1x1x64x128 .f32) (e : Vec Ideal S1x1x1x1x128 .f32)
    (s : Vec Ideal S1x128x128 .f32) (r : Fin 64) (d : Fin 128) :
    k0_pay20 (k0_pay4 l1 s) u (ix2 r d) = (chunkOf l1 l2 u e).new (stOf s) r d := by
  pointwise [k0_pay20, ws_eq l1 s, Chunk.new, chunkOf, stOf]

/-- The state after a chunk. -/
theorem st_eq (l1 : Vec Ideal S1x1x1x128x128 .bf16) (l2 : Vec Ideal S1x1x1x192x64 .bf16) (u : Vec Ideal S1x1x64x128 .f32) (e : Vec Ideal S1x1x1x1x128 .f32)
    (s : Vec Ideal S1x128x128 .f32) (x d : Fin 128) :
    k0_pay54 (k0_pay37 (k0_pay20 (k0_pay4 l1 s) u) l2) s e (ix3 0 x d) = (chunkOf l1 l2 u e).next (stOf s) x d := by
  pointwise [k0_pay54, k0_pay37, vn_eq l1 l2 u e s, Chunk.next]
  rfl

/-- The chunk's tile of the output. -/
theorem ot_eq (l1 : Vec Ideal S1x1x1x128x128 .bf16) (l2 : Vec Ideal S1x1x1x192x64 .bf16) (u : Vec Ideal S1x1x64x128 .f32) (e : Vec Ideal S1x1x1x1x128 .f32)
    (s : Vec Ideal S1x128x128 .f32) (z : Vec Ideal S64x128 .f32) (g : Vec Ideal S1x128 .f32) (r : Fin 64) (d : Fin 128) :
    k0_pay75 (k0_pay3 g) (k0_pay4 l1 s) (k0_pay37 (k0_pay20 (k0_pay4 l1 s) u) l2) z (ix2 r d)
      = gate ((chunkOf l1 l2 u e).out (stOf s) r) (fun d => g (ix2 0 d)) (z (ix2 r d)) d := by
  pointwise [k0_pay75, k0_pay3, k0_pay37, ws_eq l1 s, vn_eq l1 l2 u e s, Chunk.out, gate]
  rfl

end Cert.KernelIdeal.Scan

end
-- ==== Proof.ScanValue.lean ====
/-
  What the recurrence kernel's result array holds: `ScanSpec.result` of the arguments. By induction over the grid's points the carried scratch is
  `ScanSpec.state` of the group's heads; each point's block is then the gated outputs of its four chunks, and the blocks cover the array.
-/
module

public import proofs.«01_k».proof.Proof.ScanRun
public import proofs.«01_k».proof.Proof.ScanPure
public import proofs.«01_k».proof.Proof.Gen.KernelIdeal.Value
public import Idealize.ShloMosaic.Lib.Pointwise

@[expose] public section

set_option maxRecDepth 16384

noncomputable section

namespace Cert.KernelIdeal.Scan

open Cert.KernelIdeal Cert.KernelIdeal.Gen Idealize.ShloMosaic Idealize.ShloMosaic.TcCoe Idealize.SL.Sem
open Idealize.ShloMosaic.View (Piece ld)
open Cert.ScanSpec

/-! ## One point, over the chunks it loads -/

/-- One head of the states. -/
theorem head_eq (S : Vec Ideal S16x128x128 .f32) (k : Fin 16) : stOf (ld S (rS k)) = fun x d => S (ix3 k x d) := by
  funext x d
  unfold stOf
  pointwise []

/-- A point that starts from the heads' states before chunk `n` and loads the chunks from `n` on leaves the states `j` chunks further. -/
theorem states_eq (L : Loads Ideal) (S : Vec Ideal S16x128x128 .f32) (H : Fin 16 → ℕ → Chunk) (n : ℕ)
    (hL : ∀ i k, chunkOf (L.l1 i k) (L.l2 i k) (L.u i k) (L.e i k) = H k (n + i.val))
    (hS : ∀ k x d, S (ix3 k x d) = state (H k) n x d) : ∀ j, j ≤ 4 → ∀ k x d, states L S j (ix3 k x d) = state (H k) (n + j) x d
  | 0, _ => hS
  | j + 1, hj => fun k x d => by
    have e : states L S (j + 1) = step L ⟨j, hj⟩ (states L S j) := dif_pos hj
    rw [e]
    refine (st_eq (L.l1 ⟨j, hj⟩ k) (L.l2 ⟨j, hj⟩ k) (L.u ⟨j, hj⟩ k) (L.e ⟨j, hj⟩ k) (ld (states L S j) (rS k)) x d).trans ?_
    rw [head_eq, hL]
    have ih : (fun x d => states L S j (ix3 k x d)) = state (H k) (n + j) := by
      funext x d; exact states_eq L S H n hL hS j (by omega) k x d
    rw [ih]
    rfl

/-- … and writes those chunks' gated outputs. -/
theorem block_eq (L : Loads Ideal) (S : Vec Ideal S16x128x128 .f32) (H : Fin 16 → ℕ → Chunk) (n : ℕ)
    (hL : ∀ i k, chunkOf (L.l1 i k) (L.l2 i k) (L.u i k) (L.e i k) = H k (n + i.val))
    (hS : ∀ k x d, S (ix3 k x d) = state (H k) n x d) (r : Fin 256) (q : Fin 2048) :
    outBlk L S (ix2 r q) = gate ((H ⟨q.val / 128, by omega⟩ (n + r.val / 64)).out (state (H ⟨q.val / 128, by omega⟩) (n + r.val / 64)) ⟨r.val % 64, by omega⟩)
      (fun d => L.g (ix2 0 d)) (L.z ⟨r.val / 64, by omega⟩ ⟨q.val / 128, by omega⟩ (ix2 ⟨r.val % 64, by omega⟩ ⟨q.val % 128, by omega⟩)) ⟨q.val % 128, by omega⟩ := by
  refine (ot_eq (L.l1 ⟨r.val / 64, by omega⟩ ⟨q.val / 128, by omega⟩) (L.l2 ⟨r.val / 64, by omega⟩ ⟨q.val / 128, by omega⟩)
    (L.u ⟨r.val / 64, by omega⟩ ⟨q.val / 128, by omega⟩) (L.e ⟨r.val / 64, by omega⟩ ⟨q.val / 128, by omega⟩)
    (ld (states L S (r.val / 64)) (rS ⟨q.val / 128, by omega⟩)) (L.z ⟨r.val / 64, by omega⟩ ⟨q.val / 128, by omega⟩) L.g
    ⟨r.val % 64, by omega⟩ ⟨q.val % 128, by omega⟩).trans ?_
  rw [head_eq, hL]
  have ih : (fun x d => states L S (r.val / 64) (ix3 ⟨q.val / 128, by omega⟩ x d)) = state (H ⟨q.val / 128, by omega⟩) (n + r.val / 64) := by
    funext x d; exact states_eq L S H n hL hS _ (by omega) _ x d
  rw [ih]

/-! ## The points of the grid -/

variable (m : (ℓ : Loc nD τ sig) → Buf (Elt Ideal) ℓ) (c : Dev nD)

/-- The blocks the windows stage at point `t`: sequence `t / 64`, head group `t / 32 % 2`, chunks `4 (t % 32) …`. -/
theorem idx : ∀ t : Fin cfg0.N, win0_0.index t = ![t.val / 64, t.val / 32 % 2, t.val % 32, 0] ∧ win0_1.index t = ![t.val / 64, t.val / 32 % 2, t.val % 32, 0, 0]
    ∧ win0_2.index t = ![t.val / 64, t.val / 32 % 2, t.val % 32, 0, 0] ∧ win0_3.index t = ![t.val / 64, t.val / 32 % 2, t.val % 32, 0, 0]
    ∧ win0_4.index t = ![t.val / 64 * 32 + t.val % 32, 4 + t.val / 32 % 2] ∧ win0_5.index t = ![0, 0]
    ∧ win0_6.index t = ![t.val / 64 * 32 + t.val % 32, t.val / 32 % 2] :=
  (by decide +kernel : ∀ t : Fin grid0.N, _)

/-- The arguments. -/
abbrev a0 := m ((c.tc : Thread nD τ).loc main_arg0)
abbrev a1 := m ((c.tc : Thread nD τ).loc main_arg1)
abbrev a2 := m ((c.tc : Thread nD τ).loc main_arg2)
abbrev a3 := m ((c.tc : Thread nD τ).loc main_arg3)
abbrev a4 := m ((c.tc : Thread nD τ).loc main_arg4)
abbrev a5 := m ((c.tc : Thread nD τ).loc main_arg5)

/-- A point's loads. -/
abbrev ptLoads (t : Fin cfg0.N) : Loads Ideal := loads (iblk m c 0 t) (iblk m c 1 t) (iblk m c 2 t) (iblk m c 3 t) (iblk m c 4 t) (iblk m c 5 t)

theorem lt128 (t : Fin cfg0.N) : t.val < 128 := Nat.lt_of_lt_of_eq t.isLt N_0

/-- The chunks of the head that a point's `k`-th slot works on. -/
abbrev headChunks (t : ℕ) (ht : t < 128) (k : Fin 16) : ℕ → Chunk :=
  chunkAt (a0 m c) (a1 m c) (a2 m c) (a3 m c) ⟨t / 64, by omega⟩ ⟨16 * (t / 32 % 2) + k.val, by omega⟩

section
variable (t : Fin cfg0.N) (ht : t.val < 128) (i : Fin 4) (k : Fin 16)

/-- The loads' entries are the chunks'. -/
theorem u_at (r : Fin 64) (d : Fin 128) : (ptLoads m c t).u i k (ix4 0 0 r d) = (headChunks m c t.val ht k (4 * (t.val % 32) + i.val)).u r d := by
  unfold headChunks ptLoads loads chunkAt
  pointwise []
  blk_point [iblk, V, idx t]

theorem l1_at (r d : Fin 128) : (ptLoads m c t).l1 i k (ix5 0 0 0 r d) = (headChunks m c t.val ht k (4 * (t.val % 32) + i.val)).a r d := by
  unfold headChunks ptLoads loads chunkAt
  pointwise []
  blk_point [iblk, V, idx t]

theorem l2_at (r : Fin 192) (d : Fin 64) : (ptLoads m c t).l2 i k (ix5 0 0 0 r d) = (headChunks m c t.val ht k (4 * (t.val % 32) + i.val)).b r d := by
  unfold headChunks ptLoads loads chunkAt
  pointwise []
  blk_point [iblk, V, idx t]

theorem e_at (d : Fin 128) : (ptLoads m c t).e i k (ix5 0 0 0 0 d) = (headChunks m c t.val ht k (4 * (t.val % 32) + i.val)).e d := by
  unfold headChunks ptLoads loads chunkAt
  pointwise []
  blk_point [iblk, V, idx t]

theorem z_at (r : Fin 64) (d : Fin 128) : (ptLoads m c t).z i k (ix2 r d)
    = a4 m c (ix2 ⟨256 * (t.val / 64 * 32 + t.val % 32) + 64 * i.val + r.val, by omega⟩ ⟨2048 * (4 + t.val / 32 % 2) + 128 * k.val + d.val, by omega⟩) := by
  unfold ptLoads loads
  pointwise []
  blk_point [iblk, V, idx t]

theorem g_at (d : Fin 128) : (ptLoads m c t).g (ix2 0 d) = a5 m c (ix1 d) := by
  unfold ptLoads loads
  pointwise []
  have e : V m c main_v0 = shapeCast S1x128 (a5 m c) Gen.shapeCasts_S128_S1x128 := by
    entry_read
    rfl
  have e' : iblk m c 5 t (ix2 0 d) = V m c main_v0 (ix2 0 d) := by blk_point [iblk, idx t]
  rw [e', e]
  pointwise []

/-- A point loads the chunks of its heads. -/
theorem loads_at : chunkOf ((ptLoads m c t).l1 i k) ((ptLoads m c t).l2 i k) ((ptLoads m c t).u i k) ((ptLoads m c t).e i k)
    = headChunks m c t.val ht k (4 * (t.val % 32) + i.val) :=
  Chunk.eq_of (funext₂ fun r d => l1_at m c t ht i k r d) (funext₂ fun r d => l2_at m c t ht i k r d)
    (funext₂ fun r d => u_at m c t ht i k r d) (funext fun d => e_at m c t ht i k d)

end

/-- The states a sequence starts from. -/
theorem zeros_at (k : Fin 16) (x d : Fin 128) : (zeros : Vec Ideal S16x128x128 .f32) (ix3 k x d) = 0 := by
  unfold zeros
  pointwise [k0_pay2]

/-- Inside a sequence the point before works on the same heads. -/
theorem headChunks_pred (n : ℕ) (hn : n < 128) (h0 : ¬n % 32 = 0) (k : Fin 16) : headChunks m c (n - 1) (by omega) k = headChunks m c n hn k := by
  have e1 : (n - 1) / 64 = n / 64 := by omega
  have e2 : (n - 1) / 32 % 2 = n / 32 % 2 := by omega
  unfold headChunks
  simp only [e1, e2]

/-- After every point the scratch holds the states of the point's heads. -/
theorem held_at (n : ℕ) : ∀ (hn : n < cfg0.N) (ht : n < 128) (k : Fin 16) (x d : Fin 128),
    (outsAt0 m c n hn).2 (ix3 k x d) = state (headChunks m c n ht k) (4 * (n % 32) + 4) x d := by
  induction n using Nat.strong_induction_on with
  | _ n ih =>
    intro hn ht k x d
    by_cases h0 : n % 32 = 0
    · rw [show outsAt0 m c n hn = _ from outsAt0_A m c ⟨n, hn⟩ h0]
      dsimp only
      rw [soutA_eq]
      refine states_eq (ptLoads m c ⟨n, hn⟩) zeros (headChunks m c n ht) (4 * (n % 32)) (fun i k => loads_at m c ⟨n, hn⟩ ht i k) (fun k x d => ?_) 4 (le_refl _) k x d
      rw [h0]
      exact zeros_at k x d
    · rw [show outsAt0 m c n hn = _ from outsAt0_B m c ⟨n, hn⟩ h0]
      dsimp only
      rw [soutB_eq]
      refine states_eq (ptLoads m c ⟨n, hn⟩) _ (headChunks m c n ht) (4 * (n % 32)) (fun i k => loads_at m c ⟨n, hn⟩ ht i k) (fun k x d => ?_) 4 (le_refl _) k x d
      refine (ih (n - 1) (by omega) _ (by omega) k x d).trans ?_
      rw [headChunks_pred m c n ht h0 k, show 4 * ((n - 1) % 32) + 4 = 4 * (n % 32) by omega]

/-- What a point writes back, entry by entry. -/
theorem after_at (t : Fin cfg0.N) (r : Fin 256) (q : Fin 2048) :
    (outsAt0 m c t.val t.isLt).1 (ix2 r q)
      = gate ((headChunks m c t.val (lt128 t) ⟨q.val / 128, by omega⟩ (4 * (t.val % 32) + r.val / 64)).out
          (state (headChunks m c t.val (lt128 t) ⟨q.val / 128, by omega⟩) (4 * (t.val % 32) + r.val / 64)) ⟨r.val % 64, by omega⟩)
        (fun d => a5 m c (ix1 d)) (a4 m c (ix2 ⟨256 * (t.val / 64 * 32 + t.val % 32) + r.val, by have := lt128 t; omega⟩
          ⟨2048 * (4 + t.val / 32 % 2) + q.val, by omega⟩)) ⟨q.val % 128, by omega⟩ := by
  have key : ∀ S : Vec Ideal S16x128x128 .f32, (∀ k x d, S (ix3 k x d) = state (headChunks m c t.val (lt128 t) k) (4 * (t.val % 32)) x d) →
      outBlk (ptLoads m c t) S (ix2 r q) = gate ((headChunks m c t.val (lt128 t) ⟨q.val / 128, by omega⟩ (4 * (t.val % 32) + r.val / 64)).out
          (state (headChunks m c t.val (lt128 t) ⟨q.val / 128, by omega⟩) (4 * (t.val % 32) + r.val / 64)) ⟨r.val % 64, by omega⟩)
        (fun d => a5 m c (ix1 d)) (a4 m c (ix2 ⟨256 * (t.val / 64 * 32 + t.val % 32) + r.val, by have := lt128 t; omega⟩
          ⟨2048 * (4 + t.val / 32 % 2) + q.val, by omega⟩)) ⟨q.val % 128, by omega⟩ := fun S hS => by
    refine (block_eq (ptLoads m c t) S (headChunks m c t.val (lt128 t)) (4 * (t.val % 32)) (fun i k => loads_at m c t (lt128 t) i k) hS r q).trans ?_
    rw [z_at m c t (lt128 t), show (fun d => (ptLoads m c t).g (ix2 0 d)) = fun d => a5 m c (ix1 d) from funext fun d => g_at m c t d]
    refine congrArg (fun z => gate _ _ z _) (congrArg (a4 m c) ((ix2_inj ..).2 ⟨Fin.ext ?_, Fin.ext ?_⟩)) <;> dsimp only <;> omega
  by_cases h0 : t.val % 32 = 0
  · rw [outsAt0_A m c t h0]
    dsimp only
    rw [outA_eq]
    refine key zeros fun k x d => ?_
    rw [h0]
    exact zeros_at k x d
  · rw [outsAt0_B m c t h0]
    dsimp only
    rw [outB_eq]
    refine key _ fun k x d => ?_
    refine (held_at m c (t.val - 1) _ (by have := lt128 t; omega) k x d).trans ?_
    rw [headChunks_pred m c t.val (lt128 t) h0 k, show 4 * ((t.val - 1) % 32) + 4 = 4 * (t.val % 32) by omega]

/-- Row and column `(r, q)` of point `t`'s block are these of the array. -/
theorem result_at (t : ℕ) (ht : t < 128) (r : Fin 256) (q : Fin 2048) (R : Fin 16384) (C : Fin 4096) (hR : R.val = (t / 64 * 32 + t % 32) * 256 + r.val)
    (hC : C.val = t / 32 % 2 * 2048 + q.val) :
    gate ((headChunks m c t ht ⟨q.val / 128, by omega⟩ (4 * (t % 32) + r.val / 64)).out
          (state (headChunks m c t ht ⟨q.val / 128, by omega⟩) (4 * (t % 32) + r.val / 64)) ⟨r.val % 64, by omega⟩)
        (fun d => a5 m c (ix1 d)) (a4 m c (ix2 ⟨256 * (t / 64 * 32 + t % 32) + r.val, by omega⟩ ⟨2048 * (4 + t / 32 % 2) + q.val, by omega⟩)) ⟨q.val % 128, by omega⟩
      = result (a0 m c) (a1 m c) (a2 m c) (a3 m c) (a4 m c) (a5 m c) R C := by
  have hb : (⟨t / 64, by omega⟩ : Fin 2) = ⟨R.val / 8192, by omega⟩ := Fin.ext (by dsimp only; omega)
  have hh : (⟨16 * (t / 32 % 2) + q.val / 128, by omega⟩ : Fin 32) = ⟨C.val / 128, by omega⟩ := Fin.ext (by dsimp only; omega)
  have hj : 4 * (t % 32) + r.val / 64 = R.val % 8192 / 64 := by omega
  have hr : (⟨r.val % 64, by omega⟩ : Fin 64) = ⟨R.val % 8192 % 64, by omega⟩ := Fin.ext (by dsimp only; omega)
  have hd : (⟨q.val % 128, by omega⟩ : Fin 128) = ⟨C.val % 128, by omega⟩ := Fin.ext (by dsimp only; omega)
  have hzr : (⟨256 * (t / 64 * 32 + t % 32) + r.val, by omega⟩ : Fin 16384) = R := Fin.ext (by dsimp only; omega)
  have hzc : (⟨2048 * (4 + t / 32 % 2) + q.val, by omega⟩ : Fin 12288) = ⟨8192 + C.val, by omega⟩ := Fin.ext (by dsimp only; omega)
  unfold result headChunks
  dsimp only
  rw [hb, hh, hj, hr, hd, hzr, hzc]

/-- A block of the array, entry by entry. -/
theorem point (t : Fin cfg0.N) (y : S256x2048.Idx) :
    (outsAt0 m c t.val t.isLt).1 y = result (a0 m c) (a1 m c) (a2 m c) (a3 m c) (a4 m c) (a5 m c) ((((cfg0.win 6).blk t).view.emb y) 0) ((((cfg0.win 6).blk t).view.emb y) 1) := by
  obtain ⟨r, q, rfl⟩ : ∃ (r : Fin 256) (q : Fin 2048), y = ix2 r q := ⟨y 0, y 1, by funext a; match a with | 0 => rfl | 1 => rfl⟩
  rw [after_at]
  refine result_at m c t.val (lt128 t) r q _ _ ?_ ?_
  · blk_point [idx t]
  · blk_point [idx t]

/-- The array after the run. -/
theorem final : (dats m 0 c).arrAt 6 (cfgs 0).N = fun x => result (a0 m c) (a1 m c) (a2 m c) (a3 m c) (a4 m c) (a5 m c) (x 0) (x 1) := by
  refine (dats m 0 c).arrAt_eq_of_covers 6 _ (by decide +kernel) fun t _ y => ?_
  blk_simp
  rw [after0_6]
  exact point m c t y

end Cert.KernelIdeal.Scan

end
-- ==== Proof.ScanRefRun.lean ====
/-
  The reference of the recurrence runs its loop 128 times: the state it carries is `Step.step`, trip by trip, from `Step.init` of its arguments, and its
  result is the tail `Step.R_main_v38` of the last state.
-/
module

public import proofs.«01_k».proof.Proof.Gen.ReferenceIdeal.Run
public import proofs.«01_k».proof.Proof.Gen.ReferenceIdeal.Step

@[expose] public section

set_option maxRecDepth 16384

noncomputable section

namespace Cert.ReferenceIdeal.Scan

open Cert.ReferenceIdeal Cert.ReferenceIdeal.Gen Cert.ReferenceIdeal.Value Cert.ReferenceIdeal.Step
open Idealize.ShloMosaic Idealize.ShloMosaic.TcCoe Idealize.SL.Sem Idealize.ShloMosaic.StableHlo

variable {F : FTy → Type} [FloatOps F]

/-- The carried state that the loop's buffers hold. -/
def held (V0 : Valuation τ sig (Elt F)) : State F where
  main_v17_7 := V0 (Proc.devRef .tc main_v17_7)
  main_v17_8 := V0 (Proc.devRef .tc main_v17_8)
  main_v17_0 := V0 (Proc.devRef .tc main_v17_0)
  main_v17_1 := V0 (Proc.devRef .tc main_v17_1)
  main_v17_2 := V0 (Proc.devRef .tc main_v17_2)
  main_v17_3 := V0 (Proc.devRef .tc main_v17_3)
  main_v17_4 := V0 (Proc.devRef .tc main_v17_4)
  main_v17_5 := V0 (Proc.devRef .tc main_v17_5)

/-- One trip's new recurrence state. -/
theorem step_7 (V0 : Valuation τ sig (Elt F)) (j : ℕ) (hn : V0 (Proc.devRef .tc main_v17_6) = constantI S_ 32 (BitVec.ofNat 32 j)) :
    Value.step_main_v17_7 V0 = b44 j (held V0) := by
  unfold Value.step_main_v17_7 res_main_while0b_v46
  rw [hn]
  rfl

/-- One trip's outputs, with the chunk's rows filled in. -/
theorem step_8 (V0 : Valuation τ sig (Elt F)) (j : ℕ) (hn : V0 (Proc.devRef .tc main_v17_6) = constantI S_ 32 (BitVec.ofNat 32 j)) :
    Value.step_main_v17_8 V0 = b50 j (held V0) := by
  unfold Value.step_main_v17_8 res_main_while0b_v46
  rw [hn]
  rfl

/-- One trip steps the carried state. -/
theorem held_STEP (V0 : Valuation τ sig (Elt F)) (j : ℕ) (hn : V0 (Proc.devRef .tc main_v17_6) = constantI S_ 32 (BitVec.ofNat 32 j)) :
    held (STEP V0) = step j (held V0) := by
  unfold held step
  rw [STEP_main_v17_7, STEP_main_v17_8, STEP_main_v17_0, STEP_main_v17_1, STEP_main_v17_2, STEP_main_v17_3, STEP_main_v17_4, STEP_main_v17_5,
    step_7 V0 j hn, step_8 V0 j hn]
  rfl

/-- One trip steps the counter. -/
theorem count_STEP (V0 : Valuation τ sig (Elt F)) (j : ℕ) (hn : V0 (Proc.devRef .tc main_v17_6) = constantI S_ 32 (BitVec.ofNat 32 j)) :
    STEP V0 (Proc.devRef .tc main_v17_6) = constantI S_ 32 (BitVec.ofNat 32 (j + 1)) := by
  rw [STEP_main_v17_6, step_main_v17_6, hn]
  funext i
  show BitVec.ofNat 32 j + 1#32 = BitVec.ofNat 32 (j + 1)
  simp only [BitVec.ofNat_add]

/-- The states trip by trip, from `s`. -/
def iter (s : State F) : ℕ → State F
  | 0 => s
  | n + 1 => step n (iter s n)

/-- The loop's buffers hold them. -/
theorem held_iter (V0 : Valuation τ sig (Elt F)) (h0 : V0 (Proc.devRef .tc main_v17_6) = constantI S_ 32 0#32) :
    ∀ k, held (STEP^[k] V0) = iter (held V0) k ∧ STEP^[k] V0 (Proc.devRef .tc main_v17_6) = constantI S_ 32 (BitVec.ofNat 32 k)
  | 0 => ⟨rfl, h0⟩
  | k + 1 => by
    obtain ⟨h, hc⟩ := held_iter V0 h0 k
    rw [Function.iterate_succ_apply']
    exact ⟨(held_STEP _ k hc).trans (congrArg (step k) h), count_STEP _ k hc⟩

variable (m : (ℓ : Loc nD τ sig) → Buf (Elt F) ℓ) (ρ : Dev nD → PrngReg)

set_option maxHeartbeats 2000000 in
/-- The loop is entered at `init` of the arguments … -/
theorem entry_held (c : Dev nD) : held (entryContents preI m c) = init (m ((c.tc : Thread nD τ).loc main_arg0)) (m ((c.tc : Thread nD τ).loc main_arg1))
    (m ((c.tc : Thread nD τ).loc main_arg2)) (m ((c.tc : Thread nD τ).loc main_arg3)) := by
  unfold held entryContents
  simp only [preI, afterL_cons, afterL_nil, hostOps0]
  after_results_entrywise []

set_option maxHeartbeats 2000000 in
/-- … with the counter at zero. -/
theorem entry_count (c : Dev nD) : entryContents preI m c (Proc.devRef .tc main_v17_6) = constantI S_ 32 0#32 := by
  unfold entryContents
  simp only [preI, afterL_cons, afterL_nil, hostOps0]
  after_results_entrywise []

/-- The operations after the loop are the tail. -/
theorem out_eq (V0 : Valuation τ sig (Elt F)) :
    out_main_v38 V0 = R_main_v38 (held V0) (V0 (Proc.devRef .tc main_arg4)) (V0 (Proc.devRef .tc main_arg5)) := by
  unfold out_main_v38 R_main_v38 held
  rfl

/-- The reference's run: its result is the tail of the state after 128 trips, and its arguments are as launched. -/
theorem run_iter : θ_run (defs (F := F)) (onTc (τ := τ) (main (F := F))) ⟨m, fun _ => 0, ρ⟩ fun r => ∀ c : Dev nD,
      r.2.mem ((c.tc : Thread nD τ).loc main_v38) = R_main_v38 (iter (init (m ((c.tc : Thread nD τ).loc main_arg0)) (m ((c.tc : Thread nD τ).loc main_arg1))
        (m ((c.tc : Thread nD τ).loc main_arg2)) (m ((c.tc : Thread nD τ).loc main_arg3))) 128) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) := by
  refine (θ_run _ _ _).mono (fun r h c => ⟨(h c).1.trans ?_, (h c).2⟩) (Cert.ReferenceIdeal.Value.run m ρ)
  rw [out_eq, (held_iter _ (entry_count m c) 128).1, entry_held m c, iter_main_arg4 m c 128, iter_main_arg5 m c 128]

end Cert.ReferenceIdeal.Scan

end
-- ==== Proof.ScanRef.lean ====
/-
  What the reference of the recurrence computes, entry by entry: its carried state is `ScanSpec.state` of every head, and its result the gated outputs.
-/
module

public import proofs.«01_k».proof.Proof.ScanRefRun
public import proofs.«01_k».proof.Proof.ScanSpec

@[expose] public section

set_option maxRecDepth 16384

noncomputable section

namespace Cert.ReferenceIdeal.Scan

open Cert.ReferenceIdeal Cert.ReferenceIdeal.Gen Cert.ReferenceIdeal.Step
open Idealize.ShloMosaic Idealize.ShloMosaic.TcCoe Idealize.SL.Sem
open Cert.ScanSpec

/-- The start of trip `j`'s slice, clamped as a dynamic slice clamps it, is `j`. -/
theorem start_eq : ∀ j : Fin 128, (min (max (BitVec.ofNat 32 j.val).toInt 0) ((128 - 1 : Nat) : Int)).toNat = j.val := by decide +kernel

/-- A slice of one chunk at trip `j`, read. -/
theorem slice_at {n3 n4 : ℕ} (X : FVec Ideal ⟨5, ![128, 2, 32, n3, n4]⟩ .f32) (st : Fin 5 → ℤ) (hfit : (⟨5, ![128, 2, 32, n3, n4]⟩ : Shape).Slices (fun _ => 0) ⟨5, ![1, 2, 32, n3, n4]⟩)
    (j : Fin 128) (h0 : st 0 = (BitVec.ofNat 32 j.val).toInt) (h1 : st 1 = 0) (h2 : st 2 = 0) (h3 : st 3 = 0) (h4 : st 4 = 0)
    (b : Fin 2) (h : Fin 32) (r : Fin n3) (d : Fin n4) :
    Host.dynamicSlice ⟨5, ![1, 2, 32, n3, n4]⟩ X st hfit (ix5 0 b h r d) = X (ix5 j b h r d) := by
  unfold Host.dynamicSlice extractStridedSlice
  refine congrArg X (funext fun a => Fin.ext ?_)
  match a with
  | ⟨0, _⟩ =>
    show (min (max (st 0) 0) ((128 - 1 : Nat) : Int)).toNat + 0 = j.val
    rw [h0, start_eq j, Nat.add_zero]
  | ⟨1, _⟩ =>
    show (min (max (st 1) 0) ((2 - 2 : Nat) : Int)).toNat + b.val = b.val
    rw [h1]; simp
  | ⟨2, _⟩ =>
    show (min (max (st 2) 0) ((32 - 32 : Nat) : Int)).toNat + h.val = h.val
    rw [h2]; simp
  | ⟨3, _⟩ =>
    show (min (max (st 3) 0) ((n3 - n3 : Nat) : Int)).toNat + r.val = r.val
    rw [h3]; simp
  | ⟨4, _⟩ =>
    show (min (max (st 4) 0) ((n4 - n4 : Nat) : Int)).toNat + d.val = d.val
    rw [h4]; simp

/-- A chunk written at trip `j`, read. -/
theorem write_at (X : FVec Ideal ⟨5, ![128, 2, 32, 64, 128]⟩ .f32) (U : FVec Ideal ⟨5, ![1, 2, 32, 64, 128]⟩ .f32) (st : Fin 5 → ℤ)
    (hfit : (⟨5, ![128, 2, 32, 64, 128]⟩ : Shape).Slices (fun _ => 0) ⟨5, ![1, 2, 32, 64, 128]⟩)
    (j : Fin 128) (h0 : st 0 = (BitVec.ofNat 32 j.val).toInt) (h1 : st 1 = 0) (h2 : st 2 = 0) (h3 : st 3 = 0) (h4 : st 4 = 0)
    (i : Fin 128) (b : Fin 2) (h : Fin 32) (r : Fin 64) (d : Fin 128) :
    Host.dynamicUpdateSlice X U st hfit (ix5 i b h r d) = if i = j then U (ix5 0 b h r d) else X (ix5 i b h r d) := by
  have e0 : (min (max (st 0) 0) ((128 - 1 : Nat) : Int)).toNat = j.val := by rw [h0, start_eq j]
  have e1 : (min (max (st 1) 0) ((2 - 2 : Nat) : Int)).toNat = 0 := by rw [h1]; simp
  have e2 : (min (max (st 2) 0) ((32 - 32 : Nat) : Int)).toNat = 0 := by rw [h2]; simp
  have e3 : (min (max (st 3) 0) ((64 - 64 : Nat) : Int)).toNat = 0 := by rw [h3]; simp
  have e4 : (min (max (st 4) 0) ((128 - 128 : Nat) : Int)).toNat = 0 := by rw [h4]; simp
  unfold Host.dynamicUpdateSlice updateSlice
  by_cases hij : i = j
  · subst hij
    rw [if_pos rfl, dif_pos]
    · refine congrArg U (funext fun a => Fin.ext ?_)
      match a with
      | ⟨0, _⟩ =>
        show i.val - (min (max (st 0) 0) ((128 - 1 : Nat) : Int)).toNat = 0
        omega
      | ⟨1, _⟩ =>
        show b.val - (min (max (st 1) 0) ((2 - 2 : Nat) : Int)).toNat = b.val
        omega
      | ⟨2, _⟩ =>
        show h.val - (min (max (st 2) 0) ((32 - 32 : Nat) : Int)).toNat = h.val
        omega
      | ⟨3, _⟩ =>
        show r.val - (min (max (st 3) 0) ((64 - 64 : Nat) : Int)).toNat = r.val
        omega
      | ⟨4, _⟩ =>
        show d.val - (min (max (st 4) 0) ((128 - 128 : Nat) : Int)).toNat = d.val
        omega
    · intro a
      match a with
      | ⟨0, _⟩ =>
        show (min (max (st 0) 0) ((128 - 1 : Nat) : Int)).toNat ≤ i.val ∧ i.val < (min (max (st 0) 0) ((128 - 1 : Nat) : Int)).toNat + 1
        omega
      | ⟨1, _⟩ =>
        show (min (max (st 1) 0) ((2 - 2 : Nat) : Int)).toNat ≤ b.val ∧ b.val < (min (max (st 1) 0) ((2 - 2 : Nat) : Int)).toNat + 2
        omega
      | ⟨2, _⟩ =>
        show (min (max (st 2) 0) ((32 - 32 : Nat) : Int)).toNat ≤ h.val ∧ h.val < (min (max (st 2) 0) ((32 - 32 : Nat) : Int)).toNat + 32
        omega
      | ⟨3, _⟩ =>
        show (min (max (st 3) 0) ((64 - 64 : Nat) : Int)).toNat ≤ r.val ∧ r.val < (min (max (st 3) 0) ((64 - 64 : Nat) : Int)).toNat + 64
        omega
      | ⟨4, _⟩ =>
        show (min (max (st 4) 0) ((128 - 128 : Nat) : Int)).toNat ≤ d.val ∧ d.val < (min (max (st 4) 0) ((128 - 128 : Nat) : Int)).toNat + 128
        omega
  · rw [if_neg hij, dif_neg]
    intro hin
    have h := hin 0
    change (min (max (st 0) 0) ((128 - 1 : Nat) : Int)).toNat ≤ i.val ∧ i.val < (min (max (st 0) 0) ((128 - 1 : Nat) : Int)).toNat + 1 at h
    exact hij (Fin.ext (by omega))

/-! The slices of trip `j`, entry by entry. -/

theorem b5_eq (j : Fin 128) (s : State Ideal) (b : Fin 2) (h : Fin 32) (r : Fin 64) (d : Fin 128) :
    b5 j.val s (ix4 b h r d) = s.main_v17_0 (ix5 j b h r d) := by
  pointwise [b5]
  unfold b4
  refine slice_at _ _ _ j ?_ ?_ ?_ ?_ ?_ b h r d <;> rfl

theorem b11_eq (j : Fin 128) (s : State Ideal) (b : Fin 2) (h : Fin 32) (r : Fin 64) (d : Fin 128) :
    b11 j.val s (ix4 b h r d) = s.main_v17_1 (ix5 j b h r d) := by
  pointwise [b11]
  unfold b10
  refine slice_at _ _ _ j ?_ ?_ ?_ ?_ ?_ b h r d <;> rfl

theorem b17_eq (j : Fin 128) (s : State Ideal) (b : Fin 2) (h : Fin 32) (r : Fin 64) (d : Fin 128) :
    b17 j.val s (ix4 b h r d) = s.main_v17_2 (ix5 j b h r d) := by
  pointwise [b17]
  unfold b16
  refine slice_at _ _ _ j ?_ ?_ ?_ ?_ ?_ b h r d <;> rfl

theorem b23_eq (j : Fin 128) (s : State Ideal) (b : Fin 2) (h : Fin 32) (r : Fin 64) (d : Fin 64) :
    b23 j.val s (ix4 b h r d) = s.main_v17_3 (ix5 j b h r d) := by
  pointwise [b23]
  unfold b22
  refine slice_at _ _ _ j ?_ ?_ ?_ ?_ ?_ b h r d <;> rfl

theorem b29_eq (j : Fin 128) (s : State Ideal) (b : Fin 2) (h : Fin 32) (r : Fin 128) (d : Fin 64) :
    b29 j.val s (ix4 b h r d) = s.main_v17_4 (ix5 j b h r d) := by
  pointwise [b29]
  unfold b28
  refine slice_at _ _ _ j ?_ ?_ ?_ ?_ ?_ b h r d <;> rfl

theorem b35_eq (j : Fin 128) (s : State Ideal) (b : Fin 2) (h : Fin 32) (d : Fin 128) :
    b35 j.val s (ix4 b h 0 d) = s.main_v17_5 (ix5 j b h 0 d) := by
  pointwise [b35]
  unfold b34
  refine slice_at _ _ _ j ?_ ?_ ?_ ?_ ?_ b h (0 : Fin 1) d <;> rfl

/-- The outputs' buffer after trip `j`. -/
theorem b50_eq (j : Fin 128) (s : State Ideal) (i : Fin 128) (b : Fin 2) (h : Fin 32) (r : Fin 64) (d : Fin 128) :
    b50 j.val s (ix5 i b h r d) = if i = j then b40 j.val s (ix4 b h r d) else s.main_v17_8 (ix5 i b h r d) := by
  refine Eq.trans (b := if i = j then b45 j.val s (ix5 0 b h r d) else s.main_v17_8 (ix5 i b h r d)) ?_ ?_
  · unfold b50
    refine write_at _ _ _ _ j ?_ ?_ ?_ ?_ ?_ i b h r d <;> rfl
  · refine if_congr Iff.rfl ?_ rfl
    pointwise [b45]

/-! The scanned operands, entry by entry. -/

theorem A9_eq (a0 a1 a2 a3) (j : Fin 128) (b : Fin 2) (h : Fin 32) (r : Fin 64) (d : Fin 128) :
    A_main_v9 (F := Ideal) a0 a1 a2 a3 (ix5 j b h r d) = a0 (ix4 b h ⟨j.val * 64 + r.val, by omega⟩ d) := by
  pointwise [A_main_v9, A_main_v8]

theorem A10_eq (a0 a1 a2 a3) (j : Fin 128) (b : Fin 2) (h : Fin 32) (r : Fin 64) (d : Fin 128) :
    A_main_v10 (F := Ideal) a0 a1 a2 a3 (ix5 j b h r d) = a1 (ix5 b h j ⟨r.val, by omega⟩ d) := by
  pointwise [A_main_v10, A_main_v1, A_main_v0]

theorem A11_eq (a0 a1 a2 a3) (j : Fin 128) (b : Fin 2) (h : Fin 32) (r : Fin 64) (d : Fin 128) :
    A_main_v11 (F := Ideal) a0 a1 a2 a3 (ix5 j b h r d) = a1 (ix5 b h j ⟨64 + r.val, by omega⟩ d) := by
  pointwise [A_main_v11, A_main_v3, A_main_v2]

theorem A12_eq (a0 a1 a2 a3) (j : Fin 128) (b : Fin 2) (h : Fin 32) (r : Fin 64) (d : Fin 64) :
    A_main_v12 (F := Ideal) a0 a1 a2 a3 (ix5 j b h r d) = a2 (ix5 b h j ⟨r.val, by omega⟩ d) := by
  pointwise [A_main_v12, A_main_v5, A_main_v4]

theorem A13_eq (a0 a1 a2 a3) (j : Fin 128) (b : Fin 2) (h : Fin 32) (r : Fin 128) (d : Fin 64) :
    A_main_v13 (F := Ideal) a0 a1 a2 a3 (ix5 j b h r d) = a2 (ix5 b h j ⟨64 + r.val, by omega⟩ d) := by
  pointwise [A_main_v13, A_main_v7, A_main_v6]

theorem A14_eq (a0 a1 a2 a3) (j : Fin 128) (b : Fin 2) (h : Fin 32) (d : Fin 128) :
    A_main_v14 (F := Ideal) a0 a1 a2 a3 (ix5 j b h 0 d) = a3 (ix5 b h j 0 d) := by
  pointwise [A_main_v14]

/-- A carried state that scans the operands of the arguments. -/
structure Scans (a0 a1 a2 a3) (s : State Ideal) : Prop where
  h0 : s.main_v17_0 = A_main_v9 a0 a1 a2 a3
  h1 : s.main_v17_1 = A_main_v10 a0 a1 a2 a3
  h2 : s.main_v17_2 = A_main_v11 a0 a1 a2 a3
  h3 : s.main_v17_3 = A_main_v12 a0 a1 a2 a3
  h4 : s.main_v17_4 = A_main_v13 a0 a1 a2 a3
  h5 : s.main_v17_5 = A_main_v14 a0 a1 a2 a3

/-- The recurrence state of one head. -/
def headOf (s : State Ideal) (b : Fin 2) (h : Fin 32) : Fin 128 → Fin 128 → EReal := fun x d => s.main_v17_7 (ix4 b h x d)

theorem mod_self (j : Fin 128) : (⟨j.val % 128, Nat.mod_lt _ (by decide)⟩ : Fin 128) = j := Fin.ext (Nat.mod_eq_of_lt j.isLt)

section
variable {a0 a1 a2 a3} {s : State Ideal} (hs : Scans a0 a1 a2 a3 s) (j : Fin 128) (b : Fin 2) (h : Fin 32)
include hs

/-- Trip `j`'s operands are those of chunk `j`. -/
theorem u_eq (r : Fin 64) (d : Fin 128) : b5 j.val s (ix4 b h r d) = (chunkAt a0 a1 a2 a3 b h j.val).u r d := by
  rw [b5_eq, hs.h0, A9_eq]
  exact congrArg a0 (congrArg (fun n => ix4 b h n d) (Fin.ext (by show _ = j.val % 128 * 64 + r.val; rw [Nat.mod_eq_of_lt j.isLt])))

theorem w_eq (r : Fin 64) (d : Fin 128) : b11 j.val s (ix4 b h r d) = (chunkAt a0 a1 a2 a3 b h j.val).a ⟨r.val, by omega⟩ d := by
  rw [b11_eq, hs.h1, A10_eq]; unfold chunkAt; rw [mod_self j]

theorem q_eq (r : Fin 64) (d : Fin 128) : b17 j.val s (ix4 b h r d) = (chunkAt a0 a1 a2 a3 b h j.val).a ⟨64 + r.val, by omega⟩ d := by
  rw [b17_eq, hs.h2, A11_eq]; unfold chunkAt; rw [mod_self j]

theorem qk_eq (r : Fin 64) (d : Fin 64) : b23 j.val s (ix4 b h r d) = (chunkAt a0 a1 a2 a3 b h j.val).b ⟨r.val, by omega⟩ d := by
  rw [b23_eq, hs.h3, A12_eq]; unfold chunkAt; rw [mod_self j]

theorem k_eq (r : Fin 128) (d : Fin 64) : b29 j.val s (ix4 b h r d) = (chunkAt a0 a1 a2 a3 b h j.val).b ⟨64 + r.val, by omega⟩ d := by
  rw [b29_eq, hs.h4, A13_eq]; unfold chunkAt; rw [mod_self j]

theorem e_eq (d : Fin 128) : b35 j.val s (ix4 b h 0 d) = (chunkAt a0 a1 a2 a3 b h j.val).e d := by
  rw [b35_eq, hs.h5, A14_eq]; unfold chunkAt; rw [mod_self j]

/-- Trip `j`'s new values … -/
theorem new_eq (r : Fin 64) (d : Fin 128) : b37 j.val s (ix4 b h r d) = (chunkAt a0 a1 a2 a3 b h j.val).new (headOf s b h) r d := by
  pointwise [b37, b36, u_eq hs j, w_eq hs j, Chunk.new, headOf]

/-- … its outputs … -/
theorem out_at (r : Fin 64) (d : Fin 128) : b40 j.val s (ix4 b h r d) = (chunkAt a0 a1 a2 a3 b h j.val).out (headOf s b h) r d := by
  pointwise [b40, b38, b39, q_eq hs j, qk_eq hs j, new_eq hs j, Chunk.out]
  rfl

/-- … and its state. -/
theorem next_at (x : Fin 128) (d : Fin 128) : b44 j.val s (ix4 b h x d) = (chunkAt a0 a1 a2 a3 b h j.val).next (headOf s b h) x d := by
  pointwise [b44, b42, b43, b41, e_eq hs j, k_eq hs j, new_eq hs j, Chunk.next]
  rfl

end

/-- The operands stay. -/
theorem scans_iter (a0 a1 a2 a3) : ∀ n, Scans a0 a1 a2 a3 (iter (init (F := Ideal) a0 a1 a2 a3) n)
  | 0 => ⟨rfl, rfl, rfl, rfl, rfl, rfl⟩
  | n + 1 => let h := scans_iter a0 a1 a2 a3 n; ⟨h.h0, h.h1, h.h2, h.h3, h.h4, h.h5⟩

theorem zero_bits : Ideal.ofBits .f32 0x00000000#32 = 0 := Ideal.ofBits_zero .f32

/-- Before trip `n` every head's state is `ScanSpec.state` … -/
theorem head_iter (a0 a1 a2 a3) (b : Fin 2) (h : Fin 32) : ∀ n, n ≤ 128 → headOf (iter (init (F := Ideal) a0 a1 a2 a3) n) b h = state (chunkAt a0 a1 a2 a3 b h) n
  | 0, _ => by
    funext x d
    exact zero_bits
  | n + 1, hn => by
    funext x d
    refine (next_at (scans_iter a0 a1 a2 a3 n) ⟨n, hn⟩ b h x d).trans ?_
    rw [head_iter a0 a1 a2 a3 b h n (by omega)]
    rfl

/-- … and the chunks before it hold their outputs. -/
theorem outs_iter (a0 a1 a2 a3) (i : Fin 128) (b : Fin 2) (h : Fin 32) (r : Fin 64) (d : Fin 128) : ∀ n, n ≤ 128 → i.val < n →
    (iter (init (F := Ideal) a0 a1 a2 a3) n).main_v17_8 (ix5 i b h r d) = (chunkAt a0 a1 a2 a3 b h i.val).out (state (chunkAt a0 a1 a2 a3 b h) i.val) r d
  | 0, _, hi => absurd hi (Nat.not_lt_zero _)
  | n + 1, hn, hi => by
    refine (b50_eq ⟨n, hn⟩ _ i b h r d).trans ?_
    by_cases e : i = ⟨n, hn⟩
    · subst e
      rw [if_pos rfl, out_at (scans_iter a0 a1 a2 a3 n) ⟨n, hn⟩ b h r d, head_iter a0 a1 a2 a3 b h n (by omega)]
    · rw [if_neg e]
      exact outs_iter a0 a1 a2 a3 i b h r d n (by omega) (by have : i.val ≠ n := fun h => e (Fin.ext h); omega)

/-- The result, over the outputs. -/
theorem tail_eq (s : State Ideal) (a4) (a5) (R : Fin 16384) (C : Fin 4096) :
    R_main_v38 (F := Ideal) s a4 a5 (ix2 R C)
      = gate (fun d => s.main_v17_8 (ix5 ⟨R.val % 8192 / 64, by omega⟩ ⟨R.val / 8192, by omega⟩ ⟨C.val / 128, by omega⟩ ⟨R.val % 8192 % 64, by omega⟩ d))
          (fun d => a5 (ix1 d)) (a4 (ix2 R ⟨8192 + C.val, by omega⟩)) ⟨C.val % 128, by omega⟩ := by
  pointwise [R_main_v38, gate, Ideal.logistic]

/-- The reference's result is it. -/
theorem result_eq (a0 a1 a2 a3 a4 a5) (R : Fin 16384) (C : Fin 4096) :
    R_main_v38 (iter (init (F := Ideal) a0 a1 a2 a3) 128) a4 a5 (ix2 R C) = result a0 a1 a2 a3 a4 a5 R C := by
  rw [tail_eq]
  unfold result
  refine congrArg (fun o => gate o _ _ _) (funext fun d => ?_)
  exact outs_iter a0 a1 a2 a3 _ _ _ _ d 128 (le_refl _) (by show R.val % 8192 / 64 < 128; omega)

end Cert.ReferenceIdeal.Scan

end
-- ==== Proof.NormSpec.lean ====
/-
  The rows that the layers' projections multiply: each row of the hidden states over the root of its mean square, times the gain.
-/
module

public import Idealize.ShloMosaic.Lib.Pointwise

@[expose] public section

noncomputable section

namespace Cert.NormSpec

open Idealize.ShloMosaic

/-- Row `R`, lane `k` of the normalised hidden states. -/
def normed (x : FVec Ideal ⟨2, ![16384, 2048]⟩ .f32) (g : FVec Ideal ⟨1, ![2048]⟩ .f32) (R : Fin 16384) (k : Fin 2048) : EReal :=
  x (ix2 R k) * Ideal.rsqrt (Ideal.div (∑ j : Fin 2048, x (ix2 R j) * x (ix2 R j)) (Ideal.ofBits .f32 0x45000000#32) + Ideal.ofBits .f32 0x358637BD#32) * g (ix1 k)

end Cert.NormSpec

end
-- ==== Proof.DnProjValue.lean ====
/-
  The delta-rule layer's norm and input projection. The first point of a row block writes the normalised rows into the carried scratch, the others find them
  there; every point multiplies them with its columns of the weights, and the blocks cover the array.
-/
module

public import proofs.«01_k».proof.Proof.Gen.DnProjIdeal.Value
public import proofs.«01_k».proof.Proof.Gen.DnProjRefIdeal.Run
public import proofs.«01_k».proof.Proof.NormSpec
public import Idealize.ShloMosaic.Lib.Pipeline.ValueKit
public import Idealize.ShloMosaic.Lib.Pipeline.ReadBack

@[expose] public section

set_option maxRecDepth 16384

noncomputable section

namespace Cert.DnProjIdeal.Proj

open Cert.DnProjIdeal Cert.DnProjIdeal.Gen Idealize.ShloMosaic Idealize.ShloMosaic.TcCoe Idealize.SL.Sem
open Cert.NormSpec

variable (m : (ℓ : Loc nD τ sig) → Buf (Elt Ideal) ℓ) (c : Dev nD)

/-- The blocks the windows stage at each point: row block `t / 12`, column block `t % 12`. -/
theorem idx : ∀ t : Fin cfg0.N, win0_0.index t = ![t.val / 12, 0] ∧ win0_1.index t = ![0, 0] ∧ win0_2.index t = ![0, t.val % 12]
    ∧ win0_3.index t = ![t.val / 12, t.val % 12] := (by decide +kernel : ∀ t : Fin grid0.N, _)

/-- The scratch after a row block's first point, and the block every point writes. -/
theorem scratch_A (t : Fin cfg0.N) (h0 : t.val % 12 = 0) : (outsAt0 m c t.val t.isLt).2 = k0_pay1 (iblk m c 0 t) (iblk m c 1 t) := by
  rw [outsAt0_A m c t h0]
  frame_open
  frame_out

theorem scratch_B (t : Fin cfg0.N) (h0 : ¬t.val % 12 = 0) : (outsAt0 m c t.val t.isLt).2 = (outsAt0 m c (t.val - 1) (Nat.lt_of_le_of_lt (Nat.sub_le _ _) t.isLt)).2 := by
  rw [outsAt0_B m c t h0]
  rfl

theorem out_A (t : Fin cfg0.N) (h0 : t.val % 12 = 0) : (outsAt0 m c t.val t.isLt).1 = k0_pay2 (k0_pay1 (iblk m c 0 t) (iblk m c 1 t)) (iblk m c 2 t) := by
  rw [outsAt0_A m c t h0]
  frame_open
  simp (disch := decide) only [↓ View.readCov_skip, ↓ View.readCov_cons_toLoadRect, ↓ View.readCov_fill]
  frame_out

theorem out_B (t : Fin cfg0.N) (h0 : ¬t.val % 12 = 0) : (outsAt0 m c t.val t.isLt).1
    = k0_pay2 (outsAt0 m c (t.val - 1) (Nat.lt_of_le_of_lt (Nat.sub_le _ _) t.isLt)).2 (iblk m c 2 t) := by
  rw [outsAt0_B m c t h0]
  frame_open
  frame_out
  simp only [read_unread_whole]

/-- The staged gain is the argument's. -/
theorem gain_at (t : Fin cfg0.N) (k : Fin 2048) : iblk m c 1 t (ix2 0 k) = m ((c.tc : Thread nD τ).loc main_arg1) (ix1 k) := by
  have e : V m c main_v2 = shapeCast S1x2048 (m ((c.tc : Thread nD τ).loc main_arg1)) Gen.shapeCasts_S2048_S1x2048 := by
    entry_read
    rfl
  have e' : iblk m c 1 t (ix2 0 k) = V m c main_v2 (ix2 0 k) := by blk_point [iblk, idx t]
  rw [e', e]
  pointwise []

/-- The rows a row block's first point writes. -/
theorem rows_at (t : Fin cfg0.N) (ht : t.val < 192) (r : Fin 1024) (k : Fin 2048) : k0_pay1 (iblk m c 0 t) (iblk m c 1 t) (ix2 r k)
    = normed (m ((c.tc : Thread nD τ).loc main_arg0)) (m ((c.tc : Thread nD τ).loc main_arg1)) ⟨1024 * (t.val / 12) + r.val, by omega⟩ k := by
  have hx : ∀ k : Fin 2048, iblk m c 0 t (ix2 r k) = m ((c.tc : Thread nD τ).loc main_arg0) (ix2 ⟨1024 * (t.val / 12) + r.val, by omega⟩ k) := fun k => by
    blk_point [iblk, V, idx t]
  pointwise [k0_pay1, normed, hx, gain_at m c t]

/-- The scratch after every point holds its row block's rows. -/
theorem held_at (n : ℕ) : ∀ (hn : n < cfg0.N) (ht : n < 192) (r : Fin 1024) (k : Fin 2048), (outsAt0 m c n hn).2 (ix2 r k)
    = normed (m ((c.tc : Thread nD τ).loc main_arg0)) (m ((c.tc : Thread nD τ).loc main_arg1)) ⟨1024 * (n / 12) + r.val, by omega⟩ k := by
  induction n using Nat.strong_induction_on with
  | _ n ih =>
    intro hn ht r k
    by_cases h0 : n % 12 = 0
    · rw [show (outsAt0 m c n hn).2 = _ from scratch_A m c ⟨n, hn⟩ h0]
      exact rows_at m c ⟨n, hn⟩ ht r k
    · rw [show (outsAt0 m c n hn).2 = _ from scratch_B m c ⟨n, hn⟩ h0]
      refine (ih (n - 1) (by omega) _ (by omega) r k).trans ?_
      simp only [show (n - 1) / 12 = n / 12 by omega]

/-- One row and column of the result. -/
def result (a0 : FVec Ideal ⟨2, ![16384, 2048]⟩ .f32) (a1 : FVec Ideal ⟨1, ![2048]⟩ .f32) (a2 : FVec Ideal ⟨2, ![2048, 12352]⟩ .f32) (R : Fin 16384) (C : Fin 12288) : EReal :=
  ∑ k : Fin 2048, normed a0 a1 R k * a2 (ix2 k ⟨C.val, by omega⟩)

/-- The staged weights are the argument's columns. -/
theorem weights_at (t : Fin cfg0.N) (ht : t.val < 192) (k : Fin 2048) (q : Fin 1024) :
    iblk m c 2 t (ix2 k q) = m ((c.tc : Thread nD τ).loc main_arg2) (ix2 k ⟨1024 * (t.val % 12) + q.val, by omega⟩) := by
  have e : (V m c main_v1 : FVec Ideal S2048x12288 .bf16) = truncf (F := Ideal) .bf16 (extractStridedSlice S2048x12288 ![0, 0] (m ((c.tc : Thread nD τ).loc main_arg2) : FVec Ideal S2048x12352 .f32)
      Gen.slices_S2048x12352_S2048x12288_0_0) Gen.bitsLt_bf16_f32 := by
    entry_read
    rfl
  have e' : iblk m c 2 t (ix2 k q) = V m c main_v1 (ix2 k ⟨1024 * (t.val % 12) + q.val, by omega⟩) := by blk_point [iblk, idx t]
  rw [e', e]
  pointwise []

/-- The rows in the block that a point writes. -/
theorem after_at (t : Fin cfg0.N) (ht : t.val < 192) (r : Fin 1024) (q : Fin 1024) : (outsAt0 m c t.val t.isLt).1 (ix2 r q)
    = result (m ((c.tc : Thread nD τ).loc main_arg0)) (m ((c.tc : Thread nD τ).loc main_arg1)) (m ((c.tc : Thread nD τ).loc main_arg2))
        ⟨1024 * (t.val / 12) + r.val, by omega⟩ ⟨1024 * (t.val % 12) + q.val, by omega⟩ := by
  have key : ∀ S : Vec Ideal S1024x2048 .bf16, (∀ k, S (ix2 r k) = normed (m ((c.tc : Thread nD τ).loc main_arg0)) (m ((c.tc : Thread nD τ).loc main_arg1)) ⟨1024 * (t.val / 12) + r.val, by omega⟩ k) →
      k0_pay2 S (iblk m c 2 t) (ix2 r q) = result (m ((c.tc : Thread nD τ).loc main_arg0)) (m ((c.tc : Thread nD τ).loc main_arg1)) (m ((c.tc : Thread nD τ).loc main_arg2))
        ⟨1024 * (t.val / 12) + r.val, by omega⟩ ⟨1024 * (t.val % 12) + q.val, by omega⟩ := fun S hS => by
    pointwise [k0_pay2, hS, weights_at m c t ht, result]
  by_cases h0 : t.val % 12 = 0
  · rw [out_A m c t h0]
    exact key _ fun k => rows_at m c t ht r k
  · rw [out_B m c t h0]
    refine key _ fun k => (held_at m c (t.val - 1) _ (by omega) r k).trans ?_
    simp only [show (t.val - 1) / 12 = t.val / 12 by omega]

/-- The result at a row and a column given by their numbers. -/
theorem block_at (a0 a1 a2) (u v : ℕ) (hu : u < 16384) (hv : v < 12288) (R : Fin 16384) (C : Fin 12288) (hR : R.val = u) (hC : C.val = v) :
    result a0 a1 a2 ⟨u, hu⟩ ⟨v, hv⟩ = result a0 a1 a2 R C := by
  subst hR hC
  rfl

/-- A block's entry is the result's. -/
theorem point (t : Fin cfg0.N) (y : S1024x1024.Idx) : (outsAt0 m c t.val t.isLt).1 y
    = result (m ((c.tc : Thread nD τ).loc main_arg0)) (m ((c.tc : Thread nD τ).loc main_arg1)) (m ((c.tc : Thread nD τ).loc main_arg2))
        ((((cfg0.win 3).blk t).view.emb y) 0) ((((cfg0.win 3).blk t).view.emb y) 1) := by
  have ht : t.val < 192 := Nat.lt_of_lt_of_eq t.isLt N_0
  obtain ⟨r, q, rfl⟩ : ∃ (r : Fin 1024) (q : Fin 1024), y = ix2 r q := ⟨y 0, y 1, by funext a; match a with | 0 => rfl | 1 => rfl⟩
  rw [after_at m c t ht]
  have h0 : ((((cfg0.win 3).blk t).view.emb (ix2 r q)) 0).val = t.val / 12 * 1024 + r.val := by blk_point [idx t]
  have h1 : ((((cfg0.win 3).blk t).view.emb (ix2 r q)) 1).val = t.val % 12 * 1024 + q.val := by blk_point [idx t]
  exact block_at _ _ _ _ _ _ _ _ _ (h0.trans (by omega)) (h1.trans (by omega))

/-- The array after the run. -/
theorem final : (dats m 0 c).arrAt 3 (cfgs 0).N = fun x => result (m ((c.tc : Thread nD τ).loc main_arg0)) (m ((c.tc : Thread nD τ).loc main_arg1))
    (m ((c.tc : Thread nD τ).loc main_arg2)) (x 0) (x 1) := by
  refine (dats m 0 c).arrAt_eq_of_covers 3 _ (by decide +kernel) fun t _ y => ?_
  blk_simp
  rw [after0_3]
  exact point m c t y

end Cert.DnProjIdeal.Proj

end
-- ==== Proof.AttnProjValue.lean ====
/-
  The attention layer's norm and input projection. A row block has three points: the first normalises its rows into the carried scratch, all three multiply
  them with a third of the weights' 4224 columns. The last 48 columns are padding: zero weights there, so a zero result.
-/
module

public import proofs.«01_k».proof.Proof.Gen.AttnProjIdeal.Value
public import proofs.«01_k».proof.Proof.Gen.AttnProjRefIdeal.Run
public import proofs.«01_k».proof.Proof.NormSpec
public import Idealize.ShloMosaic.Lib.Pipeline.ValueKit
public import Idealize.ShloMosaic.Lib.Pipeline.ReadBack

@[expose] public section

set_option maxRecDepth 16384

noncomputable section

namespace Cert.AttnProjIdeal.Proj

open Cert.AttnProjIdeal Cert.AttnProjIdeal.Gen Idealize.ShloMosaic Idealize.ShloMosaic.TcCoe Idealize.SL.Sem
open Cert.NormSpec

variable (m : (ℓ : Loc nD τ sig) → Buf (Elt Ideal) ℓ) (c : Dev nD)

/-- The blocks the windows stage at each point: row block `t / 3`, column block `t % 3`. -/
theorem idx : ∀ t : Fin cfg0.N, win0_0.index t = ![t.val / 3, 0] ∧ win0_1.index t = ![0, 0] ∧ win0_2.index t = ![0, t.val % 3]
    ∧ win0_3.index t = ![t.val / 3, t.val % 3] := (by decide +kernel : ∀ t : Fin grid0.N, _)

/-- The scratch after a row block's first point, and the block every point writes. -/
theorem scratch_A (t : Fin cfg0.N) (h0 : t.val % 3 = 0) : (outsAt0 m c t.val t.isLt).2 = k0_pay1 (iblk m c 0 t) (iblk m c 1 t) := by
  rw [outsAt0_A m c t h0]
  frame_open
  frame_out

theorem scratch_B (t : Fin cfg0.N) (h0 : ¬t.val % 3 = 0) : (outsAt0 m c t.val t.isLt).2 = (outsAt0 m c (t.val - 1) (Nat.lt_of_le_of_lt (Nat.sub_le _ _) t.isLt)).2 := by
  rw [outsAt0_B m c t h0]
  rfl

theorem out_A (t : Fin cfg0.N) (h0 : t.val % 3 = 0) : (outsAt0 m c t.val t.isLt).1 = k0_pay2 (k0_pay1 (iblk m c 0 t) (iblk m c 1 t)) (iblk m c 2 t) := by
  rw [outsAt0_A m c t h0]
  frame_open
  simp (disch := decide) only [↓ View.readCov_skip, ↓ View.readCov_cons_toLoadRect, ↓ View.readCov_fill]
  frame_out

theorem out_B (t : Fin cfg0.N) (h0 : ¬t.val % 3 = 0) : (outsAt0 m c t.val t.isLt).1
    = k0_pay2 (outsAt0 m c (t.val - 1) (Nat.lt_of_le_of_lt (Nat.sub_le _ _) t.isLt)).2 (iblk m c 2 t) := by
  rw [outsAt0_B m c t h0]
  frame_open
  frame_out
  simp only [read_unread_whole]

/-- The staged gain is the argument's. -/
theorem gain_at (t : Fin cfg0.N) (k : Fin 2048) : iblk m c 1 t (ix2 0 k) = m ((c.tc : Thread nD τ).loc main_arg1) (ix1 k) := by
  have e : V m c main_v2 = shapeCast S1x2048 (m ((c.tc : Thread nD τ).loc main_arg1)) Gen.shapeCasts_S2048_S1x2048 := by
    entry_read
    rfl
  have e' : iblk m c 1 t (ix2 0 k) = V m c main_v2 (ix2 0 k) := by blk_point [iblk, idx t]
  rw [e', e]
  pointwise []

/-- The rows a row block's first point writes. -/
theorem rows_at (t : Fin cfg0.N) (ht : t.val < 48) (r : Fin 1024) (k : Fin 2048) : k0_pay1 (iblk m c 0 t) (iblk m c 1 t) (ix2 r k)
    = normed (m ((c.tc : Thread nD τ).loc main_arg0)) (m ((c.tc : Thread nD τ).loc main_arg1)) ⟨1024 * (t.val / 3) + r.val, by omega⟩ k := by
  have hx : ∀ k : Fin 2048, iblk m c 0 t (ix2 r k) = m ((c.tc : Thread nD τ).loc main_arg0) (ix2 ⟨1024 * (t.val / 3) + r.val, by omega⟩ k) := fun k => by
    blk_point [iblk, V, idx t]
  pointwise [k0_pay1, normed, hx, gain_at m c t]

/-- The scratch after every point holds its row block's rows. -/
theorem held_at (n : ℕ) : ∀ (hn : n < cfg0.N) (ht : n < 48) (r : Fin 1024) (k : Fin 2048), (outsAt0 m c n hn).2 (ix2 r k)
    = normed (m ((c.tc : Thread nD τ).loc main_arg0)) (m ((c.tc : Thread nD τ).loc main_arg1)) ⟨1024 * (n / 3) + r.val, by omega⟩ k := by
  induction n using Nat.strong_induction_on with
  | _ n ih =>
    intro hn ht r k
    by_cases h0 : n % 3 = 0
    · rw [show (outsAt0 m c n hn).2 = _ from scratch_A m c ⟨n, hn⟩ h0]
      exact rows_at m c ⟨n, hn⟩ ht r k
    · rw [show (outsAt0 m c n hn).2 = _ from scratch_B m c ⟨n, hn⟩ h0]
      refine (ih (n - 1) (by omega) _ (by omega) r k).trans ?_
      simp only [show (n - 1) / 3 = n / 3 by omega]

/-- The weight of a padded column is zero. -/
def weight (a2 : FVec Ideal ⟨2, ![2048, 4176]⟩ .f32) (k : Fin 2048) (C : Fin 4224) : EReal :=
  if h : C.val < 4176 then a2 (ix2 k ⟨C.val, h⟩) else 0

/-- One row and column of the result. -/
def result (a0 : FVec Ideal ⟨2, ![16384, 2048]⟩ .f32) (a1 : FVec Ideal ⟨1, ![2048]⟩ .f32) (a2 : FVec Ideal ⟨2, ![2048, 4176]⟩ .f32) (R : Fin 16384) (C : Fin 4224) : EReal :=
  ∑ k : Fin 2048, normed a0 a1 R k * weight a2 k C

/-- The padding's number is zero. -/
theorem fill : (FloatOps.sitofp (F := Ideal) FTy.f32 (0#32) : EReal) = 0 := by
  change ((((0#32 : BitVec 32).toInt : ℝ)) : EReal) = 0
  simp

/-- The host's padded weights. -/
theorem padded (w : FVec Ideal S2048x4176 .f32) (k : Fin 2048) (C : Fin 4224) :
    pad S2048x4224 ![0, 0] ![0, 48] ![0, 0] w (sitofp (F := Ideal) .f32 (constantI S_ 32 0#32)) Gen.pads_S2048x4176_S2048x4224_000_0480 Gen.h_S_ (ix2 k C) = weight w k C := by
  pointwise [weight]
  rw [fill]

/-- A sum over padded weights is the padded sum. -/
theorem padded_sum (f : Fin 2048 → EReal) (w : FVec Ideal ⟨2, ![2048, 4176]⟩ .f32) (C : Fin 4224) :
    (if h : C.val < 4176 then ∑ k, f k * w (ix2 k ⟨C.val, h⟩) else (FloatOps.sitofp (F := Ideal) FTy.f32 (0#32) : EReal)) = ∑ k, f k * weight w k C := by
  by_cases h : C.val < 4176
  · simp only [weight, dif_pos h]
  · simp only [weight, dif_neg h, mul_zero, Finset.sum_const_zero, fill]

/-- The staged weights are the argument's columns, padded. -/
theorem weights_at (t : Fin cfg0.N) (ht : t.val < 48) (k : Fin 2048) (q : Fin 1408) :
    iblk m c 2 t (ix2 k q) = weight (m ((c.tc : Thread nD τ).loc main_arg2)) k ⟨1408 * (t.val % 3) + q.val, by omega⟩ := by
  have e : (V m c main_v1 : FVec Ideal S2048x4224 .bf16) = truncf (F := Ideal) .bf16 (pad S2048x4224 ![0, 0] ![0, 48] ![0, 0] (m ((c.tc : Thread nD τ).loc main_arg2) : FVec Ideal S2048x4176 .f32)
      (sitofp .f32 (constantI S_ 32 0#32) : FVec Ideal S_ .f32) Gen.pads_S2048x4176_S2048x4224_000_0480 Gen.h_S_) Gen.bitsLt_bf16_f32 := by
    entry_read
    rfl
  have e' : iblk m c 2 t (ix2 k q) = V m c main_v1 (ix2 k ⟨1408 * (t.val % 3) + q.val, by omega⟩) := by blk_point [iblk, idx t]
  rw [e', e]
  exact padded _ k _

/-- The rows in the block that a point writes. -/
theorem after_at (t : Fin cfg0.N) (ht : t.val < 48) (r : Fin 1024) (q : Fin 1408) : (outsAt0 m c t.val t.isLt).1 (ix2 r q)
    = result (m ((c.tc : Thread nD τ).loc main_arg0)) (m ((c.tc : Thread nD τ).loc main_arg1)) (m ((c.tc : Thread nD τ).loc main_arg2))
        ⟨1024 * (t.val / 3) + r.val, by omega⟩ ⟨1408 * (t.val % 3) + q.val, by omega⟩ := by
  have key : ∀ S : Vec Ideal S1024x2048 .bf16, (∀ k, S (ix2 r k) = normed (m ((c.tc : Thread nD τ).loc main_arg0)) (m ((c.tc : Thread nD τ).loc main_arg1)) ⟨1024 * (t.val / 3) + r.val, by omega⟩ k) →
      k0_pay2 S (iblk m c 2 t) (ix2 r q) = result (m ((c.tc : Thread nD τ).loc main_arg0)) (m ((c.tc : Thread nD τ).loc main_arg1)) (m ((c.tc : Thread nD τ).loc main_arg2))
        ⟨1024 * (t.val / 3) + r.val, by omega⟩ ⟨1408 * (t.val % 3) + q.val, by omega⟩ := fun S hS => by
    pointwise [k0_pay2, hS, weights_at m c t ht, result]
  by_cases h0 : t.val % 3 = 0
  · rw [out_A m c t h0]
    exact key _ fun k => rows_at m c t ht r k
  · rw [out_B m c t h0]
    refine key _ fun k => (held_at m c (t.val - 1) _ (by omega) r k).trans ?_
    simp only [show (t.val - 1) / 3 = t.val / 3 by omega]

/-- The result at a row and a column given by their numbers. -/
theorem block_at (a0 a1 a2) (u v : ℕ) (hu : u < 16384) (hv : v < 4224) (R : Fin 16384) (C : Fin 4224) (hR : R.val = u) (hC : C.val = v) :
    result a0 a1 a2 ⟨u, hu⟩ ⟨v, hv⟩ = result a0 a1 a2 R C := by
  subst hR hC
  rfl

/-- A block's entry is the result's. -/
theorem point (t : Fin cfg0.N) (y : S1024x1408.Idx) : (outsAt0 m c t.val t.isLt).1 y
    = result (m ((c.tc : Thread nD τ).loc main_arg0)) (m ((c.tc : Thread nD τ).loc main_arg1)) (m ((c.tc : Thread nD τ).loc main_arg2))
        ((((cfg0.win 3).blk t).view.emb y) 0) ((((cfg0.win 3).blk t).view.emb y) 1) := by
  have ht : t.val < 48 := Nat.lt_of_lt_of_eq t.isLt N_0
  obtain ⟨r, q, rfl⟩ : ∃ (r : Fin 1024) (q : Fin 1408), y = ix2 r q := ⟨y 0, y 1, by funext a; match a with | 0 => rfl | 1 => rfl⟩
  rw [after_at m c t ht]
  have h0 : ((((cfg0.win 3).blk t).view.emb (ix2 r q)) 0).val = t.val / 3 * 1024 + r.val := by blk_point [idx t]
  have h1 : ((((cfg0.win 3).blk t).view.emb (ix2 r q)) 1).val = t.val % 3 * 1408 + q.val := by blk_point [idx t]
  exact block_at _ _ _ _ _ _ _ _ _ (h0.trans (by omega)) (h1.trans (by omega))

/-- The array after the run. -/
theorem final : (dats m 0 c).arrAt 3 (cfgs 0).N = fun x => result (m ((c.tc : Thread nD τ).loc main_arg0)) (m ((c.tc : Thread nD τ).loc main_arg1))
    (m ((c.tc : Thread nD τ).loc main_arg2)) (x 0) (x 1) := by
  refine (dats m 0 c).arrAt_eq_of_covers 3 _ (by decide +kernel) fun t _ y => ?_
  blk_simp
  rw [after0_3]
  exact point m c t y

end Cert.AttnProjIdeal.Proj

end
-- ==== Proof.DnOutValue.lean ====
/-
  The output projection of the delta-rule layer: every block of the array is the rows' product with the weights plus the residual rows, and the blocks cover it.
-/
module

public import proofs.«01_k».proof.Proof.Gen.DnOutIdeal.Value
public import proofs.«01_k».proof.Proof.Gen.DnOutRefIdeal.Run
public import Idealize.ShloMosaic.Lib.Pointwise
public import Idealize.ShloMosaic.Lib.Pipeline.ValueKit

@[expose] public section

set_option maxRecDepth 16384

noncomputable section

namespace Cert.DnOutIdeal.Out

open Cert.DnOutIdeal Cert.DnOutIdeal.Gen Idealize.ShloMosaic Idealize.ShloMosaic.TcCoe Idealize.SL.Sem

/-- The reference's result. -/
def result (a0 : FVec Ideal Cert.DnOutRefIdeal.S16384x4096 .bf16) (a1 : FVec Ideal Cert.DnOutRefIdeal.S4096x2048 .f32) (a2 : FVec Ideal Cert.DnOutRefIdeal.S16384x2048 .f32) :
    FVec Ideal Cert.DnOutRefIdeal.S16384x2048 .f32 :=
  addf a2 (Host.dotGeneral Cert.DnOutRefIdeal.dot_S16384x4096_S4096x2048_S16384x2048_1_0_0_1_n_n none (extf .f32 a0 Cert.DnOutRefIdeal.Gen.bitsLt_bf16_f32) a1)

/-- The blocks the windows stage at each point: row block `t / 4`, column block `t % 4`. -/
theorem idx : ∀ t : Fin cfg0.N, win0_0.index t = ![t.val / 4, 0] ∧ win0_1.index t = ![0, t.val % 4] ∧ win0_2.index t = ![t.val / 4, t.val % 4]
    ∧ win0_3.index t = ![t.val / 4, t.val % 4] := (by decide +kernel : ∀ t : Fin grid0.N, _)

variable (m : (ℓ : Loc nD τ sig) → Buf (Elt Ideal) ℓ) (c : Dev nD)

/-- A block's entry is the result's. -/
theorem point (t : Fin cfg0.N) (y : S1024x512.Idx) : k0_pay1 (iblk m c 2 t) (iblk m c 0 t) (iblk m c 1 t) y
    = result (m ((c.tc : Thread nD τ).loc main_arg0)) (m ((c.tc : Thread nD τ).loc main_arg1)) (m ((c.tc : Thread nD τ).loc main_arg2)) (((cfg0.win 3).blk t).view.emb y) := by
  pointwise [k0_pay1, result]
  blk_point [iblk, idx t]

/-- The array after the run. -/
theorem final : (dats m 0 c).arrAt 3 (cfgs 0).N
    = result (m ((c.tc : Thread nD τ).loc main_arg0)) (m ((c.tc : Thread nD τ).loc main_arg1)) (m ((c.tc : Thread nD τ).loc main_arg2)) := by
  refine (dats m 0 c).arrAt_eq_of_covers 3 _ (by decide +kernel) fun t _ y => ?_
  blk_simp
  rw [after0_3]
  frame_out
  exact point m c t y

end Cert.DnOutIdeal.Out

end
-- ==== Proof.AttnOutValue.lean ====
/-
  The output projection of the attention layer: every block of the array is the rows' product with the weights plus the residual rows, and the blocks cover it.
-/
module

public import proofs.«01_k».proof.Proof.Gen.AttnOutIdeal.Value
public import proofs.«01_k».proof.Proof.Gen.AttnOutRefIdeal.Run
public import Idealize.ShloMosaic.Lib.Pointwise
public import Idealize.ShloMosaic.Lib.Pipeline.ValueKit

@[expose] public section

set_option maxRecDepth 16384

noncomputable section

namespace Cert.AttnOutIdeal.Out

open Cert.AttnOutIdeal Cert.AttnOutIdeal.Gen Idealize.ShloMosaic Idealize.ShloMosaic.TcCoe Idealize.SL.Sem

/-- The reference's result. -/
def result (a0 : FVec Ideal Cert.AttnOutRefIdeal.S16384x2048 .bf16) (a1 : FVec Ideal Cert.AttnOutRefIdeal.S2048x2048 .f32) (a2 : FVec Ideal Cert.AttnOutRefIdeal.S16384x2048 .f32) :
    FVec Ideal Cert.AttnOutRefIdeal.S16384x2048 .f32 :=
  addf a2 (Host.dotGeneral Cert.AttnOutRefIdeal.dot_S16384x2048_S2048x2048_S16384x2048_1_0_0_1_n_n none (extf .f32 a0 Cert.AttnOutRefIdeal.Gen.bitsLt_bf16_f32) a1)

/-- The blocks the windows stage at each point: row block `t / 4`, column block `t % 4`. -/
theorem idx : ∀ t : Fin cfg0.N, win0_0.index t = ![t.val / 4, 0] ∧ win0_1.index t = ![0, t.val % 4] ∧ win0_2.index t = ![t.val / 4, t.val % 4]
    ∧ win0_3.index t = ![t.val / 4, t.val % 4] := (by decide +kernel : ∀ t : Fin grid0.N, _)

variable (m : (ℓ : Loc nD τ sig) → Buf (Elt Ideal) ℓ) (c : Dev nD)

/-- A block's entry is the result's. -/
theorem point (t : Fin cfg0.N) (y : S1024x512.Idx) : k0_pay1 (iblk m c 2 t) (iblk m c 0 t) (iblk m c 1 t) y
    = result (m ((c.tc : Thread nD τ).loc main_arg0)) (m ((c.tc : Thread nD τ).loc main_arg1)) (m ((c.tc : Thread nD τ).loc main_arg2)) (((cfg0.win 3).blk t).view.emb y) := by
  pointwise [k0_pay1, result]
  blk_point [iblk, idx t]

/-- The array after the run. -/
theorem final : (dats m 0 c).arrAt 3 (cfgs 0).N
    = result (m ((c.tc : Thread nD τ).loc main_arg0)) (m ((c.tc : Thread nD τ).loc main_arg1)) (m ((c.tc : Thread nD τ).loc main_arg2)) := by
  refine (dats m 0 c).arrAt_eq_of_covers 3 _ (by decide +kernel) fun t _ y => ?_
  blk_simp
  rw [after0_3]
  frame_out
  exact point m c t y

end Cert.AttnOutIdeal.Out

end
-- ==== Proof.PleValue.lean ====
/-
  The per-layer-embedding mixer. A row block has four points, one for each 512 columns: the first normalises the rows into the carried scratch, and each adds to
  its block of the hidden states the gate of the normalised rows times the embeddings' projection.
-/
module

public import proofs.«01_k».proof.Proof.Gen.PleIdeal.Value
public import proofs.«01_k».proof.Proof.Gen.PleRefIdeal.Run
public import proofs.«01_k».proof.Proof.NormSpec
public import Idealize.ShloMosaic.Lib.Pipeline.ValueKit
public import Idealize.ShloMosaic.Lib.Pipeline.ReadBack

@[expose] public section

set_option maxRecDepth 16384

noncomputable section

namespace Cert.PleIdeal.Mix

open Cert.PleIdeal Cert.PleIdeal.Gen Idealize.ShloMosaic Idealize.ShloMosaic.TcCoe Idealize.SL.Sem
open Cert.NormSpec

variable (m : (ℓ : Loc nD τ sig) → Buf (Elt Ideal) ℓ) (c : Dev nD)

/-- The blocks the windows stage at each point: row block `t / 4`, column block `t % 4`. -/
theorem idx : ∀ t : Fin cfg0.N, win0_0.index t = ![t.val / 4, 0] ∧ win0_1.index t = ![0, 0] ∧ win0_2.index t = ![0, t.val % 4]
    ∧ win0_3.index t = ![t.val / 4, 0] ∧ win0_4.index t = ![0, t.val % 4] ∧ win0_5.index t = ![t.val / 4, t.val % 4]
    ∧ win0_6.index t = ![t.val / 4, t.val % 4] := (by decide +kernel : ∀ t : Fin grid0.N, _)

/-- The scratch after a row block's first point, and the block every point writes. -/
theorem scratch_A (t : Fin cfg0.N) (h0 : t.val % 4 = 0) : (outsAt0 m c t.val t.isLt).2 = k0_pay1 (iblk m c 0 t) (iblk m c 1 t) := by
  rw [outsAt0_A m c t h0]
  frame_open
  frame_out

theorem scratch_B (t : Fin cfg0.N) (h0 : ¬t.val % 4 = 0) : (outsAt0 m c t.val t.isLt).2 = (outsAt0 m c (t.val - 1) (Nat.lt_of_le_of_lt (Nat.sub_le _ _) t.isLt)).2 := by
  rw [outsAt0_B m c t h0]
  rfl

theorem out_A (t : Fin cfg0.N) (h0 : t.val % 4 = 0) : (outsAt0 m c t.val t.isLt).1 = k0_pay2 (k0_pay1 (iblk m c 0 t) (iblk m c 1 t)) (iblk m c 2 t) (iblk m c 3 t)
    (iblk m c 4 t) (iblk m c 5 t) := by
  rw [outsAt0_A m c t h0]
  frame_open
  simp (disch := decide) only [↓ View.readCov_skip, ↓ View.readCov_cons_toLoadRect, ↓ View.readCov_fill]
  frame_out

theorem out_B (t : Fin cfg0.N) (h0 : ¬t.val % 4 = 0) : (outsAt0 m c t.val t.isLt).1
    = k0_pay2 (outsAt0 m c (t.val - 1) (Nat.lt_of_le_of_lt (Nat.sub_le _ _) t.isLt)).2 (iblk m c 2 t) (iblk m c 3 t) (iblk m c 4 t) (iblk m c 5 t) := by
  rw [outsAt0_B m c t h0]
  frame_open
  frame_out
  simp only [read_unread_whole]

/-- The staged gain is the argument's. -/
theorem gain_at (t : Fin cfg0.N) (k : Fin 2048) : iblk m c 1 t (ix2 0 k) = m ((c.tc : Thread nD τ).loc main_arg1) (ix1 k) := by
  have e : V m c main_v1 = shapeCast S1x2048 (m ((c.tc : Thread nD τ).loc main_arg1)) Gen.shapeCasts_S2048_S1x2048 := by
    entry_read
    rfl
  have e' : iblk m c 1 t (ix2 0 k) = V m c main_v1 (ix2 0 k) := by blk_point [iblk, idx t]
  rw [e', e]
  pointwise []

/-- The rows a row block's first point writes. -/
theorem rows_at (t : Fin cfg0.N) (ht : t.val < 64) (r : Fin 1024) (k : Fin 2048) : k0_pay1 (iblk m c 0 t) (iblk m c 1 t) (ix2 r k)
    = normed (m ((c.tc : Thread nD τ).loc main_arg0)) (m ((c.tc : Thread nD τ).loc main_arg1)) ⟨1024 * (t.val / 4) + r.val, by omega⟩ k := by
  have hx : ∀ k : Fin 2048, iblk m c 0 t (ix2 r k) = m ((c.tc : Thread nD τ).loc main_arg0) (ix2 ⟨1024 * (t.val / 4) + r.val, by omega⟩ k) := fun k => by
    blk_point [iblk, V, idx t]
  pointwise [k0_pay1, normed, hx, gain_at m c t]

/-- The scratch after every point holds its row block's rows. -/
theorem held_at (n : ℕ) : ∀ (hn : n < cfg0.N) (ht : n < 64) (r : Fin 1024) (k : Fin 2048), (outsAt0 m c n hn).2 (ix2 r k)
    = normed (m ((c.tc : Thread nD τ).loc main_arg0)) (m ((c.tc : Thread nD τ).loc main_arg1)) ⟨1024 * (n / 4) + r.val, by omega⟩ k := by
  induction n using Nat.strong_induction_on with
  | _ n ih =>
    intro hn ht r k
    by_cases h0 : n % 4 = 0
    · rw [show (outsAt0 m c n hn).2 = _ from scratch_A m c ⟨n, hn⟩ h0]
      exact rows_at m c ⟨n, hn⟩ ht r k
    · rw [show (outsAt0 m c n hn).2 = _ from scratch_B m c ⟨n, hn⟩ h0]
      refine (ih (n - 1) (by omega) _ (by omega) r k).trans ?_
      simp only [show (n - 1) / 4 = n / 4 by omega]

/-- One row and column of the result: the hidden state plus the gated projection of the row's embedding. -/
def result (a0 : FVec Ideal ⟨2, ![16384, 2048]⟩ .f32) (a1 : FVec Ideal ⟨1, ![2048]⟩ .f32) (a2 : FVec Ideal ⟨2, ![2048, 2048]⟩ .f32) (a3 : FVec Ideal ⟨3, ![2, 8192, 256]⟩ .f32)
    (a4 : FVec Ideal ⟨2, ![256, 2048]⟩ .f32) (R : Fin 16384) (C : Fin 2048) : EReal :=
  a0 (ix2 R C) + Ideal.logistic (∑ k : Fin 2048, normed a0 a1 R k * a2 (ix2 k C))
    * ∑ k : Fin 256, a3 (ix3 ⟨R.val / 8192, by omega⟩ ⟨R.val % 8192, by omega⟩ k) * a4 (ix2 k C)

/-- The run's result at a row and column. -/
abbrev res (R : Fin 16384) (C : Fin 2048) : EReal :=
  result (m ((c.tc : Thread nD τ).loc main_arg0)) (m ((c.tc : Thread nD τ).loc main_arg1)) (m ((c.tc : Thread nD τ).loc main_arg2)) (m ((c.tc : Thread nD τ).loc main_arg3))
    (m ((c.tc : Thread nD τ).loc main_arg4)) R C

/-- The staged gate weights are the argument's columns. -/
theorem gates_at (t : Fin cfg0.N) (ht : t.val < 64) (k : Fin 2048) (q : Fin 512) :
    iblk m c 2 t (ix2 k q) = m ((c.tc : Thread nD τ).loc main_arg2) (ix2 k ⟨512 * (t.val % 4) + q.val, by omega⟩) := by
  have e : (V m c main_v2 : FVec Ideal S2048x2048 .bf16) = truncf (F := Ideal) .bf16 (m ((c.tc : Thread nD τ).loc main_arg2) : FVec Ideal S2048x2048 .f32) Gen.bitsLt_bf16_f32 := by
    entry_read
    rfl
  have e' : iblk m c 2 t (ix2 k q) = V m c main_v2 (ix2 k ⟨512 * (t.val % 4) + q.val, by omega⟩) := by blk_point [iblk, idx t]
  rw [e', e]
  pointwise []

/-- The embeddings' two sequences laid one after the other. -/
theorem flat (p : FVec Ideal S2x8192x256 .f32) (R : Fin 16384) (k : Fin 256) :
    shapeCast S16384x256 p Gen.shapeCasts_S2x8192x256_S16384x256 (ix2 R k) = p (ix3 ⟨R.val / 8192, by omega⟩ ⟨R.val % 8192, by omega⟩ k) := by
  pointwise []

/-- The staged embeddings are the argument's rows. -/
theorem embeds_at (t : Fin cfg0.N) (ht : t.val < 64) (r : Fin 1024) (k : Fin 256) :
    iblk m c 3 t (ix2 r k) = m ((c.tc : Thread nD τ).loc main_arg3) (ix3 ⟨(1024 * (t.val / 4) + r.val) / 8192, by omega⟩ ⟨(1024 * (t.val / 4) + r.val) % 8192, by omega⟩ k) := by
  have e : (V m c main_v3 : FVec Ideal S16384x256 .bf16) = truncf (F := Ideal) .bf16 (shapeCast S16384x256 (m ((c.tc : Thread nD τ).loc main_arg3) : FVec Ideal S2x8192x256 .f32)
      Gen.shapeCasts_S2x8192x256_S16384x256) Gen.bitsLt_bf16_f32 := by
    entry_read
    rfl
  have e' : iblk m c 3 t (ix2 r k) = V m c main_v3 (ix2 ⟨1024 * (t.val / 4) + r.val, by omega⟩ k) := by blk_point [iblk, idx t]
  rw [e', e]
  exact flat _ _ k

/-- The staged projection weights are the argument's columns. -/
theorem projs_at (t : Fin cfg0.N) (ht : t.val < 64) (k : Fin 256) (q : Fin 512) :
    iblk m c 4 t (ix2 k q) = m ((c.tc : Thread nD τ).loc main_arg4) (ix2 k ⟨512 * (t.val % 4) + q.val, by omega⟩) := by
  have e : (V m c main_v4 : FVec Ideal S256x2048 .bf16) = truncf (F := Ideal) .bf16 (m ((c.tc : Thread nD τ).loc main_arg4) : FVec Ideal S256x2048 .f32) Gen.bitsLt_bf16_f32 := by
    entry_read
    rfl
  have e' : iblk m c 4 t (ix2 k q) = V m c main_v4 (ix2 k ⟨512 * (t.val % 4) + q.val, by omega⟩) := by blk_point [iblk, idx t]
  rw [e', e]
  pointwise []

/-- The staged block of the hidden states, the residual. -/
theorem residual_at (t : Fin cfg0.N) (ht : t.val < 64) (r : Fin 1024) (q : Fin 512) :
    iblk m c 5 t (ix2 r q) = m ((c.tc : Thread nD τ).loc main_arg0) (ix2 ⟨1024 * (t.val / 4) + r.val, by omega⟩ ⟨512 * (t.val % 4) + q.val, by omega⟩) := by
  blk_point [iblk, V, idx t]

/-- The block that a point writes. -/
theorem after_at (t : Fin cfg0.N) (ht : t.val < 64) (r : Fin 1024) (q : Fin 512) : (outsAt0 m c t.val t.isLt).1 (ix2 r q)
    = res m c ⟨1024 * (t.val / 4) + r.val, by omega⟩ ⟨512 * (t.val % 4) + q.val, by omega⟩ := by
  have key : ∀ S : Vec Ideal S1024x2048 .bf16, (∀ k, S (ix2 r k) = normed (m ((c.tc : Thread nD τ).loc main_arg0)) (m ((c.tc : Thread nD τ).loc main_arg1)) ⟨1024 * (t.val / 4) + r.val, by omega⟩ k) →
      k0_pay2 S (iblk m c 2 t) (iblk m c 3 t) (iblk m c 4 t) (iblk m c 5 t) (ix2 r q)
        = res m c ⟨1024 * (t.val / 4) + r.val, by omega⟩ ⟨512 * (t.val % 4) + q.val, by omega⟩ := fun S hS => by
    pointwise [k0_pay2, hS, gates_at m c t ht, embeds_at m c t ht, projs_at m c t ht, residual_at m c t ht, res, result]
  by_cases h0 : t.val % 4 = 0
  · rw [out_A m c t h0]
    exact key _ fun k => rows_at m c t ht r k
  · rw [out_B m c t h0]
    refine key _ fun k => (held_at m c (t.val - 1) _ (by omega) r k).trans ?_
    simp only [show (t.val - 1) / 4 = t.val / 4 by omega]

/-- The result at a row and a column given by their numbers. -/
theorem block_at (u v : ℕ) (hu : u < 16384) (hv : v < 2048) (R : Fin 16384) (C : Fin 2048) (hR : R.val = u) (hC : C.val = v) :
    res m c ⟨u, hu⟩ ⟨v, hv⟩ = res m c R C := by
  subst hR hC
  rfl

/-- A block's entry is the result's. -/
theorem point (t : Fin cfg0.N) (y : S1024x512.Idx) : (outsAt0 m c t.val t.isLt).1 y = res m c ((((cfg0.win 6).blk t).view.emb y) 0) ((((cfg0.win 6).blk t).view.emb y) 1) := by
  have ht : t.val < 64 := Nat.lt_of_lt_of_eq t.isLt N_0
  obtain ⟨r, q, rfl⟩ : ∃ (r : Fin 1024) (q : Fin 512), y = ix2 r q := ⟨y 0, y 1, by funext a; match a with | 0 => rfl | 1 => rfl⟩
  rw [after_at m c t ht]
  have h0 : ((((cfg0.win 6).blk t).view.emb (ix2 r q)) 0).val = t.val / 4 * 1024 + r.val := by blk_point [idx t]
  have h1 : ((((cfg0.win 6).blk t).view.emb (ix2 r q)) 1).val = t.val % 4 * 512 + q.val := by blk_point [idx t]
  exact block_at m c _ _ _ _ _ _ (h0.trans (by omega)) (h1.trans (by omega))

/-- The array after the run. -/
theorem final : (dats m 0 c).arrAt 6 (cfgs 0).N = fun x => res m c (x 0) (x 1) := by
  refine (dats m 0 c).arrAt_eq_of_covers 6 _ (by decide +kernel) fun t _ y => ?_
  blk_simp
  rw [after0_6]
  exact point m c t y

end Cert.PleIdeal.Mix

end
-- ==== Proof.PleRef.lean ====
/-
  The reference of the per-layer-embedding mixer, row by row: the hidden state plus the gate times the embedding's projection.
-/
module

public import proofs.«01_k».proof.Proof.Gen.PleRefIdeal.Run
public import proofs.«01_k».proof.Proof.PleValue

@[expose] public section

set_option maxRecDepth 16384

noncomputable section

namespace Cert.PleRefIdeal.Mix

open Cert.PleRefIdeal Cert.PleRefIdeal.Gen Idealize.ShloMosaic Idealize.ShloMosaic.TcCoe
open Cert.NormSpec Cert.PleIdeal.Mix

/-- The embeddings' two sequences laid one after the other. -/
theorem joined (p : FVec Ideal S2x8192x256 .f32) (R : Fin 16384) (k : Fin 256) :
    (shapeCast _ p shapeCasts_S2x8192x256_S16384x256 : FVec Ideal S16384x256 .f32) (ix2 R k) = p (ix3 ⟨R.val / 8192, by omega⟩ ⟨R.val % 8192, by omega⟩ k) := by
  pointwise []

/-- The reference's rows, gate and projection give the kernel's result. -/
theorem result_eq (a0 : FVec Ideal S16384x2048 .f32) (a1 : FVec Ideal S2048 .f32) (a2 : FVec Ideal S2048x2048 .f32) (a3 : FVec Ideal S2x8192x256 .f32)
    (a4 : FVec Ideal S256x2048 .f32) (R : Fin 16384) (C : Fin 2048) :
    (addf a0 (mulf (Host.divf (broadcastInDim S16384x2048 ![] bcast_S_S16384x2048 (constant S_ .f32 0x3F800000#32)) (addf (broadcastInDim S16384x2048 ![] bcast_S_S16384x2048 (constant S_ .f32 0x3F800000#32)) (Host.exp (Host.negf (Host.dotGeneral dot_S16384x2048_S2048x2048_S16384x2048_1_0_0_1_n_n none (mulf (mulf a0 (broadcastInDim S16384x2048 ![0, 1] bcast_S16384x1_S16384x2048_0_1 (Host.rsqrt (addf (Host.divf (broadcastInDim S16384x1 ![0] bcast_S16384_S16384x1_0 (Host.reduceAdd (mulf a0 a0) (constant S_ .f32 0x00000000#32) reducesTo_S16384x2048_S16384_d1 h_S_)) (broadcastInDim S16384x1 ![] bcast_S_S16384x1 (constant S_ .f32 0x45000000#32))) (broadcastInDim S16384x1 ![] bcast_S_S16384x1 (constant S_ .f32 0x358637BD#32)))))) (broadcastInDim S16384x2048 ![0, 1] bcast_S1x2048_S16384x2048_0_1 (broadcastInDim S1x2048 ![1] bcast_S2048_S1x2048_1 a1))) a2))))) (Host.dotGeneral dot_S16384x256_S256x2048_S16384x2048_1_0_0_1_n_n none (shapeCast _ a3 shapeCasts_S2x8192x256_S16384x256) a4)) : FVec Ideal S16384x2048 .f32) (ix2 R C)
    = result a0 a1 a2 a3 a4 R C := by
  have hp := joined a3
  generalize hq : (shapeCast _ a3 shapeCasts_S2x8192x256_S16384x256 : FVec Ideal S16384x256 .f32) = q
  rw [hq] at hp
  pointwise [result, normed, Ideal.logistic, hp R]

end Cert.PleRefIdeal.Mix

end
-- ==== Proof.ExpertsBody.lean ====
/-
  One grid point of the experts' kernel, as mathematics over its blocks. A point has 1024 experts, eight first keys by 128 second keys. For each first key it
  adds the eight heads' shares of a second key's gate (`share`, `weights`), multiplies them by the gelu of the experts' activations and stores the 128 rows
  (`rows`) into a scratch; then it adds the experts' values times all 1024 rows to the carried sum. The eight stores are listed once, by recursion (`rowList`),
  and read back once, by induction (`rowList_eq`).
-/
module

public import proofs.«01_k».proof.Proof.Gen.ExpertsIdeal.Skeleton
public import Idealize.ShloMosaic.Lib.Pipeline.ValueKit
public import Idealize.ShloMosaic.Lib.Pipeline.ReadBack

@[expose] public section

set_option maxRecDepth 16384

noncomputable section

namespace Cert.ExpertsIdeal.Mem

open Cert.ExpertsIdeal Cert.ExpertsIdeal.Gen Idealize.ShloMosaic Idealize.ShloMosaic.TcCoe Idealize.SL.Sem
open Idealize.ShloMosaic.View (Piece ld)

variable {F : FTy → Type} [FloatOps F]

/-! ## The rectangles of a point: head `h`, first key `i` of the eight -/

/-- Head `h`, first key `i` of the partner counts and of the first exponentials. -/
abbrev rN (h i : Fin 8) : Rect S8x8x512 := Rect.unit ![h.val, i.val, 0] S1x1x512.size (by
  intro a; fin_cases a <;> simp [S1x1x512, S8x8x512] <;> omega)
/-- Head `h` of the ranks and of the second exponentials. -/
abbrev rK (h : Fin 8) : Rect S8x128x512 := Rect.unit ![h.val, 0, 0] S1x128x512.size (by
  intro a; fin_cases a <;> simp [S1x128x512, S8x128x512] <;> omega)
/-- First key `i`'s rows of the scratch. -/
abbrev rC (i : Fin 8) : Rect S1024x512 := Rect.unit ![128 * i.val, 0] S128x512.size (by
  intro a; fin_cases a <;> simp [S128x512, S1024x512] <;> omega)
/-- The whole scratch, the whole sum, the whole blocks of the rows, the experts' keys, their values and the hidden states. -/
abbrev rW : Rect S1024x512 := Rect.unit ![0, 0] S1024x512.size (by decide)
abbrev rA : Rect S2048x512 := Rect.unit ![0, 0] S2048x512.size (by decide)
abbrev rU : Rect S1024x2048 := Rect.unit ![0, 0] S1024x2048.size (by decide)
abbrev rV : Rect S2048x1024 := Rect.unit ![0, 0] S2048x1024.size (by decide)
abbrev rH : Rect S512x2048 := Rect.unit ![0, 0] S512x2048.size (by decide)

/-! ## What a point computes -/

/-- The loads of a point. -/
structure Loads (F : FTy → Type) [FloatOps F] where
  /-- how many partners a first key has, by head and first key -/
  n : Fin 8 → Fin 8 → Vec F S1x1x512 .f32
  /-- the first keys' exponentials -/
  e0 : Fin 8 → Fin 8 → Vec F S1x1x512 .f32
  /-- the second keys' ranks, by head -/
  rank : Fin 8 → Vec F S1x128x512 .bf16
  /-- the second keys' exponentials -/
  e1 : Fin 8 → Vec F S1x128x512 .bf16
  /-- the tokens' normalised rows, transposed -/
  x : Vec F S2048x512 .bf16
  /-- the experts' keys -/
  u : Vec F S1024x2048 .bf16
  /-- the experts' values, transposed -/
  v : Vec F S2048x1024 .bf16

variable (L : Loads F)

/-- Head `h`'s share of the gates of first key `i`'s experts. -/
abbrev share (i h : Fin 8) : FVec F S128x512 .bf16 := k0_pay5 (L.n h i) (L.e0 h i) (L.rank h) (L.e1 h)

/-- The gates of first key `i`'s experts. -/
def weights (i : Fin 8) : FVec F S128x512 .bf16 :=
  addf (addf (addf (addf (addf (addf (addf (share L i 0) (share L i 1)) (share L i 2)) (share L i 3)) (share L i 4)) (share L i 5)) (share L i 6)) (share L i 7)

theorem slices_row (i : Fin 8) : S1024x512.Slices ![128 * i.val, 0] S128x512 := by
  revert i
  decide

/-- The activations of first key `i`'s experts. -/
def acts (i : Fin 8) : FVec F S128x512 .f32 := extractStridedSlice S128x512 ![128 * i.val, 0] (k0_pay4 L.u L.x) (slices_row i)

/-- The coefficients of first key `i`'s experts: gate times gelu of the activation. -/
def rows (i : Fin 8) : FVec F S128x512 .bf16 :=
  shapeCast S128x512 (mulf (weights L i) (truncf .bf16 (mulf (mulf (broadcast S128x512 (Scalar.ofBits .f32 0x3F000000#32)) (acts L i))
    (addf (broadcast S128x512 (Scalar.ofBits .f32 0x3F800000#32)) (erf (mulf (acts L i) (broadcast S128x512 (Scalar.ofBits .f32 0x3F3504F3#32))))))
    Gen.bitsLt_bf16_f32)) Gen.shapeCasts_S128x512_S128x512

/-- The coefficients of all the point's experts. -/
def coefs : Vec F S1024x512 .bf16 := fun y =>
  have h0 : (y 0).val < 1024 := (y 0).isLt
  rows L ⟨(y 0).val / 128, by omega⟩ (ix2 ⟨(y 0).val % 128, Nat.mod_lt _ (by decide)⟩ (y 1))

/-- The carried sum after the point, from the sum before it. -/
abbrev next (S : Vec F S2048x512 .f32) : Vec F S2048x512 .f32 := k0_pay1 S (k0_pay110 L.v) (coefs L)

/-! ## The stores, listed and read back -/

/-- The stores of the first `n` first keys, newest first. -/
def rowList : (n : ℕ) → n ≤ 8 → List (Piece (Elt F) S1024x512 .bf16)
  | 0, _ => []
  | n + 1, h => ⟨rC ⟨n, h⟩, rows L ⟨n, h⟩⟩ :: rowList n (Nat.le_of_succ_le h)

/-- A row of the scratch lies in its first key's rectangle … -/
theorem rC_emb (i : Fin 8) (y : S1024x512.Idx) (hi : (y 0).val / 128 = i.val) : (rC i).emb (ix2 ⟨(y 0).val % 128, Nat.mod_lt _ (by decide)⟩ (y 1)) = y := by
  funext a
  refine Fin.ext ?_
  match a with
  | ⟨0, _⟩ => exact (Rect.idx_unit_val _ _ _ _ _).trans (by simp; omega)
  | ⟨1, _⟩ => exact (Rect.idx_unit_val _ _ _ _ _).trans (by simp)

/-- … and in no other. -/
theorem rC_not_mem (i : Fin 8) (y : S1024x512.Idx) (h : (y 0).val / 128 ≠ i.val) : y ∉ (rC i).set := by
  rw [Rect.mem_set_unit]
  intro H
  have h0 := H 0
  simp [S128x512] at h0
  omega

/-- The first keys' stores leave their rows. -/
theorem rowList_canon (y : S1024x512.Idx) : ∀ (n : ℕ) (h : n ≤ 8), (y 0).val / 128 < n → View.canon (rowList L n h) y = coefs L y
  | 0, _, hn => absurd hn (Nat.not_lt_zero _)
  | n + 1, h, hn => by
    by_cases e : (y 0).val / 128 = n
    · subst e
      rw [rowList]
      exact (congrArg (View.canon _) (rC_emb ⟨_, h⟩ y rfl)).symm.trans (View.canon_cons_emb (rC ⟨_, h⟩) _ _ _)
    · exact (View.canon_cons_of_not_mem (⟨rC ⟨n, h⟩, rows L ⟨n, h⟩⟩ : Piece (Elt F) S1024x512 .bf16) (rowList L n (Nat.le_of_succ_le h))
        (rC_not_mem ⟨n, h⟩ y e)).trans (rowList_canon y n _ (by omega))

/-- All eight stores leave the point's coefficients. -/
theorem rowList_eq : View.canon (rowList L 8 le_rfl) = coefs L := by
  funext y
  have h0 : (y 0).val < 1024 := (y 0).isLt
  exact rowList_canon L y 8 le_rfl (by omega)

end Cert.ExpertsIdeal.Mem

end
-- ==== Proof.ExpertsRun.lean ====
/-
  The three cases of the experts' kernel's point (the first point of a row block zeroes the carried sum, the last adds it to the hidden states), read as
  `Mem.next` and `k0_pay2` over the point's input blocks.
-/
module

public import proofs.«01_k».proof.Proof.ExpertsBody
public import proofs.«01_k».proof.Proof.Gen.ExpertsIdeal.Value
public import Idealize.ShloMosaic.Lib.WholeRead

@[expose] public section

set_option maxRecDepth 65536

noncomputable section

namespace Cert.ExpertsIdeal.Mem

open Cert.ExpertsIdeal Cert.ExpertsIdeal.Gen Idealize.ShloMosaic Idealize.ShloMosaic.TcCoe Idealize.SL.Sem
open Idealize.ShloMosaic.View (Piece ld)

variable {F : FTy → Type} [FloatOps F]

section
variable (c : Dev nD) (i : grid0.Coords) (arg2 : Memref sig .tc .vmem S2048x512 .bf16) (harg2 : arg2.IsWhole)
  (arg3 : Memref sig .tc .vmem S1024x2048 .bf16) (harg3 : arg3.IsWhole) (arg4 : Memref sig .tc .vmem S2048x1024 .bf16) (harg4 : arg4.IsWhole)
  (arg5 : Memref sig .tc .vmem S8x8x512 .f32) (harg5 : arg5.IsWhole) (arg6 : Memref sig .tc .vmem S8x8x512 .f32) (harg6 : arg6.IsWhole)
  (arg7 : Memref sig .tc .vmem S8x128x512 .bf16) (harg7 : arg7.IsWhole) (arg8 : Memref sig .tc .vmem S8x128x512 .bf16) (harg8 : arg8.IsWhole)
  (arg9 : Memref sig .tc .vmem S512x2048 .f32) (harg9 : arg9.IsWhole) (arg10 : Memref sig .tc .vmem S512x2048 .f32) (harg10 : arg10.IsWhole)
  (arg11 : Memref sig .tc .vmem S2048x512 .f32) (harg11 : arg11.IsWhole) (arg12 : Memref sig .tc .vmem S1024x512 .bf16) (harg12 : arg12.IsWhole)
  (x0 : Vec F S2048x512 .bf16) (x1 : Vec F S1024x2048 .bf16) (x2 : Vec F S2048x1024 .bf16) (x3 : Vec F S8x8x512 .f32) (x4 : Vec F S8x8x512 .f32)
  (x5 : Vec F S8x128x512 .bf16) (x6 : Vec F S8x128x512 .bf16) (x7 : Vec F S512x2048 .f32) (xs0 : Vec F S2048x512 .f32)

/-- The loads a point makes, as the machine's reads of the staged blocks. -/
abbrev mloads : Loads F where
  n h i := View.readAt (Elt F) arg5.view (rN h i).toLoadRect (harg5.unread x3)
  e0 h i := View.readAt (Elt F) arg6.view (rN h i).toLoadRect (harg6.unread x4)
  rank h := View.readAt (Elt F) arg7.view (rK h).toLoadRect (harg7.unread x5)
  e1 h := View.readAt (Elt F) arg8.view (rK h).toLoadRect (harg8.unread x6)
  x := View.readAt (Elt F) arg2.view rA.toLoadRect (harg2.unread x0)
  u := View.readAt (Elt F) arg3.view rU.toLoadRect (harg3.unread x1)
  v := View.readAt (Elt F) arg4.view rV.toLoadRect (harg4.unread x2)

/-- The same loads as parts of the blocks. -/
abbrev loads : Loads F where
  n h i := ld x3 (rN h i)
  e0 h i := ld x4 (rN h i)
  rank h := ld x5 (rK h)
  e1 h := ld x6 (rK h)
  x := ld x0 rA
  u := ld x1 rU
  v := ld x2 rV

/-- A read of a staged block is the part of the block. -/
theorem mloads_eq : mloads arg2 harg2 arg3 harg3 arg4 harg4 arg5 harg5 arg6 harg6 arg7 harg7 arg8 harg8 x0 x1 x2 x3 x4 x5 x6 = loads x0 x1 x2 x3 x4 x5 x6 := by
  unfold mloads loads
  congr 1
  all_goals first
    | (funext h i x; exact Memref.IsWhole.readAt_unread _ _ _ x)
    | (funext h x; exact Memref.IsWhole.readAt_unread _ _ _ x)
    | (funext x; exact Memref.IsWhole.readAt_unread _ _ _ x)

/-- The sum's store of a point, from the sum it loads: the coefficients are read back from the point's own stores. -/
abbrev sumStore (L : Loads F) (S : Vec F S2048x512 .f32) : Piece (Elt F) S2048x512 .f32 :=
  ⟨rA, k0_pay1 S (k0_pay110 L.v) (arg12.view.readCov (rowList L 8 le_rfl) rW.toLoadRect)⟩

/-- The sum as a later point finds it. -/
abbrev heldSum : Vec F S2048x512 .f32 := View.readAt (Elt F) arg11.view rA.toLoadRect (harg11.unread xs0)

/-- The store with which a row block's first point zeroes the sum. -/
abbrev zeroStore : Piece (Elt F) S2048x512 .f32 := ⟨rA, k0_pay3⟩

/-- A row block's first point: the sum's stores. -/
theorem runA_sum (hc0 : cond0_0 i) (hc1 : ¬cond0_1 i) :
    (kernelRun0_A c i arg2 harg2 arg3 harg3 arg4 harg4 arg5 harg5 arg6 harg6 arg7 harg7 arg8 harg8 arg9 harg9 arg10 harg10 arg11 harg11 arg12 harg12 hc0 hc1 x0 x1 x2 x3 x4 x5 x6 x7).2.1
      = [sumStore arg12 (mloads arg2 harg2 arg3 harg3 arg4 harg4 arg5 harg5 arg6 harg6 arg7 harg7 arg8 harg8 x0 x1 x2 x3 x4 x5 x6)
          (arg11.view.readCov [zeroStore] rA.toLoadRect), zeroStore] := by
  sl_kernel_rfl

/-- A middle point: the sum's store. -/
theorem runB_sum (hc0 : ¬cond0_0 i) (hc1 : ¬cond0_1 i) :
    (kernelRun0_B c i arg2 harg2 arg3 harg3 arg4 harg4 arg5 harg5 arg6 harg6 arg7 harg7 arg8 harg8 arg9 harg9 arg10 harg10 arg11 harg11 arg12 harg12 hc0 hc1 x0 x1 x2 x3 x4 x5 x6 x7 xs0).2.1
      = [sumStore arg12 (mloads arg2 harg2 arg3 harg3 arg4 harg4 arg5 harg5 arg6 harg6 arg7 harg7 arg8 harg8 x0 x1 x2 x3 x4 x5 x6) (heldSum arg11 harg11 xs0)] := by
  sl_kernel_rfl

/-- A row block's last point: the sum's store … -/
theorem runC_sum (hc0 : ¬cond0_0 i) (hc1 : cond0_1 i) :
    (kernelRun0_C c i arg2 harg2 arg3 harg3 arg4 harg4 arg5 harg5 arg6 harg6 arg7 harg7 arg8 harg8 arg9 harg9 arg10 harg10 arg11 harg11 arg12 harg12 hc0 hc1 x0 x1 x2 x3 x4 x5 x6 x7 xs0).2.1
      = [sumStore arg12 (mloads arg2 harg2 arg3 harg3 arg4 harg4 arg5 harg5 arg6 harg6 arg7 harg7 arg8 harg8 x0 x1 x2 x3 x4 x5 x6) (heldSum arg11 harg11 xs0)] := by
  sl_kernel_rfl

/-- … and the output's. -/
theorem runC_out (hc0 : ¬cond0_0 i) (hc1 : cond0_1 i) :
    (kernelRun0_C c i arg2 harg2 arg3 harg3 arg4 harg4 arg5 harg5 arg6 harg6 arg7 harg7 arg8 harg8 arg9 harg9 arg10 harg10 arg11 harg11 arg12 harg12 hc0 hc1 x0 x1 x2 x3 x4 x5 x6 x7 xs0).1
      = [⟨rH, k0_pay2 (View.readAt (Elt F) arg9.view rH.toLoadRect (harg9.unread x7)) (arg11.view.readCov
          [sumStore arg12 (mloads arg2 harg2 arg3 harg3 arg4 harg4 arg5 harg5 arg6 harg6 arg7 harg7 arg8 harg8 x0 x1 x2 x3 x4 x5 x6) (heldSum arg11 harg11 xs0)]
          rA.toLoadRect)⟩] := by
  sl_kernel_rfl

/-- A read of the whole scratch finds the point's coefficients … -/
theorem coefs_read (L : Loads F) : arg12.view.readCov (rowList L 8 le_rfl) rW.toLoadRect = coefs L := by
  rw [View.readCov_eq_canon', rowList_eq]
  funext y
  refine congrArg (coefs L) (funext fun a => Fin.ext ?_)
  match a with
  | ⟨0, _⟩ => exact (Rect.idx_unit_val _ _ _ _ _).trans (by simp)
  | ⟨1, _⟩ => exact (Rect.idx_unit_val _ _ _ _ _).trans (by simp)

/-- … a read of the held sum finds it … -/
theorem held_read : heldSum arg11 harg11 xs0 = xs0 := by
  funext y
  refine (Memref.IsWhole.readAt_unread harg11 xs0 rA.toLoadRect y).trans (congrArg xs0 (funext fun a => Fin.ext ?_))
  match a with
  | ⟨0, _⟩ => exact (Rect.idx_unit_val _ _ _ _ _).trans (by simp)
  | ⟨1, _⟩ => exact (Rect.idx_unit_val _ _ _ _ _).trans (by simp)

/-- … and one of the staged hidden states finds them. -/
theorem hidden_read : View.readAt (Elt F) arg9.view rH.toLoadRect (harg9.unread x7) = x7 := by
  funext y
  refine (Memref.IsWhole.readAt_unread harg9 x7 rH.toLoadRect y).trans (congrArg x7 (funext fun a => Fin.ext ?_))
  match a with
  | ⟨0, _⟩ => exact (Rect.idx_unit_val _ _ _ _ _).trans (by simp)
  | ⟨1, _⟩ => exact (Rect.idx_unit_val _ _ _ _ _).trans (by simp)

/-- So the sum's store leaves the sum before it and the point's share. -/
theorem sum_canon (L : Loads F) (S : Vec F S2048x512 .f32) (B : List (Piece (Elt F) S2048x512 .f32)) : View.canon (sumStore arg12 L S :: B) = next L S := by
  refine (View.canon_cons_unit_lit _ _ _ (by decide)).trans ?_
  rw [coefs_read]

/-- A row block's first point leaves its share of the sum … -/
theorem soutA_eq (hc0 : cond0_0 i) (hc1 : ¬cond0_1 i) : sout0_A_0 c i arg2 harg2 arg3 harg3 arg4 harg4 arg5 harg5 arg6 harg6 arg7 harg7 arg8 harg8 arg9 harg9 arg10 harg10 arg11 harg11 arg12 harg12 hc0 hc1 x0 x1 x2 x3 x4 x5 x6 x7 = next (loads x0 x1 x2 x3 x4 x5 x6) k0_pay3 := by
  rw [sout0_A_0, View.read_writes_junk_eq_canon, runA_sum, mloads_eq, sum_canon, View.readCov_cons_toLoadRect]

/-- … a middle point adds its share to the sum it found … -/
theorem soutB_eq (hc0 : ¬cond0_0 i) (hc1 : ¬cond0_1 i) : sout0_B_0 c i arg2 harg2 arg3 harg3 arg4 harg4 arg5 harg5 arg6 harg6 arg7 harg7 arg8 harg8 arg9 harg9 arg10 harg10 arg11 harg11 arg12 harg12 hc0 hc1 x0 x1 x2 x3 x4 x5 x6 x7 xs0 = next (loads x0 x1 x2 x3 x4 x5 x6) xs0 := by
  rw [sout0_B_0, View.read_writes_junk_eq_canon, runB_sum, mloads_eq, sum_canon, held_read]

/-- … a row block's last point does too … -/
theorem soutC_eq (hc0 : ¬cond0_0 i) (hc1 : cond0_1 i) : sout0_C_0 c i arg2 harg2 arg3 harg3 arg4 harg4 arg5 harg5 arg6 harg6 arg7 harg7 arg8 harg8 arg9 harg9 arg10 harg10 arg11 harg11 arg12 harg12 hc0 hc1 x0 x1 x2 x3 x4 x5 x6 x7 xs0 = next (loads x0 x1 x2 x3 x4 x5 x6) xs0 := by
  rw [sout0_C_0, View.read_writes_junk_eq_canon, runC_sum, mloads_eq, sum_canon, held_read]

/-- … and adds the sum to the hidden states. -/
theorem outC_eq (hc0 : ¬cond0_0 i) (hc1 : cond0_1 i) : out0_C_8 c i arg2 harg2 arg3 harg3 arg4 harg4 arg5 harg5 arg6 harg6 arg7 harg7 arg8 harg8 arg9 harg9 arg10 harg10 arg11 harg11 arg12 harg12 hc0 hc1 x0 x1 x2 x3 x4 x5 x6 x7 xs0
    = k0_pay2 x7 (next (loads x0 x1 x2 x3 x4 x5 x6) xs0) := by
  rw [out0_C_8, View.read_writes_junk_eq_canon, runC_out, mloads_eq, hidden_read, held_read, View.readCov_cons_toLoadRect, coefs_read]
  exact View.canon_cons_unit_lit _ _ _ (by decide)

end

end Cert.ExpertsIdeal.Mem

end
-- ==== Proof.ExpertsSpec.lean ====
/-
  The experts' sum as mathematics. Expert `E = 128 I + J` pairs first key `I` with second key `J`. A head chooses it for a token when the second key's rank is at
  most the number of the first key's partners; its gate adds, over the heads that choose it, the product of the two keys' exponentials. The result adds to the
  hidden state every expert's value times its gate times the gelu of its activation.
-/
module

public import Idealize.ShloMosaic.Lib.Pointwise

@[expose] public section

noncomputable section

namespace Cert.ExpertSpec

open Idealize.ShloMosaic

/-- `x/2 (1 + erf (x/√2))`. -/
def gelu (x : EReal) : EReal :=
  Ideal.ofBits .f32 0x3F000000#32 * x * (Ideal.ofBits .f32 0x3F800000#32 + Ideal.erf (x * Ideal.ofBits .f32 0x3F3504F3#32))

/-- One head's share of a gate: the product of the exponentials, where the head chooses the expert. -/
def pick (rank n e0 e1 : EReal) : EReal := if rank ≤ n then e0 * e1 else 0

section
variable (x : FVec Ideal ⟨2, ![2048, 16384]⟩ .bf16) (u v : FVec Ideal ⟨2, ![16384, 2048]⟩ .f32) (n e0 : FVec Ideal ⟨3, ![8, 128, 16384]⟩ .f32)
  (rank e1 : FVec Ideal ⟨3, ![8, 128, 16384]⟩ .bf16) (h : FVec Ideal ⟨2, ![16384, 2048]⟩ .f32)

/-- The gate of keys `I` and `J` for token `R`. -/
def gate (I J : Fin 128) (R : Fin 16384) : EReal :=
  ∑ hd : Fin 8, pick (rank (ix3 hd J R)) (n (ix3 hd I R)) (e0 (ix3 hd I R)) (e1 (ix3 hd J R))

/-- The activation of expert `E` for token `R`. -/
def act (E R : Fin 16384) : EReal := ∑ k : Fin 2048, u (ix2 E k) * x (ix2 k R)

/-- The coefficient of expert `E` for token `R`. -/
def coef (E R : Fin 16384) : EReal := gate n e0 rank e1 ⟨E.val / 128, by omega⟩ ⟨E.val % 128, by omega⟩ R * gelu (act x u E R)

/-- One row and column of the result. -/
def result (R : Fin 16384) (C : Fin 2048) : EReal := h (ix2 R C) + ∑ E : Fin 16384, coef x u n e0 rank e1 E R * v (ix2 E C)

end

/-- A sum over all experts, block by block of 1024. -/
theorem sum_blocks (f : Fin 16384 → EReal) :
    ∑ E : Fin 16384, f E = ∑ b : Fin 16, ∑ e : Fin 1024, f ⟨1024 * b.val + e.val, by omega⟩ := by
  rw [← Finset.sum_product']
  refine (Fintype.sum_equiv (finProdFinEquiv (m := 16) (n := 1024)) _ f fun p => congrArg f (Fin.ext ?_)).symm
  simp [finProdFinEquiv]
  omega

end Cert.ExpertSpec

end
-- ==== Proof.ExpertsValue.lean ====
/-
  The experts' kernel, entry by entry. A row block of 512 tokens has sixteen points, one for each 1024 experts: each adds its experts' values times their
  coefficients to the carried sum, and the last adds the sum to the hidden states.
-/
module

public import proofs.«01_k».proof.Proof.ExpertsRun
public import proofs.«01_k».proof.Proof.ExpertsSpec

@[expose] public section

set_option maxRecDepth 16384

noncomputable section

namespace Cert.ExpertsIdeal.Mem

open Cert.ExpertsIdeal Cert.ExpertsIdeal.Gen Idealize.ShloMosaic Idealize.ShloMosaic.TcCoe Idealize.SL.Sem
open Idealize.ShloMosaic.View (Piece ld)
open Cert.ExpertSpec

/-! ## What a point computes, entry by entry -/

section
variable (L : Loads Ideal)

/-- One head's share of a gate. -/
theorem share_at (i h : Fin 8) (j : Fin 128) (q : Fin 512) :
    share L i h (ix2 j q) = pick (L.rank h (ix3 0 j q)) (L.n h i (ix3 0 0 q)) (L.e0 h i (ix3 0 0 q)) (L.e1 h (ix3 0 j q)) := by
  pointwise [share, k0_pay5, pick]
  split_ifs with hc
  · exact mul_comm _ _
  · exact zero_mul _

/-- The gates of a first key's experts. -/
theorem weights_at (i : Fin 8) (j : Fin 128) (q : Fin 512) : weights L i (ix2 j q)
    = ∑ h : Fin 8, pick (L.rank h (ix3 0 j q)) (L.n h i (ix3 0 0 q)) (L.e0 h i (ix3 0 0 q)) (L.e1 h (ix3 0 j q)) := by
  rw [Fin.sum_univ_eight]
  simp only [← share_at]
  rfl

/-- The activations. -/
theorem acts_at (i : Fin 8) (j : Fin 128) (q : Fin 512) :
    acts L i (ix2 j q) = ∑ k : Fin 2048, L.u (ix2 ⟨128 * i.val + j.val, by omega⟩ k) * L.x (ix2 k q) := by
  pointwise [acts, k0_pay4]

/-- The coefficients of a first key's experts. -/
theorem rows_at (i : Fin 8) (j : Fin 128) (q : Fin 512) : rows L i (ix2 j q)
    = (∑ h : Fin 8, pick (L.rank h (ix3 0 j q)) (L.n h i (ix3 0 0 q)) (L.e0 h i (ix3 0 0 q)) (L.e1 h (ix3 0 j q)))
      * gelu (∑ k : Fin 2048, L.u (ix2 ⟨128 * i.val + j.val, by omega⟩ k) * L.x (ix2 k q)) := by
  rw [← weights_at, ← acts_at]
  unfold rows
  generalize weights L i = w
  generalize acts L i = a
  pointwise [gelu]
  rfl

/-- The sum after a point. -/
theorem next_at (S : Vec Ideal S2048x512 .f32) (d : Fin 2048) (q : Fin 512) :
    next L S (ix2 d q) = S (ix2 d q) + ∑ e : Fin 1024, L.v (ix2 d e) * coefs L (ix2 e q) := by
  unfold next
  generalize coefs L = w
  pointwise [k0_pay1, k0_pay110]

end

/-! ## The points of the grid -/

variable (m : (ℓ : Loc nD τ sig) → Buf (Elt Ideal) ℓ) (c : Dev nD)

/-- The blocks the windows stage at point `t`: tokens' block `t / 16`, experts' block `t % 16`. -/
theorem idx : ∀ t : Fin cfg0.N, win0_0.index t = ![0, t.val / 16] ∧ win0_1.index t = ![t.val % 16, 0] ∧ win0_2.index t = ![0, t.val % 16]
    ∧ win0_3.index t = ![0, t.val % 16, t.val / 16] ∧ win0_4.index t = ![0, t.val % 16, t.val / 16] ∧ win0_5.index t = ![0, 0, t.val / 16]
    ∧ win0_6.index t = ![0, 0, t.val / 16] ∧ win0_7.index t = ![t.val / 16, 0] ∧ win0_8.index t = ![t.val / 16, 0] :=
  (by decide +kernel : ∀ t : Fin grid0.N, _)

theorem lt512 (t : Fin cfg0.N) : t.val < 512 := Nat.lt_of_lt_of_eq t.isLt N_0

/-- The arguments. -/
abbrev a0 := m ((c.tc : Thread nD τ).loc main_arg0)
abbrev a1 := m ((c.tc : Thread nD τ).loc main_arg1)
abbrev a2 := m ((c.tc : Thread nD τ).loc main_arg2)
abbrev a3 := m ((c.tc : Thread nD τ).loc main_arg3)
abbrev a4 := m ((c.tc : Thread nD τ).loc main_arg4)
abbrev a5 := m ((c.tc : Thread nD τ).loc main_arg5)
abbrev a6 := m ((c.tc : Thread nD τ).loc main_arg6)
abbrev a7 := m ((c.tc : Thread nD τ).loc main_arg7)

/-- The run's coefficient of an expert for a token, and its result. -/
abbrev cf (E R : Fin 16384) : EReal := coef (a0 m c) (a1 m c) (a3 m c) (a4 m c) (a5 m c) (a6 m c) E R
abbrev res (R : Fin 16384) (C : Fin 2048) : EReal := result (a0 m c) (a1 m c) (a2 m c) (a3 m c) (a4 m c) (a5 m c) (a6 m c) (a7 m c) R C

/-- A point's loads. -/
abbrev ptLoads (t : Fin cfg0.N) : Loads Ideal := loads (iblk m c 0 t) (iblk m c 1 t) (iblk m c 2 t) (iblk m c 3 t) (iblk m c 4 t) (iblk m c 5 t) (iblk m c 6 t)

section
variable (t : Fin cfg0.N) (ht : t.val < 512) (q : Fin 512)

/-- The loads' entries are the arguments'. -/
theorem x_at (k : Fin 2048) : (ptLoads m c t).x (ix2 k q) = a0 m c (ix2 k ⟨512 * (t.val / 16) + q.val, by omega⟩) := by
  unfold ptLoads loads
  pointwise []
  blk_point [iblk, V, idx t]

theorem u_at (e : Fin 1024) (k : Fin 2048) : (ptLoads m c t).u (ix2 e k) = a1 m c (ix2 ⟨1024 * (t.val % 16) + e.val, by omega⟩ k) := by
  have e1 : (V m c main_v0 : FVec Ideal S16384x2048 .bf16) = truncf (F := Ideal) .bf16 (a1 m c : FVec Ideal S16384x2048 .f32) Gen.bitsLt_bf16_f32 := by
    entry_read
    rfl
  have e2 : (ptLoads m c t).u (ix2 e k) = V m c main_v0 (ix2 ⟨1024 * (t.val % 16) + e.val, by omega⟩ k) := by
    unfold ptLoads loads
    pointwise []
    blk_point [iblk, idx t]
  rw [e2, e1]
  pointwise []

theorem v_at (d : Fin 2048) (e : Fin 1024) : (ptLoads m c t).v (ix2 d e) = a2 m c (ix2 ⟨1024 * (t.val % 16) + e.val, by omega⟩ d) := by
  have e1 : (V m c main_v2 : FVec Ideal S2048x16384 .bf16) = truncf (F := Ideal) .bf16 (transpose S2048x16384 [1, 0] (a2 m c : FVec Ideal S16384x2048 .f32)
      Gen.transposes_S16384x2048_S2048x16384_1_0) Gen.bitsLt_bf16_f32 := by
    entry_read
    rfl
  have e2 : (ptLoads m c t).v (ix2 d e) = V m c main_v2 (ix2 d ⟨1024 * (t.val % 16) + e.val, by omega⟩) := by
    unfold ptLoads loads
    pointwise []
    blk_point [iblk, idx t]
  rw [e2, e1]
  pointwise []

theorem n_at (h i : Fin 8) : (ptLoads m c t).n h i (ix3 0 0 q) = a3 m c (ix3 h ⟨8 * (t.val % 16) + i.val, by omega⟩ ⟨512 * (t.val / 16) + q.val, by omega⟩) := by
  unfold ptLoads loads
  pointwise []
  blk_point [iblk, V, idx t]

theorem e0_at (h i : Fin 8) : (ptLoads m c t).e0 h i (ix3 0 0 q) = a4 m c (ix3 h ⟨8 * (t.val % 16) + i.val, by omega⟩ ⟨512 * (t.val / 16) + q.val, by omega⟩) := by
  unfold ptLoads loads
  pointwise []
  blk_point [iblk, V, idx t]

theorem rank_at (h : Fin 8) (j : Fin 128) : (ptLoads m c t).rank h (ix3 0 j q) = a5 m c (ix3 h j ⟨512 * (t.val / 16) + q.val, by omega⟩) := by
  unfold ptLoads loads
  pointwise []
  blk_point [iblk, V, idx t]

theorem e1_at (h : Fin 8) (j : Fin 128) : (ptLoads m c t).e1 h (ix3 0 j q) = a6 m c (ix3 h j ⟨512 * (t.val / 16) + q.val, by omega⟩) := by
  unfold ptLoads loads
  pointwise []
  blk_point [iblk, V, idx t]

/-- The staged hidden states. -/
theorem h_at (r : Fin 512) (d : Fin 2048) : iblk m c 7 t (ix2 r d) = a7 m c (ix2 ⟨512 * (t.val / 16) + r.val, by omega⟩ d) := by
  blk_point [iblk, V, idx t]

/-- A point's coefficients are its experts'. -/
theorem coefs_at (e : Fin 1024) : coefs (ptLoads m c t) (ix2 e q)
    = cf m c ⟨1024 * (t.val % 16) + e.val, by omega⟩ ⟨512 * (t.val / 16) + q.val, by omega⟩ := by
  have eI : 8 * (t.val % 16) + e.val / 128 = (1024 * (t.val % 16) + e.val) / 128 := by omega
  have eJ : e.val % 128 = (1024 * (t.val % 16) + e.val) % 128 := by omega
  have eE : 1024 * (t.val % 16) + (128 * (e.val / 128) + e.val % 128) = 1024 * (t.val % 16) + e.val := by omega
  unfold cf coef gate act
  refine (rows_at (ptLoads m c t) ⟨e.val / 128, by omega⟩ ⟨e.val % 128, by omega⟩ q).trans
    (congrArg₂ (· * ·) (Finset.sum_congr rfl fun h _ => ?_) (congrArg gelu (Finset.sum_congr rfl fun k _ => ?_)))
  · rw [n_at m c t ht, e0_at m c t ht, rank_at m c t ht, e1_at m c t ht]
    simp only [eI, ← eJ]
  · rw [u_at m c t, x_at m c t ht]
    simp only [eE]

end

/-- The share of block `b` of experts in the sum of token `R`, column `d`. -/
def blockSum (R : Fin 16384) (d : Fin 2048) (b : ℕ) : EReal :=
  ∑ e : Fin 1024, if hb : b < 16 then cf m c ⟨1024 * b + e.val, by omega⟩ R * a2 m c (ix2 ⟨1024 * b + e.val, by omega⟩ d) else 0

/-- A point adds its block's share. -/
theorem share_added (t : Fin cfg0.N) (ht : t.val < 512) (S : Vec Ideal S2048x512 .f32) (d : Fin 2048) (q : Fin 512) :
    next (ptLoads m c t) S (ix2 d q) = S (ix2 d q) + blockSum m c ⟨512 * (t.val / 16) + q.val, by omega⟩ d (t.val % 16) := by
  rw [next_at, blockSum]
  refine congrArg (S (ix2 d q) + ·) (Finset.sum_congr rfl fun e _ => ?_)
  rw [dif_pos (by omega), v_at m c t, coefs_at m c t ht]
  exact mul_comm _ _

/-- The zeroed sum. -/
theorem zeros_at (d : Fin 2048) (q : Fin 512) : (k0_pay3 : FVec Ideal S2048x512 .f32) (ix2 d q) = 0 := by
  pointwise [k0_pay3]

/-- After every point the scratch holds the shares of the experts' blocks so far. -/
theorem held_at (n : ℕ) : ∀ (hn : n < cfg0.N) (ht : n < 512) (d : Fin 2048) (q : Fin 512),
    (outsAt0 m c n hn).2 (ix2 d q) = ∑ b ∈ Finset.range (n % 16 + 1), blockSum m c ⟨512 * (n / 16) + q.val, by omega⟩ d b := by
  induction n using Nat.strong_induction_on with
  | _ n ih =>
    intro hn ht d q
    rw [Finset.sum_range_succ]
    by_cases h0 : n % 16 = 0
    · rw [show outsAt0 m c n hn = _ from outsAt0_A m c ⟨n, hn⟩ h0 (by dsimp only; omega)]
      dsimp only
      rw [soutA_eq, share_added m c ⟨n, hn⟩ ht, zeros_at]
      dsimp only
      rw [h0, Finset.sum_range_zero]
    · have hp : (outsAt0 m c (n - 1) (by omega)).2 (ix2 d q) = ∑ b ∈ Finset.range (n % 16), blockSum m c ⟨512 * (n / 16) + q.val, by omega⟩ d b := by
        refine (ih (n - 1) (by omega) (by omega) (by omega) d q).trans ?_
        simp only [show (n - 1) / 16 = n / 16 by omega, show (n - 1) % 16 + 1 = n % 16 by omega]
      by_cases h1 : n % 16 = 15
      · rw [show outsAt0 m c n hn = _ from outsAt0_C m c ⟨n, hn⟩ h0 h1]
        dsimp only
        rw [soutC_eq, share_added m c ⟨n, hn⟩ ht, hp]
      · rw [show outsAt0 m c n hn = _ from outsAt0_B m c ⟨n, hn⟩ h0 h1]
        dsimp only
        rw [soutB_eq, share_added m c ⟨n, hn⟩ ht, hp]

/-- The output block of a row block's last point, from the sum. -/
theorem pay2_at (x : Vec Ideal S512x2048 .f32) (S : Vec Ideal S2048x512 .f32) (r : Fin 512) (d : Fin 2048) : k0_pay2 x S (ix2 r d) = x (ix2 r d) + S (ix2 d r) := by
  pointwise [k0_pay2]

/-- The sixteen blocks' shares are all experts'. -/
theorem blocks_all (R : Fin 16384) (d : Fin 2048) : ∑ b ∈ Finset.range 16, blockSum m c R d b = ∑ E : Fin 16384, cf m c E R * a2 m c (ix2 E d) := by
  rw [sum_blocks, Finset.sum_range]
  refine Finset.sum_congr rfl fun b _ => Finset.sum_congr rfl fun e _ => ?_
  rw [dif_pos b.isLt]

/-- What a row block's last point writes. -/
theorem after_at (t : Fin cfg0.N) (ht : t.val < 512) (h1 : t.val % 16 = 15) (r : Fin 512) (d : Fin 2048) :
    (outsAt0 m c t.val t.isLt).1 (ix2 r d) = res m c ⟨512 * (t.val / 16) + r.val, by omega⟩ d := by
  have hs := held_at m c t.val t.isLt ht d r
  rw [outsAt0_C m c t (by omega) h1] at hs ⊢
  dsimp only at hs ⊢
  rw [soutC_eq] at hs
  rw [outC_eq, pay2_at, hs, h_at m c t ht, h1, blocks_all]
  rfl

/-- The result at a row given by its number. -/
theorem row_at (u : ℕ) (hu : u < 16384) (R : Fin 16384) (C D : Fin 2048) (hR : R.val = u) (hC : C.val = D.val) : res m c ⟨u, hu⟩ D = res m c R C := by
  obtain rfl : C = D := Fin.ext hC
  subst hR
  rfl

/-- A written block's entry is the result's. -/
theorem point (t : Fin cfg0.N) (h1 : t.val % 16 = 15) (y : S512x2048.Idx) :
    (outsAt0 m c t.val t.isLt).1 y = res m c ((((cfg0.win 8).blk t).view.emb y) 0) ((((cfg0.win 8).blk t).view.emb y) 1) := by
  have ht := lt512 t
  obtain ⟨r, d, rfl⟩ : ∃ (r : Fin 512) (d : Fin 2048), y = ix2 r d := ⟨y 0, y 1, by funext a; match a with | 0 => rfl | 1 => rfl⟩
  rw [after_at m c t ht h1]
  have e0 : ((((cfg0.win 8).blk t).view.emb (ix2 r d)) 0).val = t.val / 16 * 512 + r.val := by blk_point [idx t]
  have e1 : ((((cfg0.win 8).blk t).view.emb (ix2 r d)) 1).val = 0 * 2048 + d.val := by blk_point [idx t]
  exact row_at m c _ _ _ _ _ (e0.trans (by omega)) (e1.trans (by omega))

/-- The array after the run. -/
theorem final : (dats m 0 c).arrAt 8 (cfgs 0).N = fun x => res m c (x 0) (x 1) := by
  refine (dats m 0 c).arrAt_eq_of_covers 8 _ (by decide +kernel) fun t hf y => ?_
  blk_simp
  rw [after0_8]
  exact point m c t ((flush0_8 t).mp hf) y

end Cert.ExpertsIdeal.Mem

end
-- ==== Proof.ExpertsRef.lean ====
/-
  The reference of the experts' sum, entry by entry.
-/
module

public import proofs.«01_k».proof.Proof.Gen.ExpertsRefIdeal.Run
public import proofs.«01_k».proof.Proof.ExpertsSpec
public import Idealize.ShloMosaic.Lib.Pipeline.ValueKit

@[expose] public section

set_option maxRecDepth 16384

noncomputable section

namespace Cert.ExpertsRefIdeal.Mem

open Cert.ExpertsRefIdeal Cert.ExpertsRefIdeal.Gen Idealize.ShloMosaic Idealize.ShloMosaic.TcCoe
open Cert.ExpertSpec

/-- The gates, a row for each expert. -/
theorem flat (g : FVec Ideal S128x128x16384 .f32) (E R : Fin 16384) :
    (shapeCast S16384x16384 g shapeCasts_S128x128x16384_S16384x16384 : FVec Ideal S16384x16384 .f32) (ix2 E R) = g (ix3 ⟨E.val / 128, by omega⟩ ⟨E.val % 128, by omega⟩ R) := by
  pointwise []

section
variable (a0 : FVec Ideal S2048x16384 .bf16) (a1 a2 : FVec Ideal S16384x2048 .f32) (a3 a4 : FVec Ideal S8x128x16384 .f32) (a5 a6 : FVec Ideal S8x128x16384 .bf16)
  (a7 : FVec Ideal S16384x2048 .f32)

/-- The reference's gates. -/
abbrev refGate : FVec Ideal S128x128x16384 .f32 := Host.reduceAdd (select (cmpf .ole (broadcastInDim S8x128x128x16384 ![0, 1, 2, 3] bcast_S8x1x128x16384_S8x128x128x16384_0_1_2_3 (broadcastInDim S8x1x128x16384 ![0, 2, 3] bcast_S8x128x16384_S8x1x128x16384_0_2_3 (extf .f32 a5 bitsLt_bf16_f32))) (broadcastInDim S8x128x128x16384 ![0, 1, 2, 3] bcast_S8x128x1x16384_S8x128x128x16384_0_1_2_3 (broadcastInDim S8x128x1x16384 ![0, 1, 3] bcast_S8x128x16384_S8x128x1x16384_0_1_3 a3))) (mulf (broadcastInDim S8x128x128x16384 ![0, 1, 2, 3] bcast_S8x128x1x16384_S8x128x128x16384_0_1_2_3 (broadcastInDim S8x128x1x16384 ![0, 1, 3] bcast_S8x128x16384_S8x128x1x16384_0_1_3 a4)) (broadcastInDim S8x128x128x16384 ![0, 1, 2, 3] bcast_S8x1x128x16384_S8x128x128x16384_0_1_2_3 (broadcastInDim S8x1x128x16384 ![0, 2, 3] bcast_S8x128x16384_S8x1x128x16384_0_2_3 (extf .f32 a6 bitsLt_bf16_f32)))) (broadcastInDim S8x128x128x16384 ![] bcast_S_S8x128x128x16384 (id (constant S_ .f32 0x00000000#32)))) (constant S_ .f32 0x00000000#32) reducesTo_S8x128x128x16384_S128x128x16384_d0 h_S_

theorem refGate_at (I J : Fin 128) (R : Fin 16384) : refGate a3 a4 a5 a6 (ix3 I J R) = gate a3 a4 a5 a6 I J R := by
  pointwise [refGate, gate, pick, id]

/-- The reference's activations. -/
abbrev refAct : FVec Ideal S16384x16384 .f32 := Host.dotGeneral dot_S16384x2048_S2048x16384_S16384x16384_1_0_0_1_n_n none (transpose S16384x2048 [1, 0] (extf .f32 a0 bitsLt_bf16_f32) transposes_S2048x16384_S16384x2048_1_0) (transpose S2048x16384 [1, 0] a1 transposes_S16384x2048_S2048x16384_1_0)

theorem refAct_at (R E : Fin 16384) : refAct a0 a1 (ix2 R E) = act a0 a1 E R := by
  pointwise [refAct, act]
  exact Finset.sum_congr rfl fun k _ => mul_comm _ _

/-- The reference's result, from gates and activations. -/
abbrev refMix (g : FVec Ideal S128x128x16384 .f32) (a : FVec Ideal S16384x16384 .f32) : FVec Ideal S16384x2048 .f32 := addf a7 (Host.dotGeneral dot_S16384x16384_S16384x2048_S16384x2048_1_0_0_1_n_n none (mulf (transpose S16384x16384 [1, 0] (shapeCast S16384x16384 g shapeCasts_S128x128x16384_S16384x16384) transposes_S16384x16384_S16384x16384_1_0) (mulf (mulf (broadcastInDim S16384x16384 ![] bcast_S_S16384x16384 (constant S_ .f32 0x3F000000#32)) a) (addf (broadcastInDim S16384x16384 ![] bcast_S_S16384x16384 (constant S_ .f32 0x3F800000#32)) (Host.erf (mulf a (broadcastInDim S16384x16384 ![] bcast_S_S16384x16384 (constant S_ .f32 0x3F3504F3#32))))))) a2)

/-- The result from gates and activations, entry by entry. -/
theorem mix_at (g : FVec Ideal S128x128x16384 .f32) (a : FVec Ideal S16384x16384 .f32) (R : Fin 16384) (C : Fin 2048) :
    refMix a2 a7 g a (ix2 R C)
    = a7 (ix2 R C) + ∑ E : Fin 16384, g (ix3 ⟨E.val / 128, by omega⟩ ⟨E.val % 128, by omega⟩ R) * gelu (a (ix2 R E)) * a2 (ix2 E C) := by
  have hg := fun E => flat g E R
  unfold refMix
  generalize (shapeCast S16384x16384 g shapeCasts_S128x128x16384_S16384x16384 : FVec Ideal S16384x16384 .f32) = w at hg ⊢
  pointwise [hg, gelu]

/-- The reference computes the experts' sum. -/
theorem result_eq (R : Fin 16384) (C : Fin 2048) : refMix a2 a7 (refGate a3 a4 a5 a6) (refAct a0 a1) (ix2 R C) = result a0 a1 a2 a3 a4 a5 a6 a7 R C := by
  rw [mix_at]
  simp only [refGate_at, refAct_at]
  rfl

end

end Cert.ExpertsRefIdeal.Mem

end
-- ==== Proof.ConvSpec.lean ====
/-
  What the causal convolution kernels share. A point has 512 times of one sequence and 1024 columns, eight heads of 128. It stores the eight rows before its
  block and then the block itself into a scratch (`filled`); the four taps of a head are the scratch's rows at four successive offsets. The heads' outputs are
  listed once, by recursion (`headList`), and read back once, by induction (`headList_eq`). `conv` is the convolution that the points
  compute, and `Staged.conv_eq` says that they do.
-/
module

public import Idealize.ShloMosaic.Lib.Pipeline.Value
public import Idealize.ShloMosaic.Lib.Pipeline.ValueKit
public import Idealize.ShloMosaic.Lib.Pipeline.ReadBack
public import Idealize.ShloMosaic.Lib.WholeRead

@[expose] public section

set_option maxRecDepth 16384

noncomputable section

namespace Cert.ConvSpec

open Idealize.ShloMosaic Idealize.ShloMosaic.TcCoe Idealize.SL.Sem
open Idealize.ShloMosaic.View (Piece)

/-! ## Shapes and rectangles of a point -/

/-- The scratch, the rows before the block, the block, the taps' weights; a head's rows, a head's weights of one tap. -/
abbrev SE : Shape := ⟨2, ![520, 1024]⟩
abbrev ST : Shape := ⟨2, ![8, 1024]⟩
abbrev SX : Shape := ⟨2, ![512, 1024]⟩
abbrev SW : Shape := ⟨2, ![4, 1024]⟩
abbrev SH : Shape := ⟨2, ![512, 128]⟩
abbrev SV : Shape := ⟨2, ![1, 128]⟩
/-- An output block of eight heads' rows or columns, and one head of it. -/
abbrev SO (a d : ℕ) : Shape := ⟨4, ![1, 8, a, d]⟩
abbrev S1 (a d : ℕ) : Shape := ⟨4, ![1, 1, a, d]⟩

/-- The scratch's rows of the times before the block, and those of the block. -/
abbrev rTop : Rect SE := Rect.unit ![0, 0] ST.size (by decide)
abbrev rRest : Rect SE := Rect.unit ![8, 0] SX.size (by decide)
/-- Tap `j` of head `h`: the rows of the scratch, the weights. -/
abbrev rE (j : Fin 4) (h : Fin 8) : Rect SE := Rect.unit ![5 + j.val, 128 * h.val] SH.size (by intro a; fin_cases a <;> simp <;> omega)
abbrev rW (j : Fin 4) (h : Fin 8) : Rect SW := Rect.unit ![j.val, 128 * h.val] SV.size (by intro a; fin_cases a <;> simp <;> omega)
/-- Head `h` of the output block; the whole blocks. -/
abbrev rO {a d : ℕ} (h : Fin 8) : Rect (SO a d) := Rect.unit ![0, h.val, 0, 0] (S1 a d).size (by intro a; fin_cases a <;> simp <;> omega)
abbrev rX : Rect SX := Rect.unit ![0, 0] SX.size (by decide)
abbrev rT : Rect ST := Rect.unit ![0, 0] ST.size (by decide)

variable {F : FTy → Type} [FloatOps F]

/-! ## The scratch -/

/-- The scratch after a point's two stores. -/
def filled (top : Vec F ST .f32) (rest : Vec F SX .f32) : Vec F SE .f32 := fun y =>
  have h0 : (y 0).val < 520 := (y 0).isLt
  if h : (y 0).val < 8 then top (ix2 ⟨(y 0).val, h⟩ (y 1)) else rest (ix2 ⟨(y 0).val - 8, by omega⟩ (y 1))

/-- The two stores, newest first. -/
abbrev stores (top : Vec F ST .f32) (rest : Vec F SX .f32) : List (Piece (Elt F) SE .f32) := [⟨rRest, rest⟩, ⟨rTop, top⟩]

theorem stores_canon (top : Vec F ST .f32) (rest : Vec F SX .f32) : View.canon (stores top rest) = filled top rest := by
  funext y
  have h0 : (y 0).val < 520 := (y 0).isLt
  by_cases h : (y 0).val < 8
  · have hn : y ∉ rRest.set := by
      rw [Rect.mem_set_unit]
      intro H
      have := H 0
      simp at this
      omega
    have hy : rTop.emb (ix2 ⟨(y 0).val, h⟩ (y 1)) = y := by
      funext a
      refine Fin.ext ?_
      match a with
      | ⟨0, _⟩ => exact (Rect.idx_unit_val _ _ _ _ _).trans (by simp)
      | ⟨1, _⟩ => exact (Rect.idx_unit_val _ _ _ _ _).trans (by simp)
    refine (View.canon_cons_of_not_mem (⟨rRest, rest⟩ : Piece (Elt F) SE .f32) [⟨rTop, top⟩] hn).trans ?_
    refine ((congrArg (View.canon _) hy).symm.trans (View.canon_cons_emb rTop top [] _)).trans ?_
    rw [filled, dif_pos h]
  · have hy : rRest.emb (ix2 ⟨(y 0).val - 8, by omega⟩ (y 1)) = y := by
      funext a
      refine Fin.ext ?_
      match a with
      | ⟨0, _⟩ => exact (Rect.idx_unit_val _ _ _ _ _).trans (by simp; omega)
      | ⟨1, _⟩ => exact (Rect.idx_unit_val _ _ _ _ _).trans (by simp)
    refine ((congrArg (View.canon _) hy).symm.trans (View.canon_cons_emb rRest rest [⟨rTop, top⟩] _)).trans ?_
    rw [filled, dif_neg h]

/-- Tap `j` of head `h`: the rows … -/
def taps (E : Vec F SE .f32) (j : Fin 4) (h : Fin 8) : Vec F SH .f32 := fun y =>
  have h0 : (y 0).val < 512 := (y 0).isLt
  have h1 : (y 1).val < 128 := (y 1).isLt
  E (ix2 ⟨5 + j.val + (y 0).val, by omega⟩ ⟨128 * h.val + (y 1).val, by omega⟩)

/-- … and the weights. -/
def weights (W : Vec F SW .f32) (j : Fin 4) (h : Fin 8) : Vec F SV .f32 := fun y =>
  have h0 : (y 0).val < 1 := (y 0).isLt
  have h1 : (y 1).val < 128 := (y 1).isLt
  W (ix2 j ⟨128 * h.val + (y 1).val, by omega⟩)

section
variable {sig : RefSig}

/-- A read of the scratch after the two stores. -/
theorem taps_read (v : View sig .tc .vmem SE .f32) (top : Vec F ST .f32) (rest : Vec F SX .f32) (j : Fin 4) (h : Fin 8) :
    v.readCov (stores top rest) (rE j h).toLoadRect = taps (filled top rest) j h := by
  rw [View.readCov_eq_canon', stores_canon]
  funext y
  refine congrArg (filled top rest) (funext fun a => Fin.ext ?_)
  match a with
  | ⟨0, _⟩ => exact Rect.idx_unit_val _ _ _ _ _
  | ⟨1, _⟩ => exact Rect.idx_unit_val _ _ _ _ _

/-- A read of the staged weights … -/
theorem weights_read (r : Memref sig .tc .vmem SW .f32) (hr : r.IsWhole) (W : Vec F SW .f32) (j : Fin 4) (h : Fin 8) :
    View.readAt (Elt F) r.view (rW j h).toLoadRect (hr.unread W) = weights W j h := by
  funext y
  have h0 : (y 0).val < 1 := (y 0).isLt
  refine (Memref.IsWhole.readAt_unread hr W (rW j h).toLoadRect y).trans (congrArg W (funext fun a => Fin.ext ?_))
  match a with
  | ⟨0, _⟩ => exact (Rect.idx_unit_val _ _ _ _ _).trans (by simp)
  | ⟨1, _⟩ => exact Rect.idx_unit_val _ _ _ _ _

/-- … of the staged block … -/
theorem block_read (r : Memref sig .tc .vmem SX .f32) (hr : r.IsWhole) (X : Vec F SX .f32) : View.readAt (Elt F) r.view rX.toLoadRect (hr.unread X) = X := by
  funext y
  refine (Memref.IsWhole.readAt_unread hr X rX.toLoadRect y).trans (congrArg X (funext fun a => Fin.ext ?_))
  match a with
  | ⟨0, _⟩ => exact (Rect.idx_unit_val _ _ _ _ _).trans (by simp)
  | ⟨1, _⟩ => exact (Rect.idx_unit_val _ _ _ _ _).trans (by simp)

/-- … and of the staged rows before it. -/
theorem before_read (r : Memref sig .tc .vmem ST .f32) (hr : r.IsWhole) (X : Vec F ST .f32) : View.readAt (Elt F) r.view rT.toLoadRect (hr.unread X) = X := by
  funext y
  refine (Memref.IsWhole.readAt_unread hr X rT.toLoadRect y).trans (congrArg X (funext fun a => Fin.ext ?_))
  match a with
  | ⟨0, _⟩ => exact (Rect.idx_unit_val _ _ _ _ _).trans (by simp)
  | ⟨1, _⟩ => exact (Rect.idx_unit_val _ _ _ _ _).trans (by simp)

end

/-! ## The heads' stores, listed and read back -/

variable {a d : ℕ} (out : Fin 8 → Vec F (S1 a d) .f32)

/-- The stores of the first `n` heads, newest first. -/
def headList : (n : ℕ) → n ≤ 8 → List (Piece (Elt F) (SO a d) .f32)
  | 0, _ => []
  | n + 1, h => ⟨rO ⟨n, h⟩, out ⟨n, h⟩⟩ :: headList n (Nat.le_of_succ_le h)

/-- The heads' outputs together. -/
def heads : Vec F (SO a d) .f32 := fun y => out (y 1) (ix4 0 0 (y 2) (y 3))

theorem heads_at (h : Fin 8) (r : Fin a) (l : Fin d) : heads out (ix4 0 h r l) = out h (ix4 0 0 r l) := rfl

theorem rO_emb (h : Fin 8) (y : (SO a d).Idx) (hy : (y 1).val = h.val) : (rO h).emb (ix4 0 0 (y 2) (y 3)) = y := by
  have h0 : (y 0).val < 1 := (y 0).isLt
  funext i
  refine Fin.ext ?_
  match i with
  | ⟨0, _⟩ => exact (Rect.idx_unit_val _ _ _ _ _).trans (by simp)
  | ⟨1, _⟩ => exact (Rect.idx_unit_val _ _ _ _ _).trans (by simp [hy])
  | ⟨2, _⟩ => exact (Rect.idx_unit_val _ _ _ _ _).trans (by simp)
  | ⟨3, _⟩ => exact (Rect.idx_unit_val _ _ _ _ _).trans (by simp)

theorem rO_not_mem (h : Fin 8) (y : (SO a d).Idx) (hy : (y 1).val ≠ h.val) : y ∉ (rO h).set := by
  rw [Rect.mem_set_unit]
  intro H
  have h1 := H 1
  simp at h1
  omega

theorem headList_canon (y : (SO a d).Idx) : ∀ (n : ℕ) (h : n ≤ 8), (y 1).val < n → View.canon (headList out n h) y = heads out y
  | 0, _, hn => absurd hn (Nat.not_lt_zero _)
  | n + 1, h, hn => by
    by_cases e : (y 1).val = n
    · subst e
      rw [headList]
      exact (congrArg (View.canon _) (rO_emb ⟨_, h⟩ y rfl)).symm.trans (View.canon_cons_emb (rO ⟨_, h⟩) _ _ _)
    · exact (View.canon_cons_of_not_mem (⟨rO ⟨n, h⟩, out ⟨n, h⟩⟩ : Piece (Elt F) (SO a d) .f32) (headList out n (Nat.le_of_succ_le h))
        (rO_not_mem ⟨n, h⟩ y e)).trans (headList_canon y n _ (by omega))

/-- All eight stores leave the heads' outputs. -/
theorem headList_eq : View.canon (headList out 8 le_rfl) = heads out := by
  funext y
  exact headList_canon out y 8 le_rfl (y 1).isLt

/-! ## The convolution -/

/-- The entry at sequence `b`, column `C` that tap `j` takes for time `T`: three times earlier by `j`, or zero before the sequence's start. -/
def tap (p : FVec Ideal ⟨2, ![16384, 12288]⟩ .f32) (b : Fin 2) (T : Fin 8192) (C : Fin 8192) (j : Fin 4) : EReal :=
  if T.val + j.val < 3 then 0 else p (ix2 ⟨8192 * b.val + (T.val + j.val - 3), by omega⟩ ⟨C.val, by omega⟩)

/-- The convolution of the columns with their four weights. -/
def conv (p : FVec Ideal ⟨2, ![16384, 12288]⟩ .f32) (w : FVec Ideal ⟨2, ![4, 8192]⟩ .f32) (b : Fin 2) (T : Fin 8192) (C : Fin 8192) : EReal :=
  w (ix2 0 C) * tap p b T C 0 + w (ix2 1 C) * tap p b T C 1 + w (ix2 2 C) * tap p b T C 2 + w (ix2 3 C) * tap p b T C 3

/-- The convolution followed by silu. -/
def act (p : FVec Ideal ⟨2, ![16384, 12288]⟩ .f32) (w : FVec Ideal ⟨2, ![4, 8192]⟩ .f32) (b : Fin 2) (T : Fin 8192) (C : Fin 8192) : EReal :=
  conv p w b T C * Ideal.logistic (conv p w b T C)

/-- The columns by heads of 128: the first 16 are the queries', the next 16 the keys', the last 32 the values'. -/
def headAct (p : FVec Ideal ⟨2, ![16384, 12288]⟩ .f32) (w : FVec Ideal ⟨2, ![4, 8192]⟩ .f32) (b : Fin 2) (T : Fin 8192) (H : Fin 64) (l : Fin 128) : EReal :=
  act p w b T ⟨128 * H.val + l.val, by omega⟩

/-- A head's row over the root of its sum of squares. -/
def unitHead (p : FVec Ideal ⟨2, ![16384, 12288]⟩ .f32) (w : FVec Ideal ⟨2, ![4, 8192]⟩ .f32) (b : Fin 2) (T : Fin 8192) (H : Fin 64) (l : Fin 128) : EReal :=
  headAct p w b T H l * Ideal.rsqrt (∑ k : Fin 128, headAct p w b T H k * headAct p w b T H k + Ideal.ofBits .f32 0x358637BD#32)

/-! ## A point's taps -/

/-- A grid coordinate compared with zero. -/
theorem first (n : Fin 16) : Scalar.cmpi .eq (BitVec.ofNat 32 n.val) 0#32 = if n.val = 0 then 1#1 else 0#1 := by
  revert n
  decide

/-- The contents of a point that has time block `B` (of both sequences' 32) and column block `K`: the rows before the block, the block, the weights. -/
structure Staged (p : FVec Ideal ⟨2, ![16384, 12288]⟩ .f32) (w : FVec Ideal ⟨2, ![4, 8192]⟩ .f32) (B : Fin 32) (K : Fin 8) (top : Vec Ideal ST .f32)
    (rest : Vec Ideal SX .f32) (W : Vec Ideal SW .f32) : Prop where
  top_at (r : Fin 8) (k : Fin 1024) : top (ix2 r k)
    = if B.val % 16 = 0 then 0 else p (ix2 ⟨8 * (B.val * 64 - 1) + r.val, by omega⟩ ⟨1024 * K.val + k.val, by omega⟩)
  rest_at (r : Fin 512) (k : Fin 1024) : rest (ix2 r k) = p (ix2 ⟨512 * B.val + r.val, by omega⟩ ⟨1024 * K.val + k.val, by omega⟩)
  weights_at (j : Fin 4) (k : Fin 1024) : W (ix2 j k) = w (ix2 j ⟨1024 * K.val + k.val, by omega⟩)

section
variable {p : FVec Ideal ⟨2, ![16384, 12288]⟩ .f32} {w : FVec Ideal ⟨2, ![4, 8192]⟩ .f32} {B : Fin 32} {K : Fin 8} {top : Vec Ideal ST .f32}
  {rest : Vec Ideal SX .f32} {W : Vec Ideal SW .f32} (S : Staged p w B K top rest W) (h : Fin 8) (r : Fin 512) (l : Fin 128)

include S

/-- A head's taps at a time are the convolution's … -/
theorem Staged.taps_eq (j : Fin 4) : taps (filled top rest) j h (ix2 r l)
    = tap p ⟨B.val / 16, by omega⟩ ⟨512 * (B.val % 16) + r.val, by omega⟩ ⟨128 * (8 * K.val + h.val) + l.val, by omega⟩ j := by
  have eC : 1024 * K.val + (128 * h.val + l.val) = 128 * (8 * K.val + h.val) + l.val := by omega
  unfold taps filled tap
  by_cases hh : 5 + j.val + r.val < 8
  · refine (dif_pos hh).trans ((S.top_at _ _).trans ?_)
    by_cases h0 : B.val % 16 = 0
    · rw [if_pos h0, if_pos (by dsimp only; omega)]
    · rw [if_neg h0, if_neg (by dsimp only; omega)]
      refine congrArg p (congrArg₂ ix2 (Fin.ext ?_) (Fin.ext eC))
      exact show 8 * (B.val * 64 - 1) + (5 + j.val + r.val) = 8192 * (B.val / 16) + (512 * (B.val % 16) + r.val + j.val - 3) by omega
  · refine (dif_neg hh).trans ((S.rest_at _ _).trans ?_)
    rw [if_neg (by dsimp only; omega)]
    refine congrArg p (congrArg₂ ix2 (Fin.ext ?_) (Fin.ext eC))
    exact show 512 * B.val + (5 + j.val + r.val - 8) = 8192 * (B.val / 16) + (512 * (B.val % 16) + r.val + j.val - 3) by omega

/-- … its weights are the columns' … -/
theorem Staged.weights_eq (j : Fin 4) : weights W j h (ix2 0 l) = w (ix2 j ⟨128 * (8 * K.val + h.val) + l.val, by omega⟩) :=
  (S.weights_at j ⟨128 * h.val + l.val, by omega⟩).trans
    (congrArg w (congrArg₂ ix2 rfl (Fin.ext (show 1024 * K.val + (128 * h.val + l.val) = 128 * (8 * K.val + h.val) + l.val by omega))))

/-- … and the sum of their products is the convolution. -/
theorem Staged.conv_eq : weights W 0 h (ix2 0 l) * taps (filled top rest) 0 h (ix2 r l) + weights W 1 h (ix2 0 l) * taps (filled top rest) 1 h (ix2 r l)
      + weights W 2 h (ix2 0 l) * taps (filled top rest) 2 h (ix2 r l) + weights W 3 h (ix2 0 l) * taps (filled top rest) 3 h (ix2 r l)
    = conv p w ⟨B.val / 16, by omega⟩ ⟨512 * (B.val % 16) + r.val, by omega⟩ ⟨128 * (8 * K.val + h.val) + l.val, by omega⟩ := by
  rw [S.weights_eq, S.weights_eq, S.weights_eq, S.weights_eq, S.taps_eq, S.taps_eq, S.taps_eq, S.taps_eq]
  rfl

end

/-- A value at a sequence, head, time and lane given by their numbers. -/
theorem at_numbers {n a d : ℕ} (f : Fin 2 → Fin n → Fin a → Fin d → EReal) (u v w x : ℕ) (hu : u < 2) (hv : v < n) (hw : w < a) (hx : x < d) (b : Fin 2) (H : Fin n) (T : Fin a)
    (l : Fin d) (eb : b.val = u) (eH : H.val = v) (eT : T.val = w) (el : l.val = x) : f ⟨u, hu⟩ ⟨v, hv⟩ ⟨w, hw⟩ ⟨x, hx⟩ = f b H T l := by
  subst eb eH eT el
  rfl

end Cert.ConvSpec

end
-- ==== Proof.ConvVValue.lean ====
/-
  The causal convolution of the values' columns, with its silu: every point's block is `ConvSpec.headAct` of its times and heads, and the blocks cover the array.
-/
module

public import proofs.«01_k».proof.Proof.ConvSpec
public import proofs.«01_k».proof.Proof.Gen.ConvVIdeal.Value

@[expose] public section

set_option maxRecDepth 65536

noncomputable section

namespace Cert.ConvVIdeal.Conv

open Cert.ConvVIdeal Cert.ConvVIdeal.Gen Idealize.ShloMosaic Idealize.ShloMosaic.TcCoe Idealize.SL.Sem
open Cert.ConvSpec

section
variable {F : FTy → Type} [FloatOps F]

/-- A head's output from its four taps' weights and rows. -/
abbrev headOut (W : Fin 4 → Vec F SV .f32) (E : Fin 4 → Vec F SH .f32) : Vec F (S1 512 128) .f32 := k0_pay7 (W 0) (E 0) (W 1) (E 1) (W 2) (E 2) (W 3) (E 3)

variable (c : Dev nD) (i : grid0.Coords) (arg3 : Memref sig .tc .vmem S512x1024 .f32) (harg3 : arg3.IsWhole) (arg4 : Memref sig .tc .vmem S8x1024 .f32) (harg4 : arg4.IsWhole)
  (arg5 : Memref sig .tc .vmem S4x1024 .f32) (harg5 : arg5.IsWhole) (arg6 : Memref sig .tc .vmem S1x8x512x128 .f32) (harg6 : arg6.IsWhole)
  (arg7 : Memref sig .tc .vmem S520x1024 .f32) (harg7 : arg7.IsWhole) (x0 : Vec F S512x1024 .f32) (x1 : Vec F S8x1024 .f32) (x2 : Vec F S4x1024 .f32)

/-- The scratch's stores of a point, from the staged blocks. -/
abbrev mstores := stores (F := F) (k0_pay2 i (View.readAt (Elt F) arg4.view rT.toLoadRect (harg4.unread x1))) (k0_pay3 (View.readAt (Elt F) arg3.view rX.toLoadRect (harg3.unread x0)))

/-- The output's stores of a point are the eight heads'. -/
theorem run_out : (kernelRun0_A c i arg3 harg3 arg4 harg4 arg5 harg5 arg6 harg6 arg7 harg7 x0 x1 x2).1
    = headList (fun h => headOut (fun j => View.readAt (Elt F) arg5.view (rW j h).toLoadRect (harg5.unread x2))
        (fun j => arg7.view.readCov (mstores i arg3 harg3 arg4 harg4 x0 x1) (rE j h).toLoadRect)) 8 le_rfl := by
  sl_kernel_rfl

/-- So a point leaves the heads' outputs over its staged blocks. -/
theorem out_eq : out0_A_3 c i arg3 harg3 arg4 harg4 arg5 harg5 arg6 harg6 arg7 harg7 x0 x1 x2
    = heads fun h => headOut (fun j => weights x2 j h) (fun j => taps (filled (k0_pay2 i x1) (k0_pay3 x0)) j h) := by
  rw [out0_A_3, View.read_writes_junk_eq_canon, run_out, headList_eq]
  refine congrArg heads (funext fun h => congrArg₂ headOut (funext fun j => weights_read _ _ _ _ _) (funext fun j => ?_))
  rw [mstores, taps_read, before_read, block_read]

end

variable (m : (ℓ : Loc nD τ sig) → Buf (Elt Ideal) ℓ) (c : Dev nD)

/-- The two arguments. -/
abbrev a0 : FVec Ideal ⟨2, ![16384, 12288]⟩ .f32 := m ((c.tc : Thread nD τ).loc main_arg0)
abbrev a1 : FVec Ideal ⟨2, ![4, 8192]⟩ .f32 := m ((c.tc : Thread nD τ).loc main_arg1)

/-- The blocks the windows stage at each point: 512 times `t / 4`, eight heads `t % 4`; the eight rows before the block, at the start the first ones. -/
theorem idx : ∀ t : Fin cfg0.N, win0_0.index t = ![t.val / 4, 4 + t.val % 4] ∧ win0_1.index t = ![t.val / 4 * 64 - 1, 4 + t.val % 4]
    ∧ win0_2.index t = ![0, 4 + t.val % 4] ∧ win0_3.index t = ![t.val / 64, t.val % 4, t.val / 4 % 16, 0] ∧ (grid0.coords t 1).val = t.val / 4 % 16 :=
  (by decide +kernel : ∀ t : Fin grid0.N, _)

/-- A head's output at a time and lane. -/
theorem headOut_at (W : Fin 4 → Vec Ideal SV .f32) (E : Fin 4 → Vec Ideal SH .f32) (r : Fin 512) (l : Fin 128) (y : EReal)
    (hy : W 0 (ix2 0 l) * E 0 (ix2 r l) + W 1 (ix2 0 l) * E 1 (ix2 r l) + W 2 (ix2 0 l) * E 2 (ix2 r l) + W 3 (ix2 0 l) * E 3 (ix2 r l) = y) :
    headOut W E (ix4 0 0 r l) = y * Ideal.logistic y := by
  subst hy
  pointwise [k0_pay7]

/-- The stored rows before the block: zero at a sequence's start. -/
theorem top_at (t : Fin cfg0.N) (x : Vec Ideal S8x1024 .f32) (r : Fin 8) (k : Fin 1024) :
    k0_pay2 (grid0.coords t) x (ix2 r k) = if t.val / 4 % 16 = 0 then 0 else x (ix2 r k) := by
  have e := first (grid0.coords t 1)
  rw [(idx t).2.2.2.2] at e
  by_cases h : t.val / 4 % 16 = 0
  · rw [if_pos h] at e ⊢
    pointwise [k0_pay2, (idx t).2.2.2.2, e]
  · rw [if_neg h] at e ⊢
    pointwise [k0_pay2, (idx t).2.2.2.2, e]

/-- What a point stages and stores into the scratch. -/
theorem staged (t : Fin cfg0.N) (ht : t.val < 128) : Staged (a0 m c) (a1 m c) ⟨t.val / 4, by omega⟩ ⟨4 + t.val % 4, by omega⟩
    (k0_pay2 (grid0.coords t) (iblk m c 1 t)) (k0_pay3 (iblk m c 0 t)) (iblk m c 2 t) where
  top_at r k := by
    rw [top_at]
    refine if_congr Iff.rfl rfl ?_
    blk_point [iblk, V, idx t]
  rest_at r k := by
    refine Eq.trans (b := iblk m c 0 t (ix2 r k)) (by pointwise [k0_pay3]) ?_
    blk_point [iblk, V, idx t]
  weights_at j k := by
    blk_point [iblk, V, idx t]

/-- The result at a sequence, head, time and lane. -/
abbrev res (b : Fin 2) (H : Fin 32) (T : Fin 8192) (l : Fin 128) : EReal := headAct (a0 m c) (a1 m c) b T ⟨32 + H.val, by omega⟩ l

/-- What a point leaves. -/
theorem after_at (t : Fin cfg0.N) (ht : t.val < 128) (h : Fin 8) (r : Fin 512) (l : Fin 128) : outsAt0 m c t (ix4 0 h r l)
    = res m c ⟨t.val / 64, by omega⟩ ⟨8 * (t.val % 4) + h.val, by omega⟩ ⟨512 * (t.val / 4 % 16) + r.val, by omega⟩ l := by
  rw [outsAt0, out_eq, heads_at]
  refine (headOut_at (fun j => weights (iblk m c 2 t) j h) (fun j => taps (filled (k0_pay2 (grid0.coords t) (iblk m c 1 t)) (k0_pay3 (iblk m c 0 t))) j h) r l _
    ((staged m c t ht).conv_eq h r l)).trans ?_
  unfold res headAct act
  simp only [show t.val / 4 / 16 = t.val / 64 by omega, show 8 * (4 + t.val % 4) + h.val = 32 + (8 * (t.val % 4) + h.val) by omega]

/-- A block's entry is the result's. -/
theorem point (t : Fin cfg0.N) (y : S1x8x512x128.Idx) : outsAt0 m c t y = res m c ((((cfg0.win 3).blk t).view.emb y) 0) ((((cfg0.win 3).blk t).view.emb y) 1)
    ((((cfg0.win 3).blk t).view.emb y) 2) ((((cfg0.win 3).blk t).view.emb y) 3) := by
  have ht : t.val < 128 := Nat.lt_of_lt_of_eq t.isLt N_0
  obtain ⟨h, r, l, rfl⟩ : ∃ (h : Fin 8) (r : Fin 512) (l : Fin 128), y = ix4 0 h r l :=
    ⟨y 1, y 2, y 3, by
      have h0 : (y 0).val < 1 := (y 0).isLt
      funext a
      match a with
      | 0 => exact Fin.ext (by show (y 0).val = 0; omega)
      | 1 => rfl
      | 2 => rfl
      | 3 => rfl⟩
  rw [after_at m c t ht]
  have e0 : ((((cfg0.win 3).blk t).view.emb (ix4 0 h r l)) 0).val = t.val / 64 * 1 + (0 : Fin 1).val := by blk_point [idx t]
  have e1 : ((((cfg0.win 3).blk t).view.emb (ix4 0 h r l)) 1).val = t.val % 4 * 8 + h.val := by blk_point [idx t]
  have e2 : ((((cfg0.win 3).blk t).view.emb (ix4 0 h r l)) 2).val = t.val / 4 % 16 * 512 + r.val := by blk_point [idx t]
  have e3 : ((((cfg0.win 3).blk t).view.emb (ix4 0 h r l)) 3).val = 0 * 128 + l.val := by blk_point [idx t]
  exact at_numbers (res m c) _ _ _ _ _ _ _ _ _ _ _ _ (e0.trans (by omega)) (e1.trans (by omega)) (e2.trans (by omega)) (e3.trans (by omega))

/-- The array after the run. -/
theorem final : (dats m 0 c).arrAt 3 (cfgs 0).N = fun x => res m c (x 0) (x 1) (x 2) (x 3) := by
  refine (dats m 0 c).arrAt_eq_of_covers 3 _ (by decide +kernel) fun t _ y => ?_
  blk_simp
  rw [after0_3]
  exact point m c t y

end Cert.ConvVIdeal.Conv

end
-- ==== Proof.ConvQValue.lean ====
/-
  The causal convolution of the queries' columns, with its silu, the heads' unit rows and their scale: every point's block is the scaled `ConvSpec.unitHead` of its
  times and heads, and the blocks cover the array.
-/
module

public import proofs.«01_k».proof.Proof.ConvSpec
public import proofs.«01_k».proof.Proof.Gen.ConvQIdeal.Value

@[expose] public section

set_option maxRecDepth 65536

noncomputable section

namespace Cert.ConvQIdeal.Conv

open Cert.ConvQIdeal Cert.ConvQIdeal.Gen Idealize.ShloMosaic Idealize.ShloMosaic.TcCoe Idealize.SL.Sem
open Cert.ConvSpec

section
variable {F : FTy → Type} [FloatOps F]

/-- A head's output from its four taps' weights and rows. -/
abbrev headOut (W : Fin 4 → Vec F SV .f32) (E : Fin 4 → Vec F SH .f32) : Vec F (S1 512 128) .f32 :=
  k0_pay24 (k0_pay22 (W 0) (E 0) (W 1) (E 1) (W 2) (E 2) (W 3) (E 3)) (k0_pay23 (W 0) (E 0) (W 1) (E 1) (W 2) (E 2) (W 3) (E 3))

variable (c : Dev nD) (i : grid0.Coords) (arg3 : Memref sig .tc .vmem S512x1024 .f32) (harg3 : arg3.IsWhole) (arg4 : Memref sig .tc .vmem S8x1024 .f32) (harg4 : arg4.IsWhole)
  (arg5 : Memref sig .tc .vmem S4x1024 .f32) (harg5 : arg5.IsWhole) (arg6 : Memref sig .tc .vmem S1x8x512x128 .f32) (harg6 : arg6.IsWhole)
  (arg7 : Memref sig .tc .vmem S520x1024 .f32) (harg7 : arg7.IsWhole) (x0 : Vec F S512x1024 .f32) (x1 : Vec F S8x1024 .f32) (x2 : Vec F S4x1024 .f32)

/-- The scratch's stores of a point, from the staged blocks. -/
abbrev mstores := stores (F := F) (k0_pay2 i (View.readAt (Elt F) arg4.view rT.toLoadRect (harg4.unread x1))) (k0_pay3 (View.readAt (Elt F) arg3.view rX.toLoadRect (harg3.unread x0)))

/-- The output's stores of a point are the eight heads'. -/
theorem run_out : (kernelRun0_A c i arg3 harg3 arg4 harg4 arg5 harg5 arg6 harg6 arg7 harg7 x0 x1 x2).1
    = headList (fun h => headOut (fun j => View.readAt (Elt F) arg5.view (rW j h).toLoadRect (harg5.unread x2))
        (fun j => arg7.view.readCov (mstores i arg3 harg3 arg4 harg4 x0 x1) (rE j h).toLoadRect)) 8 le_rfl := by
  sl_kernel_rfl

/-- So a point leaves the heads' outputs over its staged blocks. -/
theorem out_eq : out0_A_3 c i arg3 harg3 arg4 harg4 arg5 harg5 arg6 harg6 arg7 harg7 x0 x1 x2
    = heads fun h => headOut (fun j => weights x2 j h) (fun j => taps (filled (k0_pay2 i x1) (k0_pay3 x0)) j h) := by
  rw [out0_A_3, View.read_writes_junk_eq_canon, run_out, headList_eq]
  refine congrArg heads (funext fun h => congrArg₂ headOut (funext fun j => weights_read _ _ _ _ _) (funext fun j => ?_))
  rw [mstores, taps_read, before_read, block_read]

end

variable (m : (ℓ : Loc nD τ sig) → Buf (Elt Ideal) ℓ) (c : Dev nD)

/-- The two arguments. -/
abbrev a0 : FVec Ideal ⟨2, ![16384, 12288]⟩ .f32 := m ((c.tc : Thread nD τ).loc main_arg0)
abbrev a1 : FVec Ideal ⟨2, ![4, 8192]⟩ .f32 := m ((c.tc : Thread nD τ).loc main_arg1)

/-- The blocks the windows stage at each point: 512 times `t / 2`, eight heads `t % 2`; the eight rows before the block, at the start the first ones. -/
theorem idx : ∀ t : Fin cfg0.N, win0_0.index t = ![t.val / 2, t.val % 2] ∧ win0_1.index t = ![t.val / 2 * 64 - 1, t.val % 2]
    ∧ win0_2.index t = ![0, t.val % 2] ∧ win0_3.index t = ![t.val / 32, t.val % 2, t.val / 2 % 16, 0] ∧ (grid0.coords t 1).val = t.val / 2 % 16 :=
  (by decide +kernel : ∀ t : Fin grid0.N, _)

/-- A head's output at a time and lane, from the convolution of its lanes. -/
theorem headOut_at (W : Fin 4 → Vec Ideal SV .f32) (E : Fin 4 → Vec Ideal SH .f32) (r : Fin 512) (l : Fin 128) (y : Fin 128 → EReal)
    (hy : ∀ l, W 0 (ix2 0 l) * E 0 (ix2 r l) + W 1 (ix2 0 l) * E 1 (ix2 r l) + W 2 (ix2 0 l) * E 2 (ix2 r l) + W 3 (ix2 0 l) * E 3 (ix2 r l) = y l) :
    headOut W E (ix4 0 0 r l) = y l * Ideal.logistic (y l) * Ideal.rsqrt (∑ k : Fin 128, y k * Ideal.logistic (y k) * (y k * Ideal.logistic (y k))
      + Ideal.ofBits .f32 0x358637BD#32) * Ideal.ofBits .f32 0x3DB504F3#32 := by
  obtain rfl := funext hy
  pointwise [k0_pay24, k0_pay22, k0_pay23]

/-- The stored rows before the block: zero at a sequence's start. -/
theorem top_at (t : Fin cfg0.N) (x : Vec Ideal S8x1024 .f32) (r : Fin 8) (k : Fin 1024) :
    k0_pay2 (grid0.coords t) x (ix2 r k) = if t.val / 2 % 16 = 0 then 0 else x (ix2 r k) := by
  have e := first (grid0.coords t 1)
  rw [(idx t).2.2.2.2] at e
  by_cases h : t.val / 2 % 16 = 0
  · rw [if_pos h] at e ⊢
    pointwise [k0_pay2, (idx t).2.2.2.2, e]
  · rw [if_neg h] at e ⊢
    pointwise [k0_pay2, (idx t).2.2.2.2, e]

/-- What a point stages and stores into the scratch. -/
theorem staged (t : Fin cfg0.N) (ht : t.val < 64) : Staged (a0 m c) (a1 m c) ⟨t.val / 2, by omega⟩ ⟨t.val % 2, by omega⟩
    (k0_pay2 (grid0.coords t) (iblk m c 1 t)) (k0_pay3 (iblk m c 0 t)) (iblk m c 2 t) where
  top_at r k := by
    rw [top_at]
    refine if_congr Iff.rfl rfl ?_
    blk_point [iblk, V, idx t]
  rest_at r k := by
    refine Eq.trans (b := iblk m c 0 t (ix2 r k)) (by pointwise [k0_pay3]) ?_
    blk_point [iblk, V, idx t]
  weights_at j k := by
    blk_point [iblk, V, idx t]

/-- The result at a sequence, head, time and lane. -/
abbrev res (b : Fin 2) (H : Fin 16) (T : Fin 8192) (l : Fin 128) : EReal :=
  unitHead (a0 m c) (a1 m c) b T ⟨H.val, by omega⟩ l * Ideal.ofBits .f32 0x3DB504F3#32

/-- What a point leaves. -/
theorem after_at (t : Fin cfg0.N) (ht : t.val < 64) (h : Fin 8) (r : Fin 512) (l : Fin 128) : outsAt0 m c t (ix4 0 h r l)
    = res m c ⟨t.val / 32, by omega⟩ ⟨8 * (t.val % 2) + h.val, by omega⟩ ⟨512 * (t.val / 2 % 16) + r.val, by omega⟩ l := by
  rw [outsAt0, out_eq, heads_at]
  refine (headOut_at (fun j => weights (iblk m c 2 t) j h) (fun j => taps (filled (k0_pay2 (grid0.coords t) (iblk m c 1 t)) (k0_pay3 (iblk m c 0 t))) j h) r l _
    fun l => (staged m c t ht).conv_eq h r l).trans ?_
  unfold res unitHead headAct act
  simp only [show t.val / 2 / 16 = t.val / 32 by omega]

/-- A block's entry is the result's. -/
theorem point (t : Fin cfg0.N) (y : S1x8x512x128.Idx) : outsAt0 m c t y = res m c ((((cfg0.win 3).blk t).view.emb y) 0) ((((cfg0.win 3).blk t).view.emb y) 1)
    ((((cfg0.win 3).blk t).view.emb y) 2) ((((cfg0.win 3).blk t).view.emb y) 3) := by
  have ht : t.val < 64 := Nat.lt_of_lt_of_eq t.isLt N_0
  obtain ⟨h, r, l, rfl⟩ : ∃ (h : Fin 8) (r : Fin 512) (l : Fin 128), y = ix4 0 h r l :=
    ⟨y 1, y 2, y 3, by
      have h0 : (y 0).val < 1 := (y 0).isLt
      funext a
      match a with
      | 0 => exact Fin.ext (by show (y 0).val = 0; omega)
      | 1 => rfl
      | 2 => rfl
      | 3 => rfl⟩
  rw [after_at m c t ht]
  have e0 : ((((cfg0.win 3).blk t).view.emb (ix4 0 h r l)) 0).val = t.val / 32 * 1 + (0 : Fin 1).val := by blk_point [idx t]
  have e1 : ((((cfg0.win 3).blk t).view.emb (ix4 0 h r l)) 1).val = t.val % 2 * 8 + h.val := by blk_point [idx t]
  have e2 : ((((cfg0.win 3).blk t).view.emb (ix4 0 h r l)) 2).val = t.val / 2 % 16 * 512 + r.val := by blk_point [idx t]
  have e3 : ((((cfg0.win 3).blk t).view.emb (ix4 0 h r l)) 3).val = 0 * 128 + l.val := by blk_point [idx t]
  exact at_numbers (res m c) _ _ _ _ _ _ _ _ _ _ _ _ (e0.trans (by omega)) (e1.trans (by omega)) (e2.trans (by omega)) (e3.trans (by omega))

/-- The array after the run. -/
theorem final : (dats m 0 c).arrAt 3 (cfgs 0).N = fun x => res m c (x 0) (x 1) (x 2) (x 3) := by
  refine (dats m 0 c).arrAt_eq_of_covers 3 _ (by decide +kernel) fun t _ y => ?_
  blk_simp
  rw [after0_3]
  exact point m c t y

end Cert.ConvQIdeal.Conv

end
-- ==== Proof.ConvKValue.lean ====
/-
  The causal convolution of the keys' columns, with its silu and the heads' unit rows, and the same transposed: every point's blocks are `ConvSpec.unitHead` of its
  times and heads, and the blocks cover the arrays.
-/
module

public import proofs.«01_k».proof.Proof.ConvSpec
public import proofs.«01_k».proof.Proof.Gen.ConvKIdeal.Value

@[expose] public section

set_option maxRecDepth 65536

noncomputable section

namespace Cert.ConvKIdeal.Conv

open Cert.ConvKIdeal Cert.ConvKIdeal.Gen Idealize.ShloMosaic Idealize.ShloMosaic.TcCoe Idealize.SL.Sem
open Cert.ConvSpec

section
variable {F : FTy → Type} [FloatOps F]

/-- A head's rows from its four taps' weights and rows … -/
abbrev headOut (W : Fin 4 → Vec F SV .f32) (E : Fin 4 → Vec F SH .f32) : Vec F (S1 512 128) .f32 := k0_pay34 (W 0) (E 0) (W 1) (E 1) (W 2) (E 2) (W 3) (E 3)

/-- … and the same transposed. -/
abbrev headOutT (W : Fin 4 → Vec F SV .f32) (E : Fin 4 → Vec F SH .f32) : Vec F (S1 128 512) .f32 :=
  k0_pay1 (k0_pay35 (W 0) (E 0) (W 1) (E 1) (W 2) (E 2) (W 3) (E 3))

variable (c : Dev nD) (i : grid0.Coords) (arg3 : Memref sig .tc .vmem S512x1024 .f32) (harg3 : arg3.IsWhole) (arg4 : Memref sig .tc .vmem S8x1024 .f32) (harg4 : arg4.IsWhole)
  (arg5 : Memref sig .tc .vmem S4x1024 .f32) (harg5 : arg5.IsWhole) (arg6 : Memref sig .tc .vmem S1x8x512x128 .f32) (harg6 : arg6.IsWhole)
  (arg7 : Memref sig .tc .vmem S1x8x128x512 .f32) (harg7 : arg7.IsWhole) (arg8 : Memref sig .tc .vmem S520x1024 .f32) (harg8 : arg8.IsWhole)
  (x0 : Vec F S512x1024 .f32) (x1 : Vec F S8x1024 .f32) (x2 : Vec F S4x1024 .f32)

/-- The scratch's stores of a point, from the staged blocks. -/
abbrev mstores := stores (F := F) (k0_pay2 i (View.readAt (Elt F) arg4.view rT.toLoadRect (harg4.unread x1))) (k0_pay3 (View.readAt (Elt F) arg3.view rX.toLoadRect (harg3.unread x0)))

/-- A head's weights and taps, as the machine's reads. -/
abbrev mweights (h : Fin 8) (j : Fin 4) : Vec F SV .f32 := View.readAt (Elt F) arg5.view (rW j h).toLoadRect (harg5.unread x2)
abbrev mtaps (h : Fin 8) (j : Fin 4) : Vec F SH .f32 := arg8.view.readCov (mstores i arg3 harg3 arg4 harg4 x0 x1) (rE j h).toLoadRect

theorem mweights_eq (h : Fin 8) : mweights arg5 harg5 x2 h = fun j => weights x2 j h := funext fun j => weights_read _ _ _ _ _

theorem mtaps_eq (h : Fin 8) : mtaps i arg3 harg3 arg4 harg4 arg8 x0 x1 h = fun j => taps (filled (k0_pay2 i x1) (k0_pay3 x0)) j h := by
  funext j
  rw [mtaps, mstores, taps_read, before_read, block_read]

/-- The outputs' stores of a point are the eight heads'. -/
theorem run_out : (kernelRun0_A c i arg3 harg3 arg4 harg4 arg5 harg5 arg6 harg6 arg7 harg7 arg8 harg8 x0 x1 x2).1
    = headList (fun h => headOut (mweights arg5 harg5 x2 h) (mtaps i arg3 harg3 arg4 harg4 arg8 x0 x1 h)) 8 le_rfl := by
  sl_kernel_rfl

theorem run_outT : (kernelRun0_A c i arg3 harg3 arg4 harg4 arg5 harg5 arg6 harg6 arg7 harg7 arg8 harg8 x0 x1 x2).2.1
    = headList (fun h => headOutT (mweights arg5 harg5 x2 h) (mtaps i arg3 harg3 arg4 harg4 arg8 x0 x1 h)) 8 le_rfl := by
  sl_kernel_rfl

/-- So a point leaves the heads' rows over its staged blocks … -/
theorem out_eq : out0_A_3 c i arg3 harg3 arg4 harg4 arg5 harg5 arg6 harg6 arg7 harg7 arg8 harg8 x0 x1 x2
    = heads fun h => headOut (fun j => weights x2 j h) (fun j => taps (filled (k0_pay2 i x1) (k0_pay3 x0)) j h) := by
  rw [out0_A_3, View.read_writes_junk_eq_canon, run_out, headList_eq]
  refine congrArg heads (funext fun h => ?_)
  rw [mweights_eq, mtaps_eq]

/-- … and the same transposed. -/
theorem outT_eq : out0_A_4 c i arg3 harg3 arg4 harg4 arg5 harg5 arg6 harg6 arg7 harg7 arg8 harg8 x0 x1 x2
    = heads fun h => headOutT (fun j => weights x2 j h) (fun j => taps (filled (k0_pay2 i x1) (k0_pay3 x0)) j h) := by
  rw [out0_A_4, View.read_writes_junk_eq_canon, run_outT, headList_eq]
  refine congrArg heads (funext fun h => ?_)
  rw [mweights_eq, mtaps_eq]

end

variable (m : (ℓ : Loc nD τ sig) → Buf (Elt Ideal) ℓ) (c : Dev nD)

/-- The two arguments. -/
abbrev a0 : FVec Ideal ⟨2, ![16384, 12288]⟩ .f32 := m ((c.tc : Thread nD τ).loc main_arg0)
abbrev a1 : FVec Ideal ⟨2, ![4, 8192]⟩ .f32 := m ((c.tc : Thread nD τ).loc main_arg1)

/-- The blocks the windows stage at each point: 512 times `t / 2`, eight heads `t % 2`; the eight rows before the block, at the start the first ones. -/
theorem idx : ∀ t : Fin cfg0.N, win0_0.index t = ![t.val / 2, 2 + t.val % 2] ∧ win0_1.index t = ![t.val / 2 * 64 - 1, 2 + t.val % 2]
    ∧ win0_2.index t = ![0, 2 + t.val % 2] ∧ win0_3.index t = ![t.val / 32, t.val % 2, t.val / 2 % 16, 0]
    ∧ win0_4.index t = ![t.val / 32, t.val % 2, 0, t.val / 2 % 16] ∧ (grid0.coords t 1).val = t.val / 2 % 16 :=
  (by decide +kernel : ∀ t : Fin grid0.N, _)

section
variable (W : Fin 4 → Vec Ideal SV .f32) (E : Fin 4 → Vec Ideal SH .f32) (r : Fin 512) (l : Fin 128) (y : Fin 128 → EReal)
  (hy : ∀ l, W 0 (ix2 0 l) * E 0 (ix2 r l) + W 1 (ix2 0 l) * E 1 (ix2 r l) + W 2 (ix2 0 l) * E 2 (ix2 r l) + W 3 (ix2 0 l) * E 3 (ix2 r l) = y l)

include hy

/-- A head's output at a time and lane, from the convolution of its lanes … -/
theorem headOut_at : headOut W E (ix4 0 0 r l) = y l * Ideal.logistic (y l) * Ideal.rsqrt (∑ k : Fin 128, y k * Ideal.logistic (y k) * (y k * Ideal.logistic (y k))
      + Ideal.ofBits .f32 0x358637BD#32) := by
  obtain rfl := funext hy
  pointwise [k0_pay34, k0_pay33]

/-- … and the transposed one. -/
theorem headOutT_at : headOutT W E (ix4 0 0 l r) = y l * Ideal.logistic (y l) * Ideal.rsqrt (∑ k : Fin 128, y k * Ideal.logistic (y k) * (y k * Ideal.logistic (y k))
      + Ideal.ofBits .f32 0x358637BD#32) := by
  obtain rfl := funext hy
  pointwise [k0_pay1, k0_pay35, k0_pay33]

end

/-- The stored rows before the block: zero at a sequence's start. -/
theorem top_at (t : Fin cfg0.N) (x : Vec Ideal S8x1024 .f32) (r : Fin 8) (k : Fin 1024) :
    k0_pay2 (grid0.coords t) x (ix2 r k) = if t.val / 2 % 16 = 0 then 0 else x (ix2 r k) := by
  have e := first (grid0.coords t 1)
  rw [(idx t).2.2.2.2.2] at e
  by_cases h : t.val / 2 % 16 = 0
  · rw [if_pos h] at e ⊢
    pointwise [k0_pay2, (idx t).2.2.2.2.2, e]
  · rw [if_neg h] at e ⊢
    pointwise [k0_pay2, (idx t).2.2.2.2.2, e]

/-- What a point stages and stores into the scratch. -/
theorem staged (t : Fin cfg0.N) (ht : t.val < 64) : Staged (a0 m c) (a1 m c) ⟨t.val / 2, by omega⟩ ⟨2 + t.val % 2, by omega⟩
    (k0_pay2 (grid0.coords t) (iblk m c 1 t)) (k0_pay3 (iblk m c 0 t)) (iblk m c 2 t) where
  top_at r k := by
    rw [top_at]
    refine if_congr Iff.rfl rfl ?_
    blk_point [iblk, V, idx t]
  rest_at r k := by
    refine Eq.trans (b := iblk m c 0 t (ix2 r k)) (by pointwise [k0_pay3]) ?_
    blk_point [iblk, V, idx t]
  weights_at j k := by
    blk_point [iblk, V, idx t]

/-- The result at a sequence, head, time and lane. -/
abbrev res (b : Fin 2) (H : Fin 16) (T : Fin 8192) (l : Fin 128) : EReal := unitHead (a0 m c) (a1 m c) b T ⟨16 + H.val, by omega⟩ l

/-- What a point leaves … -/
theorem after_at (t : Fin cfg0.N) (ht : t.val < 64) (h : Fin 8) (r : Fin 512) (l : Fin 128) : (outsAt0 m c t).1 (ix4 0 h r l)
    = res m c ⟨t.val / 32, by omega⟩ ⟨8 * (t.val % 2) + h.val, by omega⟩ ⟨512 * (t.val / 2 % 16) + r.val, by omega⟩ l := by
  rw [outsAt0, out_eq]
  dsimp only
  rw [heads_at]
  refine (headOut_at (fun j => weights (iblk m c 2 t) j h) (fun j => taps (filled (k0_pay2 (grid0.coords t) (iblk m c 1 t)) (k0_pay3 (iblk m c 0 t))) j h) r l _
    fun l => (staged m c t ht).conv_eq h r l).trans ?_
  unfold res unitHead headAct act
  simp only [show t.val / 2 / 16 = t.val / 32 by omega, show 8 * (2 + t.val % 2) + h.val = 16 + (8 * (t.val % 2) + h.val) by omega]

/-- … and transposed. -/
theorem afterT_at (t : Fin cfg0.N) (ht : t.val < 64) (h : Fin 8) (r : Fin 512) (l : Fin 128) : (outsAt0 m c t).2 (ix4 0 h l r)
    = res m c ⟨t.val / 32, by omega⟩ ⟨8 * (t.val % 2) + h.val, by omega⟩ ⟨512 * (t.val / 2 % 16) + r.val, by omega⟩ l := by
  rw [outsAt0, outT_eq]
  dsimp only
  rw [heads_at]
  refine (headOutT_at (fun j => weights (iblk m c 2 t) j h) (fun j => taps (filled (k0_pay2 (grid0.coords t) (iblk m c 1 t)) (k0_pay3 (iblk m c 0 t))) j h) r l _
    fun l => (staged m c t ht).conv_eq h r l).trans ?_
  unfold res unitHead headAct act
  simp only [show t.val / 2 / 16 = t.val / 32 by omega, show 8 * (2 + t.val % 2) + h.val = 16 + (8 * (t.val % 2) + h.val) by omega]

/-- A block's index by its head, row and column. -/
theorem split {a d : ℕ} (y : (SO a d).Idx) : y = ix4 0 (y 1) (y 2) (y 3) := by
  have h0 : (y 0).val < 1 := (y 0).isLt
  funext i
  match i with
  | 0 => exact Fin.ext (by show (y 0).val = 0; omega)
  | 1 => rfl
  | 2 => rfl
  | 3 => rfl

/-- A block's entry is the result's … -/
theorem point (t : Fin cfg0.N) (y : S1x8x512x128.Idx) : (outsAt0 m c t).1 y = res m c ((((cfg0.win 3).blk t).view.emb y) 0) ((((cfg0.win 3).blk t).view.emb y) 1)
    ((((cfg0.win 3).blk t).view.emb y) 2) ((((cfg0.win 3).blk t).view.emb y) 3) := by
  have ht : t.val < 64 := Nat.lt_of_lt_of_eq t.isLt N_0
  obtain ⟨h, r, l, rfl⟩ : ∃ (h : Fin 8) (r : Fin 512) (l : Fin 128), y = ix4 0 h r l := ⟨_, _, _, split y⟩
  rw [after_at m c t ht]
  have e0 : ((((cfg0.win 3).blk t).view.emb (ix4 0 h r l)) 0).val = t.val / 32 * 1 + (0 : Fin 1).val := by blk_point [idx t]
  have e1 : ((((cfg0.win 3).blk t).view.emb (ix4 0 h r l)) 1).val = t.val % 2 * 8 + h.val := by blk_point [idx t]
  have e2 : ((((cfg0.win 3).blk t).view.emb (ix4 0 h r l)) 2).val = t.val / 2 % 16 * 512 + r.val := by blk_point [idx t]
  have e3 : ((((cfg0.win 3).blk t).view.emb (ix4 0 h r l)) 3).val = 0 * 128 + l.val := by blk_point [idx t]
  exact at_numbers (res m c) _ _ _ _ _ _ _ _ _ _ _ _ (e0.trans (by omega)) (e1.trans (by omega)) (e2.trans (by omega)) (e3.trans (by omega))

/-- … and transposed. -/
theorem pointT (t : Fin cfg0.N) (y : S1x8x128x512.Idx) : (outsAt0 m c t).2 y = res m c ((((cfg0.win 4).blk t).view.emb y) 0) ((((cfg0.win 4).blk t).view.emb y) 1)
    ((((cfg0.win 4).blk t).view.emb y) 3) ((((cfg0.win 4).blk t).view.emb y) 2) := by
  have ht : t.val < 64 := Nat.lt_of_lt_of_eq t.isLt N_0
  obtain ⟨h, l, r, rfl⟩ : ∃ (h : Fin 8) (l : Fin 128) (r : Fin 512), y = ix4 0 h l r := ⟨_, _, _, split y⟩
  rw [afterT_at m c t ht]
  have e0 : ((((cfg0.win 4).blk t).view.emb (ix4 0 h l r)) 0).val = t.val / 32 * 1 + (0 : Fin 1).val := by blk_point [idx t]
  have e1 : ((((cfg0.win 4).blk t).view.emb (ix4 0 h l r)) 1).val = t.val % 2 * 8 + h.val := by blk_point [idx t]
  have e2 : ((((cfg0.win 4).blk t).view.emb (ix4 0 h l r)) 2).val = 0 * 128 + l.val := by blk_point [idx t]
  have e3 : ((((cfg0.win 4).blk t).view.emb (ix4 0 h l r)) 3).val = t.val / 2 % 16 * 512 + r.val := by blk_point [idx t]
  exact at_numbers (res m c) _ _ _ _ _ _ _ _ _ _ _ _ (e0.trans (by omega)) (e1.trans (by omega)) (e3.trans (by omega)) (e2.trans (by omega))

/-- The array of rows after the run … -/
theorem final : (dats m 0 c).arrAt 3 (cfgs 0).N = fun x => res m c (x 0) (x 1) (x 2) (x 3) := by
  refine (dats m 0 c).arrAt_eq_of_covers 3 _ (by decide +kernel) fun t _ y => ?_
  blk_simp
  rw [after0_3]
  exact point m c t y

/-- … and the transposed one. -/
theorem finalT : (dats m 0 c).arrAt 4 (cfgs 0).N = fun x => res m c (x 0) (x 1) (x 3) (x 2) := by
  refine (dats m 0 c).arrAt_eq_of_covers 4 _ (by decide +kernel) fun t _ y => ?_
  blk_simp
  rw [after0_4]
  exact pointT m c t y

end Cert.ConvKIdeal.Conv

end
-- ==== Proof.GateProjValue.lean ====
/-
  The projection of the delta rule's write strength and decay: the query kernel with one block of columns. Every point normalises its 512 rows, writes them
  transposed, and multiplies them by the 64 columns of weights and 64 columns of zeros.
-/
module

public import proofs.«01_k».proof.Proof.Gen.GateProjIdeal.Value
public import proofs.«01_k».proof.Proof.NormSpec
public import Idealize.ShloMosaic.Lib.Pipeline.ValueKit
public import Idealize.ShloMosaic.Lib.Pipeline.ReadBack

@[expose] public section

set_option maxRecDepth 16384

noncomputable section

namespace Cert.GateProjIdeal.Proj

open Cert.GateProjIdeal Cert.GateProjIdeal.Gen Idealize.ShloMosaic Idealize.ShloMosaic.TcCoe Idealize.SL.Sem
open Cert.NormSpec

variable (m : (ℓ : Loc nD τ sig) → Buf (Elt Ideal) ℓ) (c : Dev nD)

abbrev a0 := m ((c.tc : Thread nD τ).loc main_arg0)
abbrev a1 := m ((c.tc : Thread nD τ).loc main_arg1)
abbrev a2 := m ((c.tc : Thread nD τ).loc main_arg2)

/-- The blocks the windows stage at each point: row block `t`. -/
theorem idx : ∀ t : Fin cfg0.N, win0_0.index t = ![t.val, 0] ∧ win0_1.index t = ![0, 0] ∧ win0_2.index t = ![0, 0]
    ∧ win0_3.index t = ![0, t.val] ∧ win0_4.index t = ![0, t.val] := (by decide +kernel : ∀ t : Fin grid0.N, _)

/-- What a point writes: the rows, and their product. -/
theorem rows_out (t : Fin cfg0.N) : (outsAt0 m c t).2 = k0_pay1 (iblk m c 0 t) (iblk m c 1 t) := by
  rw [outsAt0]
  frame_open
  frame_out

theorem product_out (t : Fin cfg0.N) : (outsAt0 m c t).1 = k0_pay2 (iblk m c 2 t) (k0_pay1 (iblk m c 0 t) (iblk m c 1 t)) := by
  rw [outsAt0]
  frame_open
  simp (disch := decide) only [↓ View.readCov_skip, ↓ View.readCov_cons_toLoadRect, ↓ View.readCov_fill]
  frame_out

/-- The staged gain is the argument's. -/
theorem gain_at (t : Fin cfg0.N) (k : Fin 2048) : iblk m c 1 t (ix2 0 k) = a1 m c (ix1 k) := by
  have e : V m c main_v4 = shapeCast S1x2048 (a1 m c) Gen.shapeCasts_S2048_S1x2048 := by
    entry_read
    rfl
  have e' : iblk m c 1 t (ix2 0 k) = V m c main_v4 (ix2 0 k) := by blk_point [iblk, idx t]
  rw [e', e]
  pointwise []

/-- The weight of a padded column is zero. -/
def weight (w : FVec Ideal ⟨2, ![2048, 12352]⟩ .f32) (k : Fin 2048) (C : Fin 128) : EReal :=
  if h : C.val < 64 then w (ix2 k ⟨12288 + C.val, by omega⟩) else 0

/-- The padding's number is zero. -/
theorem fill : (FloatOps.sitofp (F := Ideal) FTy.f32 (0#32) : EReal) = 0 := by
  change ((((0#32 : BitVec 32).toInt : ℝ)) : EReal) = 0
  simp

/-- The host's padded weights, transposed. -/
theorem padded (w : FVec Ideal S2048x12352 .f32) (k : Fin 2048) (C : Fin 128) :
    (truncf (F := Ideal) .bf16 (transpose S128x2048 [1, 0] (pad S2048x128 ![0, 0] ![0, 64] ![0, 0] (extractStridedSlice S2048x64 ![0, 12288] w Gen.slices_S2048x12352_S2048x64_0_12288)
      (sitofp (F := Ideal) .f32 (constantI S_ 32 0#32)) Gen.pads_S2048x64_S2048x128_000_0640 Gen.h_S_) Gen.transposes_S2048x128_S128x2048_1_0) Gen.bitsLt_bf16_f32
      : FVec Ideal S128x2048 .bf16) (ix2 C k) = weight w k C := by
  pointwise [weight]
  rw [fill]

/-- A sum over padded weights is the padded sum. -/
theorem padded_sum (f : Fin 2048 → EReal) (w : FVec Ideal ⟨2, ![2048, 12352]⟩ .f32) (C : Fin 128) :
    (if h : C.val < 64 then ∑ k, f k * w (ix2 k ⟨12288 + C.val, by omega⟩) else (FloatOps.sitofp (F := Ideal) FTy.f32 (0#32) : EReal)) = ∑ k, f k * weight w k C := by
  by_cases h : C.val < 64
  · simp only [weight, dif_pos h]
  · simp only [weight, dif_neg h, mul_zero, Finset.sum_const_zero, fill]

/-- The staged weights are the argument's columns, padded and transposed. -/
theorem weights_at (t : Fin cfg0.N) (p : Fin 128) (k : Fin 2048) : iblk m c 2 t (ix2 p k) = weight (a2 m c) k p := by
  have e : (V m c main_v3 : FVec Ideal S128x2048 .bf16) = truncf (F := Ideal) .bf16 (transpose S128x2048 [1, 0] (pad S2048x128 ![0, 0] ![0, 64] ![0, 0]
      (extractStridedSlice S2048x64 ![0, 12288] (a2 m c : FVec Ideal S2048x12352 .f32) Gen.slices_S2048x12352_S2048x64_0_12288)
      (sitofp (F := Ideal) .f32 (constantI S_ 32 0#32)) Gen.pads_S2048x64_S2048x128_000_0640 Gen.h_S_) Gen.transposes_S2048x128_S128x2048_1_0) Gen.bitsLt_bf16_f32 := by
    entry_read
    rfl
  have e' : iblk m c 2 t (ix2 p k) = V m c main_v3 (ix2 p k) := by blk_point [iblk, idx t]
  rw [e', e]
  exact padded _ k p

/-- The rows of a point are its row block's. -/
theorem rows_at (t : Fin cfg0.N) (ht : t.val < 32) (k : Fin 2048) (r : Fin 512) : k0_pay1 (iblk m c 0 t) (iblk m c 1 t) (ix2 k r)
    = normed (a0 m c) (a1 m c) ⟨512 * t.val + r.val, by omega⟩ k := by
  have hx : ∀ k : Fin 2048, iblk m c 0 t (ix2 r k) = a0 m c (ix2 ⟨512 * t.val + r.val, by omega⟩ k) := fun k => by
    blk_point [iblk, V, idx t]
  pointwise [k0_pay1, normed, hx, gain_at m c t]

/-- Column `C` of the projection at row `R`. -/
def result (C : Fin 128) (R : Fin 16384) : EReal := ∑ k : Fin 2048, normed (a0 m c) (a1 m c) R k * weight (a2 m c) k C

/-- The products of a point. -/
theorem product_at (t : Fin cfg0.N) (ht : t.val < 32) (p : Fin 128) (r : Fin 512) : k0_pay2 (iblk m c 2 t) (k0_pay1 (iblk m c 0 t) (iblk m c 1 t)) (ix2 p r)
    = result m c p ⟨512 * t.val + r.val, by omega⟩ := by
  have h := fun k => rows_at m c t ht k r
  generalize k0_pay1 (iblk m c 0 t) (iblk m c 1 t) = x at h
  pointwise [k0_pay2, weights_at m c t, h, result]
  exact Finset.sum_congr rfl fun k _ => mul_comm _ _

/-- The first output's array after the run. -/
theorem final : (dats m 0 c).arrAt 3 (cfgs 0).N = fun x => result m c (x 0) (x 1) := by
  refine (dats m 0 c).arrAt_eq_of_covers 3 _ (by decide +kernel) fun t _ y => ?_
  blk_simp
  rw [after0_3, product_out]
  have ht : t.val < 32 := Nat.lt_of_lt_of_eq t.isLt N_0
  obtain ⟨p, r, rfl⟩ : ∃ (p : Fin 128) (r : Fin 512), y = ix2 p r := ⟨y 0, y 1, by funext a; match a with | 0 => rfl | 1 => rfl⟩
  refine (product_at m c t ht p r).trans ?_
  have h0 : ((((cfg0.win 3).blk t).view.emb (ix2 p r)) 0).val = 0 * 128 + p.val := by blk_point [idx t]
  have h1 : ((((cfg0.win 3).blk t).view.emb (ix2 p r)) 1).val = t.val * 512 + r.val := by blk_point [idx t]
  exact congrArg₂ (result m c) (Fin.ext (by rw [h0]; omega)) (Fin.ext (by rw [h1]; show 512 * t.val + r.val = _; omega))

/-- The second output's array after the run. -/
theorem final_rows : (dats m 0 c).arrAt 4 (cfgs 0).N = fun x => normed (a0 m c) (a1 m c) (x 1) (x 0) := by
  refine (dats m 0 c).arrAt_eq_of_covers 4 _ (by decide +kernel) fun t _ y => ?_
  blk_simp
  rw [after0_4, rows_out]
  have ht : t.val < 32 := Nat.lt_of_lt_of_eq t.isLt N_0
  obtain ⟨k, r, rfl⟩ : ∃ (k : Fin 2048) (r : Fin 512), y = ix2 k r := ⟨y 0, y 1, by funext a; match a with | 0 => rfl | 1 => rfl⟩
  refine (rows_at m c t ht k r).trans ?_
  have h0 : ((((cfg0.win 4).blk t).view.emb (ix2 k r)) 0).val = 0 * 2048 + k.val := by blk_point [idx t]
  have h1 : ((((cfg0.win 4).blk t).view.emb (ix2 k r)) 1).val = t.val * 512 + r.val := by blk_point [idx t]
  exact congrArg₂ (normed (a0 m c) (a1 m c)) (Fin.ext (by rw [h1]; show 512 * t.val + r.val = _; omega)) (Fin.ext (by rw [h0]; omega))

end Cert.GateProjIdeal.Proj

end
-- ==== Proof.ConvRef.lean ====
/-
  The references' convolution with its silu, entry by entry: the padded columns shifted by each tap, times the tap's weights, added.
-/
module

public import proofs.«01_k».proof.Proof.Gen.ConvVRefIdeal.Run
public import proofs.«01_k».proof.Proof.Gen.ConvKRefIdeal.Run
public import proofs.«01_k».proof.Proof.Gen.ConvQRefIdeal.Run
public import proofs.«01_k».proof.Proof.ConvSpec
public import Idealize.ShloMosaic.Lib.Pointwise

@[expose] public section

set_option maxRecDepth 16384

noncomputable section

namespace Cert.ConvRef

open Cert.ConvVRefIdeal Cert.ConvVRefIdeal.Gen Idealize.ShloMosaic Idealize.ShloMosaic.TcCoe
open Cert.ConvSpec

variable (a0 : FVec Ideal S16384x12288 .f32) (a1 : FVec Ideal S4x8192 .f32)

/-- The columns that are convolved, by sequence, with three zeros before each. -/
def padded : FVec Ideal S2x8195x8192 .f32 :=
  pad S2x8195x8192 ![0, 3, 0] ![0, 0, 0] ![0, 0, 0] (shapeCast _ (extractStridedSlice S16384x8192 ![0, 0] a0 slices_S16384x12288_S16384x8192_0_0)
    shapeCasts_S16384x8192_S2x8192x8192) (sitofp .f32 (constantI S_ 32 0#32)) pads_S2x8192x8192_S2x8195x8192_000_300_000 h_S_

theorem slices_row (j : Fin 4) : S4x8192.Slices ![j.val, 0] S1x8192 := by
  revert j
  decide
theorem slices_times (j : Fin 4) : S2x8195x8192.Slices ![0, j.val, 0] S2x8192x8192 := by
  revert j
  decide

/-- One tap's product. -/
def term (j : Fin 4) : FVec Ideal S2x8192x8192 .f32 :=
  mulf (broadcastInDim S2x8192x8192 ![0, 1, 2] bcast_S1x1x8192_S2x8192x8192_0_1_2 (broadcastInDim S1x1x8192 ![2] bcast_S8192_S1x1x8192_2
    (shapeCast _ (extractStridedSlice S1x8192 ![j.val, 0] a1 (slices_row j)) shapeCasts_S1x8192_S8192)))
    (extractStridedSlice S2x8192x8192 ![0, j.val, 0] (padded a0) (slices_times j))

/-- The convolution. -/
def sums : FVec Ideal S2x8192x8192 .f32 :=
  addf (addf (addf (addf (broadcastInDim S2x8192x8192 ![] bcast_S_S2x8192x8192 (constant S_ .f32 0x00000000#32)) (term a0 a1 0)) (term a0 a1 1)) (term a0 a1 2)) (term a0 a1 3)

/-- The convolution followed by silu. -/
def acts : FVec Ideal S2x8192x8192 .f32 :=
  mulf (sums a0 a1) (Host.divf (broadcastInDim S2x8192x8192 ![] bcast_S_S2x8192x8192 (constant S_ .f32 0x3F800000#32))
    (addf (broadcastInDim S2x8192x8192 ![] bcast_S_S2x8192x8192 (constant S_ .f32 0x3F800000#32)) (Host.exp (Host.negf (sums a0 a1)))))

/-- A shifted entry of the padded columns is a tap. -/
theorem shifted_at (j : Fin 4) (b : Fin 2) (T C : Fin 8192) :
    (extractStridedSlice S2x8192x8192 ![0, j.val, 0] (padded a0) (slices_times j) : FVec Ideal S2x8192x8192 .f32) (ix3 b T C) = tap a0 b T C j := by
  pointwise [padded, tap]
  by_cases h : T.val + j.val < 3
  · rw [dif_neg (by omega), if_pos h]
    show (((0#32 : BitVec 32).toInt : ℝ) : EReal) = 0
    simp
  · rw [dif_pos (by omega), if_neg h]
    refine congrArg a0 (congrArg₂ ix2 (Fin.ext ?_) (Fin.ext ?_))
    · exact show b.val * 8192 + (j.val + T.val - 3) = 8192 * b.val + (T.val + j.val - 3) by omega
    · rfl

theorem term_at (j : Fin 4) (b : Fin 2) (T C : Fin 8192) : term a0 a1 j (ix3 b T C) = a1 (ix2 j C) * tap a0 b T C j := by
  rw [← shifted_at a0 j b T C]
  unfold term
  generalize padded a0 = x
  pointwise []

theorem sums_at (b : Fin 2) (T C : Fin 8192) : sums a0 a1 (ix3 b T C) = conv a0 a1 b T C := by
  have h := fun j => term_at a0 a1 j b T C
  unfold sums conv
  rw [← h, ← h, ← h, ← h]
  generalize term a0 a1 = f
  pointwise []

theorem acts_at (b : Fin 2) (T C : Fin 8192) : acts a0 a1 (ix3 b T C) = act a0 a1 b T C := by
  unfold acts act
  rw [← sums_at]
  generalize sums a0 a1 = y
  pointwise [Ideal.logistic]

/-- The heads of the values' columns. -/
theorem values_at (b : Fin 2) (H : Fin 32) (T : Fin 8192) (l : Fin 128) :
    (transpose S2x32x8192x128 [0, 2, 1, 3] (shapeCast S2x8192x32x128 (extractStridedSlice S2x8192x4096 ![0, 0, 4096] (acts a0 a1) slices_S2x8192x8192_S2x8192x4096_0_0_4096)
      shapeCasts_S2x8192x4096_S2x8192x32x128) transposes_S2x8192x32x128_S2x32x8192x128_0_2_1_3 : FVec Ideal S2x32x8192x128 .f32) (ix4 b H T l)
    = headAct a0 a1 b T ⟨32 + H.val, by omega⟩ l := by
  have h := fun C => acts_at a0 a1 b T C
  generalize acts a0 a1 = y at h
  unfold headAct
  rw [← h]
  pointwise []
  refine congrArg y (congrArg (ix3 b T) (Fin.ext ?_))
  exact show 4096 + (H.val * 128 + l.val) = 128 * (32 + H.val) + l.val by omega

/-- A group of 16 heads: the queries' columns or the keys'. -/
def group (G : Fin 2) : FVec Ideal Cert.ConvKRefIdeal.S2x8192x16x128 .f32 :=
  shapeCast Cert.ConvKRefIdeal.S2x8192x16x128 (extractStridedSlice Cert.ConvKRefIdeal.S2x8192x2048 ![0, 0, 2048 * G.val] (acts a0 a1) (by revert G; decide))
    Cert.ConvKRefIdeal.Gen.shapeCasts_S2x8192x2048_S2x8192x16x128

theorem group_at (G : Fin 2) (b : Fin 2) (T : Fin 8192) (H : Fin 16) (l : Fin 128) :
    group a0 a1 G (ix4 b T H l) = headAct a0 a1 b T ⟨16 * G.val + H.val, by omega⟩ l := by
  have h := fun C => acts_at a0 a1 b T C
  unfold group
  generalize acts a0 a1 = y at h
  unfold headAct
  rw [← h]
  pointwise []
  refine congrArg y (congrArg (ix3 b T) (Fin.ext ?_))
  exact show 2048 * G.val + (H.val * 128 + l.val) = 128 * (16 * G.val + H.val) + l.val by omega

section
open Cert.ConvKRefIdeal Cert.ConvKRefIdeal.Gen

/-- The heads' rows over the root of their sums of squares. -/
def units (y : FVec Ideal Cert.ConvKRefIdeal.S2x8192x16x128 .f32) : FVec Ideal Cert.ConvKRefIdeal.S2x8192x16x128 .f32 :=
  mulf y (broadcastInDim Cert.ConvKRefIdeal.S2x8192x16x128 ![0, 1, 2, 3] bcast_S2x8192x16x1_S2x8192x16x128_0_1_2_3 (Host.rsqrt (addf
    (broadcastInDim Cert.ConvKRefIdeal.S2x8192x16x1 ![0, 1, 2] bcast_S2x8192x16_S2x8192x16x1_0_1_2 (Host.reduceAdd (mulf y y) (constant Cert.ConvKRefIdeal.S_ .f32 0x00000000#32)
      reducesTo_S2x8192x16x128_S2x8192x16_d3 Cert.ConvKRefIdeal.Gen.h_S_))
    (broadcastInDim Cert.ConvKRefIdeal.S2x8192x16x1 ![] bcast_S_S2x8192x16x1 (constant Cert.ConvKRefIdeal.S_ .f32 0x358637BD#32)))))

theorem units_at (y : FVec Ideal Cert.ConvKRefIdeal.S2x8192x16x128 .f32) (b : Fin 2) (T : Fin 8192) (H : Fin 16) (l : Fin 128) :
    units y (ix4 b T H l) = y (ix4 b T H l) * Ideal.rsqrt (∑ k : Fin 128, y (ix4 b T H k) * y (ix4 b T H k) + Ideal.ofBits .f32 0x358637BD#32) := by
  pointwise [units]

end

/-- A group's unit rows. -/
theorem unitGroup_at (G : Fin 2) (b : Fin 2) (T : Fin 8192) (H : Fin 16) (l : Fin 128) :
    units (group a0 a1 G) (ix4 b T H l) = unitHead a0 a1 b T ⟨16 * G.val + H.val, by omega⟩ l := by
  rw [units_at]
  unfold unitHead
  simp only [group_at]

/-- The keys, by heads … -/
theorem keys_at (b : Fin 2) (H : Fin 16) (T : Fin 8192) (l : Fin 128) :
    (transpose Cert.ConvKRefIdeal.S2x16x8192x128 [0, 2, 1, 3] (units (group a0 a1 1)) Cert.ConvKRefIdeal.Gen.transposes_S2x8192x16x128_S2x16x8192x128_0_2_1_3 : FVec Ideal Cert.ConvKRefIdeal.S2x16x8192x128 .f32) (ix4 b H T l)
    = unitHead a0 a1 b T ⟨16 + H.val, by omega⟩ l := by
  refine Eq.trans ?_ (unitGroup_at a0 a1 1 b T H l)
  generalize units (group a0 a1 1) = y
  pointwise []

/-- … and transposed. -/
theorem keysT_at (b : Fin 2) (H : Fin 16) (T : Fin 8192) (l : Fin 128) :
    (transpose Cert.ConvKRefIdeal.S2x16x128x8192 [0, 1, 3, 2] (transpose Cert.ConvKRefIdeal.S2x16x8192x128 [0, 2, 1, 3] (units (group a0 a1 1)) Cert.ConvKRefIdeal.Gen.transposes_S2x8192x16x128_S2x16x8192x128_0_2_1_3)
      Cert.ConvKRefIdeal.Gen.transposes_S2x16x8192x128_S2x16x128x8192_0_1_3_2 : FVec Ideal Cert.ConvKRefIdeal.S2x16x128x8192 .f32) (ix4 b H l T) = unitHead a0 a1 b T ⟨16 + H.val, by omega⟩ l := by
  refine Eq.trans ?_ (unitGroup_at a0 a1 1 b T H l)
  generalize units (group a0 a1 1) = y
  pointwise []

/-- The queries, by heads, scaled. -/
theorem queries_at (b : Fin 2) (H : Fin 16) (T : Fin 8192) (l : Fin 128) :
    (transpose Cert.ConvQRefIdeal.S2x16x8192x128 [0, 2, 1, 3] (mulf (units (group a0 a1 0)) (broadcastInDim Cert.ConvQRefIdeal.S2x8192x16x128 ![]
      Cert.ConvQRefIdeal.Gen.bcast_S_S2x8192x16x128 (constant Cert.ConvQRefIdeal.S_ .f32 0x3DB504F3#32)))
      Cert.ConvQRefIdeal.Gen.transposes_S2x8192x16x128_S2x16x8192x128_0_2_1_3 : FVec Ideal Cert.ConvQRefIdeal.S2x16x8192x128 .f32) (ix4 b H T l)
    = unitHead a0 a1 b T ⟨H.val, by omega⟩ l * Ideal.ofBits .f32 0x3DB504F3#32 := by
  have h := unitGroup_at a0 a1 0 b T H l
  simp only [show 16 * (0 : Fin 2).val + H.val = H.val by simp] at h
  rw [← h]
  generalize units (group a0 a1 0) = y
  pointwise []

/-! ## The references' results, from their arguments -/

theorem values_res (m : (ℓ : Loc Cert.ConvVRefIdeal.nD Cert.ConvVRefIdeal.τ Cert.ConvVRefIdeal.sig) → Buf (Elt Ideal) ℓ) (c : Dev Cert.ConvVRefIdeal.nD)
    (b : Fin 2) (H : Fin 32) (T : Fin 8192) (l : Fin 128) : Cert.ConvVRefIdeal.Value.res_main_v35 m c (ix4 b H T l)
    = headAct (m ((c.tc : Thread Cert.ConvVRefIdeal.nD Cert.ConvVRefIdeal.τ).loc Cert.ConvVRefIdeal.main_arg0)) (m ((c.tc : Thread Cert.ConvVRefIdeal.nD Cert.ConvVRefIdeal.τ).loc Cert.ConvVRefIdeal.main_arg1)) b T ⟨32 + H.val, by omega⟩ l := by
  unfold Cert.ConvVRefIdeal.Value.res_main_v35
  exact values_at _ _ b H T l

theorem queries_res (m : (ℓ : Loc Cert.ConvQRefIdeal.nD Cert.ConvQRefIdeal.τ Cert.ConvQRefIdeal.sig) → Buf (Elt Ideal) ℓ) (c : Dev Cert.ConvQRefIdeal.nD)
    (b : Fin 2) (H : Fin 16) (T : Fin 8192) (l : Fin 128) : Cert.ConvQRefIdeal.Value.res_main_v45 m c (ix4 b H T l)
    = unitHead (m ((c.tc : Thread Cert.ConvQRefIdeal.nD Cert.ConvQRefIdeal.τ).loc Cert.ConvQRefIdeal.main_arg0)) (m ((c.tc : Thread Cert.ConvQRefIdeal.nD Cert.ConvQRefIdeal.τ).loc Cert.ConvQRefIdeal.main_arg1)) b T ⟨H.val, by omega⟩ l * Ideal.ofBits .f32 0x3DB504F3#32 := by
  unfold Cert.ConvQRefIdeal.Value.res_main_v45
  exact queries_at _ _ b H T l

theorem keys_res (m : (ℓ : Loc Cert.ConvKRefIdeal.nD Cert.ConvKRefIdeal.τ Cert.ConvKRefIdeal.sig) → Buf (Elt Ideal) ℓ) (c : Dev Cert.ConvKRefIdeal.nD)
    (b : Fin 2) (H : Fin 16) (T : Fin 8192) (l : Fin 128) : Cert.ConvKRefIdeal.Value.res_main_v43 m c (ix4 b H T l)
    = unitHead (m ((c.tc : Thread Cert.ConvKRefIdeal.nD Cert.ConvKRefIdeal.τ).loc Cert.ConvKRefIdeal.main_arg0)) (m ((c.tc : Thread Cert.ConvKRefIdeal.nD Cert.ConvKRefIdeal.τ).loc Cert.ConvKRefIdeal.main_arg1)) b T ⟨16 + H.val, by omega⟩ l := by
  unfold Cert.ConvKRefIdeal.Value.res_main_v43
  exact keys_at _ _ b H T l

theorem keysT_res (m : (ℓ : Loc Cert.ConvKRefIdeal.nD Cert.ConvKRefIdeal.τ Cert.ConvKRefIdeal.sig) → Buf (Elt Ideal) ℓ) (c : Dev Cert.ConvKRefIdeal.nD)
    (b : Fin 2) (H : Fin 16) (T : Fin 8192) (l : Fin 128) : Cert.ConvKRefIdeal.Value.res_main_v44 m c (ix4 b H l T)
    = unitHead (m ((c.tc : Thread Cert.ConvKRefIdeal.nD Cert.ConvKRefIdeal.τ).loc Cert.ConvKRefIdeal.main_arg0)) (m ((c.tc : Thread Cert.ConvKRefIdeal.nD Cert.ConvKRefIdeal.τ).loc Cert.ConvKRefIdeal.main_arg1)) b T ⟨16 + H.val, by omega⟩ l := by
  unfold Cert.ConvKRefIdeal.Value.res_main_v44
  exact keysT_at _ _ b H T l

end Cert.ConvRef

end
-- ==== Proof.PeerBody.lean ====
/-
  The body of the query kernel at one grid point. The first point of a row block normalises its rows and stores them transposed into the second output's staging
  buffer; every point multiplies its rows of the transposed weights with what that buffer holds. Stated at any element interpretation.
-/
module

public import proofs.«01_k».proof.Proof.Gen.PeerQueryIdeal.Frame
public import Idealize.ShloMosaic.Lib.Claim
public import Idealize.ShloMosaic.Lib.Pipeline.ValueKit
public import Idealize.ShloMosaic.Lib.Pipeline.ReadBack
public import Idealize.ShloMosaic.Lib.WritesUnit

@[expose] public section

set_option maxRecDepth 16384

noncomputable section

namespace Cert.PeerQueryIdeal.Query

open Cert.PeerQueryIdeal Cert.PeerQueryIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- A block of rows, normalised, scaled by the gain and transposed. -/
def rows (x : Vec F S1024x2048 .f32) (g : Vec F S1x2048 .f32) : FVec F S2048x1024 .bf16 :=
  truncf .bf16 (transpose S2048x1024 [1, 0]
    (mulf (mulf x (broadcastTo S1024x2048
        (rsqrt (addf
          (divf (shapeCast S1024x1 (multiReduction .add [1] S1024 (mulf x x) 0x00000000#32 Gen.reduces_S1024x2048_S1024 (.inl rfl) rfl) Gen.shapeCasts_S1024_S1024x1)
            (broadcast S1024x1 (Scalar.ofBits .f32 0x45000000#32)))
          (broadcast S1024x1 (Scalar.ofBits .f32 0x358637BD#32)))) Gen.broadcasts_S1024x1_S1024x2048))
      (broadcastTo S1024x2048 (shapeCast S1x2048 g Gen.shapeCasts_S1x2048_S1x2048) Gen.broadcasts_S1x2048_S1024x2048))
    Gen.transposes_S1024x2048_p1_0_S2048x1024) Gen.bitsLt_bf16_f32

/-- A block of transposed weights times a block of transposed rows. -/
def product (w : Vec F S512x2048 .bf16) (n : Vec F S2048x1024 .bf16) : FVec F S512x1024 .f32 :=
  matmul dot_S512x2048_S2048x1024_S512x1024_1_0_0_1_n_n none (shapeCast S512x2048 w Gen.shapeCasts_S512x2048_S512x2048 : FVec F S512x2048 .bf16)
    (shapeCast S2048x1024 n Gen.shapeCasts_S2048x1024_S2048x1024 : FVec F S2048x1024 .bf16) (constant S512x1024 .f32 0x00000000#32)

/-- A buffer whose last store fills it reads what was stored. -/
theorem stored {S : Shape} {e : EltTy} (v : View sig .tc .vmem S e) (f : v.ty.Contents (Elt F)) {off : Fin S.rank → ℕ} (inb : ∀ a, off a + S.size a ≤ S.size a)
    (w : S.Idx → Elt F e) (L : List (View.Piece (Elt F) S e)) (h : off = fun _ => 0) :
    v.read (Elt F) (v.writes (Elt F) f (⟨Rect.unit off S.size inb, w⟩ :: L)) = w :=
  funext fun y => View.read_writes_cons_unit_of_mem v f inb w L y y h fun a => (Nat.zero_add _).symm

/-- The origin of a rank-two buffer. -/
theorem origin : (![0, 0] : Fin 2 → ℕ) = fun _ => 0 := by decide

set_option maxHeartbeats 1000000 in
/-- At a row block's first point the body stores the block's rows and their product. -/
theorem run_first (c : Dev nD) (i : grid0.Coords) (arg2 : Memref sig .tc .vmem S1024x2048 .f32) (harg2 : arg2.IsWhole) (arg3 : Memref sig .tc .vmem S1x2048 .f32) (harg3 : arg3.IsWhole)
  (arg4 : Memref sig .tc .vmem S512x2048 .bf16) (harg4 : arg4.IsWhole) (arg5 : Memref sig .tc .vmem S512x1024 .f32) (harg5 : arg5.IsWhole)
  (arg6 : Memref sig .tc .vmem S2048x1024 .bf16) (harg6 : arg6.IsWhole) (x0 : Vec F S1024x2048 .f32) (x1 : Vec F S1x2048 .f32) (x2 : Vec F S512x2048 .bf16)
  (E : Set ℕ) (K : PUnit → sProp 𝕄) (hc : k0_cond1 i = 1#1) :
    iprop(owns (c : Thread nD τ) arg2 fullShare x0 ∗ owns (c : Thread nD τ) arg3 fullShare x1 ∗ owns (c : Thread nD τ) arg4 fullShare x2
        ∗ (∃ d, owns (c : Thread nD τ) arg5 fullShare d) ∗ (∃ d, owns (c : Thread nD τ) arg6 fullShare d)
        ∗ (iprop(owns (c : Thread nD τ) arg2 fullShare x0 ∗ owns (c : Thread nD τ) arg3 fullShare x1 ∗ owns (c : Thread nD τ) arg4 fullShare x2
            ∗ owns (c : Thread nD τ) arg5 fullShare (product x2 (rows x0 x1)) ∗ owns (c : Thread nD τ) arg6 fullShare (rows x0 x1)) -∗ K ⟨⟩))
      ⊢ wp frame (wpE (defs₀ (F := F)) Variants.none c none) E (cc0_peer_query i arg2 harg2 arg3 harg3 arg4 harg4 arg5 harg5 arg6 harg6) K := by
  unfold cc0_peer_query owns
  iintro ⟨⟨%f0, %hf0, H0⟩, ⟨%f1, %hf1, H1⟩, ⟨%f2, %hf2, H2⟩, ⟨%d3, %f3, -, H3⟩, ⟨%d4, %f4, -, H4⟩, Hk⟩
  obtain rfl := harg2.eq_unread hf0; obtain rfl := harg3.eq_unread hf1; obtain rfl := harg4.eq_unread hf2
  sl_exec (disch := first | sl_exact hc)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr
    swap; · iexact H3
    ipureintro
    refine (stored _ _ _ _ _ origin).trans ?_
    frame_open
    simp (disch := decide) only [↓ View.readCov_skip, ↓ View.readCov_cons_toLoadRect, ↓ View.readCov_fill]
    frame_out
    rfl
  iexists _; isplitr
  swap; · iexact H4
  ipureintro
  unfold run_first.sl.H4_1
  refine (stored _ _ _ _ _ origin).trans ?_
  frame_open
  frame_out
  rfl

set_option maxHeartbeats 1000000 in
/-- At the other points the body multiplies the rows it finds and leaves them. -/
theorem run_rest (c : Dev nD) (i : grid0.Coords) (arg2 : Memref sig .tc .vmem S1024x2048 .f32) (harg2 : arg2.IsWhole) (arg3 : Memref sig .tc .vmem S1x2048 .f32) (harg3 : arg3.IsWhole)
  (arg4 : Memref sig .tc .vmem S512x2048 .bf16) (harg4 : arg4.IsWhole) (arg5 : Memref sig .tc .vmem S512x1024 .f32) (harg5 : arg5.IsWhole)
  (arg6 : Memref sig .tc .vmem S2048x1024 .bf16) (harg6 : arg6.IsWhole) (x0 : Vec F S1024x2048 .f32) (x1 : Vec F S1x2048 .f32) (x2 : Vec F S512x2048 .bf16)
  (E : Set ℕ) (K : PUnit → sProp 𝕄) (hc : ¬k0_cond1 i = 1#1) (n : Vec F S2048x1024 .bf16) :
    iprop(owns (c : Thread nD τ) arg2 fullShare x0 ∗ owns (c : Thread nD τ) arg3 fullShare x1 ∗ owns (c : Thread nD τ) arg4 fullShare x2
        ∗ (∃ d, owns (c : Thread nD τ) arg5 fullShare d) ∗ owns (c : Thread nD τ) arg6 fullShare n
        ∗ (iprop(owns (c : Thread nD τ) arg2 fullShare x0 ∗ owns (c : Thread nD τ) arg3 fullShare x1 ∗ owns (c : Thread nD τ) arg4 fullShare x2
            ∗ owns (c : Thread nD τ) arg5 fullShare (product x2 n) ∗ owns (c : Thread nD τ) arg6 fullShare n) -∗ K ⟨⟩))
      ⊢ wp frame (wpE (defs₀ (F := F)) Variants.none c none) E (cc0_peer_query i arg2 harg2 arg3 harg3 arg4 harg4 arg5 harg5 arg6 harg6) K := by
  unfold cc0_peer_query owns
  iintro ⟨⟨%f0, %hf0, H0⟩, ⟨%f1, %hf1, H1⟩, ⟨%f2, %hf2, H2⟩, ⟨%d3, %f3, -, H3⟩, ⟨%f4, %hf4, H4⟩, Hk⟩
  obtain rfl := harg2.eq_unread hf0; obtain rfl := harg3.eq_unread hf1; obtain rfl := harg4.eq_unread hf2; obtain rfl := harg6.eq_unread hf4
  sl_exec (disch := first | sl_exact hc)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr
    swap; · iexact H3
    ipureintro
    refine (stored _ _ _ _ _ origin).trans ?_
    frame_open
    simp (disch := decide) only [↓ View.readCov_skip, ↓ View.readCov_cons_toLoadRect, ↓ View.readCov_fill]
    frame_out
    rfl
  iexists _; isplitr
  swap; · iexact H4
  ipureintro; exact harg6.read_unread _

end Cert.PeerQueryIdeal.Query

end
-- ==== Proof.PeerFrame.lean ====
/-
  The run of the query kernel. Between the row block's first point, which stores the transposed rows, and its last, after which they are written back, the second
  output's staging buffer is left alone and holds them; every point writes its block of products back. Stated at any element interpretation.
-/
module

public import proofs.«01_k».proof.Proof.PeerBody

@[expose] public section

set_option maxRecDepth 16384

noncomputable section

namespace Cert.PeerQueryIdeal.Query

open Cert.PeerQueryIdeal Cert.PeerQueryIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The body's condition holds at a row block's first point. -/
theorem cond_iff : ∀ t : Fin cfg0.N, k0_cond1 (grid0.coords t) = 1#1 ↔ t.val % 4 = 0 := (by decide +kernel : ∀ t : Fin grid0.N, _)

/-- The second output is idle at the other points. -/
theorem idle_iff (t : Fin cfg0.N) : cfg0.idle 4 (cfg0.grid.coords t) = true ↔ t.val % 4 ≠ 0 := by
  refine Iff.trans ?_ (not_congr (cond_iff t))
  show (!(k0_cond1 (grid0.coords t) == 1#1)) = true ↔ _
  simp only [Bool.not_eq_true', beq_eq_false_iff_ne, ne_eq]

/-- The row block, the gain and the second output's block are the same at every point of a row block. -/
theorem same_index : ∀ t t' : Fin cfg0.N, t.val / 4 = t'.val / 4 → win0_0.index t = win0_0.index t' ∧ win0_1.index t = win0_1.index t' :=
  (by decide +kernel : ∀ t t' : Fin grid0.N, _)

/-- The transposed rows of a point's row block. -/
def held (c : Dev nD) (t : Fin cfg0.N) : FVec F S2048x1024 .bf16 := rows (iblk m c 0 t) (iblk m c 1 t)

/-- What the buffers hold after each point: the inputs their blocks, the outputs the products and the rows; nothing is carried besides. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => product (iblk m c 2 t) (held m c t)
    | ⟨4, _⟩ => held m c t
  Φ _ := Pipeline.ΦA spec0 c
  q _ := fullShare
  owed _ := 0

theorem A_eq (c : Dev nD) (w : Fin cfg0.W) : (dats m 0 c).A w = V m c (Pipeline.arrRef spec0 w) := by dsimp only [dats]
theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = product (iblk m c 2 t) (held m c t) := by dsimp only [dats]
theorem after_4 (c : Dev nD) (t : Fin cfg0.N) : (dats m 0 c).after 4 t = held m c t := by dsimp only [dats]

theorem before_0 (c : Dev nD) (t : Fin cfg0.N) (d) : (dats m 0 c).before 0 t d = iblk m c 0 t := before0_0_of m (dats m 0 c) (A_eq m c 0) (after_0 m c) t d
theorem before_1 (c : Dev nD) (t : Fin cfg0.N) (d) : (dats m 0 c).before 1 t d = iblk m c 1 t := before0_1_of m (dats m 0 c) (A_eq m c 1) (after_1 m c) t d
theorem before_2 (c : Dev nD) (t : Fin cfg0.N) (d) : (dats m 0 c).before 2 t d = iblk m c 2 t := before0_2_of m (dats m 0 c) (A_eq m c 2) (after_2 m c) t d

/-- The rows are the same at every point of a row block. -/
theorem held_same (c : Dev nD) (t t' : Fin cfg0.N) (h : t.val / 4 = t'.val / 4) : held m c t = held m c t' := by
  obtain ⟨h0, h1⟩ := same_index t t' h
  have e0 : iblk m c 0 t = iblk m c 0 t' := by
    funext y
    blk_point [iblk, h0]
  have e1 : iblk m c 1 t = iblk m c 1 t' := by
    funext y
    blk_point [iblk, h1]
  show rows (iblk m c 0 t) (iblk m c 1 t) = rows (iblk m c 0 t') (iblk m c 1 t')
  rw [e0, e1]

/-- A point that is not its row block's first finds the rows in the second output's buffer. -/
theorem before_4 (c : Dev nD) (d) : ∀ (n : ℕ) (t : Fin cfg0.N), t.val = n → t.val % 4 ≠ 0 → (dats m 0 c).before 4 t d = held m c t := by
  intro n
  induction n with
  | zero => intro t ht h; omega
  | succ n ih =>
    intro t ht h
    have hf : (cfg0.win 4).flush ⟨t.val - 1, Nat.lt_of_le_of_lt (Nat.sub_le _ _) t.isLt⟩ = false := by
      rw [Bool.eq_false_iff, Ne, flush0_4]
      show ¬(t.val - 1) % 4 = 3
      omega
    rw [(dats m 0 c).before_of_pos 4 t (by omega) rfl d, hf, if_neg Bool.false_ne_true,
      held_same m c t ⟨t.val - 1, Nat.lt_of_le_of_lt (Nat.sub_le _ _) t.isLt⟩ (show t.val / 4 = (t.val - 1) / 4 by omega)]
    unfold Dat.left
    by_cases h0 : (t.val - 1) % 4 = 0
    · have hi : cfg0.idle 4 (cfg0.grid.coords ⟨t.val - 1, Nat.lt_of_le_of_lt (Nat.sub_le _ _) t.isLt⟩) = false := by
        rw [Bool.eq_false_iff, Ne, idle_iff]
        exact fun h => h h0
      rw [hi]
      exact after_4 m c _
    · rw [(idle_iff _).mpr h0]
      exact ih _ (show t.val - 1 = n by omega) h0

/-- What the body is called with at a point. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d)))

/-- The second output's buffer after a point: the rows, or, at a point that leaves it and does not write it back, what the point found. -/
def last (c : Dev nD) (t : Fin cfg0.N) : sProp 𝕄 :=
  match cfg0.idle 4 (cfg0.grid.coords t) with
  | true =>
    match (cfg0.win 4).flush t with
    | false => iprop(∃ d, owns (c : Thread nD τ) (st0_4 t) fullShare ((dats m 0 c).before 4 t d))
    | true => owns (c : Thread nD τ) (st0_4 t) fullShare ((dats m 0 c).after 4 t)
  | false => owns (c : Thread nD τ) (st0_4 t) fullShare ((dats m 0 c).after 4 t)

/-- What it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ last m c t)

/-- The rows in the second output's buffer are what a point must leave there. -/
theorem leave (c : Dev nD) (t : Fin cfg0.N) : owns (c : Thread nD τ) (st0_4 t) fullShare (held m c t) ⊢ last m c t := by
  unfold last
  by_cases h0 : t.val % 4 = 0
  · have hi : cfg0.idle 4 (cfg0.grid.coords t) = false := by
      rw [Bool.eq_false_iff, Ne, idle_iff]
      exact fun h => h h0
    rw [hi, after_4]
  · rw [(idle_iff t).mpr h0]
    cases hf : (cfg0.win 4).flush t
    · iintro H
      iexists fun _ => Classical.arbitrary _
      rw [before_4 m c _ _ t rfl h0]
      iexact H
    · rw [after_4]

/-- The body at a point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2]
  rw [show (dats m 0 c).owesAt () t.succ = (dats m 0 c).owesAt () t.castSucc from rfl,
    show (dats m 0 c).Φ t.succ = (dats m 0 c).Φ t.castSucc from rfl, after_0, after_1, after_2, after_3]
  by_cases h0 : t.val % 4 = 0
  · iintro ⟨HP, Ho, ⟨%d0, H0⟩, ⟨%d1, H1⟩, ⟨%d2, H2⟩, ⟨%d3, H3⟩, ⟨%d4, H4⟩⟩
    iapply (run_first c (grid0.coords t) _ _ _ _ _ _ _ _ _ _ (iblk m c 0 t) (iblk m c 1 t) (iblk m c 2 t) Set.univ _ ((cond_iff t).mpr h0))
    isplitl [H0]; · iexact H0
    isplitl [H1]; · iexact H1
    isplitl [H2]; · iexact H2
    isplitl [H3]; · iexists _; iexact H3
    isplitl [H4]; · iexists _; iexact H4
    iintro ⟨H0, H1, H2, H3, H4⟩
    isplitl [HP]; · iexact HP
    isplitl [Ho]; · iexact Ho
    isplitl [H0]; · iexact H0
    isplitl [H1]; · iexact H1
    isplitl [H2]; · iexact H2
    isplitl [H3]; · iexact H3
    iapply (leave m c t)
    iexact H4
  · simp only [fun d => before_4 m c d _ t rfl h0]
    iintro ⟨HP, Ho, ⟨%d0, H0⟩, ⟨%d1, H1⟩, ⟨%d2, H2⟩, ⟨%d3, H3⟩, ⟨%d4, H4⟩⟩
    iapply (run_rest c (grid0.coords t) _ _ _ _ _ _ _ _ _ _ (iblk m c 0 t) (iblk m c 1 t) (iblk m c 2 t) Set.univ _ (fun h => h0 ((cond_iff t).mp h)) (held m c t))
    isplitl [H0]; · iexact H0
    isplitl [H1]; · iexact H1
    isplitl [H2]; · iexact H2
    isplitl [H3]; · iexists _; iexact H3
    isplitl [H4]; · iexact H4
    iintro ⟨H0, H1, H2, H3, H4⟩
    isplitl [HP]; · iexact HP
    isplitl [Ho]; · iexact Ho
    isplitl [H0]; · iexact H0
    isplitl [H1]; · iexact H1
    isplitl [H2]; · iexact H2
    isplitl [H3]; · iexact H3
    iapply (leave m c t)
    iexact H4

/-- The body table's row at a point is the body there. -/
theorem row_eq (t : Fin cfg0.N) : defs₀ (F := F) .tc cfg0.body (cfg0.bodyArgs t (cfg0.slots t)) = bodyAt0 t := by
  unfold defs₀; rw [Defs.onTc_tc]

/-- The pipeline's obligation of the body. -/
theorem body_obligation (c : Dev nD) : BodyObligation (dats (F := F) m 0 c) (defs₀ (F := F)) Variants.none () Set.univ := fun t => by
  rw [bigSep_W0, bigSep_W0, row_eq]
  exact triple_restated (sound_body m c t) rfl .rfl fun _ => .rfl

-- the launch theorem's implicit arguments are found by unifying its conclusion with the statement
set_option backward.isDefEq.respectTransparency.types false in
/-- Every execution ends with the arrays as the pipeline's data say and every semaphore at zero. -/
theorem run_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := fun _ => .rfl) (hout := fun _ => .rfl)

/-- The same without the semaphores. -/
theorem run_main : θ_run defs (onTc (τ := τ) (main (F := F))) (s₀ m ρ) (Pipeline.FramePost cfgs (dats m) 0 (V m)) :=
  (θ_run defs _ _).mono (fun _ h => h.1) (run_quiescent m ρ)

/-- The argument arrays end unchanged and the machine is quiet. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (frame_of m ρ (dats m) (A_eq m) (run_main m ρ)) ((θ_run defs _ _).mono (fun _ h => h.2) (run_quiescent m ρ))

end Cert.PeerQueryIdeal.Query

end
-- ==== Proof.PeerPlain.lean ====
/-
  The query kernel as printed. Its program and the idealized one are the same text, so the run proved of the one at any element interpretation is the run of the other.
-/
module

public import proofs.«01_k».proof.Proof.PeerFrame
public import proofs.«01_k».proof.Proof.Gen.PeerQuery

@[expose] public section

set_option maxRecDepth 16384

noncomputable section

namespace Cert.PeerQuery.Query

open Cert.PeerQuery Idealize.ShloMosaic Idealize.ShloMosaic.TcCoe Idealize.SL.Sem

variable {F : FTy → Type} [FloatOps F]

/-- The two programs' body tables are equal, -/
theorem bodies_eq : (defs₀ : Defs nD τ sig (Elt F) Λ₀) = Cert.PeerQueryIdeal.defs₀ :=
  congrArg Defs.onTc (funext fun ℓ => funext fun a => match ℓ, a with
    | ⟨0, _⟩, (_, _) => rfl)

/-- and so are the tables with the pipeline's. -/
theorem defs_eq : (defs : Defs nD τ sig (Elt F) (Pipeline.Sig Λ₀ (Fin 1) fun p => (pcfgs (F := F) p).Adm)) = Cert.PeerQueryIdeal.defs :=
  congrArg (Pipeline.defs (pcfgs (F := F))) bodies_eq

variable (m : (ℓ : Loc nD τ sig) → Buf (Elt F) ℓ) (ρ : Dev nD → PrngReg)

/-- The argument arrays end unchanged and the machine is quiet. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) := by
  rw [defs_eq]
  exact Cert.PeerQueryIdeal.Query.frame (F := F) m ρ

end Cert.PeerQuery.Query

end
-- ==== Proof.PeerValue.lean ====
/-
  What the query kernel's arrays hold over the extended reals: the normalised rows transposed, and the product of the rows and the weights, transposed.
-/
module

public import proofs.«01_k».proof.Proof.PeerFrame
public import proofs.«01_k».proof.Proof.NormSpec

@[expose] public section

set_option maxRecDepth 16384

noncomputable section

namespace Cert.PeerQueryIdeal.Query

open Cert.PeerQueryIdeal Cert.PeerQueryIdeal.Gen Idealize.ShloMosaic Idealize.ShloMosaic.TcCoe Idealize.SL.Sem
open Cert.NormSpec

variable (m : (ℓ : Loc nD τ sig) → Buf (Elt Ideal) ℓ) (c : Dev nD)

/-- The blocks the windows stage at each point: row block `t / 4`, block of columns `t % 4`. -/
theorem idx : ∀ t : Fin cfg0.N, win0_0.index t = ![t.val / 4, 0] ∧ win0_1.index t = ![0, 0] ∧ win0_2.index t = ![t.val % 4, 0]
    ∧ win0_3.index t = ![t.val % 4, t.val / 4] ∧ win0_4.index t = ![0, t.val / 4] := (by decide +kernel : ∀ t : Fin grid0.N, _)

/-- The staged gain is the argument's. -/
theorem gain_at (t : Fin cfg0.N) (k : Fin 2048) : iblk m c 1 t (ix2 0 k) = m ((c.tc : Thread nD τ).loc main_arg1) (ix1 k) := by
  have e : V m c main_v2 = shapeCast S1x2048 (m ((c.tc : Thread nD τ).loc main_arg1)) Gen.shapeCasts_S2048_S1x2048 := by
    entry_read
    rfl
  have e' : iblk m c 1 t (ix2 0 k) = V m c main_v2 (ix2 0 k) := by blk_point [iblk, idx t]
  rw [e', e]
  pointwise []

/-- The staged weights are the argument's, transposed. -/
theorem weights_at (t : Fin cfg0.N) (p : Fin 512) (k : Fin 2048) :
    iblk m c 2 t (ix2 p k) = m ((c.tc : Thread nD τ).loc main_arg2) (ix2 k ⟨512 * (t.val % 4) + p.val, by omega⟩) := by
  have e : (V m c main_v1 : FVec Ideal S2048x2048 .bf16) = truncf (F := Ideal) .bf16
      (transpose S2048x2048 [1, 0] (m ((c.tc : Thread nD τ).loc main_arg2) : FVec Ideal S2048x2048 .f32) Gen.transposes_S2048x2048_S2048x2048_1_0) Gen.bitsLt_bf16_f32 := by
    entry_read
    rfl
  have e' : iblk m c 2 t (ix2 p k) = V m c main_v1 (ix2 ⟨512 * (t.val % 4) + p.val, by omega⟩ k) := by blk_point [iblk, idx t]
  rw [e', e]
  pointwise []

/-- The rows held at a point are the normalised rows of its row block. -/
theorem held_at (t : Fin cfg0.N) (ht : t.val < 64) (k : Fin 2048) (r : Fin 1024) : held m c t (ix2 k r)
    = normed (m ((c.tc : Thread nD τ).loc main_arg0)) (m ((c.tc : Thread nD τ).loc main_arg1)) ⟨1024 * (t.val / 4) + r.val, by omega⟩ k := by
  have hx : ∀ k : Fin 2048, iblk m c 0 t (ix2 r k) = m ((c.tc : Thread nD τ).loc main_arg0) (ix2 ⟨1024 * (t.val / 4) + r.val, by omega⟩ k) := fun k => by
    blk_point [iblk, V, idx t]
  pointwise [held, rows, normed, hx, gain_at m c t]

/-- Column `C` of the queries at row `R`. -/
def query (a0 : FVec Ideal ⟨2, ![16384, 2048]⟩ .f32) (a1 : FVec Ideal ⟨1, ![2048]⟩ .f32) (a2 : FVec Ideal ⟨2, ![2048, 2048]⟩ .f32) (C : Fin 2048) (R : Fin 16384) : EReal :=
  ∑ k : Fin 2048, normed a0 a1 R k * a2 (ix2 k C)

/-- The products that a point writes. -/
theorem product_at (t : Fin cfg0.N) (ht : t.val < 64) (p : Fin 512) (r : Fin 1024) : product (iblk m c 2 t) (held m c t) (ix2 p r)
    = query (m ((c.tc : Thread nD τ).loc main_arg0)) (m ((c.tc : Thread nD τ).loc main_arg1)) (m ((c.tc : Thread nD τ).loc main_arg2))
        ⟨512 * (t.val % 4) + p.val, by omega⟩ ⟨1024 * (t.val / 4) + r.val, by omega⟩ := by
  pointwise [product, weights_at m c t, held_at m c t ht, query]
  exact Finset.sum_congr rfl fun k _ => mul_comm _ _

/-- The queries at a column and a row given by their numbers. -/
theorem query_at (a0 a1 a2) (u v : ℕ) (hu : u < 2048) (hv : v < 16384) (C : Fin 2048) (R : Fin 16384) (hC : C.val = u) (hR : R.val = v) :
    query a0 a1 a2 ⟨u, hu⟩ ⟨v, hv⟩ = query a0 a1 a2 C R := by
  subst hR hC
  rfl

/-- The rows likewise. -/
theorem normed_at (a0 a1) (u : ℕ) (hu : u < 16384) (k K : Fin 2048) (R : Fin 16384) (hk : K.val = k.val) (hR : R.val = u) :
    normed a0 a1 ⟨u, hu⟩ k = normed a0 a1 R K := by
  obtain rfl : K = k := Fin.ext hk
  subst hR
  rfl

/-- A block's entry of the first output is the queries'. -/
theorem query_point (t : Fin cfg0.N) (y : S512x1024.Idx) : product (iblk m c 2 t) (held m c t) y
    = query (m ((c.tc : Thread nD τ).loc main_arg0)) (m ((c.tc : Thread nD τ).loc main_arg1)) (m ((c.tc : Thread nD τ).loc main_arg2))
        ((((cfg0.win 3).blk t).view.emb y) 0) ((((cfg0.win 3).blk t).view.emb y) 1) := by
  have ht : t.val < 64 := Nat.lt_of_lt_of_eq t.isLt N_0
  obtain ⟨p, r, rfl⟩ : ∃ (p : Fin 512) (r : Fin 1024), y = ix2 p r := ⟨y 0, y 1, by funext a; match a with | 0 => rfl | 1 => rfl⟩
  rw [product_at m c t ht]
  have h0 : ((((cfg0.win 3).blk t).view.emb (ix2 p r)) 0).val = t.val % 4 * 512 + p.val := by blk_point [idx t]
  have h1 : ((((cfg0.win 3).blk t).view.emb (ix2 p r)) 1).val = t.val / 4 * 1024 + r.val := by blk_point [idx t]
  exact query_at _ _ _ _ _ _ _ _ _ (h0.trans (by omega)) (h1.trans (by omega))

/-- A block's entry of the second output is the rows'. -/
theorem rows_point (t : Fin cfg0.N) (y : S2048x1024.Idx) : held m c t y
    = normed (m ((c.tc : Thread nD τ).loc main_arg0)) (m ((c.tc : Thread nD τ).loc main_arg1))
        ((((cfg0.win 4).blk t).view.emb y) 1) ((((cfg0.win 4).blk t).view.emb y) 0) := by
  have ht : t.val < 64 := Nat.lt_of_lt_of_eq t.isLt N_0
  obtain ⟨k, r, rfl⟩ : ∃ (k : Fin 2048) (r : Fin 1024), y = ix2 k r := ⟨y 0, y 1, by funext a; match a with | 0 => rfl | 1 => rfl⟩
  rw [held_at m c t ht]
  have h0 : ((((cfg0.win 4).blk t).view.emb (ix2 k r)) 0).val = 0 * 2048 + k.val := by blk_point [idx t]
  have h1 : ((((cfg0.win 4).blk t).view.emb (ix2 k r)) 1).val = t.val / 4 * 1024 + r.val := by blk_point [idx t]
  exact normed_at _ _ _ _ _ _ _ (h0.trans (by omega)) (h1.trans (by omega))

/-- The first output's array after the run. -/
theorem final_query : (dats m 0 c).arrAt 3 (cfgs 0).N = fun x => query (m ((c.tc : Thread nD τ).loc main_arg0)) (m ((c.tc : Thread nD τ).loc main_arg1))
    (m ((c.tc : Thread nD τ).loc main_arg2)) (x 0) (x 1) := by
  refine (dats m 0 c).arrAt_eq_of_covers 3 _ (by decide +kernel) fun t _ y => ?_
  blk_simp
  rw [after_3]
  exact query_point m c t y

/-- The second output's array after the run. -/
theorem final_rows : (dats m 0 c).arrAt 4 (cfgs 0).N = fun x => normed (m ((c.tc : Thread nD τ).loc main_arg0)) (m ((c.tc : Thread nD τ).loc main_arg1))
    (x 1) (x 0) := by
  refine (dats m 0 c).arrAt_eq_of_covers 4 _ (by decide +kernel) fun t _ y => ?_
  blk_simp
  rw [after_4]
  exact rows_point m c t y

end Cert.PeerQueryIdeal.Query

end
-- ==== Proof.lean ====
/-
  The proof of `Cert.Claim`. For each call it is claimed that the kernel runs, as printed and as idealized, leaves its arguments unchanged and ends with its
  semaphores at zero, that its reference does too, and that over the extended reals kernel and reference end with equal results.

  The frames are the generated ones, but for the query kernel, whose second output is stored at a row block's first point and written back at its last: its run
  is in `PeerBody` (one point) and `PeerFrame` (the pipeline), and carried to the program as printed in `PeerPlain`.

  What the kernels' arrays hold and what the references compute is proved in the modules imported below: the recurrence in `ScanBody` (one grid point's stores),
  `ScanRun` (the point's run is that list), `ScanPure` (one chunk over the extended reals), `ScanValue` (induction over the grid), `ScanRefRun` and `ScanRef`
  (the reference's loop), all over `ScanSpec`; the experts' sum in `ExpertsBody` (one grid point's stores), `ExpertsRun` (the point's run is that list),
  `ExpertsValue` (induction over the grid) and `ExpertsRef`, all over `ExpertsSpec`; the convolutions in `ConvVValue`, `ConvQValue`, `ConvKValue`
  and `ConvRef`, all over `ConvSpec`; each other call in its own `…Value`.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.Kernel.Frame
public import proofs.«01_k».proof.Proof.Gen.KernelIdeal.Frame
public import proofs.«01_k».proof.Proof.Gen.KernelIdeal.Value
public import proofs.«01_k».proof.Proof.Gen.ReferenceIdeal.Run
public import proofs.«01_k».proof.Proof.Gen.ReferenceIdeal.Step
public import proofs.«01_k».proof.Proof.ScanValue
public import proofs.«01_k».proof.Proof.ScanRef
public import proofs.«01_k».proof.Proof.Gen.DnProj
public import proofs.«01_k».proof.Proof.Gen.DnProjIdeal
public import proofs.«01_k».proof.Proof.Gen.DnProjRefIdeal
public import proofs.«01_k».proof.Proof.Gen.DnProj.Frame
public import proofs.«01_k».proof.Proof.Gen.DnProjIdeal.Frame
public import proofs.«01_k».proof.Proof.Gen.DnProjIdeal.Value
public import proofs.«01_k».proof.Proof.Gen.DnProjRefIdeal.Run
public import proofs.«01_k».proof.Proof.DnProjValue
public import proofs.«01_k».proof.Proof.Gen.AttnProj
public import proofs.«01_k».proof.Proof.Gen.AttnProjIdeal
public import proofs.«01_k».proof.Proof.Gen.AttnProjRefIdeal
public import proofs.«01_k».proof.Proof.Gen.AttnProj.Frame
public import proofs.«01_k».proof.Proof.Gen.AttnProjIdeal.Frame
public import proofs.«01_k».proof.Proof.Gen.AttnProjIdeal.Value
public import proofs.«01_k».proof.Proof.Gen.AttnProjRefIdeal.Run
public import proofs.«01_k».proof.Proof.AttnProjValue
public import proofs.«01_k».proof.Proof.Gen.DnOut
public import proofs.«01_k».proof.Proof.Gen.DnOutIdeal
public import proofs.«01_k».proof.Proof.Gen.DnOutRefIdeal
public import proofs.«01_k».proof.Proof.Gen.DnOut.Frame
public import proofs.«01_k».proof.Proof.Gen.DnOutIdeal.Frame
public import proofs.«01_k».proof.Proof.Gen.DnOutIdeal.Value
public import proofs.«01_k».proof.Proof.Gen.DnOutRefIdeal.Run
public import proofs.«01_k».proof.Proof.DnOutValue
public import proofs.«01_k».proof.Proof.Gen.AttnOut
public import proofs.«01_k».proof.Proof.Gen.AttnOutIdeal
public import proofs.«01_k».proof.Proof.Gen.AttnOutRefIdeal
public import proofs.«01_k».proof.Proof.Gen.AttnOut.Frame
public import proofs.«01_k».proof.Proof.Gen.AttnOutIdeal.Frame
public import proofs.«01_k».proof.Proof.Gen.AttnOutIdeal.Value
public import proofs.«01_k».proof.Proof.Gen.AttnOutRefIdeal.Run
public import proofs.«01_k».proof.Proof.AttnOutValue
public import proofs.«01_k».proof.Proof.Gen.Ple
public import proofs.«01_k».proof.Proof.Gen.PleIdeal
public import proofs.«01_k».proof.Proof.Gen.PleRefIdeal
public import proofs.«01_k».proof.Proof.Gen.Ple.Frame
public import proofs.«01_k».proof.Proof.Gen.PleIdeal.Frame
public import proofs.«01_k».proof.Proof.Gen.PleIdeal.Value
public import proofs.«01_k».proof.Proof.Gen.PleRefIdeal.Run
public import proofs.«01_k».proof.Proof.PleValue
public import proofs.«01_k».proof.Proof.PleRef
public import proofs.«01_k».proof.Proof.Gen.PeerQuery
public import proofs.«01_k».proof.Proof.Gen.PeerQueryIdeal
public import proofs.«01_k».proof.Proof.Gen.PeerQueryRefIdeal
public import proofs.«01_k».proof.Proof.Gen.PeerQuery.Frame
public import proofs.«01_k».proof.Proof.Gen.PeerQueryIdeal.Frame
public import proofs.«01_k».proof.Proof.Gen.PeerQueryRefIdeal.Run
public import proofs.«01_k».proof.Proof.Gen.Experts
public import proofs.«01_k».proof.Proof.Gen.ExpertsIdeal
public import proofs.«01_k».proof.Proof.Gen.ExpertsRefIdeal
public import proofs.«01_k».proof.Proof.Gen.Experts.Frame
public import proofs.«01_k».proof.Proof.Gen.ExpertsIdeal.Frame
public import proofs.«01_k».proof.Proof.Gen.ExpertsIdeal.Value
public import proofs.«01_k».proof.Proof.Gen.ExpertsRefIdeal.Run
public import proofs.«01_k».proof.Proof.ExpertsValue
public import proofs.«01_k».proof.Proof.ExpertsRef
public import proofs.«01_k».proof.Proof.Gen.ConvV
public import proofs.«01_k».proof.Proof.Gen.ConvVIdeal
public import proofs.«01_k».proof.Proof.Gen.ConvVRefIdeal
public import proofs.«01_k».proof.Proof.Gen.ConvV.Frame
public import proofs.«01_k».proof.Proof.Gen.ConvVIdeal.Frame
public import proofs.«01_k».proof.Proof.Gen.ConvVIdeal.Value
public import proofs.«01_k».proof.Proof.Gen.ConvVRefIdeal.Run
public import proofs.«01_k».proof.Proof.Gen.ConvQ
public import proofs.«01_k».proof.Proof.Gen.ConvQIdeal
public import proofs.«01_k».proof.Proof.Gen.ConvQRefIdeal
public import proofs.«01_k».proof.Proof.Gen.ConvQ.Frame
public import proofs.«01_k».proof.Proof.Gen.ConvQIdeal.Frame
public import proofs.«01_k».proof.Proof.Gen.ConvQIdeal.Value
public import proofs.«01_k».proof.Proof.Gen.ConvQRefIdeal.Run
public import proofs.«01_k».proof.Proof.Gen.ConvK
public import proofs.«01_k».proof.Proof.Gen.ConvKIdeal
public import proofs.«01_k».proof.Proof.Gen.ConvKRefIdeal
public import proofs.«01_k».proof.Proof.Gen.ConvK.Frame
public import proofs.«01_k».proof.Proof.Gen.ConvKIdeal.Frame
public import proofs.«01_k».proof.Proof.Gen.ConvKIdeal.Value
public import proofs.«01_k».proof.Proof.Gen.ConvKRefIdeal.Run
public import proofs.«01_k».proof.Proof.Gen.GateProj
public import proofs.«01_k».proof.Proof.Gen.GateProjIdeal
public import proofs.«01_k».proof.Proof.Gen.GateProjRefIdeal
public import proofs.«01_k».proof.Proof.Gen.GateProj.Frame
public import proofs.«01_k».proof.Proof.Gen.GateProjIdeal.Frame
public import proofs.«01_k».proof.Proof.Gen.GateProjIdeal.Value
public import proofs.«01_k».proof.Proof.Gen.GateProjRefIdeal.Run
public import proofs.«01_k».proof.Proof.ConvVValue
public import proofs.«01_k».proof.Proof.ConvQValue
public import proofs.«01_k».proof.Proof.ConvKValue
public import proofs.«01_k».proof.Proof.GateProjValue
public import proofs.«01_k».proof.Proof.ConvRef
public import proofs.«01_k».proof.Proof.PeerPlain
public import proofs.«01_k».proof.Proof.PeerValue
public import Idealize.ShloMosaic.Adequacy
public import Idealize.ShloMosaic.Init

@[expose] public section

set_option maxRecDepth 16384

noncomputable section

namespace Cert.Proof

open Idealize.ShloMosaic Idealize.SL.Sem

/-! ## The references' frames: the generated runs' last conjuncts; a reference declares no semaphore -/

theorem frame_Reference : Cert.quiescent_ReferenceIdeal := fun m ρ _ =>
  (θ_run Cert.ReferenceIdeal.defs _ _).mono (fun r h => ⟨fun c => (h c).2, sem_eq_zero_of_no_sems (by decide) r.2⟩) (Cert.ReferenceIdeal.Value.run (F := Ideal) m ρ)

theorem frame_DnProjRef : Cert.quiescent_DnProjRefIdeal := fun m ρ _ =>
  (θ_run Cert.DnProjRefIdeal.defs _ _).mono (fun r h => ⟨fun c => (h c).2, sem_eq_zero_of_no_sems (by decide) r.2⟩) (Cert.DnProjRefIdeal.Value.run (F := Ideal) m ρ)

theorem frame_AttnProjRef : Cert.quiescent_AttnProjRefIdeal := fun m ρ _ =>
  (θ_run Cert.AttnProjRefIdeal.defs _ _).mono (fun r h => ⟨fun c => (h c).2, sem_eq_zero_of_no_sems (by decide) r.2⟩) (Cert.AttnProjRefIdeal.Value.run (F := Ideal) m ρ)

theorem frame_DnOutRef : Cert.quiescent_DnOutRefIdeal := fun m ρ _ =>
  (θ_run Cert.DnOutRefIdeal.defs _ _).mono (fun r h => ⟨fun c => (h c).2, sem_eq_zero_of_no_sems (by decide) r.2⟩) (Cert.DnOutRefIdeal.Value.run (F := Ideal) m ρ)

theorem frame_AttnOutRef : Cert.quiescent_AttnOutRefIdeal := fun m ρ _ =>
  (θ_run Cert.AttnOutRefIdeal.defs _ _).mono (fun r h => ⟨fun c => (h c).2, sem_eq_zero_of_no_sems (by decide) r.2⟩) (Cert.AttnOutRefIdeal.Value.run (F := Ideal) m ρ)

theorem frame_PleRef : Cert.quiescent_PleRefIdeal := fun m ρ _ =>
  (θ_run Cert.PleRefIdeal.defs _ _).mono (fun r h => ⟨fun c => (h c).2, sem_eq_zero_of_no_sems (by decide) r.2⟩) (Cert.PleRefIdeal.Value.run (F := Ideal) m ρ)

theorem frame_PeerQueryRef : Cert.quiescent_PeerQueryRefIdeal := fun m ρ _ =>
  (θ_run Cert.PeerQueryRefIdeal.defs _ _).mono (fun r h => ⟨fun c => (h c).2.2, sem_eq_zero_of_no_sems (by decide) r.2⟩) (Cert.PeerQueryRefIdeal.Value.run (F := Ideal) m ρ)

theorem frame_ExpertsRef : Cert.quiescent_ExpertsRefIdeal := fun m ρ _ =>
  (θ_run Cert.ExpertsRefIdeal.defs _ _).mono (fun r h => ⟨fun c => (h c).2, sem_eq_zero_of_no_sems (by decide) r.2⟩) (Cert.ExpertsRefIdeal.Value.run (F := Ideal) m ρ)

theorem frame_ConvVRef : Cert.quiescent_ConvVRefIdeal := fun m ρ _ =>
  (θ_run Cert.ConvVRefIdeal.defs _ _).mono (fun r h => ⟨fun c => (h c).2, sem_eq_zero_of_no_sems (by decide) r.2⟩) (Cert.ConvVRefIdeal.Value.run (F := Ideal) m ρ)

theorem frame_ConvQRef : Cert.quiescent_ConvQRefIdeal := fun m ρ _ =>
  (θ_run Cert.ConvQRefIdeal.defs _ _).mono (fun r h => ⟨fun c => (h c).2, sem_eq_zero_of_no_sems (by decide) r.2⟩) (Cert.ConvQRefIdeal.Value.run (F := Ideal) m ρ)

theorem frame_ConvKRef : Cert.quiescent_ConvKRefIdeal := fun m ρ _ =>
  (θ_run Cert.ConvKRefIdeal.defs _ _).mono (fun r h => ⟨fun c => (h c).2.2, sem_eq_zero_of_no_sems (by decide) r.2⟩) (Cert.ConvKRefIdeal.Value.run (F := Ideal) m ρ)

theorem frame_GateProjRef : Cert.quiescent_GateProjRefIdeal := fun m ρ _ =>
  (θ_run Cert.GateProjRefIdeal.defs _ _).mono (fun r h => ⟨fun c => (h c).2.2, sem_eq_zero_of_no_sems (by decide) r.2⟩) (Cert.GateProjRefIdeal.Value.run (F := Ideal) m ρ)

/-! ## The values -/

/-- Kernel and reference of the chunked recurrence of the delta-rule layer end with equal results. -/
theorem value_Kernel : Cert.algebraic_KernelIdeal_ReferenceIdeal := by
  pair_intro
  · run_from Cert.KernelIdeal.Gen.run_main m g
  · run_from Cert.ReferenceIdeal.Scan.run_iter m' g'
    refine Eq.trans ?_ (Cert.KernelIdeal.Scan.final m c).symm
    funext x
    obtain ⟨R, C, rfl⟩ : ∃ (R : Fin 16384) (C : Fin 4096), x = ix2 R C := ⟨x 0, x 1, by funext a; match a with | 0 => rfl | 1 => rfl⟩
    exact Cert.ReferenceIdeal.Scan.result_eq _ _ _ _ _ _ R C

/-- Kernel and reference of the delta-rule layer's norm and input projection end with equal results. -/
theorem value_DnProj : Cert.algebraic_DnProjIdeal_DnProjRefIdeal := by
  pair_intro
  · run_from Cert.DnProjIdeal.Gen.run_main m g
  · run_from Cert.DnProjRefIdeal.Value.run m' g'
    refine Eq.trans ?_ (Cert.DnProjIdeal.Proj.final m c).symm
    funext x
    obtain ⟨R, C, rfl⟩ : ∃ (R : Fin 16384) (C : Fin 12288), x = ix2 R C := ⟨x 0, x 1, by funext a; match a with | 0 => rfl | 1 => rfl⟩
    pointwise [Cert.DnProjIdeal.Proj.result, Cert.NormSpec.normed]

/-- Kernel and reference of the attention layer's norm and input projection end with equal results. -/
theorem value_AttnProj : Cert.algebraic_AttnProjIdeal_AttnProjRefIdeal := by
  pair_intro
  · run_from Cert.AttnProjIdeal.Gen.run_main m g
    all_goals entry_read
    all_goals rfl
  · run_from Cert.AttnProjRefIdeal.Value.run m' g'
    refine Eq.trans ?_ (Cert.AttnProjIdeal.Proj.final m c).symm
    funext x
    obtain ⟨R, C, rfl⟩ : ∃ (R : Fin 16384) (C : Fin 4224), x = ix2 R C := ⟨x 0, x 1, by funext a; match a with | 0 => rfl | 1 => rfl⟩
    pointwise [Cert.AttnProjIdeal.Proj.result, Cert.NormSpec.normed]
    exact Cert.AttnProjIdeal.Proj.padded_sum _ _ C

/-- Kernel and reference of the delta-rule layer's output projection with its residual end with equal results. -/
theorem value_DnOut : Cert.algebraic_DnOutIdeal_DnOutRefIdeal := by
  pair_intro
  · run_from Cert.DnOutIdeal.Gen.run_main m g
  · run_from Cert.DnOutRefIdeal.Value.run m' g'
    exact (Cert.DnOutIdeal.Out.final m c).symm

/-- Kernel and reference of the attention layer's output projection with its residual end with equal results. -/
theorem value_AttnOut : Cert.algebraic_AttnOutIdeal_AttnOutRefIdeal := by
  pair_intro
  · run_from Cert.AttnOutIdeal.Gen.run_main m g
  · run_from Cert.AttnOutRefIdeal.Value.run m' g'
    exact (Cert.AttnOutIdeal.Out.final m c).symm

/-- Kernel and reference of the per-layer-embedding mixer end with equal results. -/
theorem value_Ple : Cert.algebraic_PleIdeal_PleRefIdeal := by
  pair_intro
  · run_from Cert.PleIdeal.Gen.run_main m g
  · run_from Cert.PleRefIdeal.Value.run m' g'
    refine Eq.trans ?_ (Cert.PleIdeal.Mix.final m c).symm
    funext x
    obtain ⟨R, C, rfl⟩ : ∃ (R : Fin 16384) (C : Fin 2048), x = ix2 R C := ⟨x 0, x 1, by funext a; match a with | 0 => rfl | 1 => rfl⟩
    exact Cert.PleRefIdeal.Mix.result_eq _ _ _ _ _ R C

/-- Kernel and reference of the peer memory's norm and query projection end with equal results. -/
theorem value_PeerQuery : Cert.algebraic_PeerQueryIdeal_PeerQueryRefIdeal := by
  pair_intro
  · run_from Cert.PeerQueryIdeal.Query.run_main m g
  · run_from Cert.PeerQueryRefIdeal.Value.run m' g'
    · refine Eq.trans ?_ (Cert.PeerQueryIdeal.Query.final_query m c).symm
      funext x
      obtain ⟨C, R, rfl⟩ : ∃ (C : Fin 2048) (R : Fin 16384), x = ix2 C R := ⟨x 0, x 1, by funext a; match a with | 0 => rfl | 1 => rfl⟩
      pointwise [Cert.PeerQueryIdeal.Query.query, Cert.NormSpec.normed]
    · refine Eq.trans ?_ (Cert.PeerQueryIdeal.Query.final_rows m c).symm
      funext x
      obtain ⟨C, R, rfl⟩ : ∃ (C : Fin 2048) (R : Fin 16384), x = ix2 C R := ⟨x 0, x 1, by funext a; match a with | 0 => rfl | 1 => rfl⟩
      pointwise [Cert.NormSpec.normed]

/-- Kernel and reference of the peer memory's sum over the experts end with equal results. -/
theorem value_Experts : Cert.algebraic_ExpertsIdeal_ExpertsRefIdeal := by
  pair_intro
  · run_from Cert.ExpertsIdeal.Gen.run_main m g
  · run_from Cert.ExpertsRefIdeal.Value.run m' g'
    refine Eq.trans ?_ (Cert.ExpertsIdeal.Mem.final m c).symm
    funext x
    obtain ⟨R, C, rfl⟩ : ∃ (R : Fin 16384) (C : Fin 2048), x = ix2 R C := ⟨x 0, x 1, by funext a; match a with | 0 => rfl | 1 => rfl⟩
    exact Cert.ExpertsRefIdeal.Mem.result_eq _ _ _ _ _ _ _ _ R C

/-! ## The claim -/

/-- Kernel and reference of the causal convolution of the delta rule's values end with equal results. -/
theorem value_ConvV : Cert.algebraic_ConvVIdeal_ConvVRefIdeal := by
  pair_intro
  · run_from Cert.ConvVIdeal.Gen.run_main m g
  · run_from Cert.ConvVRefIdeal.Value.run m' g'
    refine Eq.trans ?_ (Cert.ConvVIdeal.Conv.final m c).symm
    funext x
    obtain ⟨b, H, T, l, rfl⟩ : ∃ (b : Fin 2) (H : Fin 32) (T : Fin 8192) (l : Fin 128), x = ix4 b H T l :=
      ⟨x 0, x 1, x 2, x 3, by funext a; match a with | 0 => rfl | 1 => rfl | 2 => rfl | 3 => rfl⟩
    refine (Cert.ConvRef.values_res m' c b H T l).trans ?_
    rw [(hagree c).1, (hagree c).2]
    rfl

/-- Kernel and reference of the causal convolution of the delta rule's queries end with equal results. -/
theorem value_ConvQ : Cert.algebraic_ConvQIdeal_ConvQRefIdeal := by
  pair_intro
  · run_from Cert.ConvQIdeal.Gen.run_main m g
  · run_from Cert.ConvQRefIdeal.Value.run m' g'
    refine Eq.trans ?_ (Cert.ConvQIdeal.Conv.final m c).symm
    funext x
    obtain ⟨b, H, T, l, rfl⟩ : ∃ (b : Fin 2) (H : Fin 16) (T : Fin 8192) (l : Fin 128), x = ix4 b H T l :=
      ⟨x 0, x 1, x 2, x 3, by funext a; match a with | 0 => rfl | 1 => rfl | 2 => rfl | 3 => rfl⟩
    refine (Cert.ConvRef.queries_res m' c b H T l).trans ?_
    rw [(hagree c).1, (hagree c).2]
    rfl

/-- Kernel and reference of the causal convolution of the delta rule's keys end with equal results. -/
theorem value_ConvK : Cert.algebraic_ConvKIdeal_ConvKRefIdeal := by
  pair_intro
  · run_from Cert.ConvKIdeal.Gen.run_main m g
  · run_from Cert.ConvKRefIdeal.Value.run m' g'
    · refine Eq.trans ?_ (Cert.ConvKIdeal.Conv.final m c).symm
      funext x
      obtain ⟨b, H, T, l, rfl⟩ : ∃ (b : Fin 2) (H : Fin 16) (T : Fin 8192) (l : Fin 128), x = ix4 b H T l :=
        ⟨x 0, x 1, x 2, x 3, by funext a; match a with | 0 => rfl | 1 => rfl | 2 => rfl | 3 => rfl⟩
      refine (Cert.ConvRef.keys_res m' c b H T l).trans ?_
      rw [(hagree c).1, (hagree c).2]
      rfl
    · refine Eq.trans ?_ (Cert.ConvKIdeal.Conv.finalT m c).symm
      funext x
      obtain ⟨b, H, l, T, rfl⟩ : ∃ (b : Fin 2) (H : Fin 16) (l : Fin 128) (T : Fin 8192), x = ix4 b H l T :=
        ⟨x 0, x 1, x 2, x 3, by funext a; match a with | 0 => rfl | 1 => rfl | 2 => rfl | 3 => rfl⟩
      refine (Cert.ConvRef.keysT_res m' c b H T l).trans ?_
      rw [(hagree c).1, (hagree c).2]
      rfl

/-- Kernel and reference of the gates' norm and projection end with equal results. -/
theorem value_GateProj : Cert.algebraic_GateProjIdeal_GateProjRefIdeal := by
  pair_intro
  · run_from Cert.GateProjIdeal.Gen.run_main m g
    all_goals entry_read
    all_goals rfl
  · run_from Cert.GateProjRefIdeal.Value.run m' g'
    · refine Eq.trans ?_ (Cert.GateProjIdeal.Proj.final m c).symm
      funext x
      obtain ⟨C, R, rfl⟩ : ∃ (C : Fin 128) (R : Fin 16384), x = ix2 C R := ⟨x 0, x 1, by funext a; match a with | 0 => rfl | 1 => rfl⟩
      pointwise [Cert.GateProjIdeal.Proj.result, Cert.NormSpec.normed]
      exact Cert.GateProjIdeal.Proj.padded_sum _ _ C
    · refine Eq.trans ?_ (Cert.GateProjIdeal.Proj.final_rows m c).symm
      funext x
      obtain ⟨C, R, rfl⟩ : ∃ (C : Fin 2048) (R : Fin 16384), x = ix2 C R := ⟨x 0, x 1, by funext a; match a with | 0 => rfl | 1 => rfl⟩
      pointwise [Cert.NormSpec.normed]

theorem claim : Cert.Claim :=
  ⟨Cert.Kernel.Gen.facts, Cert.KernelIdeal.Gen.facts, Cert.ReferenceIdeal.Gen.facts,
    Cert.DnProj.Gen.facts, Cert.DnProjIdeal.Gen.facts, Cert.DnProjRefIdeal.Gen.facts,
    Cert.AttnProj.Gen.facts, Cert.AttnProjIdeal.Gen.facts, Cert.AttnProjRefIdeal.Gen.facts,
    Cert.DnOut.Gen.facts, Cert.DnOutIdeal.Gen.facts, Cert.DnOutRefIdeal.Gen.facts,
    Cert.AttnOut.Gen.facts, Cert.AttnOutIdeal.Gen.facts, Cert.AttnOutRefIdeal.Gen.facts,
    Cert.Ple.Gen.facts, Cert.PleIdeal.Gen.facts, Cert.PleRefIdeal.Gen.facts,
    Cert.PeerQuery.Gen.facts, Cert.PeerQueryIdeal.Gen.facts, Cert.PeerQueryRefIdeal.Gen.facts,
    Cert.Experts.Gen.facts, Cert.ExpertsIdeal.Gen.facts, Cert.ExpertsRefIdeal.Gen.facts,
    Cert.ConvV.Gen.facts, Cert.ConvVIdeal.Gen.facts, Cert.ConvVRefIdeal.Gen.facts,
    Cert.ConvQ.Gen.facts, Cert.ConvQIdeal.Gen.facts, Cert.ConvQRefIdeal.Gen.facts,
    Cert.ConvK.Gen.facts, Cert.ConvKIdeal.Gen.facts, Cert.ConvKRefIdeal.Gen.facts,
    Cert.GateProj.Gen.facts, Cert.GateProjIdeal.Gen.facts, Cert.GateProjRefIdeal.Gen.facts,
    fun m g _ => Cert.Kernel.Gen.frame m g, fun m g _ => Cert.KernelIdeal.Gen.frame m g, frame_Reference,
    fun m g _ => Cert.DnProj.Gen.frame m g, fun m g _ => Cert.DnProjIdeal.Gen.frame m g, frame_DnProjRef,
    fun m g _ => Cert.AttnProj.Gen.frame m g, fun m g _ => Cert.AttnProjIdeal.Gen.frame m g, frame_AttnProjRef,
    fun m g _ => Cert.DnOut.Gen.frame m g, fun m g _ => Cert.DnOutIdeal.Gen.frame m g, frame_DnOutRef,
    fun m g _ => Cert.AttnOut.Gen.frame m g, fun m g _ => Cert.AttnOutIdeal.Gen.frame m g, frame_AttnOutRef,
    fun m g _ => Cert.Ple.Gen.frame m g, fun m g _ => Cert.PleIdeal.Gen.frame m g, frame_PleRef,
    fun m g _ => Cert.PeerQuery.Query.frame m g, fun m g _ => Cert.PeerQueryIdeal.Query.frame m g, frame_PeerQueryRef,
    fun m g _ => Cert.Experts.Gen.frame m g, fun m g _ => Cert.ExpertsIdeal.Gen.frame m g, frame_ExpertsRef,
    fun m g _ => Cert.ConvV.Gen.frame m g, fun m g _ => Cert.ConvVIdeal.Gen.frame m g, frame_ConvVRef,
    fun m g _ => Cert.ConvQ.Gen.frame m g, fun m g _ => Cert.ConvQIdeal.Gen.frame m g, frame_ConvQRef,
    fun m g _ => Cert.ConvK.Gen.frame m g, fun m g _ => Cert.ConvKIdeal.Gen.frame m g, frame_ConvKRef,
    fun m g _ => Cert.GateProj.Gen.frame m g, fun m g _ => Cert.GateProjIdeal.Gen.frame m g, frame_GateProjRef,
    trivial, value_Kernel,
    trivial, value_DnProj,
    trivial, value_AttnProj,
    trivial, value_DnOut,
    trivial, value_AttnOut,
    trivial, value_Ple,
    trivial, value_PeerQuery,
    trivial, value_Experts,
    trivial, value_ConvV,
    trivial, value_ConvQ,
    trivial, value_ConvK,
    trivial, value_GateProj⟩

end Cert.Proof

end
